-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallRefIdeal (m : (ℓ : Loc Cert.SmallRefIdeal.nD Cert.SmallRefIdeal.τ Cert.SmallRefIdeal.sig) → Buf (Elt Ideal) ℓ) : Prop :=
  True

def Pre_SmallRef (m : (ℓ : Loc Cert.SmallRef.nD Cert.SmallRef.τ Cert.SmallRef.sig) → Buf (Elt Bits) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamQ (m : (ℓ : Loc Cert.AdamQ.nD Cert.AdamQ.τ Cert.AdamQ.sig) → Buf (Elt Bits) ℓ) : Prop :=
  True

def Pre_AdamQIdeal (m : (ℓ : Loc Cert.AdamQIdeal.nD Cert.AdamQIdeal.τ Cert.AdamQIdeal.sig) → Buf (Elt Ideal) ℓ) : Prop :=
  True

def Pre_AdamQRefIdeal (m : (ℓ : Loc Cert.AdamQRefIdeal.nD Cert.AdamQRefIdeal.τ Cert.AdamQRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamConv (m : (ℓ : Loc Cert.AdamConv.nD Cert.AdamConv.τ Cert.AdamConv.sig) → Buf (Elt Bits) ℓ) : Prop :=
  True

def Pre_AdamConvIdeal (m : (ℓ : Loc Cert.AdamConvIdeal.nD Cert.AdamConvIdeal.τ Cert.AdamConvIdeal.sig) → Buf (Elt Ideal) ℓ) : Prop :=
  True

def Pre_AdamConvRefIdeal (m : (ℓ : Loc Cert.AdamConvRefIdeal.nD Cert.AdamConvRefIdeal.τ Cert.AdamConvRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AddPair (m : (ℓ : Loc Cert.AddPair.nD Cert.AddPair.τ Cert.AddPair.sig) → Buf (Elt Bits) ℓ) : Prop :=
  True

def Pre_AddPairIdeal (m : (ℓ : Loc Cert.AddPairIdeal.nD Cert.AddPairIdeal.τ Cert.AddPairIdeal.sig) → Buf (Elt Ideal) ℓ) : Prop :=
  True

def Pre_AddPairRefIdeal (m : (ℓ : Loc Cert.AddPairRefIdeal.nD Cert.AddPairRefIdeal.τ Cert.AddPairRefIdeal.sig) → Buf (Elt Ideal) ℓ) : Prop :=
  True

def Pre_AddPairRef (m : (ℓ : Loc Cert.AddPairRef.nD Cert.AddPairRef.τ Cert.AddPairRef.sig) → Buf (Elt Bits) ℓ) : Prop :=
  True

def Pre_AddChips (m : (ℓ : Loc Cert.AddChips.nD Cert.AddChips.τ Cert.AddChips.sig) → Buf (Elt Bits) ℓ) : Prop :=
  True

def Pre_AddChipsIdeal (m : (ℓ : Loc Cert.AddChipsIdeal.nD Cert.AddChipsIdeal.τ Cert.AddChipsIdeal.sig) → Buf (Elt Ideal) ℓ) : Prop :=
  True

def Pre_AddChipsRefIdeal (m : (ℓ : Loc Cert.AddChipsRefIdeal.nD Cert.AddChipsRefIdeal.τ Cert.AddChipsRefIdeal.sig) → Buf (Elt Ideal) ℓ) : Prop :=
  True

def Pre_Grads (m : (ℓ : Loc Cert.Grads.nD Cert.Grads.τ Cert.Grads.sig) → Buf (Elt Bits) ℓ) : Prop :=
  True

def Pre_GradsIdeal (m : (ℓ : Loc Cert.GradsIdeal.nD Cert.GradsIdeal.τ Cert.GradsIdeal.sig) → Buf (Elt Ideal) ℓ) : Prop :=
  True

def Pre_GradsRefIdeal (m : (ℓ : Loc Cert.GradsRefIdeal.nD Cert.GradsRefIdeal.τ Cert.GradsRefIdeal.sig) → Buf (Elt Ideal) ℓ) : Prop :=
  True

def Pre_GradsRef (m : (ℓ : Loc Cert.GradsRef.nD Cert.GradsRef.τ Cert.GradsRef.sig) → Buf (Elt Bits) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackRefIdeal (m : (ℓ : Loc Cert.NormBackRefIdeal.nD Cert.NormBackRefIdeal.τ Cert.NormBackRefIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownBx (m : (ℓ : Loc Cert.DownBx.nD Cert.DownBx.τ Cert.DownBx.sig) → Buf (Elt Bits) ℓ) : Prop :=
  True

def Pre_DownBxIdeal (m : (ℓ : Loc Cert.DownBxIdeal.nD Cert.DownBxIdeal.τ Cert.DownBxIdeal.sig) → Buf (Elt Ideal) ℓ) : Prop :=
  True

def Pre_DownBxRefIdeal (m : (ℓ : Loc Cert.DownBxRefIdeal.nD Cert.DownBxRefIdeal.τ Cert.DownBxRefIdeal.sig) → Buf (Elt Ideal) ℓ) : Prop :=
  True

def Pre_DownBw (m : (ℓ : Loc Cert.DownBw.nD Cert.DownBw.τ Cert.DownBw.sig) → Buf (Elt Bits) ℓ) : Prop :=
  True

def Pre_DownBwIdeal (m : (ℓ : Loc Cert.DownBwIdeal.nD Cert.DownBwIdeal.τ Cert.DownBwIdeal.sig) → Buf (Elt Ideal) ℓ) : Prop :=
  True

def Pre_DownBwRefIdeal (m : (ℓ : Loc Cert.DownBwRefIdeal.nD Cert.DownBwRefIdeal.τ Cert.DownBwRefIdeal.sig) → Buf (Elt Ideal) ℓ) : Prop :=
  True

def Pre_GateUpBx (m : (ℓ : Loc Cert.GateUpBx.nD Cert.GateUpBx.τ Cert.GateUpBx.sig) → Buf (Elt Bits) ℓ) : Prop :=
  True

def Pre_GateUpBxIdeal (m : (ℓ : Loc Cert.GateUpBxIdeal.nD Cert.GateUpBxIdeal.τ Cert.GateUpBxIdeal.sig) → Buf (Elt Ideal) ℓ) : Prop :=
  True

def Pre_GateUpBxRefIdeal (m : (ℓ : Loc Cert.GateUpBxRefIdeal.nD Cert.GateUpBxRefIdeal.τ Cert.GateUpBxRefIdeal.sig) → Buf (Elt Ideal) ℓ) : Prop :=
  True

def Pre_GateUpBw (m : (ℓ : Loc Cert.GateUpBw.nD Cert.GateUpBw.τ Cert.GateUpBw.sig) → Buf (Elt Bits) ℓ) : Prop :=
  True

def Pre_GateUpBwIdeal (m : (ℓ : Loc Cert.GateUpBwIdeal.nD Cert.GateUpBwIdeal.τ Cert.GateUpBwIdeal.sig) → Buf (Elt Ideal) ℓ) : Prop :=
  True

def Pre_GateUpBwRefIdeal (m : (ℓ : Loc Cert.GateUpBwRefIdeal.nD Cert.GateUpBwRefIdeal.τ Cert.GateUpBwRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostBack (m : (ℓ : Loc Cert.PostBack.nD Cert.PostBack.τ Cert.PostBack.sig) → Buf (Elt Bits) ℓ) : Prop :=
  True

def Pre_PostBackIdeal (m : (ℓ : Loc Cert.PostBackIdeal.nD Cert.PostBackIdeal.τ Cert.PostBackIdeal.sig) → Buf (Elt Ideal) ℓ) : Prop :=
  True

def Pre_PostBackRefIdeal (m : (ℓ : Loc Cert.PostBackRefIdeal.nD Cert.PostBackRefIdeal.τ Cert.PostBackRefIdeal.sig) → Buf (Elt Ideal) ℓ) : Prop :=
  True

def Pre_ActBack (m : (ℓ : Loc Cert.ActBack.nD Cert.ActBack.τ Cert.ActBack.sig) → Buf (Elt Bits) ℓ) : Prop :=
  True

def Pre_ActBackIdeal (m : (ℓ : Loc Cert.ActBackIdeal.nD Cert.ActBackIdeal.τ Cert.ActBackIdeal.sig) → Buf (Elt Ideal) ℓ) : Prop :=
  True

def Pre_ActBackRefIdeal (m : (ℓ : Loc Cert.ActBackRefIdeal.nD Cert.ActBackRefIdeal.τ Cert.ActBackRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInRefIdeal (m : (ℓ : Loc Cert.MixInRefIdeal.nD Cert.MixInRefIdeal.τ Cert.MixInRefIdeal.sig) → Buf (Elt Ideal) ℓ) : Prop :=
  True

def Pre_MixInBx (m : (ℓ : Loc Cert.MixInBx.nD Cert.MixInBx.τ Cert.MixInBx.sig) → Buf (Elt Bits) ℓ) : Prop :=
  True

def Pre_MixInBxIdeal (m : (ℓ : Loc Cert.MixInBxIdeal.nD Cert.MixInBxIdeal.τ Cert.MixInBxIdeal.sig) → Buf (Elt Ideal) ℓ) : Prop :=
  True

def Pre_MixInBxRefIdeal (m : (ℓ : Loc Cert.MixInBxRefIdeal.nD Cert.MixInBxRefIdeal.τ Cert.MixInBxRefIdeal.sig) → Buf (Elt Ideal) ℓ) : Prop :=
  True

def Pre_MixInBw (m : (ℓ : Loc Cert.MixInBw.nD Cert.MixInBw.τ Cert.MixInBw.sig) → Buf (Elt Bits) ℓ) : Prop :=
  True

def Pre_MixInBwIdeal (m : (ℓ : Loc Cert.MixInBwIdeal.nD Cert.MixInBwIdeal.τ Cert.MixInBwIdeal.sig) → Buf (Elt Ideal) ℓ) : Prop :=
  True

def Pre_MixInBwRefIdeal (m : (ℓ : Loc Cert.MixInBwRefIdeal.nD Cert.MixInBwRefIdeal.τ Cert.MixInBwRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_MixOutBx (m : (ℓ : Loc Cert.MixOutBx.nD Cert.MixOutBx.τ Cert.MixOutBx.sig) → Buf (Elt Bits) ℓ) : Prop :=
  True

def Pre_MixOutBxIdeal (m : (ℓ : Loc Cert.MixOutBxIdeal.nD Cert.MixOutBxIdeal.τ Cert.MixOutBxIdeal.sig) → Buf (Elt Ideal) ℓ) : Prop :=
  True

def Pre_MixOutBxRefIdeal (m : (ℓ : Loc Cert.MixOutBxRefIdeal.nD Cert.MixOutBxRefIdeal.τ Cert.MixOutBxRefIdeal.sig) → Buf (Elt Ideal) ℓ) : Prop :=
  True

def Pre_MixOutBw (m : (ℓ : Loc Cert.MixOutBw.nD Cert.MixOutBw.τ Cert.MixOutBw.sig) → Buf (Elt Bits) ℓ) : Prop :=
  True

def Pre_MixOutBwIdeal (m : (ℓ : Loc Cert.MixOutBwIdeal.nD Cert.MixOutBwIdeal.τ Cert.MixOutBwIdeal.sig) → Buf (Elt Ideal) ℓ) : Prop :=
  True

def Pre_MixOutBwRefIdeal (m : (ℓ : Loc Cert.MixOutBwRefIdeal.nD Cert.MixOutBwRefIdeal.τ Cert.MixOutBwRefIdeal.sig) → Buf (Elt Ideal) ℓ) : Prop :=
  True

def Pre_Uq (m : (ℓ : Loc Cert.Uq.nD Cert.Uq.τ Cert.Uq.sig) → Buf (Elt Bits) ℓ) : Prop :=
  True

def Pre_UqIdeal (m : (ℓ : Loc Cert.UqIdeal.nD Cert.UqIdeal.τ Cert.UqIdeal.sig) → Buf (Elt Ideal) ℓ) : Prop :=
  True

def Pre_UqRefIdeal (m : (ℓ : Loc Cert.UqRefIdeal.nD Cert.UqRefIdeal.τ Cert.UqRefIdeal.sig) → Buf (Elt Ideal) ℓ) : Prop :=
  True

def Pre_UqBx (m : (ℓ : Loc Cert.UqBx.nD Cert.UqBx.τ Cert.UqBx.sig) → Buf (Elt Bits) ℓ) : Prop :=
  True

def Pre_UqBxIdeal (m : (ℓ : Loc Cert.UqBxIdeal.nD Cert.UqBxIdeal.τ Cert.UqBxIdeal.sig) → Buf (Elt Ideal) ℓ) : Prop :=
  True

def Pre_UqBxRefIdeal (m : (ℓ : Loc Cert.UqBxRefIdeal.nD Cert.UqBxRefIdeal.τ Cert.UqBxRefIdeal.sig) → Buf (Elt Ideal) ℓ) : Prop :=
  True

def Pre_UqBw (m : (ℓ : Loc Cert.UqBw.nD Cert.UqBw.τ Cert.UqBw.sig) → Buf (Elt Bits) ℓ) : Prop :=
  True

def Pre_UqBwIdeal (m : (ℓ : Loc Cert.UqBwIdeal.nD Cert.UqBwIdeal.τ Cert.UqBwIdeal.sig) → Buf (Elt Ideal) ℓ) : Prop :=
  True

def Pre_UqBwRefIdeal (m : (ℓ : Loc Cert.UqBwRefIdeal.nD Cert.UqBwRefIdeal.τ Cert.UqBwRefIdeal.sig) → Buf (Elt Ideal) ℓ) : Prop :=
  True

def Pre_Ukv (m : (ℓ : Loc Cert.Ukv.nD Cert.Ukv.τ Cert.Ukv.sig) → Buf (Elt Bits) ℓ) : Prop :=
  True

def Pre_UkvIdeal (m : (ℓ : Loc Cert.UkvIdeal.nD Cert.UkvIdeal.τ Cert.UkvIdeal.sig) → Buf (Elt Ideal) ℓ) : Prop :=
  True

def Pre_UkvRefIdeal (m : (ℓ : Loc Cert.UkvRefIdeal.nD Cert.UkvRefIdeal.τ Cert.UkvRefIdeal.sig) → Buf (Elt Ideal) ℓ) : Prop :=
  True

def Pre_UkvBx (m : (ℓ : Loc Cert.UkvBx.nD Cert.UkvBx.τ Cert.UkvBx.sig) → Buf (Elt Bits) ℓ) : Prop :=
  True

def Pre_UkvBxIdeal (m : (ℓ : Loc Cert.UkvBxIdeal.nD Cert.UkvBxIdeal.τ Cert.UkvBxIdeal.sig) → Buf (Elt Ideal) ℓ) : Prop :=
  True

def Pre_UkvBxRefIdeal (m : (ℓ : Loc Cert.UkvBxRefIdeal.nD Cert.UkvBxRefIdeal.τ Cert.UkvBxRefIdeal.sig) → Buf (Elt Ideal) ℓ) : Prop :=
  True

def Pre_UkvBw (m : (ℓ : Loc Cert.UkvBw.nD Cert.UkvBw.τ Cert.UkvBw.sig) → Buf (Elt Bits) ℓ) : Prop :=
  True

def Pre_UkvBwIdeal (m : (ℓ : Loc Cert.UkvBwIdeal.nD Cert.UkvBwIdeal.τ Cert.UkvBwIdeal.sig) → Buf (Elt Ideal) ℓ) : Prop :=
  True

def Pre_UkvBwRefIdeal (m : (ℓ : Loc Cert.UkvBwRefIdeal.nD Cert.UkvBwRefIdeal.τ Cert.UkvBwRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ r.2.sem = fun _ => 0)

def quiescent_SmallRefIdeal [hSmallRefIdeal : Cert.SmallRefIdeal.Facts] : Prop :=
  ∀ (m : (ℓ : Loc Cert.SmallRefIdeal.nD Cert.SmallRefIdeal.τ Cert.SmallRefIdeal.sig) → Buf (Elt Ideal) ℓ) (g : Dev Cert.SmallRefIdeal.nD → PrngReg), Pre_SmallRefIdeal m →
    θ_run (Cert.SmallRefIdeal.defs (F := Ideal)) (onTc (τ := Cert.SmallRefIdeal.τ) (Cert.SmallRefIdeal.main (F := Ideal))) ⟨m, fun _ => 0, g⟩ (fun r => (∀ c : Dev Cert.SmallRefIdeal.nD,
      r.2.mem ((c.tc : Thread Cert.SmallRefIdeal.nD Cert.SmallRefIdeal.τ).loc Cert.SmallRefIdeal.main_arg0) = m ((c.tc : Thread Cert.SmallRefIdeal.nD Cert.SmallRefIdeal.τ).loc Cert.SmallRefIdeal.main_arg0))
      ∧ r.2.sem = fun _ => 0)

def quiescent_SmallRef [hSmallRef : Cert.SmallRef.Facts] : Prop :=
  ∀ (m : (ℓ : Loc Cert.SmallRef.nD Cert.SmallRef.τ Cert.SmallRef.sig) → Buf (Elt Bits) ℓ) (g : Dev Cert.SmallRef.nD → PrngReg), Pre_SmallRef m →
    θ_run (Cert.SmallRef.defs (F := Bits)) (onTc (τ := Cert.SmallRef.τ) (Cert.SmallRef.main (F := Bits))) ⟨m, fun _ => 0, g⟩ (fun r => (∀ c : Dev Cert.SmallRef.nD,
      r.2.mem ((c.tc : Thread Cert.SmallRef.nD Cert.SmallRef.τ).loc Cert.SmallRef.main_arg0) = m ((c.tc : Thread Cert.SmallRef.nD Cert.SmallRef.τ).loc Cert.SmallRef.main_arg0))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamQ [hAdamQ : Cert.AdamQ.Facts] : Prop :=
  ∀ (m : (ℓ : Loc Cert.AdamQ.nD Cert.AdamQ.τ Cert.AdamQ.sig) → Buf (Elt Bits) ℓ) (g : Dev Cert.AdamQ.nD → PrngReg), Pre_AdamQ m →
    θ_run (Cert.AdamQ.defs (F := Bits)) (onTc (τ := Cert.AdamQ.τ) (Cert.AdamQ.main (F := Bits))) ⟨m, fun _ => 0, g⟩ (fun r => (∀ c : Dev Cert.AdamQ.nD,
      r.2.mem ((c.tc : Thread Cert.AdamQ.nD Cert.AdamQ.τ).loc Cert.AdamQ.main_arg0) = m ((c.tc : Thread Cert.AdamQ.nD Cert.AdamQ.τ).loc Cert.AdamQ.main_arg0)
      ∧ r.2.mem ((c.tc : Thread Cert.AdamQ.nD Cert.AdamQ.τ).loc Cert.AdamQ.main_arg1) = m ((c.tc : Thread Cert.AdamQ.nD Cert.AdamQ.τ).loc Cert.AdamQ.main_arg1)
      ∧ r.2.mem ((c.tc : Thread Cert.AdamQ.nD Cert.AdamQ.τ).loc Cert.AdamQ.main_arg2) = m ((c.tc : Thread Cert.AdamQ.nD Cert.AdamQ.τ).loc Cert.AdamQ.main_arg2)
      ∧ r.2.mem ((c.tc : Thread Cert.AdamQ.nD Cert.AdamQ.τ).loc Cert.AdamQ.main_arg3) = m ((c.tc : Thread Cert.AdamQ.nD Cert.AdamQ.τ).loc Cert.AdamQ.main_arg3))
      ∧ r.2.sem = fun _ => 0)

def quiescent_AdamQIdeal [hAdamQIdeal : Cert.AdamQIdeal.Facts] : Prop :=
  ∀ (m : (ℓ : Loc Cert.AdamQIdeal.nD Cert.AdamQIdeal.τ Cert.AdamQIdeal.sig) → Buf (Elt Ideal) ℓ) (g : Dev Cert.AdamQIdeal.nD → PrngReg), Pre_AdamQIdeal m →
    θ_run (Cert.AdamQIdeal.defs (F := Ideal)) (onTc (τ := Cert.AdamQIdeal.τ) (Cert.AdamQIdeal.main (F := Ideal))) ⟨m, fun _ => 0, g⟩ (fun r => (∀ c : Dev Cert.AdamQIdeal.nD,
      r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
      ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
      ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
      ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ r.2.sem = fun _ => 0)

def quiescent_AdamQRefIdeal [hAdamQRefIdeal : Cert.AdamQRefIdeal.Facts] : Prop :=
  ∀ (m : (ℓ : Loc Cert.AdamQRefIdeal.nD Cert.AdamQRefIdeal.τ Cert.AdamQRefIdeal.sig) → Buf (Elt Ideal) ℓ) (g : Dev Cert.AdamQRefIdeal.nD → PrngReg), Pre_AdamQRefIdeal m →
    θ_run (Cert.AdamQRefIdeal.defs (F := Ideal)) (onTc (τ := Cert.AdamQRefIdeal.τ) (Cert.AdamQRefIdeal.main (F := Ideal))) ⟨m, fun _ => 0, g⟩ (fun r => (∀ c : Dev Cert.AdamQRefIdeal.nD,
      r.2.mem ((c.tc : Thread Cert.AdamQRefIdeal.nD Cert.AdamQRefIdeal.τ).loc Cert.AdamQRefIdeal.main_arg0) = m ((c.tc : Thread Cert.AdamQRefIdeal.nD Cert.AdamQRefIdeal.τ).loc Cert.AdamQRefIdeal.main_arg0)
      ∧ r.2.mem ((c.tc : Thread Cert.AdamQRefIdeal.nD Cert.AdamQRefIdeal.τ).loc Cert.AdamQRefIdeal.main_arg1) = m ((c.tc : Thread Cert.AdamQRefIdeal.nD Cert.AdamQRefIdeal.τ).loc Cert.AdamQRefIdeal.main_arg1)
      ∧ r.2.mem ((c.tc : Thread Cert.AdamQRefIdeal.nD Cert.AdamQRefIdeal.τ).loc Cert.AdamQRefIdeal.main_arg2) = m ((c.tc : Thread Cert.AdamQRefIdeal.nD Cert.AdamQRefIdeal.τ).loc Cert.AdamQRefIdeal.main_arg2)
      ∧ r.2.mem ((c.tc : Thread Cert.AdamQRefIdeal.nD Cert.AdamQRefIdeal.τ).loc Cert.AdamQRefIdeal.main_arg3) = m ((c.tc : Thread Cert.AdamQRefIdeal.nD Cert.AdamQRefIdeal.τ).loc Cert.AdamQRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamConv [hAdamConv : Cert.AdamConv.Facts] : Prop :=
  ∀ (m : (ℓ : Loc Cert.AdamConv.nD Cert.AdamConv.τ Cert.AdamConv.sig) → Buf (Elt Bits) ℓ) (g : Dev Cert.AdamConv.nD → PrngReg), Pre_AdamConv m →
    θ_run (Cert.AdamConv.defs (F := Bits)) (onTc (τ := Cert.AdamConv.τ) (Cert.AdamConv.main (F := Bits))) ⟨m, fun _ => 0, g⟩ (fun r => (∀ c : Dev Cert.AdamConv.nD,
      r.2.mem ((c.tc : Thread Cert.AdamConv.nD Cert.AdamConv.τ).loc Cert.AdamConv.main_arg0) = m ((c.tc : Thread Cert.AdamConv.nD Cert.AdamConv.τ).loc Cert.AdamConv.main_arg0)
      ∧ r.2.mem ((c.tc : Thread Cert.AdamConv.nD Cert.AdamConv.τ).loc Cert.AdamConv.main_arg1) = m ((c.tc : Thread Cert.AdamConv.nD Cert.AdamConv.τ).loc Cert.AdamConv.main_arg1)
      ∧ r.2.mem ((c.tc : Thread Cert.AdamConv.nD Cert.AdamConv.τ).loc Cert.AdamConv.main_arg2) = m ((c.tc : Thread Cert.AdamConv.nD Cert.AdamConv.τ).loc Cert.AdamConv.main_arg2)
      ∧ r.2.mem ((c.tc : Thread Cert.AdamConv.nD Cert.AdamConv.τ).loc Cert.AdamConv.main_arg3) = m ((c.tc : Thread Cert.AdamConv.nD Cert.AdamConv.τ).loc Cert.AdamConv.main_arg3))
      ∧ r.2.sem = fun _ => 0)

def quiescent_AdamConvIdeal [hAdamConvIdeal : Cert.AdamConvIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg), Pre_AdamConvIdeal m →
    θ_run (Cert.AdamConvIdeal.defs (F := Ideal)) (onTc (τ := Cert.AdamConvIdeal.τ) (Cert.AdamConvIdeal.main (F := Ideal))) ⟨m, fun _ => 0, g⟩ (fun r => (∀ c : Dev Cert.AdamConvIdeal.nD,
      r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
      ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
      ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
      ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ r.2.sem = fun _ => 0)

def quiescent_AdamConvRefIdeal [hAdamConvRefIdeal : Cert.AdamConvRefIdeal.Facts] : Prop :=
  ∀ (m : (ℓ : Loc Cert.AdamConvRefIdeal.nD Cert.AdamConvRefIdeal.τ Cert.AdamConvRefIdeal.sig) → Buf (Elt Ideal) ℓ) (g : Dev Cert.AdamConvRefIdeal.nD → PrngReg), Pre_AdamConvRefIdeal m →
    θ_run (Cert.AdamConvRefIdeal.defs (F := Ideal)) (onTc (τ := Cert.AdamConvRefIdeal.τ) (Cert.AdamConvRefIdeal.main (F := Ideal))) ⟨m, fun _ => 0, g⟩ (fun r => (∀ c : Dev Cert.AdamConvRefIdeal.nD,
      r.2.mem ((c.tc : Thread Cert.AdamConvRefIdeal.nD Cert.AdamConvRefIdeal.τ).loc Cert.AdamConvRefIdeal.main_arg0) = m ((c.tc : Thread Cert.AdamConvRefIdeal.nD Cert.AdamConvRefIdeal.τ).loc Cert.AdamConvRefIdeal.main_arg0)
      ∧ r.2.mem ((c.tc : Thread Cert.AdamConvRefIdeal.nD Cert.AdamConvRefIdeal.τ).loc Cert.AdamConvRefIdeal.main_arg1) = m ((c.tc : Thread Cert.AdamConvRefIdeal.nD Cert.AdamConvRefIdeal.τ).loc Cert.AdamConvRefIdeal.main_arg1)
      ∧ r.2.mem ((c.tc : Thread Cert.AdamConvRefIdeal.nD Cert.AdamConvRefIdeal.τ).loc Cert.AdamConvRefIdeal.main_arg2) = m ((c.tc : Thread Cert.AdamConvRefIdeal.nD Cert.AdamConvRefIdeal.τ).loc Cert.AdamConvRefIdeal.main_arg2)
      ∧ r.2.mem ((c.tc : Thread Cert.AdamConvRefIdeal.nD Cert.AdamConvRefIdeal.τ).loc Cert.AdamConvRefIdeal.main_arg3) = m ((c.tc : Thread Cert.AdamConvRefIdeal.nD Cert.AdamConvRefIdeal.τ).loc Cert.AdamConvRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AddPair [hAddPair : Cert.AddPair.Facts] : Prop :=
  ∀ (m : (ℓ : Loc Cert.AddPair.nD Cert.AddPair.τ Cert.AddPair.sig) → Buf (Elt Bits) ℓ) (g : Dev Cert.AddPair.nD → PrngReg), Pre_AddPair m →
    θ_run (Cert.AddPair.defs (F := Bits)) (onTc (τ := Cert.AddPair.τ) (Cert.AddPair.main (F := Bits))) ⟨m, fun _ => 0, g⟩ (fun r => (∀ c : Dev Cert.AddPair.nD,
      r.2.mem ((c.tc : Thread Cert.AddPair.nD Cert.AddPair.τ).loc Cert.AddPair.main_arg0) = m ((c.tc : Thread Cert.AddPair.nD Cert.AddPair.τ).loc Cert.AddPair.main_arg0)
      ∧ r.2.mem ((c.tc : Thread Cert.AddPair.nD Cert.AddPair.τ).loc Cert.AddPair.main_arg1) = m ((c.tc : Thread Cert.AddPair.nD Cert.AddPair.τ).loc Cert.AddPair.main_arg1))
      ∧ r.2.sem = fun _ => 0)

def quiescent_AddPairIdeal [hAddPairIdeal : Cert.AddPairIdeal.Facts] : Prop :=
  ∀ (m : (ℓ : Loc Cert.AddPairIdeal.nD Cert.AddPairIdeal.τ Cert.AddPairIdeal.sig) → Buf (Elt Ideal) ℓ) (g : Dev Cert.AddPairIdeal.nD → PrngReg), Pre_AddPairIdeal m →
    θ_run (Cert.AddPairIdeal.defs (F := Ideal)) (onTc (τ := Cert.AddPairIdeal.τ) (Cert.AddPairIdeal.main (F := Ideal))) ⟨m, fun _ => 0, g⟩ (fun r => (∀ c : Dev Cert.AddPairIdeal.nD,
      r.2.mem ((c.tc : Thread Cert.AddPairIdeal.nD Cert.AddPairIdeal.τ).loc Cert.AddPairIdeal.main_arg0) = m ((c.tc : Thread Cert.AddPairIdeal.nD Cert.AddPairIdeal.τ).loc Cert.AddPairIdeal.main_arg0)
      ∧ r.2.mem ((c.tc : Thread Cert.AddPairIdeal.nD Cert.AddPairIdeal.τ).loc Cert.AddPairIdeal.main_arg1) = m ((c.tc : Thread Cert.AddPairIdeal.nD Cert.AddPairIdeal.τ).loc Cert.AddPairIdeal.main_arg1))
      ∧ r.2.sem = fun _ => 0)

def quiescent_AddPairRefIdeal [hAddPairRefIdeal : Cert.AddPairRefIdeal.Facts] : Prop :=
  ∀ (m : (ℓ : Loc Cert.AddPairRefIdeal.nD Cert.AddPairRefIdeal.τ Cert.AddPairRefIdeal.sig) → Buf (Elt Ideal) ℓ) (g : Dev Cert.AddPairRefIdeal.nD → PrngReg), Pre_AddPairRefIdeal m →
    θ_run (Cert.AddPairRefIdeal.defs (F := Ideal)) (onTc (τ := Cert.AddPairRefIdeal.τ) (Cert.AddPairRefIdeal.main (F := Ideal))) ⟨m, fun _ => 0, g⟩ (fun r => (∀ c : Dev Cert.AddPairRefIdeal.nD,
      r.2.mem ((c.tc : Thread Cert.AddPairRefIdeal.nD Cert.AddPairRefIdeal.τ).loc Cert.AddPairRefIdeal.main_arg0) = m ((c.tc : Thread Cert.AddPairRefIdeal.nD Cert.AddPairRefIdeal.τ).loc Cert.AddPairRefIdeal.main_arg0)
      ∧ r.2.mem ((c.tc : Thread Cert.AddPairRefIdeal.nD Cert.AddPairRefIdeal.τ).loc Cert.AddPairRefIdeal.main_arg1) = m ((c.tc : Thread Cert.AddPairRefIdeal.nD Cert.AddPairRefIdeal.τ).loc Cert.AddPairRefIdeal.main_arg1))
      ∧ r.2.sem = fun _ => 0)

def quiescent_AddPairRef [hAddPairRef : Cert.AddPairRef.Facts] : Prop :=
  ∀ (m : (ℓ : Loc Cert.AddPairRef.nD Cert.AddPairRef.τ Cert.AddPairRef.sig) → Buf (Elt Bits) ℓ) (g : Dev Cert.AddPairRef.nD → PrngReg), Pre_AddPairRef m →
    θ_run (Cert.AddPairRef.defs (F := Bits)) (onTc (τ := Cert.AddPairRef.τ) (Cert.AddPairRef.main (F := Bits))) ⟨m, fun _ => 0, g⟩ (fun r => (∀ c : Dev Cert.AddPairRef.nD,
      r.2.mem ((c.tc : Thread Cert.AddPairRef.nD Cert.AddPairRef.τ).loc Cert.AddPairRef.main_arg0) = m ((c.tc : Thread Cert.AddPairRef.nD Cert.AddPairRef.τ).loc Cert.AddPairRef.main_arg0)
      ∧ r.2.mem ((c.tc : Thread Cert.AddPairRef.nD Cert.AddPairRef.τ).loc Cert.AddPairRef.main_arg1) = m ((c.tc : Thread Cert.AddPairRef.nD Cert.AddPairRef.τ).loc Cert.AddPairRef.main_arg1))
      ∧ r.2.sem = fun _ => 0)

def quiescent_AddChips [hAddChips : Cert.AddChips.Facts] : Prop :=
  ∀ (m : (ℓ : Loc Cert.AddChips.nD Cert.AddChips.τ Cert.AddChips.sig) → Buf (Elt Bits) ℓ) (g : Dev Cert.AddChips.nD → PrngReg), Pre_AddChips m →
    θ_run (Cert.AddChips.defs (F := Bits)) (onTc (τ := Cert.AddChips.τ) (Cert.AddChips.main (F := Bits))) ⟨m, fun _ => 0, g⟩ (fun r => (∀ c : Dev Cert.AddChips.nD,
      r.2.mem ((c.tc : Thread Cert.AddChips.nD Cert.AddChips.τ).loc Cert.AddChips.main_arg0) = m ((c.tc : Thread Cert.AddChips.nD Cert.AddChips.τ).loc Cert.AddChips.main_arg0))
      ∧ r.2.sem = fun _ => 0)

def quiescent_AddChipsIdeal [hAddChipsIdeal : Cert.AddChipsIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg), Pre_AddChipsIdeal m →
    θ_run (Cert.AddChipsIdeal.defs (F := Ideal)) (onTc (τ := Cert.AddChipsIdeal.τ) (Cert.AddChipsIdeal.main (F := Ideal))) ⟨m, fun _ => 0, g⟩ (fun r => (∀ c : Dev Cert.AddChipsIdeal.nD,
      r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0))
      ∧ r.2.sem = fun _ => 0)

def quiescent_AddChipsRefIdeal [hAddChipsRefIdeal : Cert.AddChipsRefIdeal.Facts] : Prop :=
  ∀ (m : (ℓ : Loc Cert.AddChipsRefIdeal.nD Cert.AddChipsRefIdeal.τ Cert.AddChipsRefIdeal.sig) → Buf (Elt Ideal) ℓ) (g : Dev Cert.AddChipsRefIdeal.nD → PrngReg), Pre_AddChipsRefIdeal m →
    θ_run (Cert.AddChipsRefIdeal.defs (F := Ideal)) (onTc (τ := Cert.AddChipsRefIdeal.τ) (Cert.AddChipsRefIdeal.main (F := Ideal))) ⟨m, fun _ => 0, g⟩ (fun r => (∀ c : Dev Cert.AddChipsRefIdeal.nD,
      r.2.mem ((c.tc : Thread Cert.AddChipsRefIdeal.nD Cert.AddChipsRefIdeal.τ).loc Cert.AddChipsRefIdeal.main_arg0) = m ((c.tc : Thread Cert.AddChipsRefIdeal.nD Cert.AddChipsRefIdeal.τ).loc Cert.AddChipsRefIdeal.main_arg0))
      ∧ r.2.sem = fun _ => 0)

def quiescent_Grads [hGrads : Cert.Grads.Facts] : Prop :=
  ∀ (m : (ℓ : Loc Cert.Grads.nD Cert.Grads.τ Cert.Grads.sig) → Buf (Elt Bits) ℓ) (g : Dev Cert.Grads.nD → PrngReg), Pre_Grads m →
    θ_run (Cert.Grads.defs (F := Bits)) (onTc (τ := Cert.Grads.τ) (Cert.Grads.main (F := Bits))) ⟨m, fun _ => 0, g⟩ (fun r => (∀ c : Dev Cert.Grads.nD,
      r.2.mem ((c.tc : Thread Cert.Grads.nD Cert.Grads.τ).loc Cert.Grads.main_arg0) = m ((c.tc : Thread Cert.Grads.nD Cert.Grads.τ).loc Cert.Grads.main_arg0))
      ∧ r.2.sem = fun _ => 0)

def quiescent_GradsIdeal [hGradsIdeal : Cert.GradsIdeal.Facts] : Prop :=
  ∀ (m : (ℓ : Loc Cert.GradsIdeal.nD Cert.GradsIdeal.τ Cert.GradsIdeal.sig) → Buf (Elt Ideal) ℓ) (g : Dev Cert.GradsIdeal.nD → PrngReg), Pre_GradsIdeal m →
    θ_run (Cert.GradsIdeal.defs (F := Ideal)) (onTc (τ := Cert.GradsIdeal.τ) (Cert.GradsIdeal.main (F := Ideal))) ⟨m, fun _ => 0, g⟩ (fun r => (∀ c : Dev Cert.GradsIdeal.nD,
      r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ r.2.sem = fun _ => 0)

def quiescent_GradsRefIdeal [hGradsRefIdeal : Cert.GradsRefIdeal.Facts] : Prop :=
  ∀ (m : (ℓ : Loc Cert.GradsRefIdeal.nD Cert.GradsRefIdeal.τ Cert.GradsRefIdeal.sig) → Buf (Elt Ideal) ℓ) (g : Dev Cert.GradsRefIdeal.nD → PrngReg), Pre_GradsRefIdeal m →
    θ_run (Cert.GradsRefIdeal.defs (F := Ideal)) (onTc (τ := Cert.GradsRefIdeal.τ) (Cert.GradsRefIdeal.main (F := Ideal))) ⟨m, fun _ => 0, g⟩ (fun r => (∀ c : Dev Cert.GradsRefIdeal.nD,
      r.2.mem ((c.tc : Thread Cert.GradsRefIdeal.nD Cert.GradsRefIdeal.τ).loc Cert.GradsRefIdeal.main_arg0) = m ((c.tc : Thread Cert.GradsRefIdeal.nD Cert.GradsRefIdeal.τ).loc Cert.GradsRefIdeal.main_arg0))
      ∧ r.2.sem = fun _ => 0)

def quiescent_GradsRef [hGradsRef : Cert.GradsRef.Facts] : Prop :=
  ∀ (m : (ℓ : Loc Cert.GradsRef.nD Cert.GradsRef.τ Cert.GradsRef.sig) → Buf (Elt Bits) ℓ) (g : Dev Cert.GradsRef.nD → PrngReg), Pre_GradsRef m →
    θ_run (Cert.GradsRef.defs (F := Bits)) (onTc (τ := Cert.GradsRef.τ) (Cert.GradsRef.main (F := Bits))) ⟨m, fun _ => 0, g⟩ (fun r => (∀ c : Dev Cert.GradsRef.nD,
      r.2.mem ((c.tc : Thread Cert.GradsRef.nD Cert.GradsRef.τ).loc Cert.GradsRef.main_arg0) = m ((c.tc : Thread Cert.GradsRef.nD Cert.GradsRef.τ).loc Cert.GradsRef.main_arg0))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackRefIdeal [hNormBackRefIdeal : Cert.NormBackRefIdeal.Facts] : Prop :=
  ∀ (m : (ℓ : Loc Cert.NormBackRefIdeal.nD Cert.NormBackRefIdeal.τ Cert.NormBackRefIdeal.sig) → Buf (Elt Ideal) ℓ) (g : Dev Cert.NormBackRefIdeal.nD → PrngReg), Pre_NormBackRefIdeal m →
    θ_run (Cert.NormBackRefIdeal.defs (F := Ideal)) (onTc (τ := Cert.NormBackRefIdeal.τ) (Cert.NormBackRefIdeal.main (F := Ideal))) ⟨m, fun _ => 0, g⟩ (fun r => (∀ c : Dev Cert.NormBackRefIdeal.nD,
      r.2.mem ((c.tc : Thread Cert.NormBackRefIdeal.nD Cert.NormBackRefIdeal.τ).loc Cert.NormBackRefIdeal.main_arg0) = m ((c.tc : Thread Cert.NormBackRefIdeal.nD Cert.NormBackRefIdeal.τ).loc Cert.NormBackRefIdeal.main_arg0)
      ∧ r.2.mem ((c.tc : Thread Cert.NormBackRefIdeal.nD Cert.NormBackRefIdeal.τ).loc Cert.NormBackRefIdeal.main_arg1) = m ((c.tc : Thread Cert.NormBackRefIdeal.nD Cert.NormBackRefIdeal.τ).loc Cert.NormBackRefIdeal.main_arg1)
      ∧ r.2.mem ((c.tc : Thread Cert.NormBackRefIdeal.nD Cert.NormBackRefIdeal.τ).loc Cert.NormBackRefIdeal.main_arg2) = m ((c.tc : Thread Cert.NormBackRefIdeal.nD Cert.NormBackRefIdeal.τ).loc Cert.NormBackRefIdeal.main_arg2)
      ∧ r.2.mem ((c.tc : Thread Cert.NormBackRefIdeal.nD Cert.NormBackRefIdeal.τ).loc Cert.NormBackRefIdeal.main_arg3) = m ((c.tc : Thread Cert.NormBackRefIdeal.nD Cert.NormBackRefIdeal.τ).loc Cert.NormBackRefIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownBx [hDownBx : Cert.DownBx.Facts] : Prop :=
  ∀ (m : (ℓ : Loc Cert.DownBx.nD Cert.DownBx.τ Cert.DownBx.sig) → Buf (Elt Bits) ℓ) (g : Dev Cert.DownBx.nD → PrngReg), Pre_DownBx m →
    θ_run (Cert.DownBx.defs (F := Bits)) (onTc (τ := Cert.DownBx.τ) (Cert.DownBx.main (F := Bits))) ⟨m, fun _ => 0, g⟩ (fun r => (∀ c : Dev Cert.DownBx.nD,
      r.2.mem ((c.tc : Thread Cert.DownBx.nD Cert.DownBx.τ).loc Cert.DownBx.main_arg0) = m ((c.tc : Thread Cert.DownBx.nD Cert.DownBx.τ).loc Cert.DownBx.main_arg0)
      ∧ r.2.mem ((c.tc : Thread Cert.DownBx.nD Cert.DownBx.τ).loc Cert.DownBx.main_arg1) = m ((c.tc : Thread Cert.DownBx.nD Cert.DownBx.τ).loc Cert.DownBx.main_arg1))
      ∧ r.2.sem = fun _ => 0)

def quiescent_DownBxIdeal [hDownBxIdeal : Cert.DownBxIdeal.Facts] : Prop :=
  ∀ (m : (ℓ : Loc Cert.DownBxIdeal.nD Cert.DownBxIdeal.τ Cert.DownBxIdeal.sig) → Buf (Elt Ideal) ℓ) (g : Dev Cert.DownBxIdeal.nD → PrngReg), Pre_DownBxIdeal m →
    θ_run (Cert.DownBxIdeal.defs (F := Ideal)) (onTc (τ := Cert.DownBxIdeal.τ) (Cert.DownBxIdeal.main (F := Ideal))) ⟨m, fun _ => 0, g⟩ (fun r => (∀ c : Dev Cert.DownBxIdeal.nD,
      r.2.mem ((c.tc : Thread Cert.DownBxIdeal.nD Cert.DownBxIdeal.τ).loc Cert.DownBxIdeal.main_arg0) = m ((c.tc : Thread Cert.DownBxIdeal.nD Cert.DownBxIdeal.τ).loc Cert.DownBxIdeal.main_arg0)
      ∧ r.2.mem ((c.tc : Thread Cert.DownBxIdeal.nD Cert.DownBxIdeal.τ).loc Cert.DownBxIdeal.main_arg1) = m ((c.tc : Thread Cert.DownBxIdeal.nD Cert.DownBxIdeal.τ).loc Cert.DownBxIdeal.main_arg1))
      ∧ r.2.sem = fun _ => 0)

def quiescent_DownBxRefIdeal [hDownBxRefIdeal : Cert.DownBxRefIdeal.Facts] : Prop :=
  ∀ (m : (ℓ : Loc Cert.DownBxRefIdeal.nD Cert.DownBxRefIdeal.τ Cert.DownBxRefIdeal.sig) → Buf (Elt Ideal) ℓ) (g : Dev Cert.DownBxRefIdeal.nD → PrngReg), Pre_DownBxRefIdeal m →
    θ_run (Cert.DownBxRefIdeal.defs (F := Ideal)) (onTc (τ := Cert.DownBxRefIdeal.τ) (Cert.DownBxRefIdeal.main (F := Ideal))) ⟨m, fun _ => 0, g⟩ (fun r => (∀ c : Dev Cert.DownBxRefIdeal.nD,
      r.2.mem ((c.tc : Thread Cert.DownBxRefIdeal.nD Cert.DownBxRefIdeal.τ).loc Cert.DownBxRefIdeal.main_arg0) = m ((c.tc : Thread Cert.DownBxRefIdeal.nD Cert.DownBxRefIdeal.τ).loc Cert.DownBxRefIdeal.main_arg0)
      ∧ r.2.mem ((c.tc : Thread Cert.DownBxRefIdeal.nD Cert.DownBxRefIdeal.τ).loc Cert.DownBxRefIdeal.main_arg1) = m ((c.tc : Thread Cert.DownBxRefIdeal.nD Cert.DownBxRefIdeal.τ).loc Cert.DownBxRefIdeal.main_arg1))
      ∧ r.2.sem = fun _ => 0)

def quiescent_DownBw [hDownBw : Cert.DownBw.Facts] : Prop :=
  ∀ (m : (ℓ : Loc Cert.DownBw.nD Cert.DownBw.τ Cert.DownBw.sig) → Buf (Elt Bits) ℓ) (g : Dev Cert.DownBw.nD → PrngReg), Pre_DownBw m →
    θ_run (Cert.DownBw.defs (F := Bits)) (onTc (τ := Cert.DownBw.τ) (Cert.DownBw.main (F := Bits))) ⟨m, fun _ => 0, g⟩ (fun r => (∀ c : Dev Cert.DownBw.nD,
      r.2.mem ((c.tc : Thread Cert.DownBw.nD Cert.DownBw.τ).loc Cert.DownBw.main_arg0) = m ((c.tc : Thread Cert.DownBw.nD Cert.DownBw.τ).loc Cert.DownBw.main_arg0)
      ∧ r.2.mem ((c.tc : Thread Cert.DownBw.nD Cert.DownBw.τ).loc Cert.DownBw.main_arg1) = m ((c.tc : Thread Cert.DownBw.nD Cert.DownBw.τ).loc Cert.DownBw.main_arg1))
      ∧ r.2.sem = fun _ => 0)

def quiescent_DownBwIdeal [hDownBwIdeal : Cert.DownBwIdeal.Facts] : Prop :=
  ∀ (m : (ℓ : Loc Cert.DownBwIdeal.nD Cert.DownBwIdeal.τ Cert.DownBwIdeal.sig) → Buf (Elt Ideal) ℓ) (g : Dev Cert.DownBwIdeal.nD → PrngReg), Pre_DownBwIdeal m →
    θ_run (Cert.DownBwIdeal.defs (F := Ideal)) (onTc (τ := Cert.DownBwIdeal.τ) (Cert.DownBwIdeal.main (F := Ideal))) ⟨m, fun _ => 0, g⟩ (fun r => (∀ c : Dev Cert.DownBwIdeal.nD,
      r.2.mem ((c.tc : Thread Cert.DownBwIdeal.nD Cert.DownBwIdeal.τ).loc Cert.DownBwIdeal.main_arg0) = m ((c.tc : Thread Cert.DownBwIdeal.nD Cert.DownBwIdeal.τ).loc Cert.DownBwIdeal.main_arg0)
      ∧ r.2.mem ((c.tc : Thread Cert.DownBwIdeal.nD Cert.DownBwIdeal.τ).loc Cert.DownBwIdeal.main_arg1) = m ((c.tc : Thread Cert.DownBwIdeal.nD Cert.DownBwIdeal.τ).loc Cert.DownBwIdeal.main_arg1))
      ∧ r.2.sem = fun _ => 0)

def quiescent_DownBwRefIdeal [hDownBwRefIdeal : Cert.DownBwRefIdeal.Facts] : Prop :=
  ∀ (m : (ℓ : Loc Cert.DownBwRefIdeal.nD Cert.DownBwRefIdeal.τ Cert.DownBwRefIdeal.sig) → Buf (Elt Ideal) ℓ) (g : Dev Cert.DownBwRefIdeal.nD → PrngReg), Pre_DownBwRefIdeal m →
    θ_run (Cert.DownBwRefIdeal.defs (F := Ideal)) (onTc (τ := Cert.DownBwRefIdeal.τ) (Cert.DownBwRefIdeal.main (F := Ideal))) ⟨m, fun _ => 0, g⟩ (fun r => (∀ c : Dev Cert.DownBwRefIdeal.nD,
      r.2.mem ((c.tc : Thread Cert.DownBwRefIdeal.nD Cert.DownBwRefIdeal.τ).loc Cert.DownBwRefIdeal.main_arg0) = m ((c.tc : Thread Cert.DownBwRefIdeal.nD Cert.DownBwRefIdeal.τ).loc Cert.DownBwRefIdeal.main_arg0)
      ∧ r.2.mem ((c.tc : Thread Cert.DownBwRefIdeal.nD Cert.DownBwRefIdeal.τ).loc Cert.DownBwRefIdeal.main_arg1) = m ((c.tc : Thread Cert.DownBwRefIdeal.nD Cert.DownBwRefIdeal.τ).loc Cert.DownBwRefIdeal.main_arg1))
      ∧ r.2.sem = fun _ => 0)

def quiescent_GateUpBx [hGateUpBx : Cert.GateUpBx.Facts] : Prop :=
  ∀ (m : (ℓ : Loc Cert.GateUpBx.nD Cert.GateUpBx.τ Cert.GateUpBx.sig) → Buf (Elt Bits) ℓ) (g : Dev Cert.GateUpBx.nD → PrngReg), Pre_GateUpBx m →
    θ_run (Cert.GateUpBx.defs (F := Bits)) (onTc (τ := Cert.GateUpBx.τ) (Cert.GateUpBx.main (F := Bits))) ⟨m, fun _ => 0, g⟩ (fun r => (∀ c : Dev Cert.GateUpBx.nD,
      r.2.mem ((c.tc : Thread Cert.GateUpBx.nD Cert.GateUpBx.τ).loc Cert.GateUpBx.main_arg0) = m ((c.tc : Thread Cert.GateUpBx.nD Cert.GateUpBx.τ).loc Cert.GateUpBx.main_arg0)
      ∧ r.2.mem ((c.tc : Thread Cert.GateUpBx.nD Cert.GateUpBx.τ).loc Cert.GateUpBx.main_arg1) = m ((c.tc : Thread Cert.GateUpBx.nD Cert.GateUpBx.τ).loc Cert.GateUpBx.main_arg1))
      ∧ r.2.sem = fun _ => 0)

def quiescent_GateUpBxIdeal [hGateUpBxIdeal : Cert.GateUpBxIdeal.Facts] : Prop :=
  ∀ (m : (ℓ : Loc Cert.GateUpBxIdeal.nD Cert.GateUpBxIdeal.τ Cert.GateUpBxIdeal.sig) → Buf (Elt Ideal) ℓ) (g : Dev Cert.GateUpBxIdeal.nD → PrngReg), Pre_GateUpBxIdeal m →
    θ_run (Cert.GateUpBxIdeal.defs (F := Ideal)) (onTc (τ := Cert.GateUpBxIdeal.τ) (Cert.GateUpBxIdeal.main (F := Ideal))) ⟨m, fun _ => 0, g⟩ (fun r => (∀ c : Dev Cert.GateUpBxIdeal.nD,
      r.2.mem ((c.tc : Thread Cert.GateUpBxIdeal.nD Cert.GateUpBxIdeal.τ).loc Cert.GateUpBxIdeal.main_arg0) = m ((c.tc : Thread Cert.GateUpBxIdeal.nD Cert.GateUpBxIdeal.τ).loc Cert.GateUpBxIdeal.main_arg0)
      ∧ r.2.mem ((c.tc : Thread Cert.GateUpBxIdeal.nD Cert.GateUpBxIdeal.τ).loc Cert.GateUpBxIdeal.main_arg1) = m ((c.tc : Thread Cert.GateUpBxIdeal.nD Cert.GateUpBxIdeal.τ).loc Cert.GateUpBxIdeal.main_arg1))
      ∧ r.2.sem = fun _ => 0)

def quiescent_GateUpBxRefIdeal [hGateUpBxRefIdeal : Cert.GateUpBxRefIdeal.Facts] : Prop :=
  ∀ (m : (ℓ : Loc Cert.GateUpBxRefIdeal.nD Cert.GateUpBxRefIdeal.τ Cert.GateUpBxRefIdeal.sig) → Buf (Elt Ideal) ℓ) (g : Dev Cert.GateUpBxRefIdeal.nD → PrngReg), Pre_GateUpBxRefIdeal m →
    θ_run (Cert.GateUpBxRefIdeal.defs (F := Ideal)) (onTc (τ := Cert.GateUpBxRefIdeal.τ) (Cert.GateUpBxRefIdeal.main (F := Ideal))) ⟨m, fun _ => 0, g⟩ (fun r => (∀ c : Dev Cert.GateUpBxRefIdeal.nD,
      r.2.mem ((c.tc : Thread Cert.GateUpBxRefIdeal.nD Cert.GateUpBxRefIdeal.τ).loc Cert.GateUpBxRefIdeal.main_arg0) = m ((c.tc : Thread Cert.GateUpBxRefIdeal.nD Cert.GateUpBxRefIdeal.τ).loc Cert.GateUpBxRefIdeal.main_arg0)
      ∧ r.2.mem ((c.tc : Thread Cert.GateUpBxRefIdeal.nD Cert.GateUpBxRefIdeal.τ).loc Cert.GateUpBxRefIdeal.main_arg1) = m ((c.tc : Thread Cert.GateUpBxRefIdeal.nD Cert.GateUpBxRefIdeal.τ).loc Cert.GateUpBxRefIdeal.main_arg1))
      ∧ r.2.sem = fun _ => 0)

def quiescent_GateUpBw [hGateUpBw : Cert.GateUpBw.Facts] : Prop :=
  ∀ (m : (ℓ : Loc Cert.GateUpBw.nD Cert.GateUpBw.τ Cert.GateUpBw.sig) → Buf (Elt Bits) ℓ) (g : Dev Cert.GateUpBw.nD → PrngReg), Pre_GateUpBw m →
    θ_run (Cert.GateUpBw.defs (F := Bits)) (onTc (τ := Cert.GateUpBw.τ) (Cert.GateUpBw.main (F := Bits))) ⟨m, fun _ => 0, g⟩ (fun r => (∀ c : Dev Cert.GateUpBw.nD,
      r.2.mem ((c.tc : Thread Cert.GateUpBw.nD Cert.GateUpBw.τ).loc Cert.GateUpBw.main_arg0) = m ((c.tc : Thread Cert.GateUpBw.nD Cert.GateUpBw.τ).loc Cert.GateUpBw.main_arg0)
      ∧ r.2.mem ((c.tc : Thread Cert.GateUpBw.nD Cert.GateUpBw.τ).loc Cert.GateUpBw.main_arg1) = m ((c.tc : Thread Cert.GateUpBw.nD Cert.GateUpBw.τ).loc Cert.GateUpBw.main_arg1))
      ∧ r.2.sem = fun _ => 0)

def quiescent_GateUpBwIdeal [hGateUpBwIdeal : Cert.GateUpBwIdeal.Facts] : Prop :=
  ∀ (m : (ℓ : Loc Cert.GateUpBwIdeal.nD Cert.GateUpBwIdeal.τ Cert.GateUpBwIdeal.sig) → Buf (Elt Ideal) ℓ) (g : Dev Cert.GateUpBwIdeal.nD → PrngReg), Pre_GateUpBwIdeal m →
    θ_run (Cert.GateUpBwIdeal.defs (F := Ideal)) (onTc (τ := Cert.GateUpBwIdeal.τ) (Cert.GateUpBwIdeal.main (F := Ideal))) ⟨m, fun _ => 0, g⟩ (fun r => (∀ c : Dev Cert.GateUpBwIdeal.nD,
      r.2.mem ((c.tc : Thread Cert.GateUpBwIdeal.nD Cert.GateUpBwIdeal.τ).loc Cert.GateUpBwIdeal.main_arg0) = m ((c.tc : Thread Cert.GateUpBwIdeal.nD Cert.GateUpBwIdeal.τ).loc Cert.GateUpBwIdeal.main_arg0)
      ∧ r.2.mem ((c.tc : Thread Cert.GateUpBwIdeal.nD Cert.GateUpBwIdeal.τ).loc Cert.GateUpBwIdeal.main_arg1) = m ((c.tc : Thread Cert.GateUpBwIdeal.nD Cert.GateUpBwIdeal.τ).loc Cert.GateUpBwIdeal.main_arg1))
      ∧ r.2.sem = fun _ => 0)

def quiescent_GateUpBwRefIdeal [hGateUpBwRefIdeal : Cert.GateUpBwRefIdeal.Facts] : Prop :=
  ∀ (m : (ℓ : Loc Cert.GateUpBwRefIdeal.nD Cert.GateUpBwRefIdeal.τ Cert.GateUpBwRefIdeal.sig) → Buf (Elt Ideal) ℓ) (g : Dev Cert.GateUpBwRefIdeal.nD → PrngReg), Pre_GateUpBwRefIdeal m →
    θ_run (Cert.GateUpBwRefIdeal.defs (F := Ideal)) (onTc (τ := Cert.GateUpBwRefIdeal.τ) (Cert.GateUpBwRefIdeal.main (F := Ideal))) ⟨m, fun _ => 0, g⟩ (fun r => (∀ c : Dev Cert.GateUpBwRefIdeal.nD,
      r.2.mem ((c.tc : Thread Cert.GateUpBwRefIdeal.nD Cert.GateUpBwRefIdeal.τ).loc Cert.GateUpBwRefIdeal.main_arg0) = m ((c.tc : Thread Cert.GateUpBwRefIdeal.nD Cert.GateUpBwRefIdeal.τ).loc Cert.GateUpBwRefIdeal.main_arg0)
      ∧ r.2.mem ((c.tc : Thread Cert.GateUpBwRefIdeal.nD Cert.GateUpBwRefIdeal.τ).loc Cert.GateUpBwRefIdeal.main_arg1) = m ((c.tc : Thread Cert.GateUpBwRefIdeal.nD Cert.GateUpBwRefIdeal.τ).loc Cert.GateUpBwRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2))
      ∧ r.2.sem = fun _ => 0)

def quiescent_PostBack [hPostBack : Cert.PostBack.Facts] : Prop :=
  ∀ (m : (ℓ : Loc Cert.PostBack.nD Cert.PostBack.τ Cert.PostBack.sig) → Buf (Elt Bits) ℓ) (g : Dev Cert.PostBack.nD → PrngReg), Pre_PostBack m →
    θ_run (Cert.PostBack.defs (F := Bits)) (onTc (τ := Cert.PostBack.τ) (Cert.PostBack.main (F := Bits))) ⟨m, fun _ => 0, g⟩ (fun r => (∀ c : Dev Cert.PostBack.nD,
      r.2.mem ((c.tc : Thread Cert.PostBack.nD Cert.PostBack.τ).loc Cert.PostBack.main_arg0) = m ((c.tc : Thread Cert.PostBack.nD Cert.PostBack.τ).loc Cert.PostBack.main_arg0)
      ∧ r.2.mem ((c.tc : Thread Cert.PostBack.nD Cert.PostBack.τ).loc Cert.PostBack.main_arg1) = m ((c.tc : Thread Cert.PostBack.nD Cert.PostBack.τ).loc Cert.PostBack.main_arg1)
      ∧ r.2.mem ((c.tc : Thread Cert.PostBack.nD Cert.PostBack.τ).loc Cert.PostBack.main_arg2) = m ((c.tc : Thread Cert.PostBack.nD Cert.PostBack.τ).loc Cert.PostBack.main_arg2))
      ∧ r.2.sem = fun _ => 0)

def quiescent_PostBackIdeal [hPostBackIdeal : Cert.PostBackIdeal.Facts] : Prop :=
  ∀ (m : (ℓ : Loc Cert.PostBackIdeal.nD Cert.PostBackIdeal.τ Cert.PostBackIdeal.sig) → Buf (Elt Ideal) ℓ) (g : Dev Cert.PostBackIdeal.nD → PrngReg), Pre_PostBackIdeal m →
    θ_run (Cert.PostBackIdeal.defs (F := Ideal)) (onTc (τ := Cert.PostBackIdeal.τ) (Cert.PostBackIdeal.main (F := Ideal))) ⟨m, fun _ => 0, g⟩ (fun r => (∀ c : Dev Cert.PostBackIdeal.nD,
      r.2.mem ((c.tc : Thread Cert.PostBackIdeal.nD Cert.PostBackIdeal.τ).loc Cert.PostBackIdeal.main_arg0) = m ((c.tc : Thread Cert.PostBackIdeal.nD Cert.PostBackIdeal.τ).loc Cert.PostBackIdeal.main_arg0)
      ∧ r.2.mem ((c.tc : Thread Cert.PostBackIdeal.nD Cert.PostBackIdeal.τ).loc Cert.PostBackIdeal.main_arg1) = m ((c.tc : Thread Cert.PostBackIdeal.nD Cert.PostBackIdeal.τ).loc Cert.PostBackIdeal.main_arg1)
      ∧ r.2.mem ((c.tc : Thread Cert.PostBackIdeal.nD Cert.PostBackIdeal.τ).loc Cert.PostBackIdeal.main_arg2) = m ((c.tc : Thread Cert.PostBackIdeal.nD Cert.PostBackIdeal.τ).loc Cert.PostBackIdeal.main_arg2))
      ∧ r.2.sem = fun _ => 0)

def quiescent_PostBackRefIdeal [hPostBackRefIdeal : Cert.PostBackRefIdeal.Facts] : Prop :=
  ∀ (m : (ℓ : Loc Cert.PostBackRefIdeal.nD Cert.PostBackRefIdeal.τ Cert.PostBackRefIdeal.sig) → Buf (Elt Ideal) ℓ) (g : Dev Cert.PostBackRefIdeal.nD → PrngReg), Pre_PostBackRefIdeal m →
    θ_run (Cert.PostBackRefIdeal.defs (F := Ideal)) (onTc (τ := Cert.PostBackRefIdeal.τ) (Cert.PostBackRefIdeal.main (F := Ideal))) ⟨m, fun _ => 0, g⟩ (fun r => (∀ c : Dev Cert.PostBackRefIdeal.nD,
      r.2.mem ((c.tc : Thread Cert.PostBackRefIdeal.nD Cert.PostBackRefIdeal.τ).loc Cert.PostBackRefIdeal.main_arg0) = m ((c.tc : Thread Cert.PostBackRefIdeal.nD Cert.PostBackRefIdeal.τ).loc Cert.PostBackRefIdeal.main_arg0)
      ∧ r.2.mem ((c.tc : Thread Cert.PostBackRefIdeal.nD Cert.PostBackRefIdeal.τ).loc Cert.PostBackRefIdeal.main_arg1) = m ((c.tc : Thread Cert.PostBackRefIdeal.nD Cert.PostBackRefIdeal.τ).loc Cert.PostBackRefIdeal.main_arg1)
      ∧ r.2.mem ((c.tc : Thread Cert.PostBackRefIdeal.nD Cert.PostBackRefIdeal.τ).loc Cert.PostBackRefIdeal.main_arg2) = m ((c.tc : Thread Cert.PostBackRefIdeal.nD Cert.PostBackRefIdeal.τ).loc Cert.PostBackRefIdeal.main_arg2))
      ∧ r.2.sem = fun _ => 0)

def quiescent_ActBack [hActBack : Cert.ActBack.Facts] : Prop :=
  ∀ (m : (ℓ : Loc Cert.ActBack.nD Cert.ActBack.τ Cert.ActBack.sig) → Buf (Elt Bits) ℓ) (g : Dev Cert.ActBack.nD → PrngReg), Pre_ActBack m →
    θ_run (Cert.ActBack.defs (F := Bits)) (onTc (τ := Cert.ActBack.τ) (Cert.ActBack.main (F := Bits))) ⟨m, fun _ => 0, g⟩ (fun r => (∀ c : Dev Cert.ActBack.nD,
      r.2.mem ((c.tc : Thread Cert.ActBack.nD Cert.ActBack.τ).loc Cert.ActBack.main_arg0) = m ((c.tc : Thread Cert.ActBack.nD Cert.ActBack.τ).loc Cert.ActBack.main_arg0)
      ∧ r.2.mem ((c.tc : Thread Cert.ActBack.nD Cert.ActBack.τ).loc Cert.ActBack.main_arg1) = m ((c.tc : Thread Cert.ActBack.nD Cert.ActBack.τ).loc Cert.ActBack.main_arg1))
      ∧ r.2.sem = fun _ => 0)

def quiescent_ActBackIdeal [hActBackIdeal : Cert.ActBackIdeal.Facts] : Prop :=
  ∀ (m : (ℓ : Loc Cert.ActBackIdeal.nD Cert.ActBackIdeal.τ Cert.ActBackIdeal.sig) → Buf (Elt Ideal) ℓ) (g : Dev Cert.ActBackIdeal.nD → PrngReg), Pre_ActBackIdeal m →
    θ_run (Cert.ActBackIdeal.defs (F := Ideal)) (onTc (τ := Cert.ActBackIdeal.τ) (Cert.ActBackIdeal.main (F := Ideal))) ⟨m, fun _ => 0, g⟩ (fun r => (∀ c : Dev Cert.ActBackIdeal.nD,
      r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
      ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1))
      ∧ r.2.sem = fun _ => 0)

def quiescent_ActBackRefIdeal [hActBackRefIdeal : Cert.ActBackRefIdeal.Facts] : Prop :=
  ∀ (m : (ℓ : Loc Cert.ActBackRefIdeal.nD Cert.ActBackRefIdeal.τ Cert.ActBackRefIdeal.sig) → Buf (Elt Ideal) ℓ) (g : Dev Cert.ActBackRefIdeal.nD → PrngReg), Pre_ActBackRefIdeal m →
    θ_run (Cert.ActBackRefIdeal.defs (F := Ideal)) (onTc (τ := Cert.ActBackRefIdeal.τ) (Cert.ActBackRefIdeal.main (F := Ideal))) ⟨m, fun _ => 0, g⟩ (fun r => (∀ c : Dev Cert.ActBackRefIdeal.nD,
      r.2.mem ((c.tc : Thread Cert.ActBackRefIdeal.nD Cert.ActBackRefIdeal.τ).loc Cert.ActBackRefIdeal.main_arg0) = m ((c.tc : Thread Cert.ActBackRefIdeal.nD Cert.ActBackRefIdeal.τ).loc Cert.ActBackRefIdeal.main_arg0)
      ∧ r.2.mem ((c.tc : Thread Cert.ActBackRefIdeal.nD Cert.ActBackRefIdeal.τ).loc Cert.ActBackRefIdeal.main_arg1) = m ((c.tc : Thread Cert.ActBackRefIdeal.nD Cert.ActBackRefIdeal.τ).loc Cert.ActBackRefIdeal.main_arg1))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1))
      ∧ r.2.sem = fun _ => 0)

def quiescent_MixInBx [hMixInBx : Cert.MixInBx.Facts] : Prop :=
  ∀ (m : (ℓ : Loc Cert.MixInBx.nD Cert.MixInBx.τ Cert.MixInBx.sig) → Buf (Elt Bits) ℓ) (g : Dev Cert.MixInBx.nD → PrngReg), Pre_MixInBx m →
    θ_run (Cert.MixInBx.defs (F := Bits)) (onTc (τ := Cert.MixInBx.τ) (Cert.MixInBx.main (F := Bits))) ⟨m, fun _ => 0, g⟩ (fun r => (∀ c : Dev Cert.MixInBx.nD,
      r.2.mem ((c.tc : Thread Cert.MixInBx.nD Cert.MixInBx.τ).loc Cert.MixInBx.main_arg0) = m ((c.tc : Thread Cert.MixInBx.nD Cert.MixInBx.τ).loc Cert.MixInBx.main_arg0)
      ∧ r.2.mem ((c.tc : Thread Cert.MixInBx.nD Cert.MixInBx.τ).loc Cert.MixInBx.main_arg1) = m ((c.tc : Thread Cert.MixInBx.nD Cert.MixInBx.τ).loc Cert.MixInBx.main_arg1))
      ∧ r.2.sem = fun _ => 0)

def quiescent_MixInBxIdeal [hMixInBxIdeal : Cert.MixInBxIdeal.Facts] : Prop :=
  ∀ (m : (ℓ : Loc Cert.MixInBxIdeal.nD Cert.MixInBxIdeal.τ Cert.MixInBxIdeal.sig) → Buf (Elt Ideal) ℓ) (g : Dev Cert.MixInBxIdeal.nD → PrngReg), Pre_MixInBxIdeal m →
    θ_run (Cert.MixInBxIdeal.defs (F := Ideal)) (onTc (τ := Cert.MixInBxIdeal.τ) (Cert.MixInBxIdeal.main (F := Ideal))) ⟨m, fun _ => 0, g⟩ (fun r => (∀ c : Dev Cert.MixInBxIdeal.nD,
      r.2.mem ((c.tc : Thread Cert.MixInBxIdeal.nD Cert.MixInBxIdeal.τ).loc Cert.MixInBxIdeal.main_arg0) = m ((c.tc : Thread Cert.MixInBxIdeal.nD Cert.MixInBxIdeal.τ).loc Cert.MixInBxIdeal.main_arg0)
      ∧ r.2.mem ((c.tc : Thread Cert.MixInBxIdeal.nD Cert.MixInBxIdeal.τ).loc Cert.MixInBxIdeal.main_arg1) = m ((c.tc : Thread Cert.MixInBxIdeal.nD Cert.MixInBxIdeal.τ).loc Cert.MixInBxIdeal.main_arg1))
      ∧ r.2.sem = fun _ => 0)

def quiescent_MixInBxRefIdeal [hMixInBxRefIdeal : Cert.MixInBxRefIdeal.Facts] : Prop :=
  ∀ (m : (ℓ : Loc Cert.MixInBxRefIdeal.nD Cert.MixInBxRefIdeal.τ Cert.MixInBxRefIdeal.sig) → Buf (Elt Ideal) ℓ) (g : Dev Cert.MixInBxRefIdeal.nD → PrngReg), Pre_MixInBxRefIdeal m →
    θ_run (Cert.MixInBxRefIdeal.defs (F := Ideal)) (onTc (τ := Cert.MixInBxRefIdeal.τ) (Cert.MixInBxRefIdeal.main (F := Ideal))) ⟨m, fun _ => 0, g⟩ (fun r => (∀ c : Dev Cert.MixInBxRefIdeal.nD,
      r.2.mem ((c.tc : Thread Cert.MixInBxRefIdeal.nD Cert.MixInBxRefIdeal.τ).loc Cert.MixInBxRefIdeal.main_arg0) = m ((c.tc : Thread Cert.MixInBxRefIdeal.nD Cert.MixInBxRefIdeal.τ).loc Cert.MixInBxRefIdeal.main_arg0)
      ∧ r.2.mem ((c.tc : Thread Cert.MixInBxRefIdeal.nD Cert.MixInBxRefIdeal.τ).loc Cert.MixInBxRefIdeal.main_arg1) = m ((c.tc : Thread Cert.MixInBxRefIdeal.nD Cert.MixInBxRefIdeal.τ).loc Cert.MixInBxRefIdeal.main_arg1))
      ∧ r.2.sem = fun _ => 0)

def quiescent_MixInBw [hMixInBw : Cert.MixInBw.Facts] : Prop :=
  ∀ (m : (ℓ : Loc Cert.MixInBw.nD Cert.MixInBw.τ Cert.MixInBw.sig) → Buf (Elt Bits) ℓ) (g : Dev Cert.MixInBw.nD → PrngReg), Pre_MixInBw m →
    θ_run (Cert.MixInBw.defs (F := Bits)) (onTc (τ := Cert.MixInBw.τ) (Cert.MixInBw.main (F := Bits))) ⟨m, fun _ => 0, g⟩ (fun r => (∀ c : Dev Cert.MixInBw.nD,
      r.2.mem ((c.tc : Thread Cert.MixInBw.nD Cert.MixInBw.τ).loc Cert.MixInBw.main_arg0) = m ((c.tc : Thread Cert.MixInBw.nD Cert.MixInBw.τ).loc Cert.MixInBw.main_arg0)
      ∧ r.2.mem ((c.tc : Thread Cert.MixInBw.nD Cert.MixInBw.τ).loc Cert.MixInBw.main_arg1) = m ((c.tc : Thread Cert.MixInBw.nD Cert.MixInBw.τ).loc Cert.MixInBw.main_arg1))
      ∧ r.2.sem = fun _ => 0)

def quiescent_MixInBwIdeal [hMixInBwIdeal : Cert.MixInBwIdeal.Facts] : Prop :=
  ∀ (m : (ℓ : Loc Cert.MixInBwIdeal.nD Cert.MixInBwIdeal.τ Cert.MixInBwIdeal.sig) → Buf (Elt Ideal) ℓ) (g : Dev Cert.MixInBwIdeal.nD → PrngReg), Pre_MixInBwIdeal m →
    θ_run (Cert.MixInBwIdeal.defs (F := Ideal)) (onTc (τ := Cert.MixInBwIdeal.τ) (Cert.MixInBwIdeal.main (F := Ideal))) ⟨m, fun _ => 0, g⟩ (fun r => (∀ c : Dev Cert.MixInBwIdeal.nD,
      r.2.mem ((c.tc : Thread Cert.MixInBwIdeal.nD Cert.MixInBwIdeal.τ).loc Cert.MixInBwIdeal.main_arg0) = m ((c.tc : Thread Cert.MixInBwIdeal.nD Cert.MixInBwIdeal.τ).loc Cert.MixInBwIdeal.main_arg0)
      ∧ r.2.mem ((c.tc : Thread Cert.MixInBwIdeal.nD Cert.MixInBwIdeal.τ).loc Cert.MixInBwIdeal.main_arg1) = m ((c.tc : Thread Cert.MixInBwIdeal.nD Cert.MixInBwIdeal.τ).loc Cert.MixInBwIdeal.main_arg1))
      ∧ r.2.sem = fun _ => 0)

def quiescent_MixInBwRefIdeal [hMixInBwRefIdeal : Cert.MixInBwRefIdeal.Facts] : Prop :=
  ∀ (m : (ℓ : Loc Cert.MixInBwRefIdeal.nD Cert.MixInBwRefIdeal.τ Cert.MixInBwRefIdeal.sig) → Buf (Elt Ideal) ℓ) (g : Dev Cert.MixInBwRefIdeal.nD → PrngReg), Pre_MixInBwRefIdeal m →
    θ_run (Cert.MixInBwRefIdeal.defs (F := Ideal)) (onTc (τ := Cert.MixInBwRefIdeal.τ) (Cert.MixInBwRefIdeal.main (F := Ideal))) ⟨m, fun _ => 0, g⟩ (fun r => (∀ c : Dev Cert.MixInBwRefIdeal.nD,
      r.2.mem ((c.tc : Thread Cert.MixInBwRefIdeal.nD Cert.MixInBwRefIdeal.τ).loc Cert.MixInBwRefIdeal.main_arg0) = m ((c.tc : Thread Cert.MixInBwRefIdeal.nD Cert.MixInBwRefIdeal.τ).loc Cert.MixInBwRefIdeal.main_arg0)
      ∧ r.2.mem ((c.tc : Thread Cert.MixInBwRefIdeal.nD Cert.MixInBwRefIdeal.τ).loc Cert.MixInBwRefIdeal.main_arg1) = m ((c.tc : Thread Cert.MixInBwRefIdeal.nD Cert.MixInBwRefIdeal.τ).loc Cert.MixInBwRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_MixOutBx [hMixOutBx : Cert.MixOutBx.Facts] : Prop :=
  ∀ (m : (ℓ : Loc Cert.MixOutBx.nD Cert.MixOutBx.τ Cert.MixOutBx.sig) → Buf (Elt Bits) ℓ) (g : Dev Cert.MixOutBx.nD → PrngReg), Pre_MixOutBx m →
    θ_run (Cert.MixOutBx.defs (F := Bits)) (onTc (τ := Cert.MixOutBx.τ) (Cert.MixOutBx.main (F := Bits))) ⟨m, fun _ => 0, g⟩ (fun r => (∀ c : Dev Cert.MixOutBx.nD,
      r.2.mem ((c.tc : Thread Cert.MixOutBx.nD Cert.MixOutBx.τ).loc Cert.MixOutBx.main_arg0) = m ((c.tc : Thread Cert.MixOutBx.nD Cert.MixOutBx.τ).loc Cert.MixOutBx.main_arg0)
      ∧ r.2.mem ((c.tc : Thread Cert.MixOutBx.nD Cert.MixOutBx.τ).loc Cert.MixOutBx.main_arg1) = m ((c.tc : Thread Cert.MixOutBx.nD Cert.MixOutBx.τ).loc Cert.MixOutBx.main_arg1))
      ∧ r.2.sem = fun _ => 0)

def quiescent_MixOutBxIdeal [hMixOutBxIdeal : Cert.MixOutBxIdeal.Facts] : Prop :=
  ∀ (m : (ℓ : Loc Cert.MixOutBxIdeal.nD Cert.MixOutBxIdeal.τ Cert.MixOutBxIdeal.sig) → Buf (Elt Ideal) ℓ) (g : Dev Cert.MixOutBxIdeal.nD → PrngReg), Pre_MixOutBxIdeal m →
    θ_run (Cert.MixOutBxIdeal.defs (F := Ideal)) (onTc (τ := Cert.MixOutBxIdeal.τ) (Cert.MixOutBxIdeal.main (F := Ideal))) ⟨m, fun _ => 0, g⟩ (fun r => (∀ c : Dev Cert.MixOutBxIdeal.nD,
      r.2.mem ((c.tc : Thread Cert.MixOutBxIdeal.nD Cert.MixOutBxIdeal.τ).loc Cert.MixOutBxIdeal.main_arg0) = m ((c.tc : Thread Cert.MixOutBxIdeal.nD Cert.MixOutBxIdeal.τ).loc Cert.MixOutBxIdeal.main_arg0)
      ∧ r.2.mem ((c.tc : Thread Cert.MixOutBxIdeal.nD Cert.MixOutBxIdeal.τ).loc Cert.MixOutBxIdeal.main_arg1) = m ((c.tc : Thread Cert.MixOutBxIdeal.nD Cert.MixOutBxIdeal.τ).loc Cert.MixOutBxIdeal.main_arg1))
      ∧ r.2.sem = fun _ => 0)

def quiescent_MixOutBxRefIdeal [hMixOutBxRefIdeal : Cert.MixOutBxRefIdeal.Facts] : Prop :=
  ∀ (m : (ℓ : Loc Cert.MixOutBxRefIdeal.nD Cert.MixOutBxRefIdeal.τ Cert.MixOutBxRefIdeal.sig) → Buf (Elt Ideal) ℓ) (g : Dev Cert.MixOutBxRefIdeal.nD → PrngReg), Pre_MixOutBxRefIdeal m →
    θ_run (Cert.MixOutBxRefIdeal.defs (F := Ideal)) (onTc (τ := Cert.MixOutBxRefIdeal.τ) (Cert.MixOutBxRefIdeal.main (F := Ideal))) ⟨m, fun _ => 0, g⟩ (fun r => (∀ c : Dev Cert.MixOutBxRefIdeal.nD,
      r.2.mem ((c.tc : Thread Cert.MixOutBxRefIdeal.nD Cert.MixOutBxRefIdeal.τ).loc Cert.MixOutBxRefIdeal.main_arg0) = m ((c.tc : Thread Cert.MixOutBxRefIdeal.nD Cert.MixOutBxRefIdeal.τ).loc Cert.MixOutBxRefIdeal.main_arg0)
      ∧ r.2.mem ((c.tc : Thread Cert.MixOutBxRefIdeal.nD Cert.MixOutBxRefIdeal.τ).loc Cert.MixOutBxRefIdeal.main_arg1) = m ((c.tc : Thread Cert.MixOutBxRefIdeal.nD Cert.MixOutBxRefIdeal.τ).loc Cert.MixOutBxRefIdeal.main_arg1))
      ∧ r.2.sem = fun _ => 0)

def quiescent_MixOutBw [hMixOutBw : Cert.MixOutBw.Facts] : Prop :=
  ∀ (m : (ℓ : Loc Cert.MixOutBw.nD Cert.MixOutBw.τ Cert.MixOutBw.sig) → Buf (Elt Bits) ℓ) (g : Dev Cert.MixOutBw.nD → PrngReg), Pre_MixOutBw m →
    θ_run (Cert.MixOutBw.defs (F := Bits)) (onTc (τ := Cert.MixOutBw.τ) (Cert.MixOutBw.main (F := Bits))) ⟨m, fun _ => 0, g⟩ (fun r => (∀ c : Dev Cert.MixOutBw.nD,
      r.2.mem ((c.tc : Thread Cert.MixOutBw.nD Cert.MixOutBw.τ).loc Cert.MixOutBw.main_arg0) = m ((c.tc : Thread Cert.MixOutBw.nD Cert.MixOutBw.τ).loc Cert.MixOutBw.main_arg0)
      ∧ r.2.mem ((c.tc : Thread Cert.MixOutBw.nD Cert.MixOutBw.τ).loc Cert.MixOutBw.main_arg1) = m ((c.tc : Thread Cert.MixOutBw.nD Cert.MixOutBw.τ).loc Cert.MixOutBw.main_arg1))
      ∧ r.2.sem = fun _ => 0)

def quiescent_MixOutBwIdeal [hMixOutBwIdeal : Cert.MixOutBwIdeal.Facts] : Prop :=
  ∀ (m : (ℓ : Loc Cert.MixOutBwIdeal.nD Cert.MixOutBwIdeal.τ Cert.MixOutBwIdeal.sig) → Buf (Elt Ideal) ℓ) (g : Dev Cert.MixOutBwIdeal.nD → PrngReg), Pre_MixOutBwIdeal m →
    θ_run (Cert.MixOutBwIdeal.defs (F := Ideal)) (onTc (τ := Cert.MixOutBwIdeal.τ) (Cert.MixOutBwIdeal.main (F := Ideal))) ⟨m, fun _ => 0, g⟩ (fun r => (∀ c : Dev Cert.MixOutBwIdeal.nD,
      r.2.mem ((c.tc : Thread Cert.MixOutBwIdeal.nD Cert.MixOutBwIdeal.τ).loc Cert.MixOutBwIdeal.main_arg0) = m ((c.tc : Thread Cert.MixOutBwIdeal.nD Cert.MixOutBwIdeal.τ).loc Cert.MixOutBwIdeal.main_arg0)
      ∧ r.2.mem ((c.tc : Thread Cert.MixOutBwIdeal.nD Cert.MixOutBwIdeal.τ).loc Cert.MixOutBwIdeal.main_arg1) = m ((c.tc : Thread Cert.MixOutBwIdeal.nD Cert.MixOutBwIdeal.τ).loc Cert.MixOutBwIdeal.main_arg1))
      ∧ r.2.sem = fun _ => 0)

def quiescent_MixOutBwRefIdeal [hMixOutBwRefIdeal : Cert.MixOutBwRefIdeal.Facts] : Prop :=
  ∀ (m : (ℓ : Loc Cert.MixOutBwRefIdeal.nD Cert.MixOutBwRefIdeal.τ Cert.MixOutBwRefIdeal.sig) → Buf (Elt Ideal) ℓ) (g : Dev Cert.MixOutBwRefIdeal.nD → PrngReg), Pre_MixOutBwRefIdeal m →
    θ_run (Cert.MixOutBwRefIdeal.defs (F := Ideal)) (onTc (τ := Cert.MixOutBwRefIdeal.τ) (Cert.MixOutBwRefIdeal.main (F := Ideal))) ⟨m, fun _ => 0, g⟩ (fun r => (∀ c : Dev Cert.MixOutBwRefIdeal.nD,
      r.2.mem ((c.tc : Thread Cert.MixOutBwRefIdeal.nD Cert.MixOutBwRefIdeal.τ).loc Cert.MixOutBwRefIdeal.main_arg0) = m ((c.tc : Thread Cert.MixOutBwRefIdeal.nD Cert.MixOutBwRefIdeal.τ).loc Cert.MixOutBwRefIdeal.main_arg0)
      ∧ r.2.mem ((c.tc : Thread Cert.MixOutBwRefIdeal.nD Cert.MixOutBwRefIdeal.τ).loc Cert.MixOutBwRefIdeal.main_arg1) = m ((c.tc : Thread Cert.MixOutBwRefIdeal.nD Cert.MixOutBwRefIdeal.τ).loc Cert.MixOutBwRefIdeal.main_arg1))
      ∧ r.2.sem = fun _ => 0)

def quiescent_Uq [hUq : Cert.Uq.Facts] : Prop :=
  ∀ (m : (ℓ : Loc Cert.Uq.nD Cert.Uq.τ Cert.Uq.sig) → Buf (Elt Bits) ℓ) (g : Dev Cert.Uq.nD → PrngReg), Pre_Uq m →
    θ_run (Cert.Uq.defs (F := Bits)) (onTc (τ := Cert.Uq.τ) (Cert.Uq.main (F := Bits))) ⟨m, fun _ => 0, g⟩ (fun r => (∀ c : Dev Cert.Uq.nD,
      r.2.mem ((c.tc : Thread Cert.Uq.nD Cert.Uq.τ).loc Cert.Uq.main_arg0) = m ((c.tc : Thread Cert.Uq.nD Cert.Uq.τ).loc Cert.Uq.main_arg0)
      ∧ r.2.mem ((c.tc : Thread Cert.Uq.nD Cert.Uq.τ).loc Cert.Uq.main_arg1) = m ((c.tc : Thread Cert.Uq.nD Cert.Uq.τ).loc Cert.Uq.main_arg1))
      ∧ r.2.sem = fun _ => 0)

def quiescent_UqIdeal [hUqIdeal : Cert.UqIdeal.Facts] : Prop :=
  ∀ (m : (ℓ : Loc Cert.UqIdeal.nD Cert.UqIdeal.τ Cert.UqIdeal.sig) → Buf (Elt Ideal) ℓ) (g : Dev Cert.UqIdeal.nD → PrngReg), Pre_UqIdeal m →
    θ_run (Cert.UqIdeal.defs (F := Ideal)) (onTc (τ := Cert.UqIdeal.τ) (Cert.UqIdeal.main (F := Ideal))) ⟨m, fun _ => 0, g⟩ (fun r => (∀ c : Dev Cert.UqIdeal.nD,
      r.2.mem ((c.tc : Thread Cert.UqIdeal.nD Cert.UqIdeal.τ).loc Cert.UqIdeal.main_arg0) = m ((c.tc : Thread Cert.UqIdeal.nD Cert.UqIdeal.τ).loc Cert.UqIdeal.main_arg0)
      ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ r.2.sem = fun _ => 0)

def quiescent_UqRefIdeal [hUqRefIdeal : Cert.UqRefIdeal.Facts] : Prop :=
  ∀ (m : (ℓ : Loc Cert.UqRefIdeal.nD Cert.UqRefIdeal.τ Cert.UqRefIdeal.sig) → Buf (Elt Ideal) ℓ) (g : Dev Cert.UqRefIdeal.nD → PrngReg), Pre_UqRefIdeal m →
    θ_run (Cert.UqRefIdeal.defs (F := Ideal)) (onTc (τ := Cert.UqRefIdeal.τ) (Cert.UqRefIdeal.main (F := Ideal))) ⟨m, fun _ => 0, g⟩ (fun r => (∀ c : Dev Cert.UqRefIdeal.nD,
      r.2.mem ((c.tc : Thread Cert.UqRefIdeal.nD Cert.UqRefIdeal.τ).loc Cert.UqRefIdeal.main_arg0) = m ((c.tc : Thread Cert.UqRefIdeal.nD Cert.UqRefIdeal.τ).loc Cert.UqRefIdeal.main_arg0)
      ∧ r.2.mem ((c.tc : Thread Cert.UqRefIdeal.nD Cert.UqRefIdeal.τ).loc Cert.UqRefIdeal.main_arg1) = m ((c.tc : Thread Cert.UqRefIdeal.nD Cert.UqRefIdeal.τ).loc Cert.UqRefIdeal.main_arg1))
      ∧ r.2.sem = fun _ => 0)

def quiescent_UqBx [hUqBx : Cert.UqBx.Facts] : Prop :=
  ∀ (m : (ℓ : Loc Cert.UqBx.nD Cert.UqBx.τ Cert.UqBx.sig) → Buf (Elt Bits) ℓ) (g : Dev Cert.UqBx.nD → PrngReg), Pre_UqBx m →
    θ_run (Cert.UqBx.defs (F := Bits)) (onTc (τ := Cert.UqBx.τ) (Cert.UqBx.main (F := Bits))) ⟨m, fun _ => 0, g⟩ (fun r => (∀ c : Dev Cert.UqBx.nD,
      r.2.mem ((c.tc : Thread Cert.UqBx.nD Cert.UqBx.τ).loc Cert.UqBx.main_arg0) = m ((c.tc : Thread Cert.UqBx.nD Cert.UqBx.τ).loc Cert.UqBx.main_arg0)
      ∧ r.2.mem ((c.tc : Thread Cert.UqBx.nD Cert.UqBx.τ).loc Cert.UqBx.main_arg1) = m ((c.tc : Thread Cert.UqBx.nD Cert.UqBx.τ).loc Cert.UqBx.main_arg1))
      ∧ r.2.sem = fun _ => 0)

def quiescent_UqBxIdeal [hUqBxIdeal : Cert.UqBxIdeal.Facts] : Prop :=
  ∀ (m : (ℓ : Loc Cert.UqBxIdeal.nD Cert.UqBxIdeal.τ Cert.UqBxIdeal.sig) → Buf (Elt Ideal) ℓ) (g : Dev Cert.UqBxIdeal.nD → PrngReg), Pre_UqBxIdeal m →
    θ_run (Cert.UqBxIdeal.defs (F := Ideal)) (onTc (τ := Cert.UqBxIdeal.τ) (Cert.UqBxIdeal.main (F := Ideal))) ⟨m, fun _ => 0, g⟩ (fun r => (∀ c : Dev Cert.UqBxIdeal.nD,
      r.2.mem ((c.tc : Thread Cert.UqBxIdeal.nD Cert.UqBxIdeal.τ).loc Cert.UqBxIdeal.main_arg0) = m ((c.tc : Thread Cert.UqBxIdeal.nD Cert.UqBxIdeal.τ).loc Cert.UqBxIdeal.main_arg0)
      ∧ r.2.mem ((c.tc : Thread Cert.UqBxIdeal.nD Cert.UqBxIdeal.τ).loc Cert.UqBxIdeal.main_arg1) = m ((c.tc : Thread Cert.UqBxIdeal.nD Cert.UqBxIdeal.τ).loc Cert.UqBxIdeal.main_arg1))
      ∧ r.2.sem = fun _ => 0)

def quiescent_UqBxRefIdeal [hUqBxRefIdeal : Cert.UqBxRefIdeal.Facts] : Prop :=
  ∀ (m : (ℓ : Loc Cert.UqBxRefIdeal.nD Cert.UqBxRefIdeal.τ Cert.UqBxRefIdeal.sig) → Buf (Elt Ideal) ℓ) (g : Dev Cert.UqBxRefIdeal.nD → PrngReg), Pre_UqBxRefIdeal m →
    θ_run (Cert.UqBxRefIdeal.defs (F := Ideal)) (onTc (τ := Cert.UqBxRefIdeal.τ) (Cert.UqBxRefIdeal.main (F := Ideal))) ⟨m, fun _ => 0, g⟩ (fun r => (∀ c : Dev Cert.UqBxRefIdeal.nD,
      r.2.mem ((c.tc : Thread Cert.UqBxRefIdeal.nD Cert.UqBxRefIdeal.τ).loc Cert.UqBxRefIdeal.main_arg0) = m ((c.tc : Thread Cert.UqBxRefIdeal.nD Cert.UqBxRefIdeal.τ).loc Cert.UqBxRefIdeal.main_arg0)
      ∧ r.2.mem ((c.tc : Thread Cert.UqBxRefIdeal.nD Cert.UqBxRefIdeal.τ).loc Cert.UqBxRefIdeal.main_arg1) = m ((c.tc : Thread Cert.UqBxRefIdeal.nD Cert.UqBxRefIdeal.τ).loc Cert.UqBxRefIdeal.main_arg1))
      ∧ r.2.sem = fun _ => 0)

def quiescent_UqBw [hUqBw : Cert.UqBw.Facts] : Prop :=
  ∀ (m : (ℓ : Loc Cert.UqBw.nD Cert.UqBw.τ Cert.UqBw.sig) → Buf (Elt Bits) ℓ) (g : Dev Cert.UqBw.nD → PrngReg), Pre_UqBw m →
    θ_run (Cert.UqBw.defs (F := Bits)) (onTc (τ := Cert.UqBw.τ) (Cert.UqBw.main (F := Bits))) ⟨m, fun _ => 0, g⟩ (fun r => (∀ c : Dev Cert.UqBw.nD,
      r.2.mem ((c.tc : Thread Cert.UqBw.nD Cert.UqBw.τ).loc Cert.UqBw.main_arg0) = m ((c.tc : Thread Cert.UqBw.nD Cert.UqBw.τ).loc Cert.UqBw.main_arg0)
      ∧ r.2.mem ((c.tc : Thread Cert.UqBw.nD Cert.UqBw.τ).loc Cert.UqBw.main_arg1) = m ((c.tc : Thread Cert.UqBw.nD Cert.UqBw.τ).loc Cert.UqBw.main_arg1))
      ∧ r.2.sem = fun _ => 0)

def quiescent_UqBwIdeal [hUqBwIdeal : Cert.UqBwIdeal.Facts] : Prop :=
  ∀ (m : (ℓ : Loc Cert.UqBwIdeal.nD Cert.UqBwIdeal.τ Cert.UqBwIdeal.sig) → Buf (Elt Ideal) ℓ) (g : Dev Cert.UqBwIdeal.nD → PrngReg), Pre_UqBwIdeal m →
    θ_run (Cert.UqBwIdeal.defs (F := Ideal)) (onTc (τ := Cert.UqBwIdeal.τ) (Cert.UqBwIdeal.main (F := Ideal))) ⟨m, fun _ => 0, g⟩ (fun r => (∀ c : Dev Cert.UqBwIdeal.nD,
      r.2.mem ((c.tc : Thread Cert.UqBwIdeal.nD Cert.UqBwIdeal.τ).loc Cert.UqBwIdeal.main_arg0) = m ((c.tc : Thread Cert.UqBwIdeal.nD Cert.UqBwIdeal.τ).loc Cert.UqBwIdeal.main_arg0)
      ∧ r.2.mem ((c.tc : Thread Cert.UqBwIdeal.nD Cert.UqBwIdeal.τ).loc Cert.UqBwIdeal.main_arg1) = m ((c.tc : Thread Cert.UqBwIdeal.nD Cert.UqBwIdeal.τ).loc Cert.UqBwIdeal.main_arg1))
      ∧ r.2.sem = fun _ => 0)

def quiescent_UqBwRefIdeal [hUqBwRefIdeal : Cert.UqBwRefIdeal.Facts] : Prop :=
  ∀ (m : (ℓ : Loc Cert.UqBwRefIdeal.nD Cert.UqBwRefIdeal.τ Cert.UqBwRefIdeal.sig) → Buf (Elt Ideal) ℓ) (g : Dev Cert.UqBwRefIdeal.nD → PrngReg), Pre_UqBwRefIdeal m →
    θ_run (Cert.UqBwRefIdeal.defs (F := Ideal)) (onTc (τ := Cert.UqBwRefIdeal.τ) (Cert.UqBwRefIdeal.main (F := Ideal))) ⟨m, fun _ => 0, g⟩ (fun r => (∀ c : Dev Cert.UqBwRefIdeal.nD,
      r.2.mem ((c.tc : Thread Cert.UqBwRefIdeal.nD Cert.UqBwRefIdeal.τ).loc Cert.UqBwRefIdeal.main_arg0) = m ((c.tc : Thread Cert.UqBwRefIdeal.nD Cert.UqBwRefIdeal.τ).loc Cert.UqBwRefIdeal.main_arg0)
      ∧ r.2.mem ((c.tc : Thread Cert.UqBwRefIdeal.nD Cert.UqBwRefIdeal.τ).loc Cert.UqBwRefIdeal.main_arg1) = m ((c.tc : Thread Cert.UqBwRefIdeal.nD Cert.UqBwRefIdeal.τ).loc Cert.UqBwRefIdeal.main_arg1))
      ∧ r.2.sem = fun _ => 0)

def quiescent_Ukv [hUkv : Cert.Ukv.Facts] : Prop :=
  ∀ (m : (ℓ : Loc Cert.Ukv.nD Cert.Ukv.τ Cert.Ukv.sig) → Buf (Elt Bits) ℓ) (g : Dev Cert.Ukv.nD → PrngReg), Pre_Ukv m →
    θ_run (Cert.Ukv.defs (F := Bits)) (onTc (τ := Cert.Ukv.τ) (Cert.Ukv.main (F := Bits))) ⟨m, fun _ => 0, g⟩ (fun r => (∀ c : Dev Cert.Ukv.nD,
      r.2.mem ((c.tc : Thread Cert.Ukv.nD Cert.Ukv.τ).loc Cert.Ukv.main_arg0) = m ((c.tc : Thread Cert.Ukv.nD Cert.Ukv.τ).loc Cert.Ukv.main_arg0)
      ∧ r.2.mem ((c.tc : Thread Cert.Ukv.nD Cert.Ukv.τ).loc Cert.Ukv.main_arg1) = m ((c.tc : Thread Cert.Ukv.nD Cert.Ukv.τ).loc Cert.Ukv.main_arg1))
      ∧ r.2.sem = fun _ => 0)

def quiescent_UkvIdeal [hUkvIdeal : Cert.UkvIdeal.Facts] : Prop :=
  ∀ (m : (ℓ : Loc Cert.UkvIdeal.nD Cert.UkvIdeal.τ Cert.UkvIdeal.sig) → Buf (Elt Ideal) ℓ) (g : Dev Cert.UkvIdeal.nD → PrngReg), Pre_UkvIdeal m →
    θ_run (Cert.UkvIdeal.defs (F := Ideal)) (onTc (τ := Cert.UkvIdeal.τ) (Cert.UkvIdeal.main (F := Ideal))) ⟨m, fun _ => 0, g⟩ (fun r => (∀ c : Dev Cert.UkvIdeal.nD,
      r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
      ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ r.2.sem = fun _ => 0)

def quiescent_UkvRefIdeal [hUkvRefIdeal : Cert.UkvRefIdeal.Facts] : Prop :=
  ∀ (m : (ℓ : Loc Cert.UkvRefIdeal.nD Cert.UkvRefIdeal.τ Cert.UkvRefIdeal.sig) → Buf (Elt Ideal) ℓ) (g : Dev Cert.UkvRefIdeal.nD → PrngReg), Pre_UkvRefIdeal m →
    θ_run (Cert.UkvRefIdeal.defs (F := Ideal)) (onTc (τ := Cert.UkvRefIdeal.τ) (Cert.UkvRefIdeal.main (F := Ideal))) ⟨m, fun _ => 0, g⟩ (fun r => (∀ c : Dev Cert.UkvRefIdeal.nD,
      r.2.mem ((c.tc : Thread Cert.UkvRefIdeal.nD Cert.UkvRefIdeal.τ).loc Cert.UkvRefIdeal.main_arg0) = m ((c.tc : Thread Cert.UkvRefIdeal.nD Cert.UkvRefIdeal.τ).loc Cert.UkvRefIdeal.main_arg0)
      ∧ r.2.mem ((c.tc : Thread Cert.UkvRefIdeal.nD Cert.UkvRefIdeal.τ).loc Cert.UkvRefIdeal.main_arg1) = m ((c.tc : Thread Cert.UkvRefIdeal.nD Cert.UkvRefIdeal.τ).loc Cert.UkvRefIdeal.main_arg1))
      ∧ r.2.sem = fun _ => 0)

def quiescent_UkvBx [hUkvBx : Cert.UkvBx.Facts] : Prop :=
  ∀ (m : (ℓ : Loc Cert.UkvBx.nD Cert.UkvBx.τ Cert.UkvBx.sig) → Buf (Elt Bits) ℓ) (g : Dev Cert.UkvBx.nD → PrngReg), Pre_UkvBx m →
    θ_run (Cert.UkvBx.defs (F := Bits)) (onTc (τ := Cert.UkvBx.τ) (Cert.UkvBx.main (F := Bits))) ⟨m, fun _ => 0, g⟩ (fun r => (∀ c : Dev Cert.UkvBx.nD,
      r.2.mem ((c.tc : Thread Cert.UkvBx.nD Cert.UkvBx.τ).loc Cert.UkvBx.main_arg0) = m ((c.tc : Thread Cert.UkvBx.nD Cert.UkvBx.τ).loc Cert.UkvBx.main_arg0)
      ∧ r.2.mem ((c.tc : Thread Cert.UkvBx.nD Cert.UkvBx.τ).loc Cert.UkvBx.main_arg1) = m ((c.tc : Thread Cert.UkvBx.nD Cert.UkvBx.τ).loc Cert.UkvBx.main_arg1))
      ∧ r.2.sem = fun _ => 0)

def quiescent_UkvBxIdeal [hUkvBxIdeal : Cert.UkvBxIdeal.Facts] : Prop :=
  ∀ (m : (ℓ : Loc Cert.UkvBxIdeal.nD Cert.UkvBxIdeal.τ Cert.UkvBxIdeal.sig) → Buf (Elt Ideal) ℓ) (g : Dev Cert.UkvBxIdeal.nD → PrngReg), Pre_UkvBxIdeal m →
    θ_run (Cert.UkvBxIdeal.defs (F := Ideal)) (onTc (τ := Cert.UkvBxIdeal.τ) (Cert.UkvBxIdeal.main (F := Ideal))) ⟨m, fun _ => 0, g⟩ (fun r => (∀ c : Dev Cert.UkvBxIdeal.nD,
      r.2.mem ((c.tc : Thread Cert.UkvBxIdeal.nD Cert.UkvBxIdeal.τ).loc Cert.UkvBxIdeal.main_arg0) = m ((c.tc : Thread Cert.UkvBxIdeal.nD Cert.UkvBxIdeal.τ).loc Cert.UkvBxIdeal.main_arg0)
      ∧ r.2.mem ((c.tc : Thread Cert.UkvBxIdeal.nD Cert.UkvBxIdeal.τ).loc Cert.UkvBxIdeal.main_arg1) = m ((c.tc : Thread Cert.UkvBxIdeal.nD Cert.UkvBxIdeal.τ).loc Cert.UkvBxIdeal.main_arg1))
      ∧ r.2.sem = fun _ => 0)

def quiescent_UkvBxRefIdeal [hUkvBxRefIdeal : Cert.UkvBxRefIdeal.Facts] : Prop :=
  ∀ (m : (ℓ : Loc Cert.UkvBxRefIdeal.nD Cert.UkvBxRefIdeal.τ Cert.UkvBxRefIdeal.sig) → Buf (Elt Ideal) ℓ) (g : Dev Cert.UkvBxRefIdeal.nD → PrngReg), Pre_UkvBxRefIdeal m →
    θ_run (Cert.UkvBxRefIdeal.defs (F := Ideal)) (onTc (τ := Cert.UkvBxRefIdeal.τ) (Cert.UkvBxRefIdeal.main (F := Ideal))) ⟨m, fun _ => 0, g⟩ (fun r => (∀ c : Dev Cert.UkvBxRefIdeal.nD,
      r.2.mem ((c.tc : Thread Cert.UkvBxRefIdeal.nD Cert.UkvBxRefIdeal.τ).loc Cert.UkvBxRefIdeal.main_arg0) = m ((c.tc : Thread Cert.UkvBxRefIdeal.nD Cert.UkvBxRefIdeal.τ).loc Cert.UkvBxRefIdeal.main_arg0)
      ∧ r.2.mem ((c.tc : Thread Cert.UkvBxRefIdeal.nD Cert.UkvBxRefIdeal.τ).loc Cert.UkvBxRefIdeal.main_arg1) = m ((c.tc : Thread Cert.UkvBxRefIdeal.nD Cert.UkvBxRefIdeal.τ).loc Cert.UkvBxRefIdeal.main_arg1))
      ∧ r.2.sem = fun _ => 0)

def quiescent_UkvBw [hUkvBw : Cert.UkvBw.Facts] : Prop :=
  ∀ (m : (ℓ : Loc Cert.UkvBw.nD Cert.UkvBw.τ Cert.UkvBw.sig) → Buf (Elt Bits) ℓ) (g : Dev Cert.UkvBw.nD → PrngReg), Pre_UkvBw m →
    θ_run (Cert.UkvBw.defs (F := Bits)) (onTc (τ := Cert.UkvBw.τ) (Cert.UkvBw.main (F := Bits))) ⟨m, fun _ => 0, g⟩ (fun r => (∀ c : Dev Cert.UkvBw.nD,
      r.2.mem ((c.tc : Thread Cert.UkvBw.nD Cert.UkvBw.τ).loc Cert.UkvBw.main_arg0) = m ((c.tc : Thread Cert.UkvBw.nD Cert.UkvBw.τ).loc Cert.UkvBw.main_arg0)
      ∧ r.2.mem ((c.tc : Thread Cert.UkvBw.nD Cert.UkvBw.τ).loc Cert.UkvBw.main_arg1) = m ((c.tc : Thread Cert.UkvBw.nD Cert.UkvBw.τ).loc Cert.UkvBw.main_arg1))
      ∧ r.2.sem = fun _ => 0)

def quiescent_UkvBwIdeal [hUkvBwIdeal : Cert.UkvBwIdeal.Facts] : Prop :=
  ∀ (m : (ℓ : Loc Cert.UkvBwIdeal.nD Cert.UkvBwIdeal.τ Cert.UkvBwIdeal.sig) → Buf (Elt Ideal) ℓ) (g : Dev Cert.UkvBwIdeal.nD → PrngReg), Pre_UkvBwIdeal m →
    θ_run (Cert.UkvBwIdeal.defs (F := Ideal)) (onTc (τ := Cert.UkvBwIdeal.τ) (Cert.UkvBwIdeal.main (F := Ideal))) ⟨m, fun _ => 0, g⟩ (fun r => (∀ c : Dev Cert.UkvBwIdeal.nD,
      r.2.mem ((c.tc : Thread Cert.UkvBwIdeal.nD Cert.UkvBwIdeal.τ).loc Cert.UkvBwIdeal.main_arg0) = m ((c.tc : Thread Cert.UkvBwIdeal.nD Cert.UkvBwIdeal.τ).loc Cert.UkvBwIdeal.main_arg0)
      ∧ r.2.mem ((c.tc : Thread Cert.UkvBwIdeal.nD Cert.UkvBwIdeal.τ).loc Cert.UkvBwIdeal.main_arg1) = m ((c.tc : Thread Cert.UkvBwIdeal.nD Cert.UkvBwIdeal.τ).loc Cert.UkvBwIdeal.main_arg1))
      ∧ r.2.sem = fun _ => 0)

def quiescent_UkvBwRefIdeal [hUkvBwRefIdeal : Cert.UkvBwRefIdeal.Facts] : Prop :=
  ∀ (m : (ℓ : Loc Cert.UkvBwRefIdeal.nD Cert.UkvBwRefIdeal.τ Cert.UkvBwRefIdeal.sig) → Buf (Elt Ideal) ℓ) (g : Dev Cert.UkvBwRefIdeal.nD → PrngReg), Pre_UkvBwRefIdeal m →
    θ_run (Cert.UkvBwRefIdeal.defs (F := Ideal)) (onTc (τ := Cert.UkvBwRefIdeal.τ) (Cert.UkvBwRefIdeal.main (F := Ideal))) ⟨m, fun _ => 0, g⟩ (fun r => (∀ c : Dev Cert.UkvBwRefIdeal.nD,
      r.2.mem ((c.tc : Thread Cert.UkvBwRefIdeal.nD Cert.UkvBwRefIdeal.τ).loc Cert.UkvBwRefIdeal.main_arg0) = m ((c.tc : Thread Cert.UkvBwRefIdeal.nD Cert.UkvBwRefIdeal.τ).loc Cert.UkvBwRefIdeal.main_arg0)
      ∧ r.2.mem ((c.tc : Thread Cert.UkvBwRefIdeal.nD Cert.UkvBwRefIdeal.τ).loc Cert.UkvBwRefIdeal.main_arg1) = m ((c.tc : Thread Cert.UkvBwRefIdeal.nD Cert.UkvBwRefIdeal.τ).loc Cert.UkvBwRefIdeal.main_arg1))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨2, ![5184, 1024]⟩ ⟨2, ![20736, 1024]⟩ (Layout.meshBlock [2, 2, 2] ![[0, 1], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨2, ![5184, 1024]⟩ ⟨2, ![20736, 1024]⟩ (Layout.meshBlock [2, 2, 2] ![[0, 1], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨3, ![4, 2592, 1024]⟩ ⟨3, ![32, 2592, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v4)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 2592, 1024]⟩ ⟨3, ![32, 2592, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v4) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨3, ![4, 2592, 1024]⟩ ⟨3, ![32, 2592, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v4)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 2592, 1024]⟩ ⟨3, ![32, 2592, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v4) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 2592, 1024]⟩ ⟨3, ![32, 2592, 1024]⟩ 0 8 c (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v2)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = Layout.block ⟨3, ![4, 2592, 1024]⟩ ⟨3, ![32, 2592, 1024]⟩ 0 8 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 2592, 1024]⟩ ⟨3, ![32, 2592, 1024]⟩ 0 8 c (m' (((0 : Dev Cert.ScatterRef.nD).tc : Thread Cert.ScatterRef.nD Cert.ScatterRef.τ).loc Cert.ScatterRef.main_arg0))) →
    ∃ (v0 : Buf (Elt Bits) (((0 : Dev Cert.ScatterRef.nD).tc : Thread Cert.ScatterRef.nD Cert.ScatterRef.τ).loc Cert.ScatterRef.main_v2)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1) = Layout.block ⟨3, ![4, 2592, 1024]⟩ ⟨3, ![32, 2592, 1024]⟩ 0 8 c v0
          ∧ r.2.mem ((c.tc : Thread Cert.Scatter.nD Cert.Scatter.τ).loc Cert.Scatter.main_arg0) = m ((c.tc : Thread Cert.Scatter.nD Cert.Scatter.τ).loc Cert.Scatter.main_arg0))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![2592, 1024]⟩ ⟨2, ![20736, 1024]⟩ 0 8 c (m' (((0 : Dev Cert.ShareRefIdeal.nD).tc : Thread Cert.ShareRefIdeal.nD Cert.ShareRefIdeal.τ).loc Cert.ShareRefIdeal.main_arg0))) →
    ∃ (v0 : Buf (Elt Ideal) (((0 : Dev Cert.ShareRefIdeal.nD).tc : Thread Cert.ShareRefIdeal.nD Cert.ShareRefIdeal.τ).loc Cert.ShareRefIdeal.main_v0)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.blockN ⟨3, ![2, 2592, 1024]⟩ ⟨3, ![8, 2592, 1024]⟩ (Layout.meshBlock [2, 2, 2] ![[0, 1], [], []] c) v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![2592, 1024]⟩ ⟨2, ![20736, 1024]⟩ 0 8 c (m' (((0 : Dev Cert.ShareRef.nD).tc : Thread Cert.ShareRef.nD Cert.ShareRef.τ).loc Cert.ShareRef.main_arg0))) →
    ∃ (v0 : Buf (Elt Bits) (((0 : Dev Cert.ShareRef.nD).tc : Thread Cert.ShareRef.nD Cert.ShareRef.τ).loc Cert.ShareRef.main_v0)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.blockN ⟨3, ![2, 2592, 1024]⟩ ⟨3, ![8, 2592, 1024]⟩ (Layout.meshBlock [2, 2, 2] ![[0, 1], [], []] c) v0
          ∧ r.2.mem ((c.tc : Thread Cert.Share.nD Cert.Share.τ).loc Cert.Share.main_arg0) = m ((c.tc : Thread Cert.Share.nD Cert.Share.τ).loc Cert.Share.main_arg0))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0))

def preserves_Small_SmallIdeal : Prop :=
  True

def algebraic_SmallIdeal_SmallRefIdeal [hSmallIdeal : Cert.SmallIdeal.Facts] [hSmallRefIdeal : Cert.SmallRefIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallRefIdeal.nD Cert.SmallRefIdeal.τ Cert.SmallRefIdeal.sig) → Buf (Elt Ideal) ℓ) (g' : Dev Cert.SmallRefIdeal.nD → PrngReg), Pre_SmallIdeal m →
    (∀ c : Dev Cert.SmallIdeal.nD,
      m ((c.tc : Thread Cert.SmallIdeal.nD Cert.SmallIdeal.τ).loc Cert.SmallIdeal.main_arg0) = Layout.block ⟨2, ![16, 1024]⟩ ⟨2, ![128, 1024]⟩ 0 8 c (m' (((0 : Dev Cert.SmallRefIdeal.nD).tc : Thread Cert.SmallRefIdeal.nD Cert.SmallRefIdeal.τ).loc Cert.SmallRefIdeal.main_arg0))) →
    ∃ (v0 : Buf (Elt Ideal) (((0 : Dev Cert.SmallRefIdeal.nD).tc : Thread Cert.SmallRefIdeal.nD Cert.SmallRefIdeal.τ).loc Cert.SmallRefIdeal.main_v0)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v1) = v0
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0))
      ∧ θ_run (Cert.SmallRefIdeal.defs (F := Ideal)) (onTc (τ := Cert.SmallRefIdeal.τ) (Cert.SmallRefIdeal.main (F := Ideal))) ⟨m', fun _ => 0, g'⟩ (fun r =>
          r.2.mem (((0 : Dev Cert.SmallRefIdeal.nD).tc : Thread Cert.SmallRefIdeal.nD Cert.SmallRefIdeal.τ).loc Cert.SmallRefIdeal.main_v0) = v0
          ∧ r.2.mem (((0 : Dev Cert.SmallRefIdeal.nD).tc : Thread Cert.SmallRefIdeal.nD Cert.SmallRefIdeal.τ).loc Cert.SmallRefIdeal.main_arg0) = m' (((0 : Dev Cert.SmallRefIdeal.nD).tc : Thread Cert.SmallRefIdeal.nD Cert.SmallRefIdeal.τ).loc Cert.SmallRefIdeal.main_arg0))

def bitexact_Small_SmallRef [hSmall : Cert.Small.Facts] [hSmallRef : Cert.SmallRef.Facts] : Prop :=
  ∀ (m : (ℓ : Loc Cert.Small.nD Cert.Small.τ Cert.Small.sig) → Buf (Elt Bits) ℓ) (g : Dev Cert.Small.nD → PrngReg)
    (m' : (ℓ : Loc Cert.SmallRef.nD Cert.SmallRef.τ Cert.SmallRef.sig) → Buf (Elt Bits) ℓ) (g' : Dev Cert.SmallRef.nD → PrngReg), Pre_Small m →
    (∀ c : Dev Cert.Small.nD,
      m ((c.tc : Thread Cert.Small.nD Cert.Small.τ).loc Cert.Small.main_arg0) = Layout.block ⟨2, ![16, 1024]⟩ ⟨2, ![128, 1024]⟩ 0 8 c (m' (((0 : Dev Cert.SmallRef.nD).tc : Thread Cert.SmallRef.nD Cert.SmallRef.τ).loc Cert.SmallRef.main_arg0))) →
    ∃ (v0 : Buf (Elt Bits) (((0 : Dev Cert.SmallRef.nD).tc : Thread Cert.SmallRef.nD Cert.SmallRef.τ).loc Cert.SmallRef.main_v0)),
      θ_run (Cert.Small.defs (F := Bits)) (onTc (τ := Cert.Small.τ) (Cert.Small.main (F := Bits))) ⟨m, fun _ => 0, g⟩ (fun r => ∀ c : Dev Cert.Small.nD,
          r.2.mem ((c.tc : Thread Cert.Small.nD Cert.Small.τ).loc Cert.Small.main_v1) = v0
          ∧ r.2.mem ((c.tc : Thread Cert.Small.nD Cert.Small.τ).loc Cert.Small.main_arg0) = m ((c.tc : Thread Cert.Small.nD Cert.Small.τ).loc Cert.Small.main_arg0))
      ∧ θ_run (Cert.SmallRef.defs (F := Bits)) (onTc (τ := Cert.SmallRef.τ) (Cert.SmallRef.main (F := Bits))) ⟨m', fun _ => 0, g'⟩ (fun r =>
          r.2.mem (((0 : Dev Cert.SmallRef.nD).tc : Thread Cert.SmallRef.nD Cert.SmallRef.τ).loc Cert.SmallRef.main_v0) = v0
          ∧ r.2.mem (((0 : Dev Cert.SmallRef.nD).tc : Thread Cert.SmallRef.nD Cert.SmallRef.τ).loc Cert.SmallRef.main_arg0) = m' (((0 : Dev Cert.SmallRef.nD).tc : Thread Cert.SmallRef.nD Cert.SmallRef.τ).loc Cert.SmallRef.main_arg0))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamQ_AdamQIdeal : Prop :=
  True

def algebraic_AdamQIdeal_AdamQRefIdeal [hAdamQIdeal : Cert.AdamQIdeal.Facts] [hAdamQRefIdeal : Cert.AdamQRefIdeal.Facts] : Prop :=
  ∀ (m : (ℓ : Loc Cert.AdamQIdeal.nD Cert.AdamQIdeal.τ Cert.AdamQIdeal.sig) → Buf (Elt Ideal) ℓ) (g : Dev Cert.AdamQIdeal.nD → PrngReg)
    (m' : (ℓ : Loc Cert.AdamQRefIdeal.nD Cert.AdamQRefIdeal.τ Cert.AdamQRefIdeal.sig) → Buf (Elt Ideal) ℓ) (g' : Dev Cert.AdamQRefIdeal.nD → PrngReg), Pre_AdamQIdeal m →
    (∀ c : Dev Cert.AdamQIdeal.nD,
      m' ((c.tc : Thread Cert.AdamQRefIdeal.nD Cert.AdamQRefIdeal.τ).loc Cert.AdamQRefIdeal.main_arg0) = m ((c.tc : Thread Cert.AdamQIdeal.nD Cert.AdamQIdeal.τ).loc Cert.AdamQIdeal.main_arg0)
      ∧ m' ((c.tc : Thread Cert.AdamQRefIdeal.nD Cert.AdamQRefIdeal.τ).loc Cert.AdamQRefIdeal.main_arg1) = m ((c.tc : Thread Cert.AdamQIdeal.nD Cert.AdamQIdeal.τ).loc Cert.AdamQIdeal.main_arg1)
      ∧ m' ((c.tc : Thread Cert.AdamQRefIdeal.nD Cert.AdamQRefIdeal.τ).loc Cert.AdamQRefIdeal.main_arg2) = m ((c.tc : Thread Cert.AdamQIdeal.nD Cert.AdamQIdeal.τ).loc Cert.AdamQIdeal.main_arg2)
      ∧ m' ((c.tc : Thread Cert.AdamQRefIdeal.nD Cert.AdamQRefIdeal.τ).loc Cert.AdamQRefIdeal.main_arg3) = m ((c.tc : Thread Cert.AdamQIdeal.nD Cert.AdamQIdeal.τ).loc Cert.AdamQIdeal.main_arg3)) →
    ∃ (v0 : (c : Dev Cert.AdamQIdeal.nD) → Buf (Elt Ideal) ((c.tc : Thread Cert.AdamQIdeal.nD Cert.AdamQIdeal.τ).loc Cert.AdamQIdeal.main_v0_0)) (v1 : (c : Dev Cert.AdamQIdeal.nD) → Buf (Elt Ideal) ((c.tc : Thread Cert.AdamQIdeal.nD Cert.AdamQIdeal.τ).loc Cert.AdamQIdeal.main_v0_1)) (v2 : (c : Dev Cert.AdamQIdeal.nD) → Buf (Elt Ideal) ((c.tc : Thread Cert.AdamQIdeal.nD Cert.AdamQIdeal.τ).loc Cert.AdamQIdeal.main_v0_2)),
      θ_run (Cert.AdamQIdeal.defs (F := Ideal)) (onTc (τ := Cert.AdamQIdeal.τ) (Cert.AdamQIdeal.main (F := Ideal))) ⟨m, fun _ => 0, g⟩ (fun r => ∀ c : Dev Cert.AdamQIdeal.nD,
          r.2.mem ((c.tc : Thread Cert.AdamQIdeal.nD Cert.AdamQIdeal.τ).loc Cert.AdamQIdeal.main_v0_0) = v0 c
          ∧ r.2.mem ((c.tc : Thread Cert.AdamQIdeal.nD Cert.AdamQIdeal.τ).loc Cert.AdamQIdeal.main_v0_1) = v1 c
          ∧ r.2.mem ((c.tc : Thread Cert.AdamQIdeal.nD Cert.AdamQIdeal.τ).loc Cert.AdamQIdeal.main_v0_2) = v2 c
          ∧ r.2.mem ((c.tc : Thread Cert.AdamQIdeal.nD Cert.AdamQIdeal.τ).loc Cert.AdamQIdeal.main_arg0) = m ((c.tc : Thread Cert.AdamQIdeal.nD Cert.AdamQIdeal.τ).loc Cert.AdamQIdeal.main_arg0)
          ∧ r.2.mem ((c.tc : Thread Cert.AdamQIdeal.nD Cert.AdamQIdeal.τ).loc Cert.AdamQIdeal.main_arg1) = m ((c.tc : Thread Cert.AdamQIdeal.nD Cert.AdamQIdeal.τ).loc Cert.AdamQIdeal.main_arg1)
          ∧ r.2.mem ((c.tc : Thread Cert.AdamQIdeal.nD Cert.AdamQIdeal.τ).loc Cert.AdamQIdeal.main_arg2) = m ((c.tc : Thread Cert.AdamQIdeal.nD Cert.AdamQIdeal.τ).loc Cert.AdamQIdeal.main_arg2)
          ∧ r.2.mem ((c.tc : Thread Cert.AdamQIdeal.nD Cert.AdamQIdeal.τ).loc Cert.AdamQIdeal.main_arg3) = m ((c.tc : Thread Cert.AdamQIdeal.nD Cert.AdamQIdeal.τ).loc Cert.AdamQIdeal.main_arg3))
      ∧ θ_run (Cert.AdamQRefIdeal.defs (F := Ideal)) (onTc (τ := Cert.AdamQRefIdeal.τ) (Cert.AdamQRefIdeal.main (F := Ideal))) ⟨m', fun _ => 0, g'⟩ (fun r => ∀ c : Dev Cert.AdamQRefIdeal.nD,
          r.2.mem ((c.tc : Thread Cert.AdamQRefIdeal.nD Cert.AdamQRefIdeal.τ).loc Cert.AdamQRefIdeal.main_v23) = v0 c
          ∧ r.2.mem ((c.tc : Thread Cert.AdamQRefIdeal.nD Cert.AdamQRefIdeal.τ).loc Cert.AdamQRefIdeal.main_v4) = v1 c
          ∧ r.2.mem ((c.tc : Thread Cert.AdamQRefIdeal.nD Cert.AdamQRefIdeal.τ).loc Cert.AdamQRefIdeal.main_v10) = v2 c
          ∧ r.2.mem ((c.tc : Thread Cert.AdamQRefIdeal.nD Cert.AdamQRefIdeal.τ).loc Cert.AdamQRefIdeal.main_arg0) = m' ((c.tc : Thread Cert.AdamQRefIdeal.nD Cert.AdamQRefIdeal.τ).loc Cert.AdamQRefIdeal.main_arg0)
          ∧ r.2.mem ((c.tc : Thread Cert.AdamQRefIdeal.nD Cert.AdamQRefIdeal.τ).loc Cert.AdamQRefIdeal.main_arg1) = m' ((c.tc : Thread Cert.AdamQRefIdeal.nD Cert.AdamQRefIdeal.τ).loc Cert.AdamQRefIdeal.main_arg1)
          ∧ r.2.mem ((c.tc : Thread Cert.AdamQRefIdeal.nD Cert.AdamQRefIdeal.τ).loc Cert.AdamQRefIdeal.main_arg2) = m' ((c.tc : Thread Cert.AdamQRefIdeal.nD Cert.AdamQRefIdeal.τ).loc Cert.AdamQRefIdeal.main_arg2)
          ∧ r.2.mem ((c.tc : Thread Cert.AdamQRefIdeal.nD Cert.AdamQRefIdeal.τ).loc Cert.AdamQRefIdeal.main_arg3) = m' ((c.tc : Thread Cert.AdamQRefIdeal.nD Cert.AdamQRefIdeal.τ).loc Cert.AdamQRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_v23) = v0 c
          ∧ r.2.mem ((c.tc : Thread Cert.AdamKvRefIdeal.nD Cert.AdamKvRefIdeal.τ).loc Cert.AdamKvRefIdeal.main_v4) = v1 c
          ∧ r.2.mem ((c.tc : Thread Cert.AdamKvRefIdeal.nD Cert.AdamKvRefIdeal.τ).loc Cert.AdamKvRefIdeal.main_v10) = v2 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamConv_AdamConvIdeal : Prop :=
  True

def algebraic_AdamConvIdeal_AdamConvRefIdeal [hAdamConvIdeal : Cert.AdamConvIdeal.Facts] [hAdamConvRefIdeal : Cert.AdamConvRefIdeal.Facts] : Prop :=
  ∀ (m : (ℓ : Loc Cert.AdamConvIdeal.nD Cert.AdamConvIdeal.τ Cert.AdamConvIdeal.sig) → Buf (Elt Ideal) ℓ) (g : Dev Cert.AdamConvIdeal.nD → PrngReg)
    (m' : (ℓ : Loc Cert.AdamConvRefIdeal.nD Cert.AdamConvRefIdeal.τ Cert.AdamConvRefIdeal.sig) → Buf (Elt Ideal) ℓ) (g' : Dev Cert.AdamConvRefIdeal.nD → PrngReg), Pre_AdamConvIdeal m →
    (∀ c : Dev Cert.AdamConvIdeal.nD,
      m' ((c.tc : Thread Cert.AdamConvRefIdeal.nD Cert.AdamConvRefIdeal.τ).loc Cert.AdamConvRefIdeal.main_arg0) = m ((c.tc : Thread Cert.AdamConvIdeal.nD Cert.AdamConvIdeal.τ).loc Cert.AdamConvIdeal.main_arg0)
      ∧ m' ((c.tc : Thread Cert.AdamConvRefIdeal.nD Cert.AdamConvRefIdeal.τ).loc Cert.AdamConvRefIdeal.main_arg1) = m ((c.tc : Thread Cert.AdamConvIdeal.nD Cert.AdamConvIdeal.τ).loc Cert.AdamConvIdeal.main_arg1)
      ∧ m' ((c.tc : Thread Cert.AdamConvRefIdeal.nD Cert.AdamConvRefIdeal.τ).loc Cert.AdamConvRefIdeal.main_arg2) = m ((c.tc : Thread Cert.AdamConvIdeal.nD Cert.AdamConvIdeal.τ).loc Cert.AdamConvIdeal.main_arg2)
      ∧ m' ((c.tc : Thread Cert.AdamConvRefIdeal.nD Cert.AdamConvRefIdeal.τ).loc Cert.AdamConvRefIdeal.main_arg3) = m ((c.tc : Thread Cert.AdamConvIdeal.nD Cert.AdamConvIdeal.τ).loc Cert.AdamConvIdeal.main_arg3)) →
    ∃ (v0 : (c : Dev Cert.AdamConvIdeal.nD) → Buf (Elt Ideal) ((c.tc : Thread Cert.AdamConvIdeal.nD Cert.AdamConvIdeal.τ).loc Cert.AdamConvIdeal.main_v0_0)) (v1 : (c : Dev Cert.AdamConvIdeal.nD) → Buf (Elt Ideal) ((c.tc : Thread Cert.AdamConvIdeal.nD Cert.AdamConvIdeal.τ).loc Cert.AdamConvIdeal.main_v0_1)) (v2 : (c : Dev Cert.AdamConvIdeal.nD) → Buf (Elt Ideal) ((c.tc : Thread Cert.AdamConvIdeal.nD Cert.AdamConvIdeal.τ).loc Cert.AdamConvIdeal.main_v0_2)),
      θ_run (Cert.AdamConvIdeal.defs (F := Ideal)) (onTc (τ := Cert.AdamConvIdeal.τ) (Cert.AdamConvIdeal.main (F := Ideal))) ⟨m, fun _ => 0, g⟩ (fun r => ∀ c : Dev Cert.AdamConvIdeal.nD,
          r.2.mem ((c.tc : Thread Cert.AdamConvIdeal.nD Cert.AdamConvIdeal.τ).loc Cert.AdamConvIdeal.main_v0_0) = v0 c
          ∧ r.2.mem ((c.tc : Thread Cert.AdamConvIdeal.nD Cert.AdamConvIdeal.τ).loc Cert.AdamConvIdeal.main_v0_1) = v1 c
          ∧ r.2.mem ((c.tc : Thread Cert.AdamConvIdeal.nD Cert.AdamConvIdeal.τ).loc Cert.AdamConvIdeal.main_v0_2) = v2 c
          ∧ r.2.mem ((c.tc : Thread Cert.AdamConvIdeal.nD Cert.AdamConvIdeal.τ).loc Cert.AdamConvIdeal.main_arg0) = m ((c.tc : Thread Cert.AdamConvIdeal.nD Cert.AdamConvIdeal.τ).loc Cert.AdamConvIdeal.main_arg0)
          ∧ r.2.mem ((c.tc : Thread Cert.AdamConvIdeal.nD Cert.AdamConvIdeal.τ).loc Cert.AdamConvIdeal.main_arg1) = m ((c.tc : Thread Cert.AdamConvIdeal.nD Cert.AdamConvIdeal.τ).loc Cert.AdamConvIdeal.main_arg1)
          ∧ r.2.mem ((c.tc : Thread Cert.AdamConvIdeal.nD Cert.AdamConvIdeal.τ).loc Cert.AdamConvIdeal.main_arg2) = m ((c.tc : Thread Cert.AdamConvIdeal.nD Cert.AdamConvIdeal.τ).loc Cert.AdamConvIdeal.main_arg2)
          ∧ r.2.mem ((c.tc : Thread Cert.AdamConvIdeal.nD Cert.AdamConvIdeal.τ).loc Cert.AdamConvIdeal.main_arg3) = m ((c.tc : Thread Cert.AdamConvIdeal.nD Cert.AdamConvIdeal.τ).loc Cert.AdamConvIdeal.main_arg3))
      ∧ θ_run (Cert.AdamConvRefIdeal.defs (F := Ideal)) (onTc (τ := Cert.AdamConvRefIdeal.τ) (Cert.AdamConvRefIdeal.main (F := Ideal))) ⟨m', fun _ => 0, g'⟩ (fun r => ∀ c : Dev Cert.AdamConvRefIdeal.nD,
          r.2.mem ((c.tc : Thread Cert.AdamConvRefIdeal.nD Cert.AdamConvRefIdeal.τ).loc Cert.AdamConvRefIdeal.main_v23) = v0 c
          ∧ r.2.mem ((c.tc : Thread Cert.AdamConvRefIdeal.nD Cert.AdamConvRefIdeal.τ).loc Cert.AdamConvRefIdeal.main_v4) = v1 c
          ∧ r.2.mem ((c.tc : Thread Cert.AdamConvRefIdeal.nD Cert.AdamConvRefIdeal.τ).loc Cert.AdamConvRefIdeal.main_v10) = v2 c
          ∧ r.2.mem ((c.tc : Thread Cert.AdamConvRefIdeal.nD Cert.AdamConvRefIdeal.τ).loc Cert.AdamConvRefIdeal.main_arg0) = m' ((c.tc : Thread Cert.AdamConvRefIdeal.nD Cert.AdamConvRefIdeal.τ).loc Cert.AdamConvRefIdeal.main_arg0)
          ∧ r.2.mem ((c.tc : Thread Cert.AdamConvRefIdeal.nD Cert.AdamConvRefIdeal.τ).loc Cert.AdamConvRefIdeal.main_arg1) = m' ((c.tc : Thread Cert.AdamConvRefIdeal.nD Cert.AdamConvRefIdeal.τ).loc Cert.AdamConvRefIdeal.main_arg1)
          ∧ r.2.mem ((c.tc : Thread Cert.AdamConvRefIdeal.nD Cert.AdamConvRefIdeal.τ).loc Cert.AdamConvRefIdeal.main_arg2) = m' ((c.tc : Thread Cert.AdamConvRefIdeal.nD Cert.AdamConvRefIdeal.τ).loc Cert.AdamConvRefIdeal.main_arg2)
          ∧ r.2.mem ((c.tc : Thread Cert.AdamConvRefIdeal.nD Cert.AdamConvRefIdeal.τ).loc Cert.AdamConvRefIdeal.main_arg3) = m' ((c.tc : Thread Cert.AdamConvRefIdeal.nD Cert.AdamConvRefIdeal.τ).loc Cert.AdamConvRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v1) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v6) = v2 c
          ∧ r.2.mem ((c.tc : Thread Cert.AdamSmallRefIdeal.nD Cert.AdamSmallRefIdeal.τ).loc Cert.AdamSmallRefIdeal.main_v12) = v3 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AddPair_AddPairIdeal : Prop :=
  True

def algebraic_AddPairIdeal_AddPairRefIdeal [hAddPairIdeal : Cert.AddPairIdeal.Facts] [hAddPairRefIdeal : Cert.AddPairRefIdeal.Facts] : Prop :=
  ∀ (m : (ℓ : Loc Cert.AddPairIdeal.nD Cert.AddPairIdeal.τ Cert.AddPairIdeal.sig) → Buf (Elt Ideal) ℓ) (g : Dev Cert.AddPairIdeal.nD → PrngReg)
    (m' : (ℓ : Loc Cert.AddPairRefIdeal.nD Cert.AddPairRefIdeal.τ Cert.AddPairRefIdeal.sig) → Buf (Elt Ideal) ℓ) (g' : Dev Cert.AddPairRefIdeal.nD → PrngReg), Pre_AddPairIdeal m →
    (∀ c : Dev Cert.AddPairIdeal.nD,
      m' ((c.tc : Thread Cert.AddPairRefIdeal.nD Cert.AddPairRefIdeal.τ).loc Cert.AddPairRefIdeal.main_arg0) = m ((c.tc : Thread Cert.AddPairIdeal.nD Cert.AddPairIdeal.τ).loc Cert.AddPairIdeal.main_arg0)
      ∧ m' ((c.tc : Thread Cert.AddPairRefIdeal.nD Cert.AddPairRefIdeal.τ).loc Cert.AddPairRefIdeal.main_arg1) = m ((c.tc : Thread Cert.AddPairIdeal.nD Cert.AddPairIdeal.τ).loc Cert.AddPairIdeal.main_arg1)) →
    ∃ (v0 : (c : Dev Cert.AddPairIdeal.nD) → Buf (Elt Ideal) ((c.tc : Thread Cert.AddPairIdeal.nD Cert.AddPairIdeal.τ).loc Cert.AddPairIdeal.main_v0)),
      θ_run (Cert.AddPairIdeal.defs (F := Ideal)) (onTc (τ := Cert.AddPairIdeal.τ) (Cert.AddPairIdeal.main (F := Ideal))) ⟨m, fun _ => 0, g⟩ (fun r => ∀ c : Dev Cert.AddPairIdeal.nD,
          r.2.mem ((c.tc : Thread Cert.AddPairIdeal.nD Cert.AddPairIdeal.τ).loc Cert.AddPairIdeal.main_v0) = v0 c
          ∧ r.2.mem ((c.tc : Thread Cert.AddPairIdeal.nD Cert.AddPairIdeal.τ).loc Cert.AddPairIdeal.main_arg0) = m ((c.tc : Thread Cert.AddPairIdeal.nD Cert.AddPairIdeal.τ).loc Cert.AddPairIdeal.main_arg0)
          ∧ r.2.mem ((c.tc : Thread Cert.AddPairIdeal.nD Cert.AddPairIdeal.τ).loc Cert.AddPairIdeal.main_arg1) = m ((c.tc : Thread Cert.AddPairIdeal.nD Cert.AddPairIdeal.τ).loc Cert.AddPairIdeal.main_arg1))
      ∧ θ_run (Cert.AddPairRefIdeal.defs (F := Ideal)) (onTc (τ := Cert.AddPairRefIdeal.τ) (Cert.AddPairRefIdeal.main (F := Ideal))) ⟨m', fun _ => 0, g'⟩ (fun r => ∀ c : Dev Cert.AddPairRefIdeal.nD,
          r.2.mem ((c.tc : Thread Cert.AddPairRefIdeal.nD Cert.AddPairRefIdeal.τ).loc Cert.AddPairRefIdeal.main_v3) = v0 c
          ∧ r.2.mem ((c.tc : Thread Cert.AddPairRefIdeal.nD Cert.AddPairRefIdeal.τ).loc Cert.AddPairRefIdeal.main_arg0) = m' ((c.tc : Thread Cert.AddPairRefIdeal.nD Cert.AddPairRefIdeal.τ).loc Cert.AddPairRefIdeal.main_arg0)
          ∧ r.2.mem ((c.tc : Thread Cert.AddPairRefIdeal.nD Cert.AddPairRefIdeal.τ).loc Cert.AddPairRefIdeal.main_arg1) = m' ((c.tc : Thread Cert.AddPairRefIdeal.nD Cert.AddPairRefIdeal.τ).loc Cert.AddPairRefIdeal.main_arg1))

def bitexact_AddPair_AddPairRef [hAddPair : Cert.AddPair.Facts] [hAddPairRef : Cert.AddPairRef.Facts] : Prop :=
  ∀ (m : (ℓ : Loc Cert.AddPair.nD Cert.AddPair.τ Cert.AddPair.sig) → Buf (Elt Bits) ℓ) (g : Dev Cert.AddPair.nD → PrngReg)
    (m' : (ℓ : Loc Cert.AddPairRef.nD Cert.AddPairRef.τ Cert.AddPairRef.sig) → Buf (Elt Bits) ℓ) (g' : Dev Cert.AddPairRef.nD → PrngReg), Pre_AddPair m →
    (∀ c : Dev Cert.AddPair.nD,
      m' ((c.tc : Thread Cert.AddPairRef.nD Cert.AddPairRef.τ).loc Cert.AddPairRef.main_arg0) = m ((c.tc : Thread Cert.AddPair.nD Cert.AddPair.τ).loc Cert.AddPair.main_arg0)
      ∧ m' ((c.tc : Thread Cert.AddPairRef.nD Cert.AddPairRef.τ).loc Cert.AddPairRef.main_arg1) = m ((c.tc : Thread Cert.AddPair.nD Cert.AddPair.τ).loc Cert.AddPair.main_arg1)) →
    ∃ (v0 : (c : Dev Cert.AddPair.nD) → Buf (Elt Bits) ((c.tc : Thread Cert.AddPair.nD Cert.AddPair.τ).loc Cert.AddPair.main_v0)),
      θ_run (Cert.AddPair.defs (F := Bits)) (onTc (τ := Cert.AddPair.τ) (Cert.AddPair.main (F := Bits))) ⟨m, fun _ => 0, g⟩ (fun r => ∀ c : Dev Cert.AddPair.nD,
          r.2.mem ((c.tc : Thread Cert.AddPair.nD Cert.AddPair.τ).loc Cert.AddPair.main_v0) = v0 c
          ∧ r.2.mem ((c.tc : Thread Cert.AddPair.nD Cert.AddPair.τ).loc Cert.AddPair.main_arg0) = m ((c.tc : Thread Cert.AddPair.nD Cert.AddPair.τ).loc Cert.AddPair.main_arg0)
          ∧ r.2.mem ((c.tc : Thread Cert.AddPair.nD Cert.AddPair.τ).loc Cert.AddPair.main_arg1) = m ((c.tc : Thread Cert.AddPair.nD Cert.AddPair.τ).loc Cert.AddPair.main_arg1))
      ∧ θ_run (Cert.AddPairRef.defs (F := Bits)) (onTc (τ := Cert.AddPairRef.τ) (Cert.AddPairRef.main (F := Bits))) ⟨m', fun _ => 0, g'⟩ (fun r => ∀ c : Dev Cert.AddPairRef.nD,
          r.2.mem ((c.tc : Thread Cert.AddPairRef.nD Cert.AddPairRef.τ).loc Cert.AddPairRef.main_v3) = v0 c
          ∧ r.2.mem ((c.tc : Thread Cert.AddPairRef.nD Cert.AddPairRef.τ).loc Cert.AddPairRef.main_arg0) = m' ((c.tc : Thread Cert.AddPairRef.nD Cert.AddPairRef.τ).loc Cert.AddPairRef.main_arg0)
          ∧ r.2.mem ((c.tc : Thread Cert.AddPairRef.nD Cert.AddPairRef.τ).loc Cert.AddPairRef.main_arg1) = m' ((c.tc : Thread Cert.AddPairRef.nD Cert.AddPairRef.τ).loc Cert.AddPairRef.main_arg1))

def preserves_AddChips_AddChipsIdeal : Prop :=
  True

def algebraic_AddChipsIdeal_AddChipsRefIdeal [hAddChipsIdeal : Cert.AddChipsIdeal.Facts] [hAddChipsRefIdeal : Cert.AddChipsRefIdeal.Facts] : Prop :=
  ∀ (m : (ℓ : Loc Cert.AddChipsIdeal.nD Cert.AddChipsIdeal.τ Cert.AddChipsIdeal.sig) → Buf (Elt Ideal) ℓ) (g : Dev Cert.AddChipsIdeal.nD → PrngReg)
    (m' : (ℓ : Loc Cert.AddChipsRefIdeal.nD Cert.AddChipsRefIdeal.τ Cert.AddChipsRefIdeal.sig) → Buf (Elt Ideal) ℓ) (g' : Dev Cert.AddChipsRefIdeal.nD → PrngReg), Pre_AddChipsIdeal m →
    (∀ c : Dev Cert.AddChipsIdeal.nD,
      m' ((c.tc : Thread Cert.AddChipsRefIdeal.nD Cert.AddChipsRefIdeal.τ).loc Cert.AddChipsRefIdeal.main_arg0) = m ((c.tc : Thread Cert.AddChipsIdeal.nD Cert.AddChipsIdeal.τ).loc Cert.AddChipsIdeal.main_arg0)) →
    ∃ (v0 : (c : Dev Cert.AddChipsIdeal.nD) → Buf (Elt Ideal) ((c.tc : Thread Cert.AddChipsIdeal.nD Cert.AddChipsIdeal.τ).loc Cert.AddChipsIdeal.main_v0)),
      θ_run (Cert.AddChipsIdeal.defs (F := Ideal)) (onTc (τ := Cert.AddChipsIdeal.τ) (Cert.AddChipsIdeal.main (F := Ideal))) ⟨m, fun _ => 0, g⟩ (fun r => ∀ c : Dev Cert.AddChipsIdeal.nD,
          r.2.mem ((c.tc : Thread Cert.AddChipsIdeal.nD Cert.AddChipsIdeal.τ).loc Cert.AddChipsIdeal.main_v0) = v0 c
          ∧ r.2.mem ((c.tc : Thread Cert.AddChipsIdeal.nD Cert.AddChipsIdeal.τ).loc Cert.AddChipsIdeal.main_arg0) = m ((c.tc : Thread Cert.AddChipsIdeal.nD Cert.AddChipsIdeal.τ).loc Cert.AddChipsIdeal.main_arg0))
      ∧ θ_run (Cert.AddChipsRefIdeal.defs (F := Ideal)) (onTc (τ := Cert.AddChipsRefIdeal.τ) (Cert.AddChipsRefIdeal.main (F := Ideal))) ⟨m', fun _ => 0, g'⟩ (fun r => ∀ c : Dev Cert.AddChipsRefIdeal.nD,
          r.2.mem ((c.tc : Thread Cert.AddChipsRefIdeal.nD Cert.AddChipsRefIdeal.τ).loc Cert.AddChipsRefIdeal.main_v2) = v0 c
          ∧ r.2.mem ((c.tc : Thread Cert.AddChipsRefIdeal.nD Cert.AddChipsRefIdeal.τ).loc Cert.AddChipsRefIdeal.main_arg0) = m' ((c.tc : Thread Cert.AddChipsRefIdeal.nD Cert.AddChipsRefIdeal.τ).loc Cert.AddChipsRefIdeal.main_arg0))

def preserves_Grads_GradsIdeal : Prop :=
  True

def algebraic_GradsIdeal_GradsRefIdeal [hGradsIdeal : Cert.GradsIdeal.Facts] [hGradsRefIdeal : Cert.GradsRefIdeal.Facts] : Prop :=
  ∀ (m : (ℓ : Loc Cert.GradsIdeal.nD Cert.GradsIdeal.τ Cert.GradsIdeal.sig) → Buf (Elt Ideal) ℓ) (g : Dev Cert.GradsIdeal.nD → PrngReg)
    (m' : (ℓ : Loc Cert.GradsRefIdeal.nD Cert.GradsRefIdeal.τ Cert.GradsRefIdeal.sig) → Buf (Elt Ideal) ℓ) (g' : Dev Cert.GradsRefIdeal.nD → PrngReg), Pre_GradsIdeal m →
    (∀ c : Dev Cert.GradsIdeal.nD,
      m ((c.tc : Thread Cert.GradsIdeal.nD Cert.GradsIdeal.τ).loc Cert.GradsIdeal.main_arg0) = Layout.block ⟨2, ![2592, 1024]⟩ ⟨2, ![20736, 1024]⟩ 0 8 c (m' (((0 : Dev Cert.GradsRefIdeal.nD).tc : Thread Cert.GradsRefIdeal.nD Cert.GradsRefIdeal.τ).loc Cert.GradsRefIdeal.main_arg0))) →
    ∃ (v0 : Buf (Elt Ideal) (((0 : Dev Cert.GradsRefIdeal.nD).tc : Thread Cert.GradsRefIdeal.nD Cert.GradsRefIdeal.τ).loc Cert.GradsRefIdeal.main_v2)) (v1 : Buf (Elt Ideal) (((0 : Dev Cert.GradsRefIdeal.nD).tc : Thread Cert.GradsRefIdeal.nD Cert.GradsRefIdeal.τ).loc Cert.GradsRefIdeal.main_v4)) (v2 : Buf (Elt Ideal) (((0 : Dev Cert.GradsRefIdeal.nD).tc : Thread Cert.GradsRefIdeal.nD Cert.GradsRefIdeal.τ).loc Cert.GradsRefIdeal.main_v6)) (v3 : Buf (Elt Ideal) (((0 : Dev Cert.GradsRefIdeal.nD).tc : Thread Cert.GradsRefIdeal.nD Cert.GradsRefIdeal.τ).loc Cert.GradsRefIdeal.main_v8)) (v4 : Buf (Elt Ideal) (((0 : Dev Cert.GradsRefIdeal.nD).tc : Thread Cert.GradsRefIdeal.nD Cert.GradsRefIdeal.τ).loc Cert.GradsRefIdeal.main_v10)) (v5 : Buf (Elt Ideal) (((0 : Dev Cert.GradsRefIdeal.nD).tc : Thread Cert.GradsRefIdeal.nD Cert.GradsRefIdeal.τ).loc Cert.GradsRefIdeal.main_v12)) (v6 : Buf (Elt Ideal) (((0 : Dev Cert.GradsRefIdeal.nD).tc : Thread Cert.GradsRefIdeal.nD Cert.GradsRefIdeal.τ).loc Cert.GradsRefIdeal.main_v14)) (v7 : Buf (Elt Ideal) (((0 : Dev Cert.GradsRefIdeal.nD).tc : Thread Cert.GradsRefIdeal.nD Cert.GradsRefIdeal.τ).loc Cert.GradsRefIdeal.main_v16)) (v8 : Buf (Elt Ideal) (((0 : Dev Cert.GradsRefIdeal.nD).tc : Thread Cert.GradsRefIdeal.nD Cert.GradsRefIdeal.τ).loc Cert.GradsRefIdeal.main_v18)) (v9 : Buf (Elt Ideal) (((0 : Dev Cert.GradsRefIdeal.nD).tc : Thread Cert.GradsRefIdeal.nD Cert.GradsRefIdeal.τ).loc Cert.GradsRefIdeal.main_v20)) (v10 : Buf (Elt Ideal) (((0 : Dev Cert.GradsRefIdeal.nD).tc : Thread Cert.GradsRefIdeal.nD Cert.GradsRefIdeal.τ).loc Cert.GradsRefIdeal.main_v22)),
      θ_run (Cert.GradsIdeal.defs (F := Ideal)) (onTc (τ := Cert.GradsIdeal.τ) (Cert.GradsIdeal.main (F := Ideal))) ⟨m, fun _ => 0, g⟩ (fun r => ∀ c : Dev Cert.GradsIdeal.nD,
          r.2.mem ((c.tc : Thread Cert.GradsIdeal.nD Cert.GradsIdeal.τ).loc Cert.GradsIdeal.main_v5) = Layout.blockN ⟨2, ![1024, 704]⟩ ⟨2, ![4096, 704]⟩ (Layout.meshBlock [2, 2, 2] ![[0, 1], []] c) v0
          ∧ r.2.mem ((c.tc : Thread Cert.GradsIdeal.nD Cert.GradsIdeal.τ).loc Cert.GradsIdeal.main_v7) = Layout.blockN ⟨2, ![1024, 704]⟩ ⟨2, ![4096, 704]⟩ (Layout.meshBlock [2, 2, 2] ![[0, 1], []] c) v1
          ∧ r.2.mem ((c.tc : Thread Cert.GradsIdeal.nD Cert.GradsIdeal.τ).loc Cert.GradsIdeal.main_v9) = Layout.blockN ⟨2, ![704, 1024]⟩ ⟨2, ![2816, 1024]⟩ (Layout.meshBlock [2, 2, 2] ![[0, 1], []] c) v2
          ∧ r.2.mem ((c.tc : Thread Cert.GradsIdeal.nD Cert.GradsIdeal.τ).loc Cert.GradsIdeal.main_v11) = Layout.blockN ⟨2, ![1024, 620]⟩ ⟨2, ![4096, 620]⟩ (Layout.meshBlock [2, 2, 2] ![[0, 1], []] c) v3
          ∧ r.2.mem ((c.tc : Thread Cert.GradsIdeal.nD Cert.GradsIdeal.τ).loc Cert.GradsIdeal.main_v13) = Layout.blockN ⟨2, ![256, 192]⟩ ⟨2, ![1024, 192]⟩ (Layout.meshBlock [2, 2, 2] ![[0, 1], []] c) v4
          ∧ r.2.mem ((c.tc : Thread Cert.GradsIdeal.nD Cert.GradsIdeal.τ).loc Cert.GradsIdeal.main_v15) = Layout.blockN ⟨2, ![128, 256]⟩ ⟨2, ![512, 256]⟩ (Layout.meshBlock [2, 2, 2] ![[0, 1], []] c) v5
          ∧ r.2.mem ((c.tc : Thread Cert.GradsIdeal.nD Cert.GradsIdeal.τ).loc Cert.GradsIdeal.main_v17) = Layout.blockN ⟨2, ![4, 384]⟩ ⟨2, ![16, 384]⟩ (Layout.meshBlock [2, 2, 2] ![[0, 1], []] c) v6
          ∧ r.2.mem ((c.tc : Thread Cert.GradsIdeal.nD Cert.GradsIdeal.τ).loc Cert.GradsIdeal.main_v19) = Layout.blockN ⟨2, ![256, 1024]⟩ ⟨2, ![1024, 1024]⟩ (Layout.meshBlock [2, 2, 2] ![[0, 1], []] c) v7
          ∧ r.2.mem ((c.tc : Thread Cert.GradsIdeal.nD Cert.GradsIdeal.τ).loc Cert.GradsIdeal.main_v21) = Layout.blockN ⟨2, ![1024, 704]⟩ ⟨2, ![4096, 704]⟩ (Layout.meshBlock [2, 2, 2] ![[0, 1], []] c) v8
          ∧ r.2.mem ((c.tc : Thread Cert.GradsIdeal.nD Cert.GradsIdeal.τ).loc Cert.GradsIdeal.main_v23) = Layout.blockN ⟨2, ![1024, 704]⟩ ⟨2, ![4096, 704]⟩ (Layout.meshBlock [2, 2, 2] ![[0, 1], []] c) v9
          ∧ r.2.mem ((c.tc : Thread Cert.GradsIdeal.nD Cert.GradsIdeal.τ).loc Cert.GradsIdeal.main_v25) = Layout.blockN ⟨2, ![704, 1024]⟩ ⟨2, ![2816, 1024]⟩ (Layout.meshBlock [2, 2, 2] ![[0, 1], []] c) v10
          ∧ r.2.mem ((c.tc : Thread Cert.GradsIdeal.nD Cert.GradsIdeal.τ).loc Cert.GradsIdeal.main_arg0) = m ((c.tc : Thread Cert.GradsIdeal.nD Cert.GradsIdeal.τ).loc Cert.GradsIdeal.main_arg0))
      ∧ θ_run (Cert.GradsRefIdeal.defs (F := Ideal)) (onTc (τ := Cert.GradsRefIdeal.τ) (Cert.GradsRefIdeal.main (F := Ideal))) ⟨m', fun _ => 0, g'⟩ (fun r =>
          r.2.mem (((0 : Dev Cert.GradsRefIdeal.nD).tc : Thread Cert.GradsRefIdeal.nD Cert.GradsRefIdeal.τ).loc Cert.GradsRefIdeal.main_v2) = v0
          ∧ r.2.mem (((0 : Dev Cert.GradsRefIdeal.nD).tc : Thread Cert.GradsRefIdeal.nD Cert.GradsRefIdeal.τ).loc Cert.GradsRefIdeal.main_v4) = v1
          ∧ r.2.mem (((0 : Dev Cert.GradsRefIdeal.nD).tc : Thread Cert.GradsRefIdeal.nD Cert.GradsRefIdeal.τ).loc Cert.GradsRefIdeal.main_v6) = v2
          ∧ r.2.mem (((0 : Dev Cert.GradsRefIdeal.nD).tc : Thread Cert.GradsRefIdeal.nD Cert.GradsRefIdeal.τ).loc Cert.GradsRefIdeal.main_v8) = v3
          ∧ r.2.mem (((0 : Dev Cert.GradsRefIdeal.nD).tc : Thread Cert.GradsRefIdeal.nD Cert.GradsRefIdeal.τ).loc Cert.GradsRefIdeal.main_v10) = v4
          ∧ r.2.mem (((0 : Dev Cert.GradsRefIdeal.nD).tc : Thread Cert.GradsRefIdeal.nD Cert.GradsRefIdeal.τ).loc Cert.GradsRefIdeal.main_v12) = v5
          ∧ r.2.mem (((0 : Dev Cert.GradsRefIdeal.nD).tc : Thread Cert.GradsRefIdeal.nD Cert.GradsRefIdeal.τ).loc Cert.GradsRefIdeal.main_v14) = v6
          ∧ r.2.mem (((0 : Dev Cert.GradsRefIdeal.nD).tc : Thread Cert.GradsRefIdeal.nD Cert.GradsRefIdeal.τ).loc Cert.GradsRefIdeal.main_v16) = v7
          ∧ r.2.mem (((0 : Dev Cert.GradsRefIdeal.nD).tc : Thread Cert.GradsRefIdeal.nD Cert.GradsRefIdeal.τ).loc Cert.GradsRefIdeal.main_v18) = v8
          ∧ r.2.mem (((0 : Dev Cert.GradsRefIdeal.nD).tc : Thread Cert.GradsRefIdeal.nD Cert.GradsRefIdeal.τ).loc Cert.GradsRefIdeal.main_v20) = v9
          ∧ r.2.mem (((0 : Dev Cert.GradsRefIdeal.nD).tc : Thread Cert.GradsRefIdeal.nD Cert.GradsRefIdeal.τ).loc Cert.GradsRefIdeal.main_v22) = v10
          ∧ r.2.mem (((0 : Dev Cert.GradsRefIdeal.nD).tc : Thread Cert.GradsRefIdeal.nD Cert.GradsRefIdeal.τ).loc Cert.GradsRefIdeal.main_arg0) = m' (((0 : Dev Cert.GradsRefIdeal.nD).tc : Thread Cert.GradsRefIdeal.nD Cert.GradsRefIdeal.τ).loc Cert.GradsRefIdeal.main_arg0))

def bitexact_Grads_GradsRef [hGrads : Cert.Grads.Facts] [hGradsRef : Cert.GradsRef.Facts] : Prop :=
  ∀ (m : (ℓ : Loc Cert.Grads.nD Cert.Grads.τ Cert.Grads.sig) → Buf (Elt Bits) ℓ) (g : Dev Cert.Grads.nD → PrngReg)
    (m' : (ℓ : Loc Cert.GradsRef.nD Cert.GradsRef.τ Cert.GradsRef.sig) → Buf (Elt Bits) ℓ) (g' : Dev Cert.GradsRef.nD → PrngReg), Pre_Grads m →
    (∀ c : Dev Cert.Grads.nD,
      m ((c.tc : Thread Cert.Grads.nD Cert.Grads.τ).loc Cert.Grads.main_arg0) = Layout.block ⟨2, ![2592, 1024]⟩ ⟨2, ![20736, 1024]⟩ 0 8 c (m' (((0 : Dev Cert.GradsRef.nD).tc : Thread Cert.GradsRef.nD Cert.GradsRef.τ).loc Cert.GradsRef.main_arg0))) →
    ∃ (v0 : Buf (Elt Bits) (((0 : Dev Cert.GradsRef.nD).tc : Thread Cert.GradsRef.nD Cert.GradsRef.τ).loc Cert.GradsRef.main_v2)) (v1 : Buf (Elt Bits) (((0 : Dev Cert.GradsRef.nD).tc : Thread Cert.GradsRef.nD Cert.GradsRef.τ).loc Cert.GradsRef.main_v4)) (v2 : Buf (Elt Bits) (((0 : Dev Cert.GradsRef.nD).tc : Thread Cert.GradsRef.nD Cert.GradsRef.τ).loc Cert.GradsRef.main_v6)) (v3 : Buf (Elt Bits) (((0 : Dev Cert.GradsRef.nD).tc : Thread Cert.GradsRef.nD Cert.GradsRef.τ).loc Cert.GradsRef.main_v8)) (v4 : Buf (Elt Bits) (((0 : Dev Cert.GradsRef.nD).tc : Thread Cert.GradsRef.nD Cert.GradsRef.τ).loc Cert.GradsRef.main_v10)) (v5 : Buf (Elt Bits) (((0 : Dev Cert.GradsRef.nD).tc : Thread Cert.GradsRef.nD Cert.GradsRef.τ).loc Cert.GradsRef.main_v12)) (v6 : Buf (Elt Bits) (((0 : Dev Cert.GradsRef.nD).tc : Thread Cert.GradsRef.nD Cert.GradsRef.τ).loc Cert.GradsRef.main_v14)) (v7 : Buf (Elt Bits) (((0 : Dev Cert.GradsRef.nD).tc : Thread Cert.GradsRef.nD Cert.GradsRef.τ).loc Cert.GradsRef.main_v16)) (v8 : Buf (Elt Bits) (((0 : Dev Cert.GradsRef.nD).tc : Thread Cert.GradsRef.nD Cert.GradsRef.τ).loc Cert.GradsRef.main_v18)) (v9 : Buf (Elt Bits) (((0 : Dev Cert.GradsRef.nD).tc : Thread Cert.GradsRef.nD Cert.GradsRef.τ).loc Cert.GradsRef.main_v20)) (v10 : Buf (Elt Bits) (((0 : Dev Cert.GradsRef.nD).tc : Thread Cert.GradsRef.nD Cert.GradsRef.τ).loc Cert.GradsRef.main_v22)),
      θ_run (Cert.Grads.defs (F := Bits)) (onTc (τ := Cert.Grads.τ) (Cert.Grads.main (F := Bits))) ⟨m, fun _ => 0, g⟩ (fun r => ∀ c : Dev Cert.Grads.nD,
          r.2.mem ((c.tc : Thread Cert.Grads.nD Cert.Grads.τ).loc Cert.Grads.main_v5) = Layout.blockN ⟨2, ![1024, 704]⟩ ⟨2, ![4096, 704]⟩ (Layout.meshBlock [2, 2, 2] ![[0, 1], []] c) v0
          ∧ r.2.mem ((c.tc : Thread Cert.Grads.nD Cert.Grads.τ).loc Cert.Grads.main_v7) = Layout.blockN ⟨2, ![1024, 704]⟩ ⟨2, ![4096, 704]⟩ (Layout.meshBlock [2, 2, 2] ![[0, 1], []] c) v1
          ∧ r.2.mem ((c.tc : Thread Cert.Grads.nD Cert.Grads.τ).loc Cert.Grads.main_v9) = Layout.blockN ⟨2, ![704, 1024]⟩ ⟨2, ![2816, 1024]⟩ (Layout.meshBlock [2, 2, 2] ![[0, 1], []] c) v2
          ∧ r.2.mem ((c.tc : Thread Cert.Grads.nD Cert.Grads.τ).loc Cert.Grads.main_v11) = Layout.blockN ⟨2, ![1024, 620]⟩ ⟨2, ![4096, 620]⟩ (Layout.meshBlock [2, 2, 2] ![[0, 1], []] c) v3
          ∧ r.2.mem ((c.tc : Thread Cert.Grads.nD Cert.Grads.τ).loc Cert.Grads.main_v13) = Layout.blockN ⟨2, ![256, 192]⟩ ⟨2, ![1024, 192]⟩ (Layout.meshBlock [2, 2, 2] ![[0, 1], []] c) v4
          ∧ r.2.mem ((c.tc : Thread Cert.Grads.nD Cert.Grads.τ).loc Cert.Grads.main_v15) = Layout.blockN ⟨2, ![128, 256]⟩ ⟨2, ![512, 256]⟩ (Layout.meshBlock [2, 2, 2] ![[0, 1], []] c) v5
          ∧ r.2.mem ((c.tc : Thread Cert.Grads.nD Cert.Grads.τ).loc Cert.Grads.main_v17) = Layout.blockN ⟨2, ![4, 384]⟩ ⟨2, ![16, 384]⟩ (Layout.meshBlock [2, 2, 2] ![[0, 1], []] c) v6
          ∧ r.2.mem ((c.tc : Thread Cert.Grads.nD Cert.Grads.τ).loc Cert.Grads.main_v19) = Layout.blockN ⟨2, ![256, 1024]⟩ ⟨2, ![1024, 1024]⟩ (Layout.meshBlock [2, 2, 2] ![[0, 1], []] c) v7
          ∧ r.2.mem ((c.tc : Thread Cert.Grads.nD Cert.Grads.τ).loc Cert.Grads.main_v21) = Layout.blockN ⟨2, ![1024, 704]⟩ ⟨2, ![4096, 704]⟩ (Layout.meshBlock [2, 2, 2] ![[0, 1], []] c) v8
          ∧ r.2.mem ((c.tc : Thread Cert.Grads.nD Cert.Grads.τ).loc Cert.Grads.main_v23) = Layout.blockN ⟨2, ![1024, 704]⟩ ⟨2, ![4096, 704]⟩ (Layout.meshBlock [2, 2, 2] ![[0, 1], []] c) v9
          ∧ r.2.mem ((c.tc : Thread Cert.Grads.nD Cert.Grads.τ).loc Cert.Grads.main_v25) = Layout.blockN ⟨2, ![704, 1024]⟩ ⟨2, ![2816, 1024]⟩ (Layout.meshBlock [2, 2, 2] ![[0, 1], []] c) v10
          ∧ r.2.mem ((c.tc : Thread Cert.Grads.nD Cert.Grads.τ).loc Cert.Grads.main_arg0) = m ((c.tc : Thread Cert.Grads.nD Cert.Grads.τ).loc Cert.Grads.main_arg0))
      ∧ θ_run (Cert.GradsRef.defs (F := Bits)) (onTc (τ := Cert.GradsRef.τ) (Cert.GradsRef.main (F := Bits))) ⟨m', fun _ => 0, g'⟩ (fun r =>
          r.2.mem (((0 : Dev Cert.GradsRef.nD).tc : Thread Cert.GradsRef.nD Cert.GradsRef.τ).loc Cert.GradsRef.main_v2) = v0
          ∧ r.2.mem (((0 : Dev Cert.GradsRef.nD).tc : Thread Cert.GradsRef.nD Cert.GradsRef.τ).loc Cert.GradsRef.main_v4) = v1
          ∧ r.2.mem (((0 : Dev Cert.GradsRef.nD).tc : Thread Cert.GradsRef.nD Cert.GradsRef.τ).loc Cert.GradsRef.main_v6) = v2
          ∧ r.2.mem (((0 : Dev Cert.GradsRef.nD).tc : Thread Cert.GradsRef.nD Cert.GradsRef.τ).loc Cert.GradsRef.main_v8) = v3
          ∧ r.2.mem (((0 : Dev Cert.GradsRef.nD).tc : Thread Cert.GradsRef.nD Cert.GradsRef.τ).loc Cert.GradsRef.main_v10) = v4
          ∧ r.2.mem (((0 : Dev Cert.GradsRef.nD).tc : Thread Cert.GradsRef.nD Cert.GradsRef.τ).loc Cert.GradsRef.main_v12) = v5
          ∧ r.2.mem (((0 : Dev Cert.GradsRef.nD).tc : Thread Cert.GradsRef.nD Cert.GradsRef.τ).loc Cert.GradsRef.main_v14) = v6
          ∧ r.2.mem (((0 : Dev Cert.GradsRef.nD).tc : Thread Cert.GradsRef.nD Cert.GradsRef.τ).loc Cert.GradsRef.main_v16) = v7
          ∧ r.2.mem (((0 : Dev Cert.GradsRef.nD).tc : Thread Cert.GradsRef.nD Cert.GradsRef.τ).loc Cert.GradsRef.main_v18) = v8
          ∧ r.2.mem (((0 : Dev Cert.GradsRef.nD).tc : Thread Cert.GradsRef.nD Cert.GradsRef.τ).loc Cert.GradsRef.main_v20) = v9
          ∧ r.2.mem (((0 : Dev Cert.GradsRef.nD).tc : Thread Cert.GradsRef.nD Cert.GradsRef.τ).loc Cert.GradsRef.main_v22) = v10
          ∧ r.2.mem (((0 : Dev Cert.GradsRef.nD).tc : Thread Cert.GradsRef.nD Cert.GradsRef.τ).loc Cert.GradsRef.main_arg0) = m' (((0 : Dev Cert.GradsRef.nD).tc : Thread Cert.GradsRef.nD Cert.GradsRef.τ).loc Cert.GradsRef.main_arg0))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v0_0)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v0_0) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v6) = v0 c
          ∧ r.2.mem ((c.tc : Thread Cert.LossRefIdeal.nD Cert.LossRefIdeal.τ).loc Cert.LossRefIdeal.main_v9) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_NormBack_NormBackIdeal : Prop :=
  True

def algebraic_NormBackIdeal_NormBackRefIdeal [hNormBackIdeal : Cert.NormBackIdeal.Facts] [hNormBackRefIdeal : Cert.NormBackRefIdeal.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackRefIdeal.nD Cert.NormBackRefIdeal.τ Cert.NormBackRefIdeal.sig) → Buf (Elt Ideal) ℓ) (g' : Dev Cert.NormBackRefIdeal.nD → PrngReg), Pre_NormBackIdeal m →
    (∀ c : Dev Cert.NormBackIdeal.nD,
      m' ((c.tc : Thread Cert.NormBackRefIdeal.nD Cert.NormBackRefIdeal.τ).loc Cert.NormBackRefIdeal.main_arg0) = m ((c.tc : Thread Cert.NormBackIdeal.nD Cert.NormBackIdeal.τ).loc Cert.NormBackIdeal.main_arg0)
      ∧ m' ((c.tc : Thread Cert.NormBackRefIdeal.nD Cert.NormBackRefIdeal.τ).loc Cert.NormBackRefIdeal.main_arg1) = m ((c.tc : Thread Cert.NormBackIdeal.nD Cert.NormBackIdeal.τ).loc Cert.NormBackIdeal.main_arg1)
      ∧ m' ((c.tc : Thread Cert.NormBackRefIdeal.nD Cert.NormBackRefIdeal.τ).loc Cert.NormBackRefIdeal.main_arg2) = m ((c.tc : Thread Cert.NormBackIdeal.nD Cert.NormBackIdeal.τ).loc Cert.NormBackIdeal.main_arg2)
      ∧ m' ((c.tc : Thread Cert.NormBackRefIdeal.nD Cert.NormBackRefIdeal.τ).loc Cert.NormBackRefIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v0_0)) (v1 : (c : Dev Cert.NormBackIdeal.nD) → Buf (Elt Ideal) ((c.tc : Thread Cert.NormBackIdeal.nD Cert.NormBackIdeal.τ).loc Cert.NormBackIdeal.main_v0_1)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v0_0) = v0 c
          ∧ r.2.mem ((c.tc : Thread Cert.NormBackIdeal.nD Cert.NormBackIdeal.τ).loc Cert.NormBackIdeal.main_v0_1) = v1 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormBackRefIdeal.defs (F := Ideal)) (onTc (τ := Cert.NormBackRefIdeal.τ) (Cert.NormBackRefIdeal.main (F := Ideal))) ⟨m', fun _ => 0, g'⟩ (fun r => ∀ c : Dev Cert.NormBackRefIdeal.nD,
          r.2.mem ((c.tc : Thread Cert.NormBackRefIdeal.nD Cert.NormBackRefIdeal.τ).loc Cert.NormBackRefIdeal.main_v22) = v0 c
          ∧ r.2.mem ((c.tc : Thread Cert.NormBackRefIdeal.nD Cert.NormBackRefIdeal.τ).loc Cert.NormBackRefIdeal.main_v25) = v1 c
          ∧ r.2.mem ((c.tc : Thread Cert.NormBackRefIdeal.nD Cert.NormBackRefIdeal.τ).loc Cert.NormBackRefIdeal.main_arg0) = m' ((c.tc : Thread Cert.NormBackRefIdeal.nD Cert.NormBackRefIdeal.τ).loc Cert.NormBackRefIdeal.main_arg0)
          ∧ r.2.mem ((c.tc : Thread Cert.NormBackRefIdeal.nD Cert.NormBackRefIdeal.τ).loc Cert.NormBackRefIdeal.main_arg1) = m' ((c.tc : Thread Cert.NormBackRefIdeal.nD Cert.NormBackRefIdeal.τ).loc Cert.NormBackRefIdeal.main_arg1)
          ∧ r.2.mem ((c.tc : Thread Cert.NormBackRefIdeal.nD Cert.NormBackRefIdeal.τ).loc Cert.NormBackRefIdeal.main_arg2) = m' ((c.tc : Thread Cert.NormBackRefIdeal.nD Cert.NormBackRefIdeal.τ).loc Cert.NormBackRefIdeal.main_arg2)
          ∧ r.2.mem ((c.tc : Thread Cert.NormBackRefIdeal.nD Cert.NormBackRefIdeal.τ).loc Cert.NormBackRefIdeal.main_arg3) = m' ((c.tc : Thread Cert.NormBackRefIdeal.nD Cert.NormBackRefIdeal.τ).loc Cert.NormBackRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v3) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownBx_DownBxIdeal : Prop :=
  True

def algebraic_DownBxIdeal_DownBxRefIdeal [hDownBxIdeal : Cert.DownBxIdeal.Facts] [hDownBxRefIdeal : Cert.DownBxRefIdeal.Facts] : Prop :=
  ∀ (m : (ℓ : Loc Cert.DownBxIdeal.nD Cert.DownBxIdeal.τ Cert.DownBxIdeal.sig) → Buf (Elt Ideal) ℓ) (g : Dev Cert.DownBxIdeal.nD → PrngReg)
    (m' : (ℓ : Loc Cert.DownBxRefIdeal.nD Cert.DownBxRefIdeal.τ Cert.DownBxRefIdeal.sig) → Buf (Elt Ideal) ℓ) (g' : Dev Cert.DownBxRefIdeal.nD → PrngReg), Pre_DownBxIdeal m →
    (∀ c : Dev Cert.DownBxIdeal.nD,
      m' ((c.tc : Thread Cert.DownBxRefIdeal.nD Cert.DownBxRefIdeal.τ).loc Cert.DownBxRefIdeal.main_arg0) = m ((c.tc : Thread Cert.DownBxIdeal.nD Cert.DownBxIdeal.τ).loc Cert.DownBxIdeal.main_arg0)
      ∧ m' ((c.tc : Thread Cert.DownBxRefIdeal.nD Cert.DownBxRefIdeal.τ).loc Cert.DownBxRefIdeal.main_arg1) = m ((c.tc : Thread Cert.DownBxIdeal.nD Cert.DownBxIdeal.τ).loc Cert.DownBxIdeal.main_arg1)) →
    ∃ (v0 : (c : Dev Cert.DownBxIdeal.nD) → Buf (Elt Ideal) ((c.tc : Thread Cert.DownBxIdeal.nD Cert.DownBxIdeal.τ).loc Cert.DownBxIdeal.main_v0)),
      θ_run (Cert.DownBxIdeal.defs (F := Ideal)) (onTc (τ := Cert.DownBxIdeal.τ) (Cert.DownBxIdeal.main (F := Ideal))) ⟨m, fun _ => 0, g⟩ (fun r => ∀ c : Dev Cert.DownBxIdeal.nD,
          r.2.mem ((c.tc : Thread Cert.DownBxIdeal.nD Cert.DownBxIdeal.τ).loc Cert.DownBxIdeal.main_v0) = v0 c
          ∧ r.2.mem ((c.tc : Thread Cert.DownBxIdeal.nD Cert.DownBxIdeal.τ).loc Cert.DownBxIdeal.main_arg0) = m ((c.tc : Thread Cert.DownBxIdeal.nD Cert.DownBxIdeal.τ).loc Cert.DownBxIdeal.main_arg0)
          ∧ r.2.mem ((c.tc : Thread Cert.DownBxIdeal.nD Cert.DownBxIdeal.τ).loc Cert.DownBxIdeal.main_arg1) = m ((c.tc : Thread Cert.DownBxIdeal.nD Cert.DownBxIdeal.τ).loc Cert.DownBxIdeal.main_arg1))
      ∧ θ_run (Cert.DownBxRefIdeal.defs (F := Ideal)) (onTc (τ := Cert.DownBxRefIdeal.τ) (Cert.DownBxRefIdeal.main (F := Ideal))) ⟨m', fun _ => 0, g'⟩ (fun r => ∀ c : Dev Cert.DownBxRefIdeal.nD,
          r.2.mem ((c.tc : Thread Cert.DownBxRefIdeal.nD Cert.DownBxRefIdeal.τ).loc Cert.DownBxRefIdeal.main_v4) = v0 c
          ∧ r.2.mem ((c.tc : Thread Cert.DownBxRefIdeal.nD Cert.DownBxRefIdeal.τ).loc Cert.DownBxRefIdeal.main_arg0) = m' ((c.tc : Thread Cert.DownBxRefIdeal.nD Cert.DownBxRefIdeal.τ).loc Cert.DownBxRefIdeal.main_arg0)
          ∧ r.2.mem ((c.tc : Thread Cert.DownBxRefIdeal.nD Cert.DownBxRefIdeal.τ).loc Cert.DownBxRefIdeal.main_arg1) = m' ((c.tc : Thread Cert.DownBxRefIdeal.nD Cert.DownBxRefIdeal.τ).loc Cert.DownBxRefIdeal.main_arg1))

def preserves_DownBw_DownBwIdeal : Prop :=
  True

def algebraic_DownBwIdeal_DownBwRefIdeal [hDownBwIdeal : Cert.DownBwIdeal.Facts] [hDownBwRefIdeal : Cert.DownBwRefIdeal.Facts] : Prop :=
  ∀ (m : (ℓ : Loc Cert.DownBwIdeal.nD Cert.DownBwIdeal.τ Cert.DownBwIdeal.sig) → Buf (Elt Ideal) ℓ) (g : Dev Cert.DownBwIdeal.nD → PrngReg)
    (m' : (ℓ : Loc Cert.DownBwRefIdeal.nD Cert.DownBwRefIdeal.τ Cert.DownBwRefIdeal.sig) → Buf (Elt Ideal) ℓ) (g' : Dev Cert.DownBwRefIdeal.nD → PrngReg), Pre_DownBwIdeal m →
    (∀ c : Dev Cert.DownBwIdeal.nD,
      m' ((c.tc : Thread Cert.DownBwRefIdeal.nD Cert.DownBwRefIdeal.τ).loc Cert.DownBwRefIdeal.main_arg0) = m ((c.tc : Thread Cert.DownBwIdeal.nD Cert.DownBwIdeal.τ).loc Cert.DownBwIdeal.main_arg0)
      ∧ m' ((c.tc : Thread Cert.DownBwRefIdeal.nD Cert.DownBwRefIdeal.τ).loc Cert.DownBwRefIdeal.main_arg1) = m ((c.tc : Thread Cert.DownBwIdeal.nD Cert.DownBwIdeal.τ).loc Cert.DownBwIdeal.main_arg1)) →
    ∃ (v0 : (c : Dev Cert.DownBwIdeal.nD) → Buf (Elt Ideal) ((c.tc : Thread Cert.DownBwIdeal.nD Cert.DownBwIdeal.τ).loc Cert.DownBwIdeal.main_v0)),
      θ_run (Cert.DownBwIdeal.defs (F := Ideal)) (onTc (τ := Cert.DownBwIdeal.τ) (Cert.DownBwIdeal.main (F := Ideal))) ⟨m, fun _ => 0, g⟩ (fun r => ∀ c : Dev Cert.DownBwIdeal.nD,
          r.2.mem ((c.tc : Thread Cert.DownBwIdeal.nD Cert.DownBwIdeal.τ).loc Cert.DownBwIdeal.main_v0) = v0 c
          ∧ r.2.mem ((c.tc : Thread Cert.DownBwIdeal.nD Cert.DownBwIdeal.τ).loc Cert.DownBwIdeal.main_arg0) = m ((c.tc : Thread Cert.DownBwIdeal.nD Cert.DownBwIdeal.τ).loc Cert.DownBwIdeal.main_arg0)
          ∧ r.2.mem ((c.tc : Thread Cert.DownBwIdeal.nD Cert.DownBwIdeal.τ).loc Cert.DownBwIdeal.main_arg1) = m ((c.tc : Thread Cert.DownBwIdeal.nD Cert.DownBwIdeal.τ).loc Cert.DownBwIdeal.main_arg1))
      ∧ θ_run (Cert.DownBwRefIdeal.defs (F := Ideal)) (onTc (τ := Cert.DownBwRefIdeal.τ) (Cert.DownBwRefIdeal.main (F := Ideal))) ⟨m', fun _ => 0, g'⟩ (fun r => ∀ c : Dev Cert.DownBwRefIdeal.nD,
          r.2.mem ((c.tc : Thread Cert.DownBwRefIdeal.nD Cert.DownBwRefIdeal.τ).loc Cert.DownBwRefIdeal.main_v3) = v0 c
          ∧ r.2.mem ((c.tc : Thread Cert.DownBwRefIdeal.nD Cert.DownBwRefIdeal.τ).loc Cert.DownBwRefIdeal.main_arg0) = m' ((c.tc : Thread Cert.DownBwRefIdeal.nD Cert.DownBwRefIdeal.τ).loc Cert.DownBwRefIdeal.main_arg0)
          ∧ r.2.mem ((c.tc : Thread Cert.DownBwRefIdeal.nD Cert.DownBwRefIdeal.τ).loc Cert.DownBwRefIdeal.main_arg1) = m' ((c.tc : Thread Cert.DownBwRefIdeal.nD Cert.DownBwRefIdeal.τ).loc Cert.DownBwRefIdeal.main_arg1))

def preserves_GateUpBx_GateUpBxIdeal : Prop :=
  True

def algebraic_GateUpBxIdeal_GateUpBxRefIdeal [hGateUpBxIdeal : Cert.GateUpBxIdeal.Facts] [hGateUpBxRefIdeal : Cert.GateUpBxRefIdeal.Facts] : Prop :=
  ∀ (m : (ℓ : Loc Cert.GateUpBxIdeal.nD Cert.GateUpBxIdeal.τ Cert.GateUpBxIdeal.sig) → Buf (Elt Ideal) ℓ) (g : Dev Cert.GateUpBxIdeal.nD → PrngReg)
    (m' : (ℓ : Loc Cert.GateUpBxRefIdeal.nD Cert.GateUpBxRefIdeal.τ Cert.GateUpBxRefIdeal.sig) → Buf (Elt Ideal) ℓ) (g' : Dev Cert.GateUpBxRefIdeal.nD → PrngReg), Pre_GateUpBxIdeal m →
    (∀ c : Dev Cert.GateUpBxIdeal.nD,
      m' ((c.tc : Thread Cert.GateUpBxRefIdeal.nD Cert.GateUpBxRefIdeal.τ).loc Cert.GateUpBxRefIdeal.main_arg0) = m ((c.tc : Thread Cert.GateUpBxIdeal.nD Cert.GateUpBxIdeal.τ).loc Cert.GateUpBxIdeal.main_arg0)
      ∧ m' ((c.tc : Thread Cert.GateUpBxRefIdeal.nD Cert.GateUpBxRefIdeal.τ).loc Cert.GateUpBxRefIdeal.main_arg1) = m ((c.tc : Thread Cert.GateUpBxIdeal.nD Cert.GateUpBxIdeal.τ).loc Cert.GateUpBxIdeal.main_arg1)) →
    ∃ (v0 : (c : Dev Cert.GateUpBxIdeal.nD) → Buf (Elt Ideal) ((c.tc : Thread Cert.GateUpBxIdeal.nD Cert.GateUpBxIdeal.τ).loc Cert.GateUpBxIdeal.main_v0)),
      θ_run (Cert.GateUpBxIdeal.defs (F := Ideal)) (onTc (τ := Cert.GateUpBxIdeal.τ) (Cert.GateUpBxIdeal.main (F := Ideal))) ⟨m, fun _ => 0, g⟩ (fun r => ∀ c : Dev Cert.GateUpBxIdeal.nD,
          r.2.mem ((c.tc : Thread Cert.GateUpBxIdeal.nD Cert.GateUpBxIdeal.τ).loc Cert.GateUpBxIdeal.main_v0) = v0 c
          ∧ r.2.mem ((c.tc : Thread Cert.GateUpBxIdeal.nD Cert.GateUpBxIdeal.τ).loc Cert.GateUpBxIdeal.main_arg0) = m ((c.tc : Thread Cert.GateUpBxIdeal.nD Cert.GateUpBxIdeal.τ).loc Cert.GateUpBxIdeal.main_arg0)
          ∧ r.2.mem ((c.tc : Thread Cert.GateUpBxIdeal.nD Cert.GateUpBxIdeal.τ).loc Cert.GateUpBxIdeal.main_arg1) = m ((c.tc : Thread Cert.GateUpBxIdeal.nD Cert.GateUpBxIdeal.τ).loc Cert.GateUpBxIdeal.main_arg1))
      ∧ θ_run (Cert.GateUpBxRefIdeal.defs (F := Ideal)) (onTc (τ := Cert.GateUpBxRefIdeal.τ) (Cert.GateUpBxRefIdeal.main (F := Ideal))) ⟨m', fun _ => 0, g'⟩ (fun r => ∀ c : Dev Cert.GateUpBxRefIdeal.nD,
          r.2.mem ((c.tc : Thread Cert.GateUpBxRefIdeal.nD Cert.GateUpBxRefIdeal.τ).loc Cert.GateUpBxRefIdeal.main_v3) = v0 c
          ∧ r.2.mem ((c.tc : Thread Cert.GateUpBxRefIdeal.nD Cert.GateUpBxRefIdeal.τ).loc Cert.GateUpBxRefIdeal.main_arg0) = m' ((c.tc : Thread Cert.GateUpBxRefIdeal.nD Cert.GateUpBxRefIdeal.τ).loc Cert.GateUpBxRefIdeal.main_arg0)
          ∧ r.2.mem ((c.tc : Thread Cert.GateUpBxRefIdeal.nD Cert.GateUpBxRefIdeal.τ).loc Cert.GateUpBxRefIdeal.main_arg1) = m' ((c.tc : Thread Cert.GateUpBxRefIdeal.nD Cert.GateUpBxRefIdeal.τ).loc Cert.GateUpBxRefIdeal.main_arg1))

def preserves_GateUpBw_GateUpBwIdeal : Prop :=
  True

def algebraic_GateUpBwIdeal_GateUpBwRefIdeal [hGateUpBwIdeal : Cert.GateUpBwIdeal.Facts] [hGateUpBwRefIdeal : Cert.GateUpBwRefIdeal.Facts] : Prop :=
  ∀ (m : (ℓ : Loc Cert.GateUpBwIdeal.nD Cert.GateUpBwIdeal.τ Cert.GateUpBwIdeal.sig) → Buf (Elt Ideal) ℓ) (g : Dev Cert.GateUpBwIdeal.nD → PrngReg)
    (m' : (ℓ : Loc Cert.GateUpBwRefIdeal.nD Cert.GateUpBwRefIdeal.τ Cert.GateUpBwRefIdeal.sig) → Buf (Elt Ideal) ℓ) (g' : Dev Cert.GateUpBwRefIdeal.nD → PrngReg), Pre_GateUpBwIdeal m →
    (∀ c : Dev Cert.GateUpBwIdeal.nD,
      m' ((c.tc : Thread Cert.GateUpBwRefIdeal.nD Cert.GateUpBwRefIdeal.τ).loc Cert.GateUpBwRefIdeal.main_arg0) = m ((c.tc : Thread Cert.GateUpBwIdeal.nD Cert.GateUpBwIdeal.τ).loc Cert.GateUpBwIdeal.main_arg0)
      ∧ m' ((c.tc : Thread Cert.GateUpBwRefIdeal.nD Cert.GateUpBwRefIdeal.τ).loc Cert.GateUpBwRefIdeal.main_arg1) = m ((c.tc : Thread Cert.GateUpBwIdeal.nD Cert.GateUpBwIdeal.τ).loc Cert.GateUpBwIdeal.main_arg1)) →
    ∃ (v0 : (c : Dev Cert.GateUpBwIdeal.nD) → Buf (Elt Ideal) ((c.tc : Thread Cert.GateUpBwIdeal.nD Cert.GateUpBwIdeal.τ).loc Cert.GateUpBwIdeal.main_v0)),
      θ_run (Cert.GateUpBwIdeal.defs (F := Ideal)) (onTc (τ := Cert.GateUpBwIdeal.τ) (Cert.GateUpBwIdeal.main (F := Ideal))) ⟨m, fun _ => 0, g⟩ (fun r => ∀ c : Dev Cert.GateUpBwIdeal.nD,
          r.2.mem ((c.tc : Thread Cert.GateUpBwIdeal.nD Cert.GateUpBwIdeal.τ).loc Cert.GateUpBwIdeal.main_v0) = v0 c
          ∧ r.2.mem ((c.tc : Thread Cert.GateUpBwIdeal.nD Cert.GateUpBwIdeal.τ).loc Cert.GateUpBwIdeal.main_arg0) = m ((c.tc : Thread Cert.GateUpBwIdeal.nD Cert.GateUpBwIdeal.τ).loc Cert.GateUpBwIdeal.main_arg0)
          ∧ r.2.mem ((c.tc : Thread Cert.GateUpBwIdeal.nD Cert.GateUpBwIdeal.τ).loc Cert.GateUpBwIdeal.main_arg1) = m ((c.tc : Thread Cert.GateUpBwIdeal.nD Cert.GateUpBwIdeal.τ).loc Cert.GateUpBwIdeal.main_arg1))
      ∧ θ_run (Cert.GateUpBwRefIdeal.defs (F := Ideal)) (onTc (τ := Cert.GateUpBwRefIdeal.τ) (Cert.GateUpBwRefIdeal.main (F := Ideal))) ⟨m', fun _ => 0, g'⟩ (fun r => ∀ c : Dev Cert.GateUpBwRefIdeal.nD,
          r.2.mem ((c.tc : Thread Cert.GateUpBwRefIdeal.nD Cert.GateUpBwRefIdeal.τ).loc Cert.GateUpBwRefIdeal.main_v3) = v0 c
          ∧ r.2.mem ((c.tc : Thread Cert.GateUpBwRefIdeal.nD Cert.GateUpBwRefIdeal.τ).loc Cert.GateUpBwRefIdeal.main_arg0) = m' ((c.tc : Thread Cert.GateUpBwRefIdeal.nD Cert.GateUpBwRefIdeal.τ).loc Cert.GateUpBwRefIdeal.main_arg0)
          ∧ r.2.mem ((c.tc : Thread Cert.GateUpBwRefIdeal.nD Cert.GateUpBwRefIdeal.τ).loc Cert.GateUpBwRefIdeal.main_arg1) = m' ((c.tc : Thread Cert.GateUpBwRefIdeal.nD Cert.GateUpBwRefIdeal.τ).loc Cert.GateUpBwRefIdeal.main_arg1))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v12) = v0 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Act_ActIdeal : Prop :=
  True

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v6) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)) →
    ∃ (v0 : (c : Dev Cert.PostIdeal.nD) → Buf (Elt Ideal) ((c.tc : Thread Cert.PostIdeal.nD Cert.PostIdeal.τ).loc Cert.PostIdeal.main_v0)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0) = v0 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v14) = v0 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2))

def preserves_PostBack_PostBackIdeal : Prop :=
  True

def algebraic_PostBackIdeal_PostBackRefIdeal [hPostBackIdeal : Cert.PostBackIdeal.Facts] [hPostBackRefIdeal : Cert.PostBackRefIdeal.Facts] : Prop :=
  ∀ (m : (ℓ : Loc Cert.PostBackIdeal.nD Cert.PostBackIdeal.τ Cert.PostBackIdeal.sig) → Buf (Elt Ideal) ℓ) (g : Dev Cert.PostBackIdeal.nD → PrngReg)
    (m' : (ℓ : Loc Cert.PostBackRefIdeal.nD Cert.PostBackRefIdeal.τ Cert.PostBackRefIdeal.sig) → Buf (Elt Ideal) ℓ) (g' : Dev Cert.PostBackRefIdeal.nD → PrngReg), Pre_PostBackIdeal m →
    (∀ c : Dev Cert.PostBackIdeal.nD,
      m' ((c.tc : Thread Cert.PostBackRefIdeal.nD Cert.PostBackRefIdeal.τ).loc Cert.PostBackRefIdeal.main_arg0) = m ((c.tc : Thread Cert.PostBackIdeal.nD Cert.PostBackIdeal.τ).loc Cert.PostBackIdeal.main_arg0)
      ∧ m' ((c.tc : Thread Cert.PostBackRefIdeal.nD Cert.PostBackRefIdeal.τ).loc Cert.PostBackRefIdeal.main_arg1) = m ((c.tc : Thread Cert.PostBackIdeal.nD Cert.PostBackIdeal.τ).loc Cert.PostBackIdeal.main_arg1)
      ∧ m' ((c.tc : Thread Cert.PostBackRefIdeal.nD Cert.PostBackRefIdeal.τ).loc Cert.PostBackRefIdeal.main_arg2) = m ((c.tc : Thread Cert.PostBackIdeal.nD Cert.PostBackIdeal.τ).loc Cert.PostBackIdeal.main_arg2)) →
    ∃ (v0 : (c : Dev Cert.PostBackIdeal.nD) → Buf (Elt Ideal) ((c.tc : Thread Cert.PostBackIdeal.nD Cert.PostBackIdeal.τ).loc Cert.PostBackIdeal.main_v0_0)) (v1 : (c : Dev Cert.PostBackIdeal.nD) → Buf (Elt Ideal) ((c.tc : Thread Cert.PostBackIdeal.nD Cert.PostBackIdeal.τ).loc Cert.PostBackIdeal.main_v0_1)),
      θ_run (Cert.PostBackIdeal.defs (F := Ideal)) (onTc (τ := Cert.PostBackIdeal.τ) (Cert.PostBackIdeal.main (F := Ideal))) ⟨m, fun _ => 0, g⟩ (fun r => ∀ c : Dev Cert.PostBackIdeal.nD,
          r.2.mem ((c.tc : Thread Cert.PostBackIdeal.nD Cert.PostBackIdeal.τ).loc Cert.PostBackIdeal.main_v0_0) = v0 c
          ∧ r.2.mem ((c.tc : Thread Cert.PostBackIdeal.nD Cert.PostBackIdeal.τ).loc Cert.PostBackIdeal.main_v0_1) = v1 c
          ∧ r.2.mem ((c.tc : Thread Cert.PostBackIdeal.nD Cert.PostBackIdeal.τ).loc Cert.PostBackIdeal.main_arg0) = m ((c.tc : Thread Cert.PostBackIdeal.nD Cert.PostBackIdeal.τ).loc Cert.PostBackIdeal.main_arg0)
          ∧ r.2.mem ((c.tc : Thread Cert.PostBackIdeal.nD Cert.PostBackIdeal.τ).loc Cert.PostBackIdeal.main_arg1) = m ((c.tc : Thread Cert.PostBackIdeal.nD Cert.PostBackIdeal.τ).loc Cert.PostBackIdeal.main_arg1)
          ∧ r.2.mem ((c.tc : Thread Cert.PostBackIdeal.nD Cert.PostBackIdeal.τ).loc Cert.PostBackIdeal.main_arg2) = m ((c.tc : Thread Cert.PostBackIdeal.nD Cert.PostBackIdeal.τ).loc Cert.PostBackIdeal.main_arg2))
      ∧ θ_run (Cert.PostBackRefIdeal.defs (F := Ideal)) (onTc (τ := Cert.PostBackRefIdeal.τ) (Cert.PostBackRefIdeal.main (F := Ideal))) ⟨m', fun _ => 0, g'⟩ (fun r => ∀ c : Dev Cert.PostBackRefIdeal.nD,
          r.2.mem ((c.tc : Thread Cert.PostBackRefIdeal.nD Cert.PostBackRefIdeal.τ).loc Cert.PostBackRefIdeal.main_v24) = v0 c
          ∧ r.2.mem ((c.tc : Thread Cert.PostBackRefIdeal.nD Cert.PostBackRefIdeal.τ).loc Cert.PostBackRefIdeal.main_v27) = v1 c
          ∧ r.2.mem ((c.tc : Thread Cert.PostBackRefIdeal.nD Cert.PostBackRefIdeal.τ).loc Cert.PostBackRefIdeal.main_arg0) = m' ((c.tc : Thread Cert.PostBackRefIdeal.nD Cert.PostBackRefIdeal.τ).loc Cert.PostBackRefIdeal.main_arg0)
          ∧ r.2.mem ((c.tc : Thread Cert.PostBackRefIdeal.nD Cert.PostBackRefIdeal.τ).loc Cert.PostBackRefIdeal.main_arg1) = m' ((c.tc : Thread Cert.PostBackRefIdeal.nD Cert.PostBackRefIdeal.τ).loc Cert.PostBackRefIdeal.main_arg1)
          ∧ r.2.mem ((c.tc : Thread Cert.PostBackRefIdeal.nD Cert.PostBackRefIdeal.τ).loc Cert.PostBackRefIdeal.main_arg2) = m' ((c.tc : Thread Cert.PostBackRefIdeal.nD Cert.PostBackRefIdeal.τ).loc Cert.PostBackRefIdeal.main_arg2))

def preserves_ActBack_ActBackIdeal : Prop :=
  True

def algebraic_ActBackIdeal_ActBackRefIdeal [hActBackIdeal : Cert.ActBackIdeal.Facts] [hActBackRefIdeal : Cert.ActBackRefIdeal.Facts] : Prop :=
  ∀ (m : (ℓ : Loc Cert.ActBackIdeal.nD Cert.ActBackIdeal.τ Cert.ActBackIdeal.sig) → Buf (Elt Ideal) ℓ) (g : Dev Cert.ActBackIdeal.nD → PrngReg)
    (m' : (ℓ : Loc Cert.ActBackRefIdeal.nD Cert.ActBackRefIdeal.τ Cert.ActBackRefIdeal.sig) → Buf (Elt Ideal) ℓ) (g' : Dev Cert.ActBackRefIdeal.nD → PrngReg), Pre_ActBackIdeal m →
    (∀ c : Dev Cert.ActBackIdeal.nD,
      m' ((c.tc : Thread Cert.ActBackRefIdeal.nD Cert.ActBackRefIdeal.τ).loc Cert.ActBackRefIdeal.main_arg0) = m ((c.tc : Thread Cert.ActBackIdeal.nD Cert.ActBackIdeal.τ).loc Cert.ActBackIdeal.main_arg0)
      ∧ m' ((c.tc : Thread Cert.ActBackRefIdeal.nD Cert.ActBackRefIdeal.τ).loc Cert.ActBackRefIdeal.main_arg1) = m ((c.tc : Thread Cert.ActBackIdeal.nD Cert.ActBackIdeal.τ).loc Cert.ActBackIdeal.main_arg1)) →
    ∃ (v0 : (c : Dev Cert.ActBackIdeal.nD) → Buf (Elt Ideal) ((c.tc : Thread Cert.ActBackIdeal.nD Cert.ActBackIdeal.τ).loc Cert.ActBackIdeal.main_v0)),
      θ_run (Cert.ActBackIdeal.defs (F := Ideal)) (onTc (τ := Cert.ActBackIdeal.τ) (Cert.ActBackIdeal.main (F := Ideal))) ⟨m, fun _ => 0, g⟩ (fun r => ∀ c : Dev Cert.ActBackIdeal.nD,
          r.2.mem ((c.tc : Thread Cert.ActBackIdeal.nD Cert.ActBackIdeal.τ).loc Cert.ActBackIdeal.main_v0) = v0 c
          ∧ r.2.mem ((c.tc : Thread Cert.ActBackIdeal.nD Cert.ActBackIdeal.τ).loc Cert.ActBackIdeal.main_arg0) = m ((c.tc : Thread Cert.ActBackIdeal.nD Cert.ActBackIdeal.τ).loc Cert.ActBackIdeal.main_arg0)
          ∧ r.2.mem ((c.tc : Thread Cert.ActBackIdeal.nD Cert.ActBackIdeal.τ).loc Cert.ActBackIdeal.main_arg1) = m ((c.tc : Thread Cert.ActBackIdeal.nD Cert.ActBackIdeal.τ).loc Cert.ActBackIdeal.main_arg1))
      ∧ θ_run (Cert.ActBackRefIdeal.defs (F := Ideal)) (onTc (τ := Cert.ActBackRefIdeal.τ) (Cert.ActBackRefIdeal.main (F := Ideal))) ⟨m', fun _ => 0, g'⟩ (fun r => ∀ c : Dev Cert.ActBackRefIdeal.nD,
          r.2.mem ((c.tc : Thread Cert.ActBackRefIdeal.nD Cert.ActBackRefIdeal.τ).loc Cert.ActBackRefIdeal.main_v22) = v0 c
          ∧ r.2.mem ((c.tc : Thread Cert.ActBackRefIdeal.nD Cert.ActBackRefIdeal.τ).loc Cert.ActBackRefIdeal.main_arg0) = m' ((c.tc : Thread Cert.ActBackRefIdeal.nD Cert.ActBackRefIdeal.τ).loc Cert.ActBackRefIdeal.main_arg0)
          ∧ r.2.mem ((c.tc : Thread Cert.ActBackRefIdeal.nD Cert.ActBackRefIdeal.τ).loc Cert.ActBackRefIdeal.main_arg1) = m' ((c.tc : Thread Cert.ActBackRefIdeal.nD Cert.ActBackRefIdeal.τ).loc Cert.ActBackRefIdeal.main_arg1))

def preserves_MixIn_MixInIdeal : Prop :=
  True

def algebraic_MixInIdeal_MixInRefIdeal [hMixInIdeal : Cert.MixInIdeal.Facts] [hMixInRefIdeal : Cert.MixInRefIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)) →
    ∃ (v0 : (c : Dev Cert.MixInIdeal.nD) → Buf (Elt Ideal) ((c.tc : Thread Cert.MixInIdeal.nD Cert.MixInIdeal.τ).loc Cert.MixInIdeal.main_v0)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0) = v0 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v2) = v0 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1))

def preserves_MixInBx_MixInBxIdeal : Prop :=
  True

def algebraic_MixInBxIdeal_MixInBxRefIdeal [hMixInBxIdeal : Cert.MixInBxIdeal.Facts] [hMixInBxRefIdeal : Cert.MixInBxRefIdeal.Facts] : Prop :=
  ∀ (m : (ℓ : Loc Cert.MixInBxIdeal.nD Cert.MixInBxIdeal.τ Cert.MixInBxIdeal.sig) → Buf (Elt Ideal) ℓ) (g : Dev Cert.MixInBxIdeal.nD → PrngReg)
    (m' : (ℓ : Loc Cert.MixInBxRefIdeal.nD Cert.MixInBxRefIdeal.τ Cert.MixInBxRefIdeal.sig) → Buf (Elt Ideal) ℓ) (g' : Dev Cert.MixInBxRefIdeal.nD → PrngReg), Pre_MixInBxIdeal m →
    (∀ c : Dev Cert.MixInBxIdeal.nD,
      m' ((c.tc : Thread Cert.MixInBxRefIdeal.nD Cert.MixInBxRefIdeal.τ).loc Cert.MixInBxRefIdeal.main_arg0) = m ((c.tc : Thread Cert.MixInBxIdeal.nD Cert.MixInBxIdeal.τ).loc Cert.MixInBxIdeal.main_arg0)
      ∧ m' ((c.tc : Thread Cert.MixInBxRefIdeal.nD Cert.MixInBxRefIdeal.τ).loc Cert.MixInBxRefIdeal.main_arg1) = m ((c.tc : Thread Cert.MixInBxIdeal.nD Cert.MixInBxIdeal.τ).loc Cert.MixInBxIdeal.main_arg1)) →
    ∃ (v0 : (c : Dev Cert.MixInBxIdeal.nD) → Buf (Elt Ideal) ((c.tc : Thread Cert.MixInBxIdeal.nD Cert.MixInBxIdeal.τ).loc Cert.MixInBxIdeal.main_v0)),
      θ_run (Cert.MixInBxIdeal.defs (F := Ideal)) (onTc (τ := Cert.MixInBxIdeal.τ) (Cert.MixInBxIdeal.main (F := Ideal))) ⟨m, fun _ => 0, g⟩ (fun r => ∀ c : Dev Cert.MixInBxIdeal.nD,
          r.2.mem ((c.tc : Thread Cert.MixInBxIdeal.nD Cert.MixInBxIdeal.τ).loc Cert.MixInBxIdeal.main_v0) = v0 c
          ∧ r.2.mem ((c.tc : Thread Cert.MixInBxIdeal.nD Cert.MixInBxIdeal.τ).loc Cert.MixInBxIdeal.main_arg0) = m ((c.tc : Thread Cert.MixInBxIdeal.nD Cert.MixInBxIdeal.τ).loc Cert.MixInBxIdeal.main_arg0)
          ∧ r.2.mem ((c.tc : Thread Cert.MixInBxIdeal.nD Cert.MixInBxIdeal.τ).loc Cert.MixInBxIdeal.main_arg1) = m ((c.tc : Thread Cert.MixInBxIdeal.nD Cert.MixInBxIdeal.τ).loc Cert.MixInBxIdeal.main_arg1))
      ∧ θ_run (Cert.MixInBxRefIdeal.defs (F := Ideal)) (onTc (τ := Cert.MixInBxRefIdeal.τ) (Cert.MixInBxRefIdeal.main (F := Ideal))) ⟨m', fun _ => 0, g'⟩ (fun r => ∀ c : Dev Cert.MixInBxRefIdeal.nD,
          r.2.mem ((c.tc : Thread Cert.MixInBxRefIdeal.nD Cert.MixInBxRefIdeal.τ).loc Cert.MixInBxRefIdeal.main_v3) = v0 c
          ∧ r.2.mem ((c.tc : Thread Cert.MixInBxRefIdeal.nD Cert.MixInBxRefIdeal.τ).loc Cert.MixInBxRefIdeal.main_arg0) = m' ((c.tc : Thread Cert.MixInBxRefIdeal.nD Cert.MixInBxRefIdeal.τ).loc Cert.MixInBxRefIdeal.main_arg0)
          ∧ r.2.mem ((c.tc : Thread Cert.MixInBxRefIdeal.nD Cert.MixInBxRefIdeal.τ).loc Cert.MixInBxRefIdeal.main_arg1) = m' ((c.tc : Thread Cert.MixInBxRefIdeal.nD Cert.MixInBxRefIdeal.τ).loc Cert.MixInBxRefIdeal.main_arg1))

def preserves_MixInBw_MixInBwIdeal : Prop :=
  True

def algebraic_MixInBwIdeal_MixInBwRefIdeal [hMixInBwIdeal : Cert.MixInBwIdeal.Facts] [hMixInBwRefIdeal : Cert.MixInBwRefIdeal.Facts] : Prop :=
  ∀ (m : (ℓ : Loc Cert.MixInBwIdeal.nD Cert.MixInBwIdeal.τ Cert.MixInBwIdeal.sig) → Buf (Elt Ideal) ℓ) (g : Dev Cert.MixInBwIdeal.nD → PrngReg)
    (m' : (ℓ : Loc Cert.MixInBwRefIdeal.nD Cert.MixInBwRefIdeal.τ Cert.MixInBwRefIdeal.sig) → Buf (Elt Ideal) ℓ) (g' : Dev Cert.MixInBwRefIdeal.nD → PrngReg), Pre_MixInBwIdeal m →
    (∀ c : Dev Cert.MixInBwIdeal.nD,
      m' ((c.tc : Thread Cert.MixInBwRefIdeal.nD Cert.MixInBwRefIdeal.τ).loc Cert.MixInBwRefIdeal.main_arg0) = m ((c.tc : Thread Cert.MixInBwIdeal.nD Cert.MixInBwIdeal.τ).loc Cert.MixInBwIdeal.main_arg0)
      ∧ m' ((c.tc : Thread Cert.MixInBwRefIdeal.nD Cert.MixInBwRefIdeal.τ).loc Cert.MixInBwRefIdeal.main_arg1) = m ((c.tc : Thread Cert.MixInBwIdeal.nD Cert.MixInBwIdeal.τ).loc Cert.MixInBwIdeal.main_arg1)) →
    ∃ (v0 : (c : Dev Cert.MixInBwIdeal.nD) → Buf (Elt Ideal) ((c.tc : Thread Cert.MixInBwIdeal.nD Cert.MixInBwIdeal.τ).loc Cert.MixInBwIdeal.main_v0)),
      θ_run (Cert.MixInBwIdeal.defs (F := Ideal)) (onTc (τ := Cert.MixInBwIdeal.τ) (Cert.MixInBwIdeal.main (F := Ideal))) ⟨m, fun _ => 0, g⟩ (fun r => ∀ c : Dev Cert.MixInBwIdeal.nD,
          r.2.mem ((c.tc : Thread Cert.MixInBwIdeal.nD Cert.MixInBwIdeal.τ).loc Cert.MixInBwIdeal.main_v0) = v0 c
          ∧ r.2.mem ((c.tc : Thread Cert.MixInBwIdeal.nD Cert.MixInBwIdeal.τ).loc Cert.MixInBwIdeal.main_arg0) = m ((c.tc : Thread Cert.MixInBwIdeal.nD Cert.MixInBwIdeal.τ).loc Cert.MixInBwIdeal.main_arg0)
          ∧ r.2.mem ((c.tc : Thread Cert.MixInBwIdeal.nD Cert.MixInBwIdeal.τ).loc Cert.MixInBwIdeal.main_arg1) = m ((c.tc : Thread Cert.MixInBwIdeal.nD Cert.MixInBwIdeal.τ).loc Cert.MixInBwIdeal.main_arg1))
      ∧ θ_run (Cert.MixInBwRefIdeal.defs (F := Ideal)) (onTc (τ := Cert.MixInBwRefIdeal.τ) (Cert.MixInBwRefIdeal.main (F := Ideal))) ⟨m', fun _ => 0, g'⟩ (fun r => ∀ c : Dev Cert.MixInBwRefIdeal.nD,
          r.2.mem ((c.tc : Thread Cert.MixInBwRefIdeal.nD Cert.MixInBwRefIdeal.τ).loc Cert.MixInBwRefIdeal.main_v3) = v0 c
          ∧ r.2.mem ((c.tc : Thread Cert.MixInBwRefIdeal.nD Cert.MixInBwRefIdeal.τ).loc Cert.MixInBwRefIdeal.main_arg0) = m' ((c.tc : Thread Cert.MixInBwRefIdeal.nD Cert.MixInBwRefIdeal.τ).loc Cert.MixInBwRefIdeal.main_arg0)
          ∧ r.2.mem ((c.tc : Thread Cert.MixInBwRefIdeal.nD Cert.MixInBwRefIdeal.τ).loc Cert.MixInBwRefIdeal.main_arg1) = m' ((c.tc : Thread Cert.MixInBwRefIdeal.nD Cert.MixInBwRefIdeal.τ).loc Cert.MixInBwRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v0)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v2) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_MixOutBx_MixOutBxIdeal : Prop :=
  True

def algebraic_MixOutBxIdeal_MixOutBxRefIdeal [hMixOutBxIdeal : Cert.MixOutBxIdeal.Facts] [hMixOutBxRefIdeal : Cert.MixOutBxRefIdeal.Facts] : Prop :=
  ∀ (m : (ℓ : Loc Cert.MixOutBxIdeal.nD Cert.MixOutBxIdeal.τ Cert.MixOutBxIdeal.sig) → Buf (Elt Ideal) ℓ) (g : Dev Cert.MixOutBxIdeal.nD → PrngReg)
    (m' : (ℓ : Loc Cert.MixOutBxRefIdeal.nD Cert.MixOutBxRefIdeal.τ Cert.MixOutBxRefIdeal.sig) → Buf (Elt Ideal) ℓ) (g' : Dev Cert.MixOutBxRefIdeal.nD → PrngReg), Pre_MixOutBxIdeal m →
    (∀ c : Dev Cert.MixOutBxIdeal.nD,
      m' ((c.tc : Thread Cert.MixOutBxRefIdeal.nD Cert.MixOutBxRefIdeal.τ).loc Cert.MixOutBxRefIdeal.main_arg0) = m ((c.tc : Thread Cert.MixOutBxIdeal.nD Cert.MixOutBxIdeal.τ).loc Cert.MixOutBxIdeal.main_arg0)
      ∧ m' ((c.tc : Thread Cert.MixOutBxRefIdeal.nD Cert.MixOutBxRefIdeal.τ).loc Cert.MixOutBxRefIdeal.main_arg1) = m ((c.tc : Thread Cert.MixOutBxIdeal.nD Cert.MixOutBxIdeal.τ).loc Cert.MixOutBxIdeal.main_arg1)) →
    ∃ (v0 : (c : Dev Cert.MixOutBxIdeal.nD) → Buf (Elt Ideal) ((c.tc : Thread Cert.MixOutBxIdeal.nD Cert.MixOutBxIdeal.τ).loc Cert.MixOutBxIdeal.main_v0)),
      θ_run (Cert.MixOutBxIdeal.defs (F := Ideal)) (onTc (τ := Cert.MixOutBxIdeal.τ) (Cert.MixOutBxIdeal.main (F := Ideal))) ⟨m, fun _ => 0, g⟩ (fun r => ∀ c : Dev Cert.MixOutBxIdeal.nD,
          r.2.mem ((c.tc : Thread Cert.MixOutBxIdeal.nD Cert.MixOutBxIdeal.τ).loc Cert.MixOutBxIdeal.main_v0) = v0 c
          ∧ r.2.mem ((c.tc : Thread Cert.MixOutBxIdeal.nD Cert.MixOutBxIdeal.τ).loc Cert.MixOutBxIdeal.main_arg0) = m ((c.tc : Thread Cert.MixOutBxIdeal.nD Cert.MixOutBxIdeal.τ).loc Cert.MixOutBxIdeal.main_arg0)
          ∧ r.2.mem ((c.tc : Thread Cert.MixOutBxIdeal.nD Cert.MixOutBxIdeal.τ).loc Cert.MixOutBxIdeal.main_arg1) = m ((c.tc : Thread Cert.MixOutBxIdeal.nD Cert.MixOutBxIdeal.τ).loc Cert.MixOutBxIdeal.main_arg1))
      ∧ θ_run (Cert.MixOutBxRefIdeal.defs (F := Ideal)) (onTc (τ := Cert.MixOutBxRefIdeal.τ) (Cert.MixOutBxRefIdeal.main (F := Ideal))) ⟨m', fun _ => 0, g'⟩ (fun r => ∀ c : Dev Cert.MixOutBxRefIdeal.nD,
          r.2.mem ((c.tc : Thread Cert.MixOutBxRefIdeal.nD Cert.MixOutBxRefIdeal.τ).loc Cert.MixOutBxRefIdeal.main_v3) = v0 c
          ∧ r.2.mem ((c.tc : Thread Cert.MixOutBxRefIdeal.nD Cert.MixOutBxRefIdeal.τ).loc Cert.MixOutBxRefIdeal.main_arg0) = m' ((c.tc : Thread Cert.MixOutBxRefIdeal.nD Cert.MixOutBxRefIdeal.τ).loc Cert.MixOutBxRefIdeal.main_arg0)
          ∧ r.2.mem ((c.tc : Thread Cert.MixOutBxRefIdeal.nD Cert.MixOutBxRefIdeal.τ).loc Cert.MixOutBxRefIdeal.main_arg1) = m' ((c.tc : Thread Cert.MixOutBxRefIdeal.nD Cert.MixOutBxRefIdeal.τ).loc Cert.MixOutBxRefIdeal.main_arg1))

def preserves_MixOutBw_MixOutBwIdeal : Prop :=
  True

def algebraic_MixOutBwIdeal_MixOutBwRefIdeal [hMixOutBwIdeal : Cert.MixOutBwIdeal.Facts] [hMixOutBwRefIdeal : Cert.MixOutBwRefIdeal.Facts] : Prop :=
  ∀ (m : (ℓ : Loc Cert.MixOutBwIdeal.nD Cert.MixOutBwIdeal.τ Cert.MixOutBwIdeal.sig) → Buf (Elt Ideal) ℓ) (g : Dev Cert.MixOutBwIdeal.nD → PrngReg)
    (m' : (ℓ : Loc Cert.MixOutBwRefIdeal.nD Cert.MixOutBwRefIdeal.τ Cert.MixOutBwRefIdeal.sig) → Buf (Elt Ideal) ℓ) (g' : Dev Cert.MixOutBwRefIdeal.nD → PrngReg), Pre_MixOutBwIdeal m →
    (∀ c : Dev Cert.MixOutBwIdeal.nD,
      m' ((c.tc : Thread Cert.MixOutBwRefIdeal.nD Cert.MixOutBwRefIdeal.τ).loc Cert.MixOutBwRefIdeal.main_arg0) = m ((c.tc : Thread Cert.MixOutBwIdeal.nD Cert.MixOutBwIdeal.τ).loc Cert.MixOutBwIdeal.main_arg0)
      ∧ m' ((c.tc : Thread Cert.MixOutBwRefIdeal.nD Cert.MixOutBwRefIdeal.τ).loc Cert.MixOutBwRefIdeal.main_arg1) = m ((c.tc : Thread Cert.MixOutBwIdeal.nD Cert.MixOutBwIdeal.τ).loc Cert.MixOutBwIdeal.main_arg1)) →
    ∃ (v0 : (c : Dev Cert.MixOutBwIdeal.nD) → Buf (Elt Ideal) ((c.tc : Thread Cert.MixOutBwIdeal.nD Cert.MixOutBwIdeal.τ).loc Cert.MixOutBwIdeal.main_v0)),
      θ_run (Cert.MixOutBwIdeal.defs (F := Ideal)) (onTc (τ := Cert.MixOutBwIdeal.τ) (Cert.MixOutBwIdeal.main (F := Ideal))) ⟨m, fun _ => 0, g⟩ (fun r => ∀ c : Dev Cert.MixOutBwIdeal.nD,
          r.2.mem ((c.tc : Thread Cert.MixOutBwIdeal.nD Cert.MixOutBwIdeal.τ).loc Cert.MixOutBwIdeal.main_v0) = v0 c
          ∧ r.2.mem ((c.tc : Thread Cert.MixOutBwIdeal.nD Cert.MixOutBwIdeal.τ).loc Cert.MixOutBwIdeal.main_arg0) = m ((c.tc : Thread Cert.MixOutBwIdeal.nD Cert.MixOutBwIdeal.τ).loc Cert.MixOutBwIdeal.main_arg0)
          ∧ r.2.mem ((c.tc : Thread Cert.MixOutBwIdeal.nD Cert.MixOutBwIdeal.τ).loc Cert.MixOutBwIdeal.main_arg1) = m ((c.tc : Thread Cert.MixOutBwIdeal.nD Cert.MixOutBwIdeal.τ).loc Cert.MixOutBwIdeal.main_arg1))
      ∧ θ_run (Cert.MixOutBwRefIdeal.defs (F := Ideal)) (onTc (τ := Cert.MixOutBwRefIdeal.τ) (Cert.MixOutBwRefIdeal.main (F := Ideal))) ⟨m', fun _ => 0, g'⟩ (fun r => ∀ c : Dev Cert.MixOutBwRefIdeal.nD,
          r.2.mem ((c.tc : Thread Cert.MixOutBwRefIdeal.nD Cert.MixOutBwRefIdeal.τ).loc Cert.MixOutBwRefIdeal.main_v3) = v0 c
          ∧ r.2.mem ((c.tc : Thread Cert.MixOutBwRefIdeal.nD Cert.MixOutBwRefIdeal.τ).loc Cert.MixOutBwRefIdeal.main_arg0) = m' ((c.tc : Thread Cert.MixOutBwRefIdeal.nD Cert.MixOutBwRefIdeal.τ).loc Cert.MixOutBwRefIdeal.main_arg0)
          ∧ r.2.mem ((c.tc : Thread Cert.MixOutBwRefIdeal.nD Cert.MixOutBwRefIdeal.τ).loc Cert.MixOutBwRefIdeal.main_arg1) = m' ((c.tc : Thread Cert.MixOutBwRefIdeal.nD Cert.MixOutBwRefIdeal.τ).loc Cert.MixOutBwRefIdeal.main_arg1))

def preserves_Uq_UqIdeal : Prop :=
  True

def algebraic_UqIdeal_UqRefIdeal [hUqIdeal : Cert.UqIdeal.Facts] [hUqRefIdeal : Cert.UqRefIdeal.Facts] : Prop :=
  ∀ (m : (ℓ : Loc Cert.UqIdeal.nD Cert.UqIdeal.τ Cert.UqIdeal.sig) → Buf (Elt Ideal) ℓ) (g : Dev Cert.UqIdeal.nD → PrngReg)
    (m' : (ℓ : Loc Cert.UqRefIdeal.nD Cert.UqRefIdeal.τ Cert.UqRefIdeal.sig) → Buf (Elt Ideal) ℓ) (g' : Dev Cert.UqRefIdeal.nD → PrngReg), Pre_UqIdeal m →
    (∀ c : Dev Cert.UqIdeal.nD,
      m' ((c.tc : Thread Cert.UqRefIdeal.nD Cert.UqRefIdeal.τ).loc Cert.UqRefIdeal.main_arg0) = m ((c.tc : Thread Cert.UqIdeal.nD Cert.UqIdeal.τ).loc Cert.UqIdeal.main_arg0)
      ∧ m' ((c.tc : Thread Cert.UqRefIdeal.nD Cert.UqRefIdeal.τ).loc Cert.UqRefIdeal.main_arg1) = m ((c.tc : Thread Cert.UqIdeal.nD Cert.UqIdeal.τ).loc Cert.UqIdeal.main_arg1)) →
    ∃ (v0 : (c : Dev Cert.UqIdeal.nD) → Buf (Elt Ideal) ((c.tc : Thread Cert.UqIdeal.nD Cert.UqIdeal.τ).loc Cert.UqIdeal.main_v0)),
      θ_run (Cert.UqIdeal.defs (F := Ideal)) (onTc (τ := Cert.UqIdeal.τ) (Cert.UqIdeal.main (F := Ideal))) ⟨m, fun _ => 0, g⟩ (fun r => ∀ c : Dev Cert.UqIdeal.nD,
          r.2.mem ((c.tc : Thread Cert.UqIdeal.nD Cert.UqIdeal.τ).loc Cert.UqIdeal.main_v0) = v0 c
          ∧ r.2.mem ((c.tc : Thread Cert.UqIdeal.nD Cert.UqIdeal.τ).loc Cert.UqIdeal.main_arg0) = m ((c.tc : Thread Cert.UqIdeal.nD Cert.UqIdeal.τ).loc Cert.UqIdeal.main_arg0)
          ∧ r.2.mem ((c.tc : Thread Cert.UqIdeal.nD Cert.UqIdeal.τ).loc Cert.UqIdeal.main_arg1) = m ((c.tc : Thread Cert.UqIdeal.nD Cert.UqIdeal.τ).loc Cert.UqIdeal.main_arg1))
      ∧ θ_run (Cert.UqRefIdeal.defs (F := Ideal)) (onTc (τ := Cert.UqRefIdeal.τ) (Cert.UqRefIdeal.main (F := Ideal))) ⟨m', fun _ => 0, g'⟩ (fun r => ∀ c : Dev Cert.UqRefIdeal.nD,
          r.2.mem ((c.tc : Thread Cert.UqRefIdeal.nD Cert.UqRefIdeal.τ).loc Cert.UqRefIdeal.main_v2) = v0 c
          ∧ r.2.mem ((c.tc : Thread Cert.UqRefIdeal.nD Cert.UqRefIdeal.τ).loc Cert.UqRefIdeal.main_arg0) = m' ((c.tc : Thread Cert.UqRefIdeal.nD Cert.UqRefIdeal.τ).loc Cert.UqRefIdeal.main_arg0)
          ∧ r.2.mem ((c.tc : Thread Cert.UqRefIdeal.nD Cert.UqRefIdeal.τ).loc Cert.UqRefIdeal.main_arg1) = m' ((c.tc : Thread Cert.UqRefIdeal.nD Cert.UqRefIdeal.τ).loc Cert.UqRefIdeal.main_arg1))

def preserves_UqBx_UqBxIdeal : Prop :=
  True

def algebraic_UqBxIdeal_UqBxRefIdeal [hUqBxIdeal : Cert.UqBxIdeal.Facts] [hUqBxRefIdeal : Cert.UqBxRefIdeal.Facts] : Prop :=
  ∀ (m : (ℓ : Loc Cert.UqBxIdeal.nD Cert.UqBxIdeal.τ Cert.UqBxIdeal.sig) → Buf (Elt Ideal) ℓ) (g : Dev Cert.UqBxIdeal.nD → PrngReg)
    (m' : (ℓ : Loc Cert.UqBxRefIdeal.nD Cert.UqBxRefIdeal.τ Cert.UqBxRefIdeal.sig) → Buf (Elt Ideal) ℓ) (g' : Dev Cert.UqBxRefIdeal.nD → PrngReg), Pre_UqBxIdeal m →
    (∀ c : Dev Cert.UqBxIdeal.nD,
      m' ((c.tc : Thread Cert.UqBxRefIdeal.nD Cert.UqBxRefIdeal.τ).loc Cert.UqBxRefIdeal.main_arg0) = m ((c.tc : Thread Cert.UqBxIdeal.nD Cert.UqBxIdeal.τ).loc Cert.UqBxIdeal.main_arg0)
      ∧ m' ((c.tc : Thread Cert.UqBxRefIdeal.nD Cert.UqBxRefIdeal.τ).loc Cert.UqBxRefIdeal.main_arg1) = m ((c.tc : Thread Cert.UqBxIdeal.nD Cert.UqBxIdeal.τ).loc Cert.UqBxIdeal.main_arg1)) →
    ∃ (v0 : (c : Dev Cert.UqBxIdeal.nD) → Buf (Elt Ideal) ((c.tc : Thread Cert.UqBxIdeal.nD Cert.UqBxIdeal.τ).loc Cert.UqBxIdeal.main_v0)),
      θ_run (Cert.UqBxIdeal.defs (F := Ideal)) (onTc (τ := Cert.UqBxIdeal.τ) (Cert.UqBxIdeal.main (F := Ideal))) ⟨m, fun _ => 0, g⟩ (fun r => ∀ c : Dev Cert.UqBxIdeal.nD,
          r.2.mem ((c.tc : Thread Cert.UqBxIdeal.nD Cert.UqBxIdeal.τ).loc Cert.UqBxIdeal.main_v0) = v0 c
          ∧ r.2.mem ((c.tc : Thread Cert.UqBxIdeal.nD Cert.UqBxIdeal.τ).loc Cert.UqBxIdeal.main_arg0) = m ((c.tc : Thread Cert.UqBxIdeal.nD Cert.UqBxIdeal.τ).loc Cert.UqBxIdeal.main_arg0)
          ∧ r.2.mem ((c.tc : Thread Cert.UqBxIdeal.nD Cert.UqBxIdeal.τ).loc Cert.UqBxIdeal.main_arg1) = m ((c.tc : Thread Cert.UqBxIdeal.nD Cert.UqBxIdeal.τ).loc Cert.UqBxIdeal.main_arg1))
      ∧ θ_run (Cert.UqBxRefIdeal.defs (F := Ideal)) (onTc (τ := Cert.UqBxRefIdeal.τ) (Cert.UqBxRefIdeal.main (F := Ideal))) ⟨m', fun _ => 0, g'⟩ (fun r => ∀ c : Dev Cert.UqBxRefIdeal.nD,
          r.2.mem ((c.tc : Thread Cert.UqBxRefIdeal.nD Cert.UqBxRefIdeal.τ).loc Cert.UqBxRefIdeal.main_v3) = v0 c
          ∧ r.2.mem ((c.tc : Thread Cert.UqBxRefIdeal.nD Cert.UqBxRefIdeal.τ).loc Cert.UqBxRefIdeal.main_arg0) = m' ((c.tc : Thread Cert.UqBxRefIdeal.nD Cert.UqBxRefIdeal.τ).loc Cert.UqBxRefIdeal.main_arg0)
          ∧ r.2.mem ((c.tc : Thread Cert.UqBxRefIdeal.nD Cert.UqBxRefIdeal.τ).loc Cert.UqBxRefIdeal.main_arg1) = m' ((c.tc : Thread Cert.UqBxRefIdeal.nD Cert.UqBxRefIdeal.τ).loc Cert.UqBxRefIdeal.main_arg1))

def preserves_UqBw_UqBwIdeal : Prop :=
  True

def algebraic_UqBwIdeal_UqBwRefIdeal [hUqBwIdeal : Cert.UqBwIdeal.Facts] [hUqBwRefIdeal : Cert.UqBwRefIdeal.Facts] : Prop :=
  ∀ (m : (ℓ : Loc Cert.UqBwIdeal.nD Cert.UqBwIdeal.τ Cert.UqBwIdeal.sig) → Buf (Elt Ideal) ℓ) (g : Dev Cert.UqBwIdeal.nD → PrngReg)
    (m' : (ℓ : Loc Cert.UqBwRefIdeal.nD Cert.UqBwRefIdeal.τ Cert.UqBwRefIdeal.sig) → Buf (Elt Ideal) ℓ) (g' : Dev Cert.UqBwRefIdeal.nD → PrngReg), Pre_UqBwIdeal m →
    (∀ c : Dev Cert.UqBwIdeal.nD,
      m' ((c.tc : Thread Cert.UqBwRefIdeal.nD Cert.UqBwRefIdeal.τ).loc Cert.UqBwRefIdeal.main_arg0) = m ((c.tc : Thread Cert.UqBwIdeal.nD Cert.UqBwIdeal.τ).loc Cert.UqBwIdeal.main_arg0)
      ∧ m' ((c.tc : Thread Cert.UqBwRefIdeal.nD Cert.UqBwRefIdeal.τ).loc Cert.UqBwRefIdeal.main_arg1) = m ((c.tc : Thread Cert.UqBwIdeal.nD Cert.UqBwIdeal.τ).loc Cert.UqBwIdeal.main_arg1)) →
    ∃ (v0 : (c : Dev Cert.UqBwIdeal.nD) → Buf (Elt Ideal) ((c.tc : Thread Cert.UqBwIdeal.nD Cert.UqBwIdeal.τ).loc Cert.UqBwIdeal.main_v0)),
      θ_run (Cert.UqBwIdeal.defs (F := Ideal)) (onTc (τ := Cert.UqBwIdeal.τ) (Cert.UqBwIdeal.main (F := Ideal))) ⟨m, fun _ => 0, g⟩ (fun r => ∀ c : Dev Cert.UqBwIdeal.nD,
          r.2.mem ((c.tc : Thread Cert.UqBwIdeal.nD Cert.UqBwIdeal.τ).loc Cert.UqBwIdeal.main_v0) = v0 c
          ∧ r.2.mem ((c.tc : Thread Cert.UqBwIdeal.nD Cert.UqBwIdeal.τ).loc Cert.UqBwIdeal.main_arg0) = m ((c.tc : Thread Cert.UqBwIdeal.nD Cert.UqBwIdeal.τ).loc Cert.UqBwIdeal.main_arg0)
          ∧ r.2.mem ((c.tc : Thread Cert.UqBwIdeal.nD Cert.UqBwIdeal.τ).loc Cert.UqBwIdeal.main_arg1) = m ((c.tc : Thread Cert.UqBwIdeal.nD Cert.UqBwIdeal.τ).loc Cert.UqBwIdeal.main_arg1))
      ∧ θ_run (Cert.UqBwRefIdeal.defs (F := Ideal)) (onTc (τ := Cert.UqBwRefIdeal.τ) (Cert.UqBwRefIdeal.main (F := Ideal))) ⟨m', fun _ => 0, g'⟩ (fun r => ∀ c : Dev Cert.UqBwRefIdeal.nD,
          r.2.mem ((c.tc : Thread Cert.UqBwRefIdeal.nD Cert.UqBwRefIdeal.τ).loc Cert.UqBwRefIdeal.main_v3) = v0 c
          ∧ r.2.mem ((c.tc : Thread Cert.UqBwRefIdeal.nD Cert.UqBwRefIdeal.τ).loc Cert.UqBwRefIdeal.main_arg0) = m' ((c.tc : Thread Cert.UqBwRefIdeal.nD Cert.UqBwRefIdeal.τ).loc Cert.UqBwRefIdeal.main_arg0)
          ∧ r.2.mem ((c.tc : Thread Cert.UqBwRefIdeal.nD Cert.UqBwRefIdeal.τ).loc Cert.UqBwRefIdeal.main_arg1) = m' ((c.tc : Thread Cert.UqBwRefIdeal.nD Cert.UqBwRefIdeal.τ).loc Cert.UqBwRefIdeal.main_arg1))

def preserves_Ukv_UkvIdeal : Prop :=
  True

def algebraic_UkvIdeal_UkvRefIdeal [hUkvIdeal : Cert.UkvIdeal.Facts] [hUkvRefIdeal : Cert.UkvRefIdeal.Facts] : Prop :=
  ∀ (m : (ℓ : Loc Cert.UkvIdeal.nD Cert.UkvIdeal.τ Cert.UkvIdeal.sig) → Buf (Elt Ideal) ℓ) (g : Dev Cert.UkvIdeal.nD → PrngReg)
    (m' : (ℓ : Loc Cert.UkvRefIdeal.nD Cert.UkvRefIdeal.τ Cert.UkvRefIdeal.sig) → Buf (Elt Ideal) ℓ) (g' : Dev Cert.UkvRefIdeal.nD → PrngReg), Pre_UkvIdeal m →
    (∀ c : Dev Cert.UkvIdeal.nD,
      m' ((c.tc : Thread Cert.UkvRefIdeal.nD Cert.UkvRefIdeal.τ).loc Cert.UkvRefIdeal.main_arg0) = m ((c.tc : Thread Cert.UkvIdeal.nD Cert.UkvIdeal.τ).loc Cert.UkvIdeal.main_arg0)
      ∧ m' ((c.tc : Thread Cert.UkvRefIdeal.nD Cert.UkvRefIdeal.τ).loc Cert.UkvRefIdeal.main_arg1) = m ((c.tc : Thread Cert.UkvIdeal.nD Cert.UkvIdeal.τ).loc Cert.UkvIdeal.main_arg1)) →
    ∃ (v0 : (c : Dev Cert.UkvIdeal.nD) → Buf (Elt Ideal) ((c.tc : Thread Cert.UkvIdeal.nD Cert.UkvIdeal.τ).loc Cert.UkvIdeal.main_v0)),
      θ_run (Cert.UkvIdeal.defs (F := Ideal)) (onTc (τ := Cert.UkvIdeal.τ) (Cert.UkvIdeal.main (F := Ideal))) ⟨m, fun _ => 0, g⟩ (fun r => ∀ c : Dev Cert.UkvIdeal.nD,
          r.2.mem ((c.tc : Thread Cert.UkvIdeal.nD Cert.UkvIdeal.τ).loc Cert.UkvIdeal.main_v0) = v0 c
          ∧ r.2.mem ((c.tc : Thread Cert.UkvIdeal.nD Cert.UkvIdeal.τ).loc Cert.UkvIdeal.main_arg0) = m ((c.tc : Thread Cert.UkvIdeal.nD Cert.UkvIdeal.τ).loc Cert.UkvIdeal.main_arg0)
          ∧ r.2.mem ((c.tc : Thread Cert.UkvIdeal.nD Cert.UkvIdeal.τ).loc Cert.UkvIdeal.main_arg1) = m ((c.tc : Thread Cert.UkvIdeal.nD Cert.UkvIdeal.τ).loc Cert.UkvIdeal.main_arg1))
      ∧ θ_run (Cert.UkvRefIdeal.defs (F := Ideal)) (onTc (τ := Cert.UkvRefIdeal.τ) (Cert.UkvRefIdeal.main (F := Ideal))) ⟨m', fun _ => 0, g'⟩ (fun r => ∀ c : Dev Cert.UkvRefIdeal.nD,
          r.2.mem ((c.tc : Thread Cert.UkvRefIdeal.nD Cert.UkvRefIdeal.τ).loc Cert.UkvRefIdeal.main_v2) = v0 c
          ∧ r.2.mem ((c.tc : Thread Cert.UkvRefIdeal.nD Cert.UkvRefIdeal.τ).loc Cert.UkvRefIdeal.main_arg0) = m' ((c.tc : Thread Cert.UkvRefIdeal.nD Cert.UkvRefIdeal.τ).loc Cert.UkvRefIdeal.main_arg0)
          ∧ r.2.mem ((c.tc : Thread Cert.UkvRefIdeal.nD Cert.UkvRefIdeal.τ).loc Cert.UkvRefIdeal.main_arg1) = m' ((c.tc : Thread Cert.UkvRefIdeal.nD Cert.UkvRefIdeal.τ).loc Cert.UkvRefIdeal.main_arg1))

def preserves_UkvBx_UkvBxIdeal : Prop :=
  True

def algebraic_UkvBxIdeal_UkvBxRefIdeal [hUkvBxIdeal : Cert.UkvBxIdeal.Facts] [hUkvBxRefIdeal : Cert.UkvBxRefIdeal.Facts] : Prop :=
  ∀ (m : (ℓ : Loc Cert.UkvBxIdeal.nD Cert.UkvBxIdeal.τ Cert.UkvBxIdeal.sig) → Buf (Elt Ideal) ℓ) (g : Dev Cert.UkvBxIdeal.nD → PrngReg)
    (m' : (ℓ : Loc Cert.UkvBxRefIdeal.nD Cert.UkvBxRefIdeal.τ Cert.UkvBxRefIdeal.sig) → Buf (Elt Ideal) ℓ) (g' : Dev Cert.UkvBxRefIdeal.nD → PrngReg), Pre_UkvBxIdeal m →
    (∀ c : Dev Cert.UkvBxIdeal.nD,
      m' ((c.tc : Thread Cert.UkvBxRefIdeal.nD Cert.UkvBxRefIdeal.τ).loc Cert.UkvBxRefIdeal.main_arg0) = m ((c.tc : Thread Cert.UkvBxIdeal.nD Cert.UkvBxIdeal.τ).loc Cert.UkvBxIdeal.main_arg0)
      ∧ m' ((c.tc : Thread Cert.UkvBxRefIdeal.nD Cert.UkvBxRefIdeal.τ).loc Cert.UkvBxRefIdeal.main_arg1) = m ((c.tc : Thread Cert.UkvBxIdeal.nD Cert.UkvBxIdeal.τ).loc Cert.UkvBxIdeal.main_arg1)) →
    ∃ (v0 : (c : Dev Cert.UkvBxIdeal.nD) → Buf (Elt Ideal) ((c.tc : Thread Cert.UkvBxIdeal.nD Cert.UkvBxIdeal.τ).loc Cert.UkvBxIdeal.main_v0)),
      θ_run (Cert.UkvBxIdeal.defs (F := Ideal)) (onTc (τ := Cert.UkvBxIdeal.τ) (Cert.UkvBxIdeal.main (F := Ideal))) ⟨m, fun _ => 0, g⟩ (fun r => ∀ c : Dev Cert.UkvBxIdeal.nD,
          r.2.mem ((c.tc : Thread Cert.UkvBxIdeal.nD Cert.UkvBxIdeal.τ).loc Cert.UkvBxIdeal.main_v0) = v0 c
          ∧ r.2.mem ((c.tc : Thread Cert.UkvBxIdeal.nD Cert.UkvBxIdeal.τ).loc Cert.UkvBxIdeal.main_arg0) = m ((c.tc : Thread Cert.UkvBxIdeal.nD Cert.UkvBxIdeal.τ).loc Cert.UkvBxIdeal.main_arg0)
          ∧ r.2.mem ((c.tc : Thread Cert.UkvBxIdeal.nD Cert.UkvBxIdeal.τ).loc Cert.UkvBxIdeal.main_arg1) = m ((c.tc : Thread Cert.UkvBxIdeal.nD Cert.UkvBxIdeal.τ).loc Cert.UkvBxIdeal.main_arg1))
      ∧ θ_run (Cert.UkvBxRefIdeal.defs (F := Ideal)) (onTc (τ := Cert.UkvBxRefIdeal.τ) (Cert.UkvBxRefIdeal.main (F := Ideal))) ⟨m', fun _ => 0, g'⟩ (fun r => ∀ c : Dev Cert.UkvBxRefIdeal.nD,
          r.2.mem ((c.tc : Thread Cert.UkvBxRefIdeal.nD Cert.UkvBxRefIdeal.τ).loc Cert.UkvBxRefIdeal.main_v3) = v0 c
          ∧ r.2.mem ((c.tc : Thread Cert.UkvBxRefIdeal.nD Cert.UkvBxRefIdeal.τ).loc Cert.UkvBxRefIdeal.main_arg0) = m' ((c.tc : Thread Cert.UkvBxRefIdeal.nD Cert.UkvBxRefIdeal.τ).loc Cert.UkvBxRefIdeal.main_arg0)
          ∧ r.2.mem ((c.tc : Thread Cert.UkvBxRefIdeal.nD Cert.UkvBxRefIdeal.τ).loc Cert.UkvBxRefIdeal.main_arg1) = m' ((c.tc : Thread Cert.UkvBxRefIdeal.nD Cert.UkvBxRefIdeal.τ).loc Cert.UkvBxRefIdeal.main_arg1))

def preserves_UkvBw_UkvBwIdeal : Prop :=
  True

def algebraic_UkvBwIdeal_UkvBwRefIdeal [hUkvBwIdeal : Cert.UkvBwIdeal.Facts] [hUkvBwRefIdeal : Cert.UkvBwRefIdeal.Facts] : Prop :=
  ∀ (m : (ℓ : Loc Cert.UkvBwIdeal.nD Cert.UkvBwIdeal.τ Cert.UkvBwIdeal.sig) → Buf (Elt Ideal) ℓ) (g : Dev Cert.UkvBwIdeal.nD → PrngReg)
    (m' : (ℓ : Loc Cert.UkvBwRefIdeal.nD Cert.UkvBwRefIdeal.τ Cert.UkvBwRefIdeal.sig) → Buf (Elt Ideal) ℓ) (g' : Dev Cert.UkvBwRefIdeal.nD → PrngReg), Pre_UkvBwIdeal m →
    (∀ c : Dev Cert.UkvBwIdeal.nD,
      m' ((c.tc : Thread Cert.UkvBwRefIdeal.nD Cert.UkvBwRefIdeal.τ).loc Cert.UkvBwRefIdeal.main_arg0) = m ((c.tc : Thread Cert.UkvBwIdeal.nD Cert.UkvBwIdeal.τ).loc Cert.UkvBwIdeal.main_arg0)
      ∧ m' ((c.tc : Thread Cert.UkvBwRefIdeal.nD Cert.UkvBwRefIdeal.τ).loc Cert.UkvBwRefIdeal.main_arg1) = m ((c.tc : Thread Cert.UkvBwIdeal.nD Cert.UkvBwIdeal.τ).loc Cert.UkvBwIdeal.main_arg1)) →
    ∃ (v0 : (c : Dev Cert.UkvBwIdeal.nD) → Buf (Elt Ideal) ((c.tc : Thread Cert.UkvBwIdeal.nD Cert.UkvBwIdeal.τ).loc Cert.UkvBwIdeal.main_v0)),
      θ_run (Cert.UkvBwIdeal.defs (F := Ideal)) (onTc (τ := Cert.UkvBwIdeal.τ) (Cert.UkvBwIdeal.main (F := Ideal))) ⟨m, fun _ => 0, g⟩ (fun r => ∀ c : Dev Cert.UkvBwIdeal.nD,
          r.2.mem ((c.tc : Thread Cert.UkvBwIdeal.nD Cert.UkvBwIdeal.τ).loc Cert.UkvBwIdeal.main_v0) = v0 c
          ∧ r.2.mem ((c.tc : Thread Cert.UkvBwIdeal.nD Cert.UkvBwIdeal.τ).loc Cert.UkvBwIdeal.main_arg0) = m ((c.tc : Thread Cert.UkvBwIdeal.nD Cert.UkvBwIdeal.τ).loc Cert.UkvBwIdeal.main_arg0)
          ∧ r.2.mem ((c.tc : Thread Cert.UkvBwIdeal.nD Cert.UkvBwIdeal.τ).loc Cert.UkvBwIdeal.main_arg1) = m ((c.tc : Thread Cert.UkvBwIdeal.nD Cert.UkvBwIdeal.τ).loc Cert.UkvBwIdeal.main_arg1))
      ∧ θ_run (Cert.UkvBwRefIdeal.defs (F := Ideal)) (onTc (τ := Cert.UkvBwRefIdeal.τ) (Cert.UkvBwRefIdeal.main (F := Ideal))) ⟨m', fun _ => 0, g'⟩ (fun r => ∀ c : Dev Cert.UkvBwRefIdeal.nD,
          r.2.mem ((c.tc : Thread Cert.UkvBwRefIdeal.nD Cert.UkvBwRefIdeal.τ).loc Cert.UkvBwRefIdeal.main_v3) = v0 c
          ∧ r.2.mem ((c.tc : Thread Cert.UkvBwRefIdeal.nD Cert.UkvBwRefIdeal.τ).loc Cert.UkvBwRefIdeal.main_arg0) = m' ((c.tc : Thread Cert.UkvBwRefIdeal.nD Cert.UkvBwRefIdeal.τ).loc Cert.UkvBwRefIdeal.main_arg0)
          ∧ r.2.mem ((c.tc : Thread Cert.UkvBwRefIdeal.nD Cert.UkvBwRefIdeal.τ).loc Cert.UkvBwRefIdeal.main_arg1) = m' ((c.tc : Thread Cert.UkvBwRefIdeal.nD Cert.UkvBwRefIdeal.τ).loc Cert.UkvBwRefIdeal.main_arg1))

def Claim : Prop :=
  ∃ (hGather : Cert.Gather.Facts) (hGatherIdeal : Cert.GatherIdeal.Facts) (hGatherRefIdeal : Cert.GatherRefIdeal.Facts) (hGatherRef : Cert.GatherRef.Facts) (hSwap : Cert.Swap.Facts) (hSwapIdeal : Cert.SwapIdeal.Facts) (hSwapRefIdeal : Cert.SwapRefIdeal.Facts) (hSwapRef : Cert.SwapRef.Facts) (hScatter : Cert.Scatter.Facts) (hScatterIdeal : Cert.ScatterIdeal.Facts) (hScatterRefIdeal : Cert.ScatterRefIdeal.Facts) (hScatterRef : Cert.ScatterRef.Facts) (hShare : Cert.Share.Facts) (hShareIdeal : Cert.ShareIdeal.Facts) (hShareRefIdeal : Cert.ShareRefIdeal.Facts) (hShareRef : Cert.ShareRef.Facts) (hSmall : Cert.Small.Facts) (hSmallIdeal : Cert.SmallIdeal.Facts) (hSmallRefIdeal : Cert.SmallRefIdeal.Facts) (hSmallRef : Cert.SmallRef.Facts) (hAdamGate : Cert.AdamGate.Facts) (hAdamGateIdeal : Cert.AdamGateIdeal.Facts) (hAdamGateRefIdeal : Cert.AdamGateRefIdeal.Facts) (hAdamDown : Cert.AdamDown.Facts) (hAdamDownIdeal : Cert.AdamDownIdeal.Facts) (hAdamDownRefIdeal : Cert.AdamDownRefIdeal.Facts) (hAdamIn : Cert.AdamIn.Facts) (hAdamInIdeal : Cert.AdamInIdeal.Facts) (hAdamInRefIdeal : Cert.AdamInRefIdeal.Facts) (hAdamQ : Cert.AdamQ.Facts) (hAdamQIdeal : Cert.AdamQIdeal.Facts) (hAdamQRefIdeal : Cert.AdamQRefIdeal.Facts) (hAdamKv : Cert.AdamKv.Facts) (hAdamKvIdeal : Cert.AdamKvIdeal.Facts) (hAdamKvRefIdeal : Cert.AdamKvRefIdeal.Facts) (hAdamConv : Cert.AdamConv.Facts) (hAdamConvIdeal : Cert.AdamConvIdeal.Facts) (hAdamConvRefIdeal : Cert.AdamConvRefIdeal.Facts) (hAdamOut : Cert.AdamOut.Facts) (hAdamOutIdeal : Cert.AdamOutIdeal.Facts) (hAdamOutRefIdeal : Cert.AdamOutRefIdeal.Facts) (hAdamSmall : Cert.AdamSmall.Facts) (hAdamSmallIdeal : Cert.AdamSmallIdeal.Facts) (hAdamSmallRefIdeal : Cert.AdamSmallRefIdeal.Facts) (hAddPair : Cert.AddPair.Facts) (hAddPairIdeal : Cert.AddPairIdeal.Facts) (hAddPairRefIdeal : Cert.AddPairRefIdeal.Facts) (hAddPairRef : Cert.AddPairRef.Facts) (hAddChips : Cert.AddChips.Facts) (hAddChipsIdeal : Cert.AddChipsIdeal.Facts) (hAddChipsRefIdeal : Cert.AddChipsRefIdeal.Facts) (hGrads : Cert.Grads.Facts) (hGradsIdeal : Cert.GradsIdeal.Facts) (hGradsRefIdeal : Cert.GradsRefIdeal.Facts) (hGradsRef : Cert.GradsRef.Facts) (hLoss : Cert.Loss.Facts) (hLossIdeal : Cert.LossIdeal.Facts) (hLossRefIdeal : Cert.LossRefIdeal.Facts) (hNormBack : Cert.NormBack.Facts) (hNormBackIdeal : Cert.NormBackIdeal.Facts) (hNormBackRefIdeal : Cert.NormBackRefIdeal.Facts) (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hDownBx : Cert.DownBx.Facts) (hDownBxIdeal : Cert.DownBxIdeal.Facts) (hDownBxRefIdeal : Cert.DownBxRefIdeal.Facts) (hDownBw : Cert.DownBw.Facts) (hDownBwIdeal : Cert.DownBwIdeal.Facts) (hDownBwRefIdeal : Cert.DownBwRefIdeal.Facts) (hGateUpBx : Cert.GateUpBx.Facts) (hGateUpBxIdeal : Cert.GateUpBxIdeal.Facts) (hGateUpBxRefIdeal : Cert.GateUpBxRefIdeal.Facts) (hGateUpBw : Cert.GateUpBw.Facts) (hGateUpBwIdeal : Cert.GateUpBwIdeal.Facts) (hGateUpBwRefIdeal : Cert.GateUpBwRefIdeal.Facts) (hNorm : Cert.Norm.Facts) (hNormIdeal : Cert.NormIdeal.Facts) (hNormRefIdeal : Cert.NormRefIdeal.Facts) (hAct : Cert.Act.Facts) (hActIdeal : Cert.ActIdeal.Facts) (hActRefIdeal : Cert.ActRefIdeal.Facts) (hPost : Cert.Post.Facts) (hPostIdeal : Cert.PostIdeal.Facts) (hPostRefIdeal : Cert.PostRefIdeal.Facts) (hPostBack : Cert.PostBack.Facts) (hPostBackIdeal : Cert.PostBackIdeal.Facts) (hPostBackRefIdeal : Cert.PostBackRefIdeal.Facts) (hActBack : Cert.ActBack.Facts) (hActBackIdeal : Cert.ActBackIdeal.Facts) (hActBackRefIdeal : Cert.ActBackRefIdeal.Facts) (hMixIn : Cert.MixIn.Facts) (hMixInIdeal : Cert.MixInIdeal.Facts) (hMixInRefIdeal : Cert.MixInRefIdeal.Facts) (hMixInBx : Cert.MixInBx.Facts) (hMixInBxIdeal : Cert.MixInBxIdeal.Facts) (hMixInBxRefIdeal : Cert.MixInBxRefIdeal.Facts) (hMixInBw : Cert.MixInBw.Facts) (hMixInBwIdeal : Cert.MixInBwIdeal.Facts) (hMixInBwRefIdeal : Cert.MixInBwRefIdeal.Facts) (hMixOut : Cert.MixOut.Facts) (hMixOutIdeal : Cert.MixOutIdeal.Facts) (hMixOutRefIdeal : Cert.MixOutRefIdeal.Facts) (hMixOutBx : Cert.MixOutBx.Facts) (hMixOutBxIdeal : Cert.MixOutBxIdeal.Facts) (hMixOutBxRefIdeal : Cert.MixOutBxRefIdeal.Facts) (hMixOutBw : Cert.MixOutBw.Facts) (hMixOutBwIdeal : Cert.MixOutBwIdeal.Facts) (hMixOutBwRefIdeal : Cert.MixOutBwRefIdeal.Facts) (hUq : Cert.Uq.Facts) (hUqIdeal : Cert.UqIdeal.Facts) (hUqRefIdeal : Cert.UqRefIdeal.Facts) (hUqBx : Cert.UqBx.Facts) (hUqBxIdeal : Cert.UqBxIdeal.Facts) (hUqBxRefIdeal : Cert.UqBxRefIdeal.Facts) (hUqBw : Cert.UqBw.Facts) (hUqBwIdeal : Cert.UqBwIdeal.Facts) (hUqBwRefIdeal : Cert.UqBwRefIdeal.Facts) (hUkv : Cert.Ukv.Facts) (hUkvIdeal : Cert.UkvIdeal.Facts) (hUkvRefIdeal : Cert.UkvRefIdeal.Facts) (hUkvBx : Cert.UkvBx.Facts) (hUkvBxIdeal : Cert.UkvBxIdeal.Facts) (hUkvBxRefIdeal : Cert.UkvBxRefIdeal.Facts) (hUkvBw : Cert.UkvBw.Facts) (hUkvBwIdeal : Cert.UkvBwIdeal.Facts) (hUkvBwRefIdeal : Cert.UkvBwRefIdeal.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_Small (hSmall := hSmall)
    ∧ quiescent_SmallIdeal (hSmallIdeal := hSmallIdeal)
    ∧ quiescent_SmallRefIdeal (hSmallRefIdeal := hSmallRefIdeal)
    ∧ quiescent_SmallRef (hSmallRef := hSmallRef)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamQ (hAdamQ := hAdamQ)
    ∧ quiescent_AdamQIdeal (hAdamQIdeal := hAdamQIdeal)
    ∧ quiescent_AdamQRefIdeal (hAdamQRefIdeal := hAdamQRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamConv (hAdamConv := hAdamConv)
    ∧ quiescent_AdamConvIdeal (hAdamConvIdeal := hAdamConvIdeal)
    ∧ quiescent_AdamConvRefIdeal (hAdamConvRefIdeal := hAdamConvRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AddPair (hAddPair := hAddPair)
    ∧ quiescent_AddPairIdeal (hAddPairIdeal := hAddPairIdeal)
    ∧ quiescent_AddPairRefIdeal (hAddPairRefIdeal := hAddPairRefIdeal)
    ∧ quiescent_AddPairRef (hAddPairRef := hAddPairRef)
    ∧ quiescent_AddChips (hAddChips := hAddChips)
    ∧ quiescent_AddChipsIdeal (hAddChipsIdeal := hAddChipsIdeal)
    ∧ quiescent_AddChipsRefIdeal (hAddChipsRefIdeal := hAddChipsRefIdeal)
    ∧ quiescent_Grads (hGrads := hGrads)
    ∧ quiescent_GradsIdeal (hGradsIdeal := hGradsIdeal)
    ∧ quiescent_GradsRefIdeal (hGradsRefIdeal := hGradsRefIdeal)
    ∧ quiescent_GradsRef (hGradsRef := hGradsRef)
    ∧ quiescent_Loss (hLoss := hLoss)
    ∧ quiescent_LossIdeal (hLossIdeal := hLossIdeal)
    ∧ quiescent_LossRefIdeal (hLossRefIdeal := hLossRefIdeal)
    ∧ quiescent_NormBack (hNormBack := hNormBack)
    ∧ quiescent_NormBackIdeal (hNormBackIdeal := hNormBackIdeal)
    ∧ quiescent_NormBackRefIdeal (hNormBackRefIdeal := hNormBackRefIdeal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_DownBx (hDownBx := hDownBx)
    ∧ quiescent_DownBxIdeal (hDownBxIdeal := hDownBxIdeal)
    ∧ quiescent_DownBxRefIdeal (hDownBxRefIdeal := hDownBxRefIdeal)
    ∧ quiescent_DownBw (hDownBw := hDownBw)
    ∧ quiescent_DownBwIdeal (hDownBwIdeal := hDownBwIdeal)
    ∧ quiescent_DownBwRefIdeal (hDownBwRefIdeal := hDownBwRefIdeal)
    ∧ quiescent_GateUpBx (hGateUpBx := hGateUpBx)
    ∧ quiescent_GateUpBxIdeal (hGateUpBxIdeal := hGateUpBxIdeal)
    ∧ quiescent_GateUpBxRefIdeal (hGateUpBxRefIdeal := hGateUpBxRefIdeal)
    ∧ quiescent_GateUpBw (hGateUpBw := hGateUpBw)
    ∧ quiescent_GateUpBwIdeal (hGateUpBwIdeal := hGateUpBwIdeal)
    ∧ quiescent_GateUpBwRefIdeal (hGateUpBwRefIdeal := hGateUpBwRefIdeal)
    ∧ quiescent_Norm (hNorm := hNorm)
    ∧ quiescent_NormIdeal (hNormIdeal := hNormIdeal)
    ∧ quiescent_NormRefIdeal (hNormRefIdeal := hNormRefIdeal)
    ∧ quiescent_Act (hAct := hAct)
    ∧ quiescent_ActIdeal (hActIdeal := hActIdeal)
    ∧ quiescent_ActRefIdeal (hActRefIdeal := hActRefIdeal)
    ∧ quiescent_Post (hPost := hPost)
    ∧ quiescent_PostIdeal (hPostIdeal := hPostIdeal)
    ∧ quiescent_PostRefIdeal (hPostRefIdeal := hPostRefIdeal)
    ∧ quiescent_PostBack (hPostBack := hPostBack)
    ∧ quiescent_PostBackIdeal (hPostBackIdeal := hPostBackIdeal)
    ∧ quiescent_PostBackRefIdeal (hPostBackRefIdeal := hPostBackRefIdeal)
    ∧ quiescent_ActBack (hActBack := hActBack)
    ∧ quiescent_ActBackIdeal (hActBackIdeal := hActBackIdeal)
    ∧ quiescent_ActBackRefIdeal (hActBackRefIdeal := hActBackRefIdeal)
    ∧ quiescent_MixIn (hMixIn := hMixIn)
    ∧ quiescent_MixInIdeal (hMixInIdeal := hMixInIdeal)
    ∧ quiescent_MixInRefIdeal (hMixInRefIdeal := hMixInRefIdeal)
    ∧ quiescent_MixInBx (hMixInBx := hMixInBx)
    ∧ quiescent_MixInBxIdeal (hMixInBxIdeal := hMixInBxIdeal)
    ∧ quiescent_MixInBxRefIdeal (hMixInBxRefIdeal := hMixInBxRefIdeal)
    ∧ quiescent_MixInBw (hMixInBw := hMixInBw)
    ∧ quiescent_MixInBwIdeal (hMixInBwIdeal := hMixInBwIdeal)
    ∧ quiescent_MixInBwRefIdeal (hMixInBwRefIdeal := hMixInBwRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_MixOutBx (hMixOutBx := hMixOutBx)
    ∧ quiescent_MixOutBxIdeal (hMixOutBxIdeal := hMixOutBxIdeal)
    ∧ quiescent_MixOutBxRefIdeal (hMixOutBxRefIdeal := hMixOutBxRefIdeal)
    ∧ quiescent_MixOutBw (hMixOutBw := hMixOutBw)
    ∧ quiescent_MixOutBwIdeal (hMixOutBwIdeal := hMixOutBwIdeal)
    ∧ quiescent_MixOutBwRefIdeal (hMixOutBwRefIdeal := hMixOutBwRefIdeal)
    ∧ quiescent_Uq (hUq := hUq)
    ∧ quiescent_UqIdeal (hUqIdeal := hUqIdeal)
    ∧ quiescent_UqRefIdeal (hUqRefIdeal := hUqRefIdeal)
    ∧ quiescent_UqBx (hUqBx := hUqBx)
    ∧ quiescent_UqBxIdeal (hUqBxIdeal := hUqBxIdeal)
    ∧ quiescent_UqBxRefIdeal (hUqBxRefIdeal := hUqBxRefIdeal)
    ∧ quiescent_UqBw (hUqBw := hUqBw)
    ∧ quiescent_UqBwIdeal (hUqBwIdeal := hUqBwIdeal)
    ∧ quiescent_UqBwRefIdeal (hUqBwRefIdeal := hUqBwRefIdeal)
    ∧ quiescent_Ukv (hUkv := hUkv)
    ∧ quiescent_UkvIdeal (hUkvIdeal := hUkvIdeal)
    ∧ quiescent_UkvRefIdeal (hUkvRefIdeal := hUkvRefIdeal)
    ∧ quiescent_UkvBx (hUkvBx := hUkvBx)
    ∧ quiescent_UkvBxIdeal (hUkvBxIdeal := hUkvBxIdeal)
    ∧ quiescent_UkvBxRefIdeal (hUkvBxRefIdeal := hUkvBxRefIdeal)
    ∧ quiescent_UkvBw (hUkvBw := hUkvBw)
    ∧ quiescent_UkvBwIdeal (hUkvBwIdeal := hUkvBwIdeal)
    ∧ quiescent_UkvBwRefIdeal (hUkvBwRefIdeal := hUkvBwRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_Small_SmallIdeal
    ∧ algebraic_SmallIdeal_SmallRefIdeal (hSmallIdeal := hSmallIdeal) (hSmallRefIdeal := hSmallRefIdeal)
    ∧ bitexact_Small_SmallRef (hSmall := hSmall) (hSmallRef := hSmallRef)
    ∧ preserves_AdamGate_AdamGateIdeal
    ∧ algebraic_AdamGateIdeal_AdamGateRefIdeal (hAdamGateIdeal := hAdamGateIdeal) (hAdamGateRefIdeal := hAdamGateRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamIn_AdamInIdeal
    ∧ algebraic_AdamInIdeal_AdamInRefIdeal (hAdamInIdeal := hAdamInIdeal) (hAdamInRefIdeal := hAdamInRefIdeal)
    ∧ preserves_AdamQ_AdamQIdeal
    ∧ algebraic_AdamQIdeal_AdamQRefIdeal (hAdamQIdeal := hAdamQIdeal) (hAdamQRefIdeal := hAdamQRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamConv_AdamConvIdeal
    ∧ algebraic_AdamConvIdeal_AdamConvRefIdeal (hAdamConvIdeal := hAdamConvIdeal) (hAdamConvRefIdeal := hAdamConvRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AddPair_AddPairIdeal
    ∧ algebraic_AddPairIdeal_AddPairRefIdeal (hAddPairIdeal := hAddPairIdeal) (hAddPairRefIdeal := hAddPairRefIdeal)
    ∧ bitexact_AddPair_AddPairRef (hAddPair := hAddPair) (hAddPairRef := hAddPairRef)
    ∧ preserves_AddChips_AddChipsIdeal
    ∧ algebraic_AddChipsIdeal_AddChipsRefIdeal (hAddChipsIdeal := hAddChipsIdeal) (hAddChipsRefIdeal := hAddChipsRefIdeal)
    ∧ preserves_Grads_GradsIdeal
    ∧ algebraic_GradsIdeal_GradsRefIdeal (hGradsIdeal := hGradsIdeal) (hGradsRefIdeal := hGradsRefIdeal)
    ∧ bitexact_Grads_GradsRef (hGrads := hGrads) (hGradsRef := hGradsRef)
    ∧ preserves_Loss_LossIdeal
    ∧ algebraic_LossIdeal_LossRefIdeal (hLossIdeal := hLossIdeal) (hLossRefIdeal := hLossRefIdeal)
    ∧ preserves_NormBack_NormBackIdeal
    ∧ algebraic_NormBackIdeal_NormBackRefIdeal (hNormBackIdeal := hNormBackIdeal) (hNormBackRefIdeal := hNormBackRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_DownBx_DownBxIdeal
    ∧ algebraic_DownBxIdeal_DownBxRefIdeal (hDownBxIdeal := hDownBxIdeal) (hDownBxRefIdeal := hDownBxRefIdeal)
    ∧ preserves_DownBw_DownBwIdeal
    ∧ algebraic_DownBwIdeal_DownBwRefIdeal (hDownBwIdeal := hDownBwIdeal) (hDownBwRefIdeal := hDownBwRefIdeal)
    ∧ preserves_GateUpBx_GateUpBxIdeal
    ∧ algebraic_GateUpBxIdeal_GateUpBxRefIdeal (hGateUpBxIdeal := hGateUpBxIdeal) (hGateUpBxRefIdeal := hGateUpBxRefIdeal)
    ∧ preserves_GateUpBw_GateUpBwIdeal
    ∧ algebraic_GateUpBwIdeal_GateUpBwRefIdeal (hGateUpBwIdeal := hGateUpBwIdeal) (hGateUpBwRefIdeal := hGateUpBwRefIdeal)
    ∧ preserves_Norm_NormIdeal
    ∧ algebraic_NormIdeal_NormRefIdeal (hNormIdeal := hNormIdeal) (hNormRefIdeal := hNormRefIdeal)
    ∧ preserves_Act_ActIdeal
    ∧ algebraic_ActIdeal_ActRefIdeal (hActIdeal := hActIdeal) (hActRefIdeal := hActRefIdeal)
    ∧ preserves_Post_PostIdeal
    ∧ algebraic_PostIdeal_PostRefIdeal (hPostIdeal := hPostIdeal) (hPostRefIdeal := hPostRefIdeal)
    ∧ preserves_PostBack_PostBackIdeal
    ∧ algebraic_PostBackIdeal_PostBackRefIdeal (hPostBackIdeal := hPostBackIdeal) (hPostBackRefIdeal := hPostBackRefIdeal)
    ∧ preserves_ActBack_ActBackIdeal
    ∧ algebraic_ActBackIdeal_ActBackRefIdeal (hActBackIdeal := hActBackIdeal) (hActBackRefIdeal := hActBackRefIdeal)
    ∧ preserves_MixIn_MixInIdeal
    ∧ algebraic_MixInIdeal_MixInRefIdeal (hMixInIdeal := hMixInIdeal) (hMixInRefIdeal := hMixInRefIdeal)
    ∧ preserves_MixInBx_MixInBxIdeal
    ∧ algebraic_MixInBxIdeal_MixInBxRefIdeal (hMixInBxIdeal := hMixInBxIdeal) (hMixInBxRefIdeal := hMixInBxRefIdeal)
    ∧ preserves_MixInBw_MixInBwIdeal
    ∧ algebraic_MixInBwIdeal_MixInBwRefIdeal (hMixInBwIdeal := hMixInBwIdeal) (hMixInBwRefIdeal := hMixInBwRefIdeal)
    ∧ preserves_MixOut_MixOutIdeal
    ∧ algebraic_MixOutIdeal_MixOutRefIdeal (hMixOutIdeal := hMixOutIdeal) (hMixOutRefIdeal := hMixOutRefIdeal)
    ∧ preserves_MixOutBx_MixOutBxIdeal
    ∧ algebraic_MixOutBxIdeal_MixOutBxRefIdeal (hMixOutBxIdeal := hMixOutBxIdeal) (hMixOutBxRefIdeal := hMixOutBxRefIdeal)
    ∧ preserves_MixOutBw_MixOutBwIdeal
    ∧ algebraic_MixOutBwIdeal_MixOutBwRefIdeal (hMixOutBwIdeal := hMixOutBwIdeal) (hMixOutBwRefIdeal := hMixOutBwRefIdeal)
    ∧ preserves_Uq_UqIdeal
    ∧ algebraic_UqIdeal_UqRefIdeal (hUqIdeal := hUqIdeal) (hUqRefIdeal := hUqRefIdeal)
    ∧ preserves_UqBx_UqBxIdeal
    ∧ algebraic_UqBxIdeal_UqBxRefIdeal (hUqBxIdeal := hUqBxIdeal) (hUqBxRefIdeal := hUqBxRefIdeal)
    ∧ preserves_UqBw_UqBwIdeal
    ∧ algebraic_UqBwIdeal_UqBwRefIdeal (hUqBwIdeal := hUqBwIdeal) (hUqBwRefIdeal := hUqBwRefIdeal)
    ∧ preserves_Ukv_UkvIdeal
    ∧ algebraic_UkvIdeal_UkvRefIdeal (hUkvIdeal := hUkvIdeal) (hUkvRefIdeal := hUkvRefIdeal)
    ∧ preserves_UkvBx_UkvBxIdeal
    ∧ algebraic_UkvBxIdeal_UkvBxRefIdeal (hUkvBxIdeal := hUkvBxIdeal) (hUkvBxRefIdeal := hUkvBxRefIdeal)
    ∧ preserves_UkvBw_UkvBwIdeal
    ∧ algebraic_UkvBwIdeal_UkvBwRefIdeal (hUkvBwIdeal := hUkvBwIdeal) (hUkvBwRefIdeal := hUkvBwRefIdeal)
-- ==== Gather.lean ====
abbrev S5184x1024 : Shape := ⟨2, ![5184, 1024]⟩
abbrev S4x5184x1024 : Shape := ⟨3, ![4, 5184, 1024]⟩
abbrev S3 : Shape := ⟨1, ![3]⟩
abbrev S_ : Shape := ⟨0, ![]⟩
abbrev S1x5184x1024 : Shape := ⟨3, ![1, 5184, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S5184x1024, .bf16⟩
  | .hbm, ⟨1, _⟩ => ⟨S4x5184x1024, .bf16⟩
  | _, _ => ⟨S5184x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_dev1 (d0 : Dev nD) : Nat :=
  let c0_i32_15 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_14 : BitVec 32 := 4#32
  let v23 : BitVec 32 := Scalar.muli v9 c4_i32_14
  let v24 : BitVec 32 := Scalar.addi c0_i32_15 v23
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v25 : BitVec 32 := Scalar.muli v5 c2_i32_16
  let v26 : BitVec 32 := Scalar.addi v24 v25
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v27 : BitVec 32 := Scalar.muli v8 c1_i32_17
  let v28 : BitVec 32 := Scalar.addi v26 v27
  v28.toNat
def k0_dev2 (d0 : Dev nD) : Nat :=
  let c0_i32_23 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_22 : BitVec 32 := 4#32
  let v35 : BitVec 32 := Scalar.muli v2 c4_i32_22
  let v36 : BitVec 32 := Scalar.addi c0_i32_23 v35
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_24 : BitVec 32 := 2#32
  let v37 : BitVec 32 := Scalar.muli v10 c2_i32_24
  let v38 : BitVec 32 := Scalar.addi v36 v37
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_25 : BitVec 32 := 1#32
  let v39 : BitVec 32 := Scalar.muli v8 c1_i32_25
  let v40 : BitVec 32 := Scalar.addi v38 v39
  v40.toNat
def k0_dev3 (d0 : Dev nD) : Nat :=
  let c0_i32_31 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_30 : BitVec 32 := 4#32
  let v47 : BitVec 32 := Scalar.muli v11 c4_i32_30
  let v48 : BitVec 32 := Scalar.addi c0_i32_31 v47
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_32 : BitVec 32 := 2#32
  let v49 : BitVec 32 := Scalar.muli v12 c2_i32_32
  let v50 : BitVec 32 := Scalar.addi v48 v49
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_33 : BitVec 32 := 1#32
  let v51 : BitVec 32 := Scalar.muli v8 c1_i32_33
  let v52 : BitVec 32 := Scalar.addi v50 v51
  v52.toNat
def k0_off2 (d0 : Dev nD) : Fin 3 → Nat :=
  let c2_i32_36 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v59 : BitVec 32 := Scalar.muli c2_i32_36 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v60 : BitVec 32 := Scalar.addi v59 v5
  let c0_i32_43 : BitVec 32 := 0#32
  let c0_i32_44 : BitVec 32 := 0#32
  ![v60.toNat, 0, 0]
def k0_off3 (d0 : Dev nD) : Fin 3 → Nat :=
  let c2_i32_45 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v71 : BitVec 32 := Scalar.muli c2_i32_45 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v72 : BitVec 32 := Scalar.addi v71 v10
  let c0_i32_52 : BitVec 32 := 0#32
  let c0_i32_53 : BitVec 32 := 0#32
  ![v72.toNat, 0, 0]
def k0_off4 (d0 : Dev nD) : Fin 3 → Nat :=
  let c2_i32_54 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v83 : BitVec 32 := Scalar.muli c2_i32_54 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v84 : BitVec 32 := Scalar.addi v83 v12
  let c0_i32_61 : BitVec 32 := 0#32
  let c0_i32_62 : BitVec 32 := 0#32
  ![v84.toNat, 0, 0]
-- ==== GatherRef.lean ====
abbrev S20736x1024 : Shape := ⟨2, ![20736, 1024]⟩
abbrev S4x5184x1024 : Shape := ⟨3, ![4, 5184, 1024]⟩

abbrev nBuf : Space → Nat
  | .hbm => 2
  | .vmem => 0
  | .smem => 0
  | _ => 0

abbrev bufTy : (tb : Table) → Fin (tcTables nBuf tb) → BufTy
  | .hbm, ⟨0, _⟩ => ⟨S20736x1024, .bf16⟩
  | .hbm, ⟨1, _⟩ => ⟨S4x5184x1024, .bf16⟩
  | _, _ => ⟨S20736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Swap.lean ====
abbrev S4x2592x1024 : Shape := ⟨3, ![4, 2592, 1024]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S4x2592x1024, .bf16⟩
  | .hbm, ⟨1, _⟩ => ⟨S4x2592x1024, .bf16⟩
  | _, _ => ⟨S4x2592x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_4 : BitVec 32 := 4#32
  let v10 : BitVec 32 := Scalar.muli v2 c4_i32_4
  let v11 : BitVec 32 := Scalar.addi c0_i32 v10
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_5 : BitVec 32 := 2#32
  let v12 : BitVec 32 := Scalar.muli v5 c2_i32_5
  let v13 : BitVec 32 := Scalar.addi v11 v12
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_6 : BitVec 32 := 1#32
  let v14 : BitVec 32 := Scalar.muli v9 c1_i32_6
  let v15 : BitVec 32 := Scalar.addi v13 v14
  v15.toNat
-- ==== SwapRef.lean ====
abbrev S32x2592x1024 : Shape := ⟨3, ![32, 2592, 1024]⟩
abbrev S4x2x4x2592x1024 : Shape := ⟨5, ![4, 2, 4, 2592, 1024]⟩
abbrev S4x1x4x2592x1024 : Shape := ⟨5, ![4, 1, 4, 2592, 1024]⟩

abbrev nBuf : Space → Nat
  | .hbm => 6
  | .vmem => 0
  | .smem => 0
  | _ => 0

abbrev bufTy : (tb : Table) → Fin (tcTables nBuf tb) → BufTy
  | .hbm, ⟨0, _⟩ => ⟨S32x2592x1024, .bf16⟩
  | .hbm, ⟨1, _⟩ => ⟨S4x2x4x2592x1024, .bf16⟩
  | .hbm, ⟨2, _⟩ => ⟨S4x1x4x2592x1024, .bf16⟩
  | .hbm, ⟨3, _⟩ => ⟨S4x1x4x2592x1024, .bf16⟩
  | .hbm, ⟨4, _⟩ => ⟨S4x2x4x2592x1024, .bf16⟩
  | .hbm, ⟨5, _⟩ => ⟨S32x2592x1024, .bf16⟩
  | _, _ => ⟨S32x2592x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩

abbrev nD : Nat := 1
abbrev τ : Topo := Topo.v7x

variable {F : FTy → Type} [FloatOps F]
-- ==== Scatter.lean ====
abbrev S4x2592x1024 : Shape := ⟨3, ![4, 2592, 1024]⟩
abbrev S3 : Shape := ⟨1, ![3]⟩
abbrev S_ : Shape := ⟨0, ![]⟩
abbrev S1x2592x1024 : Shape := ⟨3, ![1, 2592, 1024]⟩
abbrev S2592x1024 : Shape := ⟨2, ![2592, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x2592x1024, .bf16⟩
  | .hbm, ⟨1, _⟩ => ⟨S4x2592x1024, .bf16⟩
  | _, _ => ⟨S4x2592x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32 : BitVec 32 := 0#32
  let c0_i32_8 : BitVec 32 := 0#32
  ![v10.toNat, 0, 0]
def k0_off2 (d0 : Dev nD) : Fin 3 → Nat :=
  let c2_i32_11 : BitVec 32 := 2#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let v19 : BitVec 32 := Scalar.muli c2_i32_11 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_4 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_4 v2
  let c4_i32_16 : BitVec 32 := 4#32
  let v25 : BitVec 32 := Scalar.muli v11 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let v22 : BitVec 32 := Scalar.addi v21 v12
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_5 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_5 v5
  let c2_i32_28 : BitVec 32 := 2#32
  let v41 : BitVec 32 := Scalar.muli v12 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let v23 : BitVec 32 := Scalar.muli c2_i32_13 v13
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v24 : BitVec 32 := Scalar.addi v23 v14
  let c0_i32_42 : BitVec 32 := 0#32
  let c0_i32_43 : BitVec 32 := 0#32
  ![v24.toNat, 0, 0]
def k0_dev3 (d0 : Dev nD) : Nat :=
  let c0_i32_37 : BitVec 32 := 0#32
  let c1_i32_6 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.subi c1_i32_6 v2
  let c4_i32_36 : BitVec 32 := 4#32
  let v53 : BitVec 32 := Scalar.muli v13 c4_i32_36
  let v54 : BitVec 32 := Scalar.addi c0_i32_37 v53
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let c2_i32_38 : BitVec 32 := 2#32
  let v55 : BitVec 32 := Scalar.muli v14 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ScatterRef.lean ====
abbrev S32x2592x1024 : Shape := ⟨3, ![32, 2592, 1024]⟩
abbrev S4x2x4x2592x1024 : Shape := ⟨5, ![4, 2, 4, 2592, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x2592x1024, .bf16⟩
  | .hbm, ⟨1, _⟩ => ⟨S4x2x4x2592x1024, .bf16⟩
  | .hbm, ⟨2, _⟩ => ⟨S4x2x4x2592x1024, .bf16⟩
  | .hbm, ⟨3, _⟩ => ⟨S32x2592x1024, .bf16⟩
  | _, _ => ⟨S32x2592x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Share.lean ====
abbrev S2592x1024 : Shape := ⟨2, ![2592, 1024]⟩
abbrev S2x2592x1024 : Shape := ⟨3, ![2, 2592, 1024]⟩
abbrev S_ : Shape := ⟨0, ![]⟩
abbrev S1x2592x1024 : Shape := ⟨3, ![1, 2592, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2592x1024, .f32⟩
  | .hbm, ⟨1, _⟩ => ⟨S2x2592x1024, .f32⟩
  | _, _ => ⟨S2592x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== ShareRef.lean ====
abbrev S20736x1024 : Shape := ⟨2, ![20736, 1024]⟩
abbrev S8x2592x1024 : Shape := ⟨3, ![8, 2592, 1024]⟩

abbrev nBuf : Space → Nat
  | .hbm => 2
  | .vmem => 0
  | .smem => 0
  | _ => 0

abbrev bufTy : (tb : Table) → Fin (tcTables nBuf tb) → BufTy
  | .hbm, ⟨0, _⟩ => ⟨S20736x1024, .f32⟩
  | .hbm, ⟨1, _⟩ => ⟨S8x2592x1024, .f32⟩
  | _, _ => ⟨S20736x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Small.lean ====
abbrev S16x1024 : Shape := ⟨2, ![16, 1024]⟩
abbrev S8x16x1024 : Shape := ⟨3, ![8, 16, 1024]⟩
abbrev S7 : Shape := ⟨1, ![7]⟩
abbrev S_ : Shape := ⟨0, ![]⟩
abbrev S1x16x1024 : Shape := ⟨3, ![1, 16, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S8x16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c4_i32_3 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c4_i32_3 v2
  let c2_i32_4 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.muli c2_i32_4 v5
  let v11 : BitVec 32 := Scalar.addi v9 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.addi v11 v8
  let c0_i32_25 : BitVec 32 := 0#32
  let c0_i32_26 : BitVec 32 := 0#32
  ![v12.toNat, 0, 0]
def k0_dev1 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32 : BitVec 32 := 0#32
  let v13 : BitVec 32 := Scalar.xori v2 c0_i32
  let c4_i32_29 : BitVec 32 := 4#32
  let v36 : BitVec 32 := Scalar.muli v13 c4_i32_29
  let v37 : BitVec 32 := Scalar.addi c0_i32_30 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_5 : BitVec 32 := 0#32
  let v14 : BitVec 32 := Scalar.xori v5 c0_i32_5
  let c2_i32_31 : BitVec 32 := 2#32
  let v38 : BitVec 32 := Scalar.muli v14 c2_i32_31
  let v39 : BitVec 32 := Scalar.addi v37 v38
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_6 : BitVec 32 := 1#32
  let v15 : BitVec 32 := Scalar.xori v8 c1_i32_6
  let c1_i32_32 : BitVec 32 := 1#32
  let v40 : BitVec 32 := Scalar.muli v15 c1_i32_32
  let v41 : BitVec 32 := Scalar.addi v39 v40
  v41.toNat
def k0_dev2 (d0 : Dev nD) : Nat :=
  let c0_i32_38 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_7 : BitVec 32 := 0#32
  let v16 : BitVec 32 := Scalar.xori v2 c0_i32_7
  let c4_i32_37 : BitVec 32 := 4#32
  let v48 : BitVec 32 := Scalar.muli v16 c4_i32_37
  let v49 : BitVec 32 := Scalar.addi c0_i32_38 v48
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_8 : BitVec 32 := 1#32
  let v17 : BitVec 32 := Scalar.xori v5 c1_i32_8
  let c2_i32_39 : BitVec 32 := 2#32
  let v50 : BitVec 32 := Scalar.muli v17 c2_i32_39
  let v51 : BitVec 32 := Scalar.addi v49 v50
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_9 : BitVec 32 := 0#32
  let v18 : BitVec 32 := Scalar.xori v8 c0_i32_9
  let c1_i32_40 : BitVec 32 := 1#32
  let v52 : BitVec 32 := Scalar.muli v18 c1_i32_40
  let v53 : BitVec 32 := Scalar.addi v51 v52
  v53.toNat
def k0_dev3 (d0 : Dev nD) : Nat :=
  let c0_i32_46 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_10 : BitVec 32 := 0#32
  let v19 : BitVec 32 := Scalar.xori v2 c0_i32_10
  let c4_i32_45 : BitVec 32 := 4#32
  let v60 : BitVec 32 := Scalar.muli v19 c4_i32_45
  let v61 : BitVec 32 := Scalar.addi c0_i32_46 v60
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_11 : BitVec 32 := 1#32
  let v20 : BitVec 32 := Scalar.xori v5 c1_i32_11
  let c2_i32_47 : BitVec 32 := 2#32
  let v62 : BitVec 32 := Scalar.muli v20 c2_i32_47
  let v63 : BitVec 32 := Scalar.addi v61 v62
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_12 : BitVec 32 := 1#32
  let v21 : BitVec 32 := Scalar.xori v8 c1_i32_12
  let c1_i32_48 : BitVec 32 := 1#32
  let v64 : BitVec 32 := Scalar.muli v21 c1_i32_48
  let v65 : BitVec 32 := Scalar.addi v63 v64
  v65.toNat
def k0_dev4 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_13 : BitVec 32 := 1#32
  let v22 : BitVec 32 := Scalar.xori v2 c1_i32_13
  let c4_i32_52 : BitVec 32 := 4#32
  let v72 : BitVec 32 := Scalar.muli v22 c4_i32_52
  let v73 : BitVec 32 := Scalar.addi c0_i32_53 v72
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v23 : BitVec 32 := Scalar.xori v5 c0_i32_14
  let c2_i32_54 : BitVec 32 := 2#32
  let v74 : BitVec 32 := Scalar.muli v23 c2_i32_54
  let v75 : BitVec 32 := Scalar.addi v73 v74
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_15 : BitVec 32 := 0#32
  let v24 : BitVec 32 := Scalar.xori v8 c0_i32_15
  let c1_i32_55 : BitVec 32 := 1#32
  let v76 : BitVec 32 := Scalar.muli v24 c1_i32_55
  let v77 : BitVec 32 := Scalar.addi v75 v76
  v77.toNat
def k0_dev5 (d0 : Dev nD) : Nat :=
  let c0_i32_61 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_16 : BitVec 32 := 1#32
  let v25 : BitVec 32 := Scalar.xori v2 c1_i32_16
  let c4_i32_60 : BitVec 32 := 4#32
  let v84 : BitVec 32 := Scalar.muli v25 c4_i32_60
  let v85 : BitVec 32 := Scalar.addi c0_i32_61 v84
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_17 : BitVec 32 := 0#32
  let v26 : BitVec 32 := Scalar.xori v5 c0_i32_17
  let c2_i32_62 : BitVec 32 := 2#32
  let v86 : BitVec 32 := Scalar.muli v26 c2_i32_62
  let v87 : BitVec 32 := Scalar.addi v85 v86
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_18 : BitVec 32 := 1#32
  let v27 : BitVec 32 := Scalar.xori v8 c1_i32_18
  let c1_i32_63 : BitVec 32 := 1#32
  let v88 : BitVec 32 := Scalar.muli v27 c1_i32_63
  let v89 : BitVec 32 := Scalar.addi v87 v88
  v89.toNat
def k0_dev6 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_19 : BitVec 32 := 1#32
  let v28 : BitVec 32 := Scalar.xori v2 c1_i32_19
  let c4_i32_67 : BitVec 32 := 4#32
  let v96 : BitVec 32 := Scalar.muli v28 c4_i32_67
  let v97 : BitVec 32 := Scalar.addi c0_i32_68 v96
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_20 : BitVec 32 := 1#32
  let v29 : BitVec 32 := Scalar.xori v5 c1_i32_20
  let c2_i32_69 : BitVec 32 := 2#32
  let v98 : BitVec 32 := Scalar.muli v29 c2_i32_69
  let v99 : BitVec 32 := Scalar.addi v97 v98
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_21 : BitVec 32 := 0#32
  let v30 : BitVec 32 := Scalar.xori v8 c0_i32_21
  let c1_i32_70 : BitVec 32 := 1#32
  let v100 : BitVec 32 := Scalar.muli v30 c1_i32_70
  let v101 : BitVec 32 := Scalar.addi v99 v100
  v101.toNat
def k0_dev7 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_22 : BitVec 32 := 1#32
  let v31 : BitVec 32 := Scalar.xori v2 c1_i32_22
  let c4_i32_74 : BitVec 32 := 4#32
  let v108 : BitVec 32 := Scalar.muli v31 c4_i32_74
  let v109 : BitVec 32 := Scalar.addi c0_i32_75 v108
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_23 : BitVec 32 := 1#32
  let v32 : BitVec 32 := Scalar.xori v5 c1_i32_23
  let c2_i32_76 : BitVec 32 := 2#32
  let v110 : BitVec 32 := Scalar.muli v32 c2_i32_76
  let v111 : BitVec 32 := Scalar.addi v109 v110
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_24 : BitVec 32 := 1#32
  let v33 : BitVec 32 := Scalar.xori v8 c1_i32_24
  let c1_i32_77 : BitVec 32 := 1#32
  let v112 : BitVec 32 := Scalar.muli v33 c1_i32_77
  let v113 : BitVec 32 := Scalar.addi v111 v112
  v113.toNat
def k0_off2 (d0 : Dev nD) (c0_i32 : BitVec 32) (c0_i32_5 : BitVec 32) (c1_i32_6 : BitVec 32) : Fin 3 → Nat :=
  let c4_i32_80 : BitVec 32 := 4#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.xori v2 c0_i32
  let v120 : BitVec 32 := Scalar.muli c4_i32_80 v13
  let c2_i32_81 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.xori v5 c0_i32_5
  let v121 : BitVec 32 := Scalar.muli c2_i32_81 v14
  let v122 : BitVec 32 := Scalar.addi v120 v121
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.xori v8 c1_i32_6
  let v123 : BitVec 32 := Scalar.addi v122 v15
  let c0_i32_88 : BitVec 32 := 0#32
  let c0_i32_89 : BitVec 32 := 0#32
  ![v123.toNat, 0, 0]
def k0_off2_at (r : Fin 7) : BitVec 32 × BitVec 32 × BitVec 32 :=
  if r.val < 3 then
    if r.val < 1 then
      (0#32, 0#32, 1#32)
    else
      if r.val < 2 then
        (0#32, 1#32, 0#32)
      else
        (0#32, 1#32, 1#32)
  else
    if r.val < 5 then
      if r.val < 4 then
        (1#32, 0#32, 0#32)
      else
        (1#32, 0#32, 1#32)
    else
      if r.val < 6 then
        (1#32, 1#32, 0#32)
      else
        (1#32, 1#32, 1#32)
-- ==== SmallRef.lean ====
abbrev S128x1024 : Shape := ⟨2, ![128, 1024]⟩
abbrev S8x16x1024 : Shape := ⟨3, ![8, 16, 1024]⟩

abbrev nBuf : Space → Nat
  | .hbm => 2
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S8x16x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== AdamGate.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateIdeal.lean ====
abbrev S1024x704 : Shape := ⟨2, ![1024, 704]⟩
abbrev S256x704 : Shape := ⟨2, ![256, 704]⟩

abbrev nBuf : Space → Nat
  | .hbm => 7
  | .vmem => 14
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S1024x704, .f32⟩
  | .local _ .vmem, ⟨0, _⟩ => ⟨S256x704, .f32⟩
  | .local _ .vmem, ⟨1, _⟩ => ⟨S256x704, .f32⟩
  | .local _ .vmem, ⟨2, _⟩ => ⟨S256x704, .f32⟩
  | .local _ .vmem, ⟨3, _⟩ => ⟨S256x704, .f32⟩
  | .local _ .vmem, ⟨4, _⟩ => ⟨S256x704, .f32⟩
  | .local _ .vmem, ⟨5, _⟩ => ⟨S256x704, .f32⟩
  | .local _ .vmem, ⟨6, _⟩ => ⟨S256x704, .f32⟩
  | .local _ .vmem, ⟨7, _⟩ => ⟨S256x704, .f32⟩
  | .local _ .vmem, ⟨8, _⟩ => ⟨S256x704, .f32⟩
  | .local _ .vmem, ⟨9, _⟩ => ⟨S256x704, .f32⟩
  | .local _ .vmem, ⟨10, _⟩ => ⟨S256x704, .f32⟩
  | .local _ .vmem, ⟨11, _⟩ => ⟨S256x704, .f32⟩
  | .local _ .vmem, ⟨12, _⟩ => ⟨S256x704, .f32⟩
  | .local _ .vmem, ⟨13, _⟩ => ⟨S256x704, .f32⟩
  | _, _ => ⟨S1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamGateRefIdeal.lean ====
abbrev S1024x704 : Shape := ⟨2, ![1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x704, .f32⟩
  | .hbm, ⟨1, _⟩ => ⟨S1024x704, .f32⟩
  | .hbm, ⟨2, _⟩ => ⟨S1024x704, .f32⟩
  | .hbm, ⟨3, _⟩ => ⟨S1024x704, .f32⟩
  | .hbm, ⟨4, _⟩ => ⟨S_, .f32⟩
  | .hbm, ⟨5, _⟩ => ⟨S1024x704, .f32⟩
  | .hbm, ⟨6, _⟩ => ⟨S1024x704, .f32⟩
  | .hbm, ⟨7, _⟩ => ⟨S_, .f32⟩
  | .hbm, ⟨8, _⟩ => ⟨S1024x704, .f32⟩
  | .hbm, ⟨9, _⟩ => ⟨S1024x704, .f32⟩
  | .hbm, ⟨10, _⟩ => ⟨S1024x704, .f32⟩
  | .hbm, ⟨11, _⟩ => ⟨S_, .f32⟩
  | .hbm, ⟨12, _⟩ => ⟨S1024x704, .f32⟩
  | .hbm, ⟨13, _⟩ => ⟨S1024x704, .f32⟩
  | .hbm, ⟨14, _⟩ => ⟨S1024x704, .f32⟩
  | .hbm, ⟨15, _⟩ => ⟨S_, .f32⟩
  | .hbm, ⟨16, _⟩ => ⟨S1024x704, .f32⟩
  | .hbm, ⟨17, _⟩ => ⟨S1024x704, .f32⟩
  | .hbm, ⟨18, _⟩ => ⟨S1024x704, .f32⟩
  | .hbm, ⟨19, _⟩ => ⟨S_, .f32⟩
  | .hbm, ⟨20, _⟩ => ⟨S1024x704, .f32⟩
  | .hbm, ⟨21, _⟩ => ⟨S1024x704, .f32⟩
  | .hbm, ⟨22, _⟩ => ⟨S_, .f32⟩
  | .hbm, ⟨23, _⟩ => ⟨S1024x704, .f32⟩
  | .hbm, ⟨24, _⟩ => ⟨S1024x704, .f32⟩
  | .hbm, ⟨25, _⟩ => ⟨S1024x704, .f32⟩
  | .hbm, ⟨26, _⟩ => ⟨S_, .f32⟩
  | .hbm, ⟨27, _⟩ => ⟨S1024x704, .f32⟩
  | .hbm, ⟨28, _⟩ => ⟨S1024x704, .f32⟩
  | .hbm, ⟨29, _⟩ => ⟨S1024x704, .f32⟩
  | .hbm, ⟨30, _⟩ => ⟨S_, .f32⟩
  | .hbm, ⟨31, _⟩ => ⟨S1024x704, .f32⟩
  | .hbm, ⟨32, _⟩ => ⟨S1024x704, .f32⟩
  | .hbm, ⟨33, _⟩ => ⟨S1024x704, .f32⟩
  | .hbm, ⟨34, _⟩ => ⟨S_, .f32⟩
  | .hbm, ⟨35, _⟩ => ⟨S1024x704, .f32⟩
  | .hbm, ⟨36, _⟩ => ⟨S1024x704, .f32⟩
  | _, _ => ⟨S1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownIdeal.lean ====
abbrev S704x1024 : Shape := ⟨2, ![704, 1024]⟩
abbrev S176x1024 : Shape := ⟨2, ![176, 1024]⟩

abbrev nBuf : Space → Nat
  | .hbm => 7
  | .vmem => 14
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamDownRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1024x620 : Shape := ⟨2, ![1024, 620]⟩
abbrev S256x620 : Shape := ⟨2, ![256, 620]⟩

abbrev nBuf : Space → Nat
  | .hbm => 7
  | .vmem => 14
  | .smem => 0
  | _ => 0

abbrev bufTy : (tb : Table) → Fin (tcTables nBuf tb) → BufTy
  | .hbm, ⟨0, _⟩ => ⟨S1024x620, .f32⟩
  | .hbm, ⟨1, _⟩ => ⟨S1024x620, .f32⟩
  | .hbm, ⟨2, _⟩ => ⟨S1024x620, .f32⟩
  | .hbm, ⟨3, _⟩ => ⟨S1024x620, .f32⟩
  | .hbm, ⟨4, _⟩ => ⟨S1024x620, .f32⟩
  | .hbm, ⟨5, _⟩ => ⟨S1024x620, .f32⟩
  | .hbm, ⟨6, _⟩ => ⟨S1024x620, .f32⟩
  | .local _ .vmem, ⟨0, _⟩ => ⟨S256x620, .f32⟩
  | .local _ .vmem, ⟨1, _⟩ => ⟨S256x620, .f32⟩
  | .local _ .vmem, ⟨2, _⟩ => ⟨S256x620, .f32⟩
  | .local _ .vmem, ⟨3, _⟩ => ⟨S256x620, .f32⟩
  | .local _ .vmem, ⟨4, _⟩ => ⟨S256x620, .f32⟩
  | .local _ .vmem, ⟨5, _⟩ => ⟨S256x620, .f32⟩
  | .local _ .vmem, ⟨6, _⟩ => ⟨S256x620, .f32⟩
  | .local _ .vmem, ⟨7, _⟩ => ⟨S256x620, .f32⟩
  | .local _ .vmem, ⟨8, _⟩ => ⟨S256x620, .f32⟩
  | .local _ .vmem, ⟨9, _⟩ => ⟨S256x620, .f32⟩
  | .local _ .vmem, ⟨10, _⟩ => ⟨S256x620, .f32⟩
  | .local _ .vmem, ⟨11, _⟩ => ⟨S256x620, .f32⟩
  | .local _ .vmem, ⟨12, _⟩ => ⟨S256x620, .f32⟩
  | .local _ .vmem, ⟨13, _⟩ => ⟨S256x620, .f32⟩
  | _, _ => ⟨S1024x620, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x620 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x620 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x620 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x620 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x620 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x620 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x620 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInIdeal.lean ====
abbrev S1024x620 : Shape := ⟨2, ![1024, 620]⟩
abbrev S256x620 : Shape := ⟨2, ![256, 620]⟩

abbrev nBuf : Space → Nat
  | .hbm => 7
  | .vmem => 14
  | .smem => 0
  | _ => 0

abbrev bufTy : (tb : Table) → Fin (tcTables nBuf tb) → BufTy
  | .hbm, ⟨0, _⟩ => ⟨S1024x620, .f32⟩
  | .hbm, ⟨1, _⟩ => ⟨S1024x620, .f32⟩
  | .hbm, ⟨2, _⟩ => ⟨S1024x620, .f32⟩
  | .hbm, ⟨3, _⟩ => ⟨S1024x620, .f32⟩
  | .hbm, ⟨4, _⟩ => ⟨S1024x620, .f32⟩
  | .hbm, ⟨5, _⟩ => ⟨S1024x620, .f32⟩
  | .hbm, ⟨6, _⟩ => ⟨S1024x620, .f32⟩
  | .local _ .vmem, ⟨0, _⟩ => ⟨S256x620, .f32⟩
  | .local _ .vmem, ⟨1, _⟩ => ⟨S256x620, .f32⟩
  | .local _ .vmem, ⟨2, _⟩ => ⟨S256x620, .f32⟩
  | .local _ .vmem, ⟨3, _⟩ => ⟨S256x620, .f32⟩
  | .local _ .vmem, ⟨4, _⟩ => ⟨S256x620, .f32⟩
  | .local _ .vmem, ⟨5, _⟩ => ⟨S256x620, .f32⟩
  | .local _ .vmem, ⟨6, _⟩ => ⟨S256x620, .f32⟩
  | .local _ .vmem, ⟨7, _⟩ => ⟨S256x620, .f32⟩
  | .local _ .vmem, ⟨8, _⟩ => ⟨S256x620, .f32⟩
  | .local _ .vmem, ⟨9, _⟩ => ⟨S256x620, .f32⟩
  | .local _ .vmem, ⟨10, _⟩ => ⟨S256x620, .f32⟩
  | .local _ .vmem, ⟨11, _⟩ => ⟨S256x620, .f32⟩
  | .local _ .vmem, ⟨12, _⟩ => ⟨S256x620, .f32⟩
  | .local _ .vmem, ⟨13, _⟩ => ⟨S256x620, .f32⟩
  | _, _ => ⟨S1024x620, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x620 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x620 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x620 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x620 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x620 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x620 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x620 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRefIdeal.lean ====
abbrev S1024x620 : Shape := ⟨2, ![1024, 620]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x620, .f32⟩
  | .hbm, ⟨1, _⟩ => ⟨S1024x620, .f32⟩
  | .hbm, ⟨2, _⟩ => ⟨S1024x620, .f32⟩
  | .hbm, ⟨3, _⟩ => ⟨S1024x620, .f32⟩
  | .hbm, ⟨4, _⟩ => ⟨S_, .f32⟩
  | .hbm, ⟨5, _⟩ => ⟨S1024x620, .f32⟩
  | .hbm, ⟨6, _⟩ => ⟨S1024x620, .f32⟩
  | .hbm, ⟨7, _⟩ => ⟨S_, .f32⟩
  | .hbm, ⟨8, _⟩ => ⟨S1024x620, .f32⟩
  | .hbm, ⟨9, _⟩ => ⟨S1024x620, .f32⟩
  | .hbm, ⟨10, _⟩ => ⟨S1024x620, .f32⟩
  | .hbm, ⟨11, _⟩ => ⟨S_, .f32⟩
  | .hbm, ⟨12, _⟩ => ⟨S1024x620, .f32⟩
  | .hbm, ⟨13, _⟩ => ⟨S1024x620, .f32⟩
  | .hbm, ⟨14, _⟩ => ⟨S1024x620, .f32⟩
  | .hbm, ⟨15, _⟩ => ⟨S_, .f32⟩
  | .hbm, ⟨16, _⟩ => ⟨S1024x620, .f32⟩
  | .hbm, ⟨17, _⟩ => ⟨S1024x620, .f32⟩
  | .hbm, ⟨18, _⟩ => ⟨S1024x620, .f32⟩
  | .hbm, ⟨19, _⟩ => ⟨S_, .f32⟩
  | .hbm, ⟨20, _⟩ => ⟨S1024x620, .f32⟩
  | .hbm, ⟨21, _⟩ => ⟨S1024x620, .f32⟩
  | .hbm, ⟨22, _⟩ => ⟨S_, .f32⟩
  | .hbm, ⟨23, _⟩ => ⟨S1024x620, .f32⟩
  | .hbm, ⟨24, _⟩ => ⟨S1024x620, .f32⟩
  | .hbm, ⟨25, _⟩ => ⟨S1024x620, .f32⟩
  | .hbm, ⟨26, _⟩ => ⟨S_, .f32⟩
  | .hbm, ⟨27, _⟩ => ⟨S1024x620, .f32⟩
  | .hbm, ⟨28, _⟩ => ⟨S1024x620, .f32⟩
  | .hbm, ⟨29, _⟩ => ⟨S1024x620, .f32⟩
  | .hbm, ⟨30, _⟩ => ⟨S_, .f32⟩
  | .hbm, ⟨31, _⟩ => ⟨S1024x620, .f32⟩
  | .hbm, ⟨32, _⟩ => ⟨S1024x620, .f32⟩
  | .hbm, ⟨33, _⟩ => ⟨S1024x620, .f32⟩
  | .hbm, ⟨34, _⟩ => ⟨S_, .f32⟩
  | .hbm, ⟨35, _⟩ => ⟨S1024x620, .f32⟩
  | .hbm, ⟨36, _⟩ => ⟨S1024x620, .f32⟩
  | _, _ => ⟨S1024x620, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamQ.lean ====
abbrev S256x192 : Shape := ⟨2, ![256, 192]⟩

abbrev nBuf : Space → Nat
  | .hbm => 7
  | .vmem => 7
  | .smem => 0
  | _ => 0

abbrev bufTy : (tb : Table) → Fin (tcTables nBuf tb) → BufTy
  | .hbm, ⟨0, _⟩ => ⟨S256x192, .f32⟩
  | .hbm, ⟨1, _⟩ => ⟨S256x192, .f32⟩
  | .hbm, ⟨2, _⟩ => ⟨S256x192, .f32⟩
  | .hbm, ⟨3, _⟩ => ⟨S256x192, .f32⟩
  | .hbm, ⟨4, _⟩ => ⟨S256x192, .f32⟩
  | .hbm, ⟨5, _⟩ => ⟨S256x192, .f32⟩
  | .hbm, ⟨6, _⟩ => ⟨S256x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | _, _ => ⟨S256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQIdeal.lean ====
abbrev S256x192 : Shape := ⟨2, ![256, 192]⟩

abbrev nBuf : Space → Nat
  | .hbm => 7
  | .vmem => 7
  | .smem => 0
  | _ => 0

abbrev bufTy : (tb : Table) → Fin (tcTables nBuf tb) → BufTy
  | .hbm, ⟨0, _⟩ => ⟨S256x192, .f32⟩
  | .hbm, ⟨1, _⟩ => ⟨S256x192, .f32⟩
  | .hbm, ⟨2, _⟩ => ⟨S256x192, .f32⟩
  | .hbm, ⟨3, _⟩ => ⟨S256x192, .f32⟩
  | .hbm, ⟨4, _⟩ => ⟨S256x192, .f32⟩
  | .hbm, ⟨5, _⟩ => ⟨S256x192, .f32⟩
  | .hbm, ⟨6, _⟩ => ⟨S256x192, .f32⟩
  | .local _ .vmem, ⟨0, _⟩ => ⟨S256x192, .f32⟩
  | .local _ .vmem, ⟨1, _⟩ => ⟨S256x192, .f32⟩
  | .local _ .vmem, ⟨2, _⟩ => ⟨S256x192, .f32⟩
  | .local _ .vmem, ⟨3, _⟩ => ⟨S256x192, .f32⟩
  | .local _ .vmem, ⟨4, _⟩ => ⟨S256x192, .f32⟩
  | .local _ .vmem, ⟨5, _⟩ => ⟨S256x192, .f32⟩
  | .local _ .vmem, ⟨6, _⟩ => ⟨S256x192, .f32⟩
  | _, _ => ⟨S256x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamQRefIdeal.lean ====
abbrev S256x192 : Shape := ⟨2, ![256, 192]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x192, .f32⟩
  | .hbm, ⟨1, _⟩ => ⟨S256x192, .f32⟩
  | .hbm, ⟨2, _⟩ => ⟨S256x192, .f32⟩
  | .hbm, ⟨3, _⟩ => ⟨S256x192, .f32⟩
  | .hbm, ⟨4, _⟩ => ⟨S_, .f32⟩
  | .hbm, ⟨5, _⟩ => ⟨S256x192, .f32⟩
  | .hbm, ⟨6, _⟩ => ⟨S256x192, .f32⟩
  | .hbm, ⟨7, _⟩ => ⟨S_, .f32⟩
  | .hbm, ⟨8, _⟩ => ⟨S256x192, .f32⟩
  | .hbm, ⟨9, _⟩ => ⟨S256x192, .f32⟩
  | .hbm, ⟨10, _⟩ => ⟨S256x192, .f32⟩
  | .hbm, ⟨11, _⟩ => ⟨S_, .f32⟩
  | .hbm, ⟨12, _⟩ => ⟨S256x192, .f32⟩
  | .hbm, ⟨13, _⟩ => ⟨S256x192, .f32⟩
  | .hbm, ⟨14, _⟩ => ⟨S256x192, .f32⟩
  | .hbm, ⟨15, _⟩ => ⟨S_, .f32⟩
  | .hbm, ⟨16, _⟩ => ⟨S256x192, .f32⟩
  | .hbm, ⟨17, _⟩ => ⟨S256x192, .f32⟩
  | .hbm, ⟨18, _⟩ => ⟨S256x192, .f32⟩
  | .hbm, ⟨19, _⟩ => ⟨S_, .f32⟩
  | .hbm, ⟨20, _⟩ => ⟨S256x192, .f32⟩
  | .hbm, ⟨21, _⟩ => ⟨S256x192, .f32⟩
  | .hbm, ⟨22, _⟩ => ⟨S_, .f32⟩
  | .hbm, ⟨23, _⟩ => ⟨S256x192, .f32⟩
  | .hbm, ⟨24, _⟩ => ⟨S256x192, .f32⟩
  | .hbm, ⟨25, _⟩ => ⟨S256x192, .f32⟩
  | .hbm, ⟨26, _⟩ => ⟨S_, .f32⟩
  | .hbm, ⟨27, _⟩ => ⟨S256x192, .f32⟩
  | .hbm, ⟨28, _⟩ => ⟨S256x192, .f32⟩
  | .hbm, ⟨29, _⟩ => ⟨S256x192, .f32⟩
  | .hbm, ⟨30, _⟩ => ⟨S_, .f32⟩
  | .hbm, ⟨31, _⟩ => ⟨S256x192, .f32⟩
  | .hbm, ⟨32, _⟩ => ⟨S256x192, .f32⟩
  | .hbm, ⟨33, _⟩ => ⟨S256x192, .f32⟩
  | .hbm, ⟨34, _⟩ => ⟨S_, .f32⟩
  | .hbm, ⟨35, _⟩ => ⟨S256x192, .f32⟩
  | .hbm, ⟨36, _⟩ => ⟨S256x192, .f32⟩
  | _, _ => ⟨S256x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvIdeal.lean ====
abbrev S128x256 : Shape := ⟨2, ![128, 256]⟩

abbrev nBuf : Space → Nat
  | .hbm => 7
  | .vmem => 7
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamKvRefIdeal.lean ====
abbrev S128x256 : Shape := ⟨2, ![128, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S128x256, .f32⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S_, .f32⟩
  | .hbm, ⟨5, _⟩ => ⟨S128x256, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S128x256, .f32⟩
  | .hbm, ⟨11, _⟩ => ⟨S_, .f32⟩
  | .hbm, ⟨12, _⟩ => ⟨S128x256, .f32⟩
  | .hbm, ⟨13, _⟩ => ⟨S128x256, .f32⟩
  | .hbm, ⟨14, _⟩ => ⟨S128x256, .f32⟩
  | .hbm, ⟨15, _⟩ => ⟨S_, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S128x256, .f32⟩
  | .hbm, ⟨26, _⟩ => ⟨S_, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S_, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | _, _ => ⟨S128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamConv.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvIdeal.lean ====
abbrev S4x384 : Shape := ⟨2, ![4, 384]⟩

abbrev nBuf : Space → Nat
  | .hbm => 7
  | .vmem => 7
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .local _ .vmem, ⟨0, _⟩ => ⟨S4x384, .f32⟩
  | .local _ .vmem, ⟨1, _⟩ => ⟨S4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | _, _ => ⟨S4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamConvRefIdeal.lean ====
abbrev S4x384 : Shape := ⟨2, ![4, 384]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x384, .f32⟩
  | .hbm, ⟨1, _⟩ => ⟨S4x384, .f32⟩
  | .hbm, ⟨2, _⟩ => ⟨S4x384, .f32⟩
  | .hbm, ⟨3, _⟩ => ⟨S4x384, .f32⟩
  | .hbm, ⟨4, _⟩ => ⟨S_, .f32⟩
  | .hbm, ⟨5, _⟩ => ⟨S4x384, .f32⟩
  | .hbm, ⟨6, _⟩ => ⟨S4x384, .f32⟩
  | .hbm, ⟨7, _⟩ => ⟨S_, .f32⟩
  | .hbm, ⟨8, _⟩ => ⟨S4x384, .f32⟩
  | .hbm, ⟨9, _⟩ => ⟨S4x384, .f32⟩
  | .hbm, ⟨10, _⟩ => ⟨S4x384, .f32⟩
  | .hbm, ⟨11, _⟩ => ⟨S_, .f32⟩
  | .hbm, ⟨12, _⟩ => ⟨S4x384, .f32⟩
  | .hbm, ⟨13, _⟩ => ⟨S4x384, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S4x384, .f32⟩
  | .hbm, ⟨19, _⟩ => ⟨S_, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S4x384, .f32⟩
  | .hbm, ⟨34, _⟩ => ⟨S_, .f32⟩
  | .hbm, ⟨35, _⟩ => ⟨S4x384, .f32⟩
  | .hbm, ⟨36, _⟩ => ⟨S4x384, .f32⟩
  | _, _ => ⟨S4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S16x1024 : Shape := ⟨2, ![16, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S128x1024, .f32⟩
  | .hbm, ⟨4, _⟩ => ⟨S16x1024, .f32⟩
  | .hbm, ⟨5, _⟩ => ⟨S16x1024, .f32⟩
  | .hbm, ⟨6, _⟩ => ⟨S16x1024, .f32⟩
  | .hbm, ⟨7, _⟩ => ⟨S16x1024, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S128x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallRefIdeal.lean ====
abbrev S16x1024 : Shape := ⟨2, ![16, 1024]⟩
abbrev S128x1024 : Shape := ⟨2, ![128, 1024]⟩
abbrev S8x16x1024 : Shape := ⟨3, ![8, 16, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S128x1024, .f32⟩
  | .hbm, ⟨4, _⟩ => ⟨S8x16x1024, .f32⟩
  | .hbm, ⟨5, _⟩ => ⟨S_, .f32⟩
  | .hbm, ⟨6, _⟩ => ⟨S16x1024, .f32⟩
  | .hbm, ⟨7, _⟩ => ⟨S_, .f32⟩
  | .hbm, ⟨8, _⟩ => ⟨S16x1024, .f32⟩
  | .hbm, ⟨9, _⟩ => ⟨S16x1024, .f32⟩
  | .hbm, ⟨10, _⟩ => ⟨S_, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S_, .f32⟩
  | .hbm, ⟨15, _⟩ => ⟨S16x1024, .f32⟩
  | .hbm, ⟨16, _⟩ => ⟨S16x1024, .f32⟩
  | .hbm, ⟨17, _⟩ => ⟨S16x1024, .f32⟩
  | .hbm, ⟨18, _⟩ => ⟨S_, .f32⟩
  | .hbm, ⟨19, _⟩ => ⟨S16x1024, .f32⟩
  | .hbm, ⟨20, _⟩ => ⟨S16x1024, .f32⟩
  | .hbm, ⟨21, _⟩ => ⟨S16x1024, .f32⟩
  | .hbm, ⟨22, _⟩ => ⟨S_, .f32⟩
  | .hbm, ⟨23, _⟩ => ⟨S16x1024, .f32⟩
  | .hbm, ⟨24, _⟩ => ⟨S16x1024, .f32⟩
  | .hbm, ⟨25, _⟩ => ⟨S_, .f32⟩
  | .hbm, ⟨26, _⟩ => ⟨S16x1024, .f32⟩
  | .hbm, ⟨27, _⟩ => ⟨S16x1024, .f32⟩
  | .hbm, ⟨28, _⟩ => ⟨S16x1024, .f32⟩
  | .hbm, ⟨29, _⟩ => ⟨S_, .f32⟩
  | .hbm, ⟨30, _⟩ => ⟨S16x1024, .f32⟩
  | .hbm, ⟨31, _⟩ => ⟨S16x1024, .f32⟩
  | .hbm, ⟨32, _⟩ => ⟨S16x1024, .f32⟩
  | .hbm, ⟨33, _⟩ => ⟨S_, .f32⟩
  | .hbm, ⟨34, _⟩ => ⟨S16x1024, .f32⟩
  | .hbm, ⟨35, _⟩ => ⟨S16x1024, .f32⟩
  | .hbm, ⟨36, _⟩ => ⟨S16x1024, .f32⟩
  | .hbm, ⟨37, _⟩ => ⟨S_, .f32⟩
  | .hbm, ⟨38, _⟩ => ⟨S16x1024, .f32⟩
  | .hbm, ⟨39, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AddPair.lean ====
abbrev S10368x1024 : Shape := ⟨2, ![10368, 1024]⟩
abbrev S864x1024 : Shape := ⟨2, ![864, 1024]⟩

abbrev nBuf : Space → Nat
  | .hbm => 3
  | .vmem => 6
  | .smem => 0
  | _ => 0

abbrev bufTy : (tb : Table) → Fin (tcTables nBuf tb) → BufTy
  | .hbm, ⟨0, _⟩ => ⟨S10368x1024, .bf16⟩
  | .hbm, ⟨1, _⟩ => ⟨S10368x1024, .bf16⟩
  | .hbm, ⟨2, _⟩ => ⟨S10368x1024, .bf16⟩
  | .local _ .vmem, ⟨0, _⟩ => ⟨S864x1024, .bf16⟩
  | .local _ .vmem, ⟨1, _⟩ => ⟨S864x1024, .bf16⟩
  | .local _ .vmem, ⟨2, _⟩ => ⟨S864x1024, .bf16⟩
  | .local _ .vmem, ⟨3, _⟩ => ⟨S864x1024, .bf16⟩
  | .local _ .vmem, ⟨4, _⟩ => ⟨S864x1024, .bf16⟩
  | .local _ .vmem, ⟨5, _⟩ => ⟨S864x1024, .bf16⟩
  | _, _ => ⟨S10368x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S864x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S864x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S864x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AddPairRef.lean ====
abbrev S10368x1024 : Shape := ⟨2, ![10368, 1024]⟩

abbrev nBuf : Space → Nat
  | .hbm => 6
  | .vmem => 0
  | .smem => 0
  | _ => 0

abbrev bufTy : (tb : Table) → Fin (tcTables nBuf tb) → BufTy
  | .hbm, ⟨0, _⟩ => ⟨S10368x1024, .bf16⟩
  | .hbm, ⟨1, _⟩ => ⟨S10368x1024, .bf16⟩
  | .hbm, ⟨2, _⟩ => ⟨S10368x1024, .f32⟩
  | .hbm, ⟨3, _⟩ => ⟨S10368x1024, .f32⟩
  | .hbm, ⟨4, _⟩ => ⟨S10368x1024, .f32⟩
  | .hbm, ⟨5, _⟩ => ⟨S10368x1024, .bf16⟩
  | _, _ => ⟨S10368x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AddChips.lean ====
abbrev S10368x1024 : Shape := ⟨2, ![10368, 1024]⟩
abbrev S2592x1024 : Shape := ⟨2, ![2592, 1024]⟩
abbrev S864x1024 : Shape := ⟨2, ![864, 1024]⟩

abbrev nBuf : Space → Nat
  | .hbm => 2
  | .vmem => 10
  | .smem => 0
  | _ => 0

abbrev bufTy : (tb : Table) → Fin (tcTables nBuf tb) → BufTy
  | .hbm, ⟨0, _⟩ => ⟨S10368x1024, .bf16⟩
  | .hbm, ⟨1, _⟩ => ⟨S2592x1024, .f32⟩
  | .local _ .vmem, ⟨0, _⟩ => ⟨S864x1024, .bf16⟩
  | .local _ .vmem, ⟨1, _⟩ => ⟨S864x1024, .bf16⟩
  | .local _ .vmem, ⟨2, _⟩ => ⟨S864x1024, .bf16⟩
  | .local _ .vmem, ⟨3, _⟩ => ⟨S864x1024, .bf16⟩
  | .local _ .vmem, ⟨4, _⟩ => ⟨S864x1024, .bf16⟩
  | .local _ .vmem, ⟨5, _⟩ => ⟨S864x1024, .bf16⟩
  | .local _ .vmem, ⟨6, _⟩ => ⟨S864x1024, .bf16⟩
  | .local _ .vmem, ⟨7, _⟩ => ⟨S864x1024, .bf16⟩
  | .local _ .vmem, ⟨8, _⟩ => ⟨S864x1024, .f32⟩
  | .local _ .vmem, ⟨9, _⟩ => ⟨S864x1024, .f32⟩
  | _, _ => ⟨S10368x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c3_i32 : BitVec 32 := 3#32
  let v0 : BitVec 32 := Scalar.addi arg0 c3_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c9_i32 : BitVec 32 := 9#32
  let v0 : BitVec 32 := Scalar.addi arg0 c9_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S864x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S864x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S864x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S864x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S864x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== AddChipsRefIdeal.lean ====
abbrev S10368x1024 : Shape := ⟨2, ![10368, 1024]⟩
abbrev S4x2592x1024 : Shape := ⟨3, ![4, 2592, 1024]⟩
abbrev S_ : Shape := ⟨0, ![]⟩
abbrev S2592x1024 : Shape := ⟨2, ![2592, 1024]⟩

abbrev nBuf : Space → Nat
  | .hbm => 5
  | .vmem => 0
  | .smem => 0
  | _ => 0

abbrev bufTy : (tb : Table) → Fin (tcTables nBuf tb) → BufTy
  | .hbm, ⟨0, _⟩ => ⟨S10368x1024, .bf16⟩
  | .hbm, ⟨1, _⟩ => ⟨S10368x1024, .f32⟩
  | .hbm, ⟨2, _⟩ => ⟨S4x2592x1024, .f32⟩
  | .hbm, ⟨3, _⟩ => ⟨S_, .f32⟩
  | .hbm, ⟨4, _⟩ => ⟨S2592x1024, .f32⟩
  | _, _ => ⟨S10368x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Grads.lean ====
abbrev S2592x1024 : Shape := ⟨2, ![2592, 1024]⟩
abbrev S2x2592x1024 : Shape := ⟨3, ![2, 2592, 1024]⟩
abbrev S_ : Shape := ⟨0, ![]⟩
abbrev S1x2592x1024 : Shape := ⟨3, ![1, 2592, 1024]⟩
abbrev S5184x1024 : Shape := ⟨2, ![5184, 1024]⟩
abbrev S5308416 : Shape := ⟨1, ![5308416]⟩
abbrev S720896 : Shape := ⟨1, ![720896]⟩
abbrev S1024x704 : Shape := ⟨2, ![1024, 704]⟩
abbrev S704x1024 : Shape := ⟨2, ![704, 1024]⟩
abbrev S634880 : Shape := ⟨1, ![634880]⟩
abbrev S1024x620 : Shape := ⟨2, ![1024, 620]⟩
abbrev S49152 : Shape := ⟨1, ![49152]⟩
abbrev S256x192 : Shape := ⟨2, ![256, 192]⟩
abbrev S32768 : Shape := ⟨1, ![32768]⟩
abbrev S128x256 : Shape := ⟨2, ![128, 256]⟩
abbrev S1536 : Shape := ⟨1, ![1536]⟩
abbrev S4x384 : Shape := ⟨2, ![4, 384]⟩
abbrev S262144 : Shape := ⟨1, ![262144]⟩
abbrev S256x1024 : Shape := ⟨2, ![256, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2592x1024, .f32⟩
  | .hbm, ⟨1, _⟩ => ⟨S2x2592x1024, .f32⟩
  | .hbm, ⟨2, _⟩ => ⟨S5184x1024, .f32⟩
  | .hbm, ⟨3, _⟩ => ⟨S5308416, .f32⟩
  | .hbm, ⟨4, _⟩ => ⟨S720896, .f32⟩
  | .hbm, ⟨5, _⟩ => ⟨S1024x704, .f32⟩
  | .hbm, ⟨6, _⟩ => ⟨S720896, .f32⟩
  | .hbm, ⟨7, _⟩ => ⟨S1024x704, .f32⟩
  | .hbm, ⟨8, _⟩ => ⟨S720896, .f32⟩
  | .hbm, ⟨9, _⟩ => ⟨S704x1024, .f32⟩
  | .hbm, ⟨10, _⟩ => ⟨S634880, .f32⟩
  | .hbm, ⟨11, _⟩ => ⟨S1024x620, .f32⟩
  | .hbm, ⟨12, _⟩ => ⟨S49152, .f32⟩
  | .hbm, ⟨13, _⟩ => ⟨S256x192, .f32⟩
  | .hbm, ⟨14, _⟩ => ⟨S32768, .f32⟩
  | .hbm, ⟨15, _⟩ => ⟨S128x256, .f32⟩
  | .hbm, ⟨16, _⟩ => ⟨S1536, .f32⟩
  | .hbm, ⟨17, _⟩ => ⟨S4x384, .f32⟩
  | .hbm, ⟨18, _⟩ => ⟨S262144, .f32⟩
  | .hbm, ⟨19, _⟩ => ⟨S256x1024, .f32⟩
  | .hbm, ⟨20, _⟩ => ⟨S720896, .f32⟩
  | .hbm, ⟨21, _⟩ => ⟨S1024x704, .f32⟩
  | .hbm, ⟨22, _⟩ => ⟨S720896, .f32⟩
  | .hbm, ⟨23, _⟩ => ⟨S1024x704, .f32⟩
  | .hbm, ⟨24, _⟩ => ⟨S720896, .f32⟩
  | .hbm, ⟨25, _⟩ => ⟨S704x1024, .f32⟩
  | _, _ => ⟨S2592x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩
abbrev main_v2 : Ref sig .tc := ⟨.hbm, 2, rfl⟩
abbrev main_v3 : Ref sig .tc := ⟨.hbm, 3, rfl⟩
abbrev main_v4 : Ref sig .tc := ⟨.hbm, 4, rfl⟩
abbrev main_v5 : Ref sig .tc := ⟨.hbm, 5, rfl⟩
abbrev main_v6 : Ref sig .tc := ⟨.hbm, 6, rfl⟩
abbrev main_v7 : Ref sig .tc := ⟨.hbm, 7, rfl⟩
abbrev main_v8 : Ref sig .tc := ⟨.hbm, 8, rfl⟩
abbrev main_v9 : Ref sig .tc := ⟨.hbm, 9, rfl⟩
abbrev main_v10 : Ref sig .tc := ⟨.hbm, 10, rfl⟩
abbrev main_v11 : Ref sig .tc := ⟨.hbm, 11, rfl⟩
abbrev main_v12 : Ref sig .tc := ⟨.hbm, 12, rfl⟩
abbrev main_v13 : Ref sig .tc := ⟨.hbm, 13, rfl⟩
abbrev main_v14 : Ref sig .tc := ⟨.hbm, 14, rfl⟩
abbrev main_v15 : Ref sig .tc := ⟨.hbm, 15, rfl⟩
abbrev main_v16 : Ref sig .tc := ⟨.hbm, 16, rfl⟩
abbrev main_v17 : Ref sig .tc := ⟨.hbm, 17, rfl⟩
abbrev main_v18 : Ref sig .tc := ⟨.hbm, 18, rfl⟩
abbrev main_v19 : Ref sig .tc := ⟨.hbm, 19, rfl⟩
abbrev main_v20 : Ref sig .tc := ⟨.hbm, 20, rfl⟩
abbrev main_v21 : Ref sig .tc := ⟨.hbm, 21, rfl⟩
abbrev main_v22 : Ref sig .tc := ⟨.hbm, 22, rfl⟩
abbrev main_v23 : Ref sig .tc := ⟨.hbm, 23, rfl⟩
abbrev main_v24 : Ref sig .tc := ⟨.hbm, 24, rfl⟩
abbrev main_v25 : Ref sig .tc := ⟨.hbm, 25, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_11 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v20 : BitVec 32 := Scalar.subi c1_i32_11 v8
  let c0_i32_17 : BitVec 32 := 0#32
  let c0_i32_18 : BitVec 32 := 0#32
  ![v20.toNat, 0, 0]
-- ==== GradsRef.lean ====
abbrev S20736x1024 : Shape := ⟨2, ![20736, 1024]⟩
abbrev S4x5308416 : Shape := ⟨2, ![4, 5308416]⟩
abbrev S4x720896 : Shape := ⟨2, ![4, 720896]⟩
abbrev S4096x704 : Shape := ⟨2, ![4096, 704]⟩
abbrev S2816x1024 : Shape := ⟨2, ![2816, 1024]⟩
abbrev S4x634880 : Shape := ⟨2, ![4, 634880]⟩
abbrev S4096x620 : Shape := ⟨2, ![4096, 620]⟩
abbrev S4x49152 : Shape := ⟨2, ![4, 49152]⟩
abbrev S1024x192 : Shape := ⟨2, ![1024, 192]⟩
abbrev S4x32768 : Shape := ⟨2, ![4, 32768]⟩
abbrev S512x256 : Shape := ⟨2, ![512, 256]⟩
abbrev S4x1536 : Shape := ⟨2, ![4, 1536]⟩
abbrev S16x384 : Shape := ⟨2, ![16, 384]⟩
abbrev S4x262144 : Shape := ⟨2, ![4, 262144]⟩
abbrev S1024x1024 : Shape := ⟨2, ![1024, 1024]⟩

abbrev nBuf : Space → Nat
  | .hbm => 24
  | .vmem => 0
  | .smem => 0
  | _ => 0

abbrev bufTy : (tb : Table) → Fin (tcTables nBuf tb) → BufTy
  | .hbm, ⟨0, _⟩ => ⟨S20736x1024, .f32⟩
  | .hbm, ⟨1, _⟩ => ⟨S4x5308416, .f32⟩
  | .hbm, ⟨2, _⟩ => ⟨S4x720896, .f32⟩
  | .hbm, ⟨3, _⟩ => ⟨S4096x704, .f32⟩
  | .hbm, ⟨4, _⟩ => ⟨S4x720896, .f32⟩
  | .hbm, ⟨5, _⟩ => ⟨S4096x704, .f32⟩
  | .hbm, ⟨6, _⟩ => ⟨S4x720896, .f32⟩
  | .hbm, ⟨7, _⟩ => ⟨S2816x1024, .f32⟩
  | .hbm, ⟨8, _⟩ => ⟨S4x634880, .f32⟩
  | .hbm, ⟨9, _⟩ => ⟨S4096x620, .f32⟩
  | .hbm, ⟨10, _⟩ => ⟨S4x49152, .f32⟩
  | .hbm, ⟨11, _⟩ => ⟨S1024x192, .f32⟩
  | .hbm, ⟨12, _⟩ => ⟨S4x32768, .f32⟩
  | .hbm, ⟨13, _⟩ => ⟨S512x256, .f32⟩
  | .hbm, ⟨14, _⟩ => ⟨S4x1536, .f32⟩
  | .hbm, ⟨15, _⟩ => ⟨S16x384, .f32⟩
  | .hbm, ⟨16, _⟩ => ⟨S4x262144, .f32⟩
  | .hbm, ⟨17, _⟩ => ⟨S1024x1024, .f32⟩
  | .hbm, ⟨18, _⟩ => ⟨S4x720896, .f32⟩
  | .hbm, ⟨19, _⟩ => ⟨S4096x704, .f32⟩
  | .hbm, ⟨20, _⟩ => ⟨S4x720896, .f32⟩
  | .hbm, ⟨21, _⟩ => ⟨S4096x704, .f32⟩
  | .hbm, ⟨22, _⟩ => ⟨S4x720896, .f32⟩
  | .hbm, ⟨23, _⟩ => ⟨S2816x1024, .f32⟩
  | _, _ => ⟨S20736x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩

abbrev nD : Nat := 1
abbrev τ : Topo := Topo.v7x

variable {F : FTy → Type} [FloatOps F]
-- ==== Loss.lean ====
abbrev S4096x1024 : Shape := ⟨2, ![4096, 1024]⟩
abbrev S1x1024 : Shape := ⟨2, ![1, 1024]⟩
abbrev S512x1024 : Shape := ⟨2, ![512, 1024]⟩
abbrev S1024 : Shape := ⟨1, ![1024]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== NormBack.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBackRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== GateUp.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownBx.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S256x1024 : Shape := ⟨2, ![256, 1024]⟩
abbrev S512x256 : Shape := ⟨2, ![512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S256x1024, .bf16⟩
  | .local _ .vmem, ⟨4, _⟩ => ⟨S512x256, .bf16⟩
  | .local _ .vmem, ⟨5, _⟩ => ⟨S512x256, .bf16⟩
  | .local _ .vmem, ⟨6, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBxRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DownBw.lean ====
abbrev S4096x2816 : Shape := ⟨2, ![4096, 2816]⟩
abbrev S4096x1024 : Shape := ⟨2, ![4096, 1024]⟩
abbrev S2816x1024 : Shape := ⟨2, ![2816, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .f32⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownBwRefIdeal.lean ====
abbrev S4096x2816 : Shape := ⟨2, ![4096, 2816]⟩
abbrev S4096x1024 : Shape := ⟨2, ![4096, 1024]⟩
abbrev S2816x4096 : Shape := ⟨2, ![2816, 4096]⟩
abbrev S2816x1024 : Shape := ⟨2, ![2816, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S2816x4096, .f32⟩
  | .hbm, ⟨4, _⟩ => ⟨S4096x1024, .f32⟩
  | .hbm, ⟨5, _⟩ => ⟨S2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateUpBx.lean ====
abbrev S4096x5632 : Shape := ⟨2, ![4096, 5632]⟩
abbrev S1024x5632 : Shape := ⟨2, ![1024, 5632]⟩
abbrev S4096x1024 : Shape := ⟨2, ![4096, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpBxRefIdeal.lean ====
abbrev S4096x5632 : Shape := ⟨2, ![4096, 5632]⟩
abbrev S1024x5632 : Shape := ⟨2, ![1024, 5632]⟩
abbrev S5632x1024 : Shape := ⟨2, ![5632, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x5632, .f32⟩
  | .hbm, ⟨3, _⟩ => ⟨S1024x5632, .f32⟩
  | .hbm, ⟨4, _⟩ => ⟨S5632x1024, .f32⟩
  | .hbm, ⟨5, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== GateUpBw.lean ====
abbrev S4096x1024 : Shape := ⟨2, ![4096, 1024]⟩
abbrev S4096x5632 : Shape := ⟨2, ![4096, 5632]⟩
abbrev S1024x5632 : Shape := ⟨2, ![1024, 5632]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S1024x5632, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GateUpBwRefIdeal.lean ====
abbrev S4096x1024 : Shape := ⟨2, ![4096, 1024]⟩
abbrev S4096x5632 : Shape := ⟨2, ![4096, 5632]⟩
abbrev S1024x4096 : Shape := ⟨2, ![1024, 4096]⟩
abbrev S1024x5632 : Shape := ⟨2, ![1024, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S1024x4096, .f32⟩
  | .hbm, ⟨4, _⟩ => ⟨S4096x5632, .f32⟩
  | .hbm, ⟨5, _⟩ => ⟨S1024x5632, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Norm.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Act.lean ====
abbrev S4096x5632 : Shape := ⟨2, ![4096, 5632]⟩
abbrev S4096x2816 : Shape := ⟨2, ![4096, 2816]⟩
abbrev S256x2816 : Shape := ⟨2, ![256, 2816]⟩

abbrev nBuf : Space → Nat
  | .hbm => 2
  | .vmem => 6
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ActRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x2816, .f32⟩
  | .hbm, ⟨3, _⟩ => ⟨S4096x2816, .bf16⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Post.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== PostRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== PostBack.lean ====
abbrev S4096x1024 : Shape := ⟨2, ![4096, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== PostBackRefIdeal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_cst_4 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]
-- ==== ActBack.lean ====
abbrev S4096x5632 : Shape := ⟨2, ![4096, 5632]⟩
abbrev S4096x2816 : Shape := ⟨2, ![4096, 2816]⟩
abbrev S256x2816 : Shape := ⟨2, ![256, 2816]⟩
abbrev S256x5632 : Shape := ⟨2, ![256, 5632]⟩

abbrev nBuf : Space → Nat
  | .hbm => 3
  | .vmem => 8
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x5632, .bf16⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x5632, .bf16⟩
  | .local _ .vmem, ⟨7, _⟩ => ⟨S256x5632, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c1_i32 : BitVec 32 := 1#32
  let c0_i32_0 : BitVec 32 := 0#32
  ![v0.toNat, c1_i32.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ActBackRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2816, .bf16⟩
  | .hbm, ⟨2, _⟩ => ⟨S4096x2816, .bf16⟩
  | .hbm, ⟨3, _⟩ => ⟨S4096x2816, .f32⟩
  | .hbm, ⟨4, _⟩ => ⟨S4096x2816, .bf16⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== MixIn.lean ====
abbrev S4096x1024 : Shape := ⟨2, ![4096, 1024]⟩
abbrev S1024x2688 : Shape := ⟨2, ![1024, 2688]⟩
abbrev S4096x2688 : Shape := ⟨2, ![4096, 2688]⟩
abbrev S512x1024 : Shape := ⟨2, ![512, 1024]⟩
abbrev S1024x384 : Shape := ⟨2, ![1024, 384]⟩
abbrev S512x384 : Shape := ⟨2, ![512, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2688, .bf16⟩
  | .hbm, ⟨2, _⟩ => ⟨S4096x2688, .f32⟩
  | .local _ .vmem, ⟨0, _⟩ => ⟨S512x1024, .bf16⟩
  | .local _ .vmem, ⟨1, _⟩ => ⟨S512x1024, .bf16⟩
  | .local _ .vmem, ⟨2, _⟩ => ⟨S1024x384, .bf16⟩
  | .local _ .vmem, ⟨3, _⟩ => ⟨S1024x384, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 7, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInRefIdeal.lean ====
abbrev S4096x1024 : Shape := ⟨2, ![4096, 1024]⟩
abbrev S1024x2688 : Shape := ⟨2, ![1024, 2688]⟩
abbrev S4096x2688 : Shape := ⟨2, ![4096, 2688]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2688, .bf16⟩
  | .hbm, ⟨2, _⟩ => ⟨S4096x1024, .f32⟩
  | .hbm, ⟨3, _⟩ => ⟨S1024x2688, .f32⟩
  | .hbm, ⟨4, _⟩ => ⟨S4096x2688, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixInBx.lean ====
abbrev S4096x2688 : Shape := ⟨2, ![4096, 2688]⟩
abbrev S1024x2688 : Shape := ⟨2, ![1024, 2688]⟩
abbrev S4096x1024 : Shape := ⟨2, ![4096, 1024]⟩
abbrev S512x896 : Shape := ⟨2, ![512, 896]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x1024, .f32⟩
  | .local _ .vmem, ⟨0, _⟩ => ⟨S512x896, .bf16⟩
  | .local _ .vmem, ⟨1, _⟩ => ⟨S512x896, .bf16⟩
  | .local _ .vmem, ⟨2, _⟩ => ⟨S512x896, .bf16⟩
  | .local _ .vmem, ⟨3, _⟩ => ⟨S512x896, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x2688, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 3], ![false, false, false]⟩

def k0_cond2 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x896 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInBxRefIdeal.lean ====
abbrev S4096x2688 : Shape := ⟨2, ![4096, 2688]⟩
abbrev S1024x2688 : Shape := ⟨2, ![1024, 2688]⟩
abbrev S2688x1024 : Shape := ⟨2, ![2688, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2688, .bf16⟩
  | .hbm, ⟨1, _⟩ => ⟨S1024x2688, .bf16⟩
  | .hbm, ⟨2, _⟩ => ⟨S4096x2688, .f32⟩
  | .hbm, ⟨3, _⟩ => ⟨S1024x2688, .f32⟩
  | .hbm, ⟨4, _⟩ => ⟨S2688x1024, .f32⟩
  | .hbm, ⟨5, _⟩ => ⟨S4096x1024, .f32⟩
  | _, _ => ⟨S4096x2688, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixInBw.lean ====
abbrev S4096x1024 : Shape := ⟨2, ![4096, 1024]⟩
abbrev S4096x2688 : Shape := ⟨2, ![4096, 2688]⟩
abbrev S1024x2688 : Shape := ⟨2, ![1024, 2688]⟩
abbrev S1024x512 : Shape := ⟨2, ![1024, 512]⟩
abbrev S1024x384 : Shape := ⟨2, ![1024, 384]⟩
abbrev S512x384 : Shape := ⟨2, ![512, 384]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S1024x2688, .f32⟩
  | .local _ .vmem, ⟨0, _⟩ => ⟨S1024x512, .bf16⟩
  | .local _ .vmem, ⟨1, _⟩ => ⟨S1024x512, .bf16⟩
  | .local _ .vmem, ⟨2, _⟩ => ⟨S1024x384, .bf16⟩
  | .local _ .vmem, ⟨3, _⟩ => ⟨S1024x384, .bf16⟩
  | .local _ .vmem, ⟨4, _⟩ => ⟨S512x384, .f32⟩
  | .local _ .vmem, ⟨5, _⟩ => ⟨S512x384, .f32⟩
  | .local _ .vmem, ⟨6, _⟩ => ⟨S512x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 7, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixInBwRefIdeal.lean ====
abbrev S4096x1024 : Shape := ⟨2, ![4096, 1024]⟩
abbrev S4096x2688 : Shape := ⟨2, ![4096, 2688]⟩
abbrev S1024x4096 : Shape := ⟨2, ![1024, 4096]⟩
abbrev S1024x2688 : Shape := ⟨2, ![1024, 2688]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2688, .bf16⟩
  | .hbm, ⟨2, _⟩ => ⟨S4096x1024, .f32⟩
  | .hbm, ⟨3, _⟩ => ⟨S1024x4096, .f32⟩
  | .hbm, ⟨4, _⟩ => ⟨S4096x2688, .f32⟩
  | .hbm, ⟨5, _⟩ => ⟨S1024x2688, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOut.lean ====
abbrev S4096x1536 : Shape := ⟨2, ![4096, 1536]⟩
abbrev S1536x1024 : Shape := ⟨2, ![1536, 1024]⟩
abbrev S4096x1024 : Shape := ⟨2, ![4096, 1024]⟩
abbrev S512x768 : Shape := ⟨2, ![512, 768]⟩
abbrev S768x512 : Shape := ⟨2, ![768, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1024, .f32⟩
  | .local _ .vmem, ⟨0, _⟩ => ⟨S512x768, .bf16⟩
  | .local _ .vmem, ⟨1, _⟩ => ⟨S512x768, .bf16⟩
  | .local _ .vmem, ⟨2, _⟩ => ⟨S768x512, .bf16⟩
  | .local _ .vmem, ⟨3, _⟩ => ⟨S768x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutRefIdeal.lean ====
abbrev S4096x1536 : Shape := ⟨2, ![4096, 1536]⟩
abbrev S1536x1024 : Shape := ⟨2, ![1536, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S1536x1024, .bf16⟩
  | .hbm, ⟨2, _⟩ => ⟨S4096x1536, .f32⟩
  | .hbm, ⟨3, _⟩ => ⟨S1536x1024, .f32⟩
  | .hbm, ⟨4, _⟩ => ⟨S4096x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MixOutBx.lean ====
abbrev S4096x1024 : Shape := ⟨2, ![4096, 1024]⟩
abbrev S1536x1024 : Shape := ⟨2, ![1536, 1024]⟩
abbrev S4096x1536 : Shape := ⟨2, ![4096, 1536]⟩
abbrev S512x1024 : Shape := ⟨2, ![512, 1024]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1536, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutBxRefIdeal.lean ====
abbrev S4096x1024 : Shape := ⟨2, ![4096, 1024]⟩
abbrev S1536x1024 : Shape := ⟨2, ![1536, 1024]⟩
abbrev S1024x1536 : Shape := ⟨2, ![1024, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1536x1024, .bf16⟩
  | .hbm, ⟨2, _⟩ => ⟨S4096x1024, .f32⟩
  | .hbm, ⟨3, _⟩ => ⟨S1536x1024, .f32⟩
  | .hbm, ⟨4, _⟩ => ⟨S1024x1536, .f32⟩
  | .hbm, ⟨5, _⟩ => ⟨S4096x1536, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MixOutBw.lean ====
abbrev S4096x1536 : Shape := ⟨2, ![4096, 1536]⟩
abbrev S4096x1024 : Shape := ⟨2, ![4096, 1024]⟩
abbrev S1536x1024 : Shape := ⟨2, ![1536, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S1536x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOutBwRefIdeal.lean ====
abbrev S4096x1536 : Shape := ⟨2, ![4096, 1536]⟩
abbrev S4096x1024 : Shape := ⟨2, ![4096, 1024]⟩
abbrev S1536x4096 : Shape := ⟨2, ![1536, 4096]⟩
abbrev S1536x1024 : Shape := ⟨2, ![1536, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1536, .bf16⟩
  | .hbm, ⟨1, _⟩ => ⟨S4096x1024, .bf16⟩
  | .hbm, ⟨2, _⟩ => ⟨S4096x1536, .f32⟩
  | .hbm, ⟨3, _⟩ => ⟨S1536x4096, .f32⟩
  | .hbm, ⟨4, _⟩ => ⟨S4096x1024, .f32⟩
  | .hbm, ⟨5, _⟩ => ⟨S1536x1024, .f32⟩
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Uq.lean ====
abbrev S4096x256 : Shape := ⟨2, ![4096, 256]⟩
abbrev S256x1024 : Shape := ⟨2, ![256, 1024]⟩
abbrev S4096x1024 : Shape := ⟨2, ![4096, 1024]⟩
abbrev S512x256 : Shape := ⟨2, ![512, 256]⟩
abbrev S256x512 : Shape := ⟨2, ![256, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .local _ .vmem, ⟨0, _⟩ => ⟨S512x256, .bf16⟩
  | .local _ .vmem, ⟨1, _⟩ => ⟨S512x256, .bf16⟩
  | .local _ .vmem, ⟨2, _⟩ => ⟨S256x512, .bf16⟩
  | .local _ .vmem, ⟨3, _⟩ => ⟨S256x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UqBx.lean ====
abbrev S4096x1024 : Shape := ⟨2, ![4096, 1024]⟩
abbrev S256x1024 : Shape := ⟨2, ![256, 1024]⟩
abbrev S4096x256 : Shape := ⟨2, ![4096, 256]⟩
abbrev S512x1024 : Shape := ⟨2, ![512, 1024]⟩
abbrev S512x256 : Shape := ⟨2, ![512, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x256, .f32⟩
  | .local _ .vmem, ⟨0, _⟩ => ⟨S512x1024, .bf16⟩
  | .local _ .vmem, ⟨1, _⟩ => ⟨S512x1024, .bf16⟩
  | .local _ .vmem, ⟨2, _⟩ => ⟨S256x1024, .bf16⟩
  | .local _ .vmem, ⟨3, _⟩ => ⟨S512x256, .f32⟩
  | .local _ .vmem, ⟨4, _⟩ => ⟨S512x256, .f32⟩
  | .local _ .vmem, ⟨5, _⟩ => ⟨S512x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqBxRefIdeal.lean ====
abbrev S4096x1024 : Shape := ⟨2, ![4096, 1024]⟩
abbrev S256x1024 : Shape := ⟨2, ![256, 1024]⟩
abbrev S1024x256 : Shape := ⟨2, ![1024, 256]⟩
abbrev S4096x256 : Shape := ⟨2, ![4096, 256]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x1024, .f32⟩
  | .hbm, ⟨3, _⟩ => ⟨S256x1024, .f32⟩
  | .hbm, ⟨4, _⟩ => ⟨S1024x256, .f32⟩
  | .hbm, ⟨5, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UqBw.lean ====
abbrev S4096x256 : Shape := ⟨2, ![4096, 256]⟩
abbrev S4096x1024 : Shape := ⟨2, ![4096, 1024]⟩
abbrev S256x1024 : Shape := ⟨2, ![256, 1024]⟩
abbrev S1024x256 : Shape := ⟨2, ![1024, 256]⟩
abbrev S1024x512 : Shape := ⟨2, ![1024, 512]⟩
abbrev S256x512 : Shape := ⟨2, ![256, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .f32⟩
  | .local _ .vmem, ⟨0, _⟩ => ⟨S1024x256, .bf16⟩
  | .local _ .vmem, ⟨1, _⟩ => ⟨S1024x256, .bf16⟩
  | .local _ .vmem, ⟨2, _⟩ => ⟨S1024x512, .bf16⟩
  | .local _ .vmem, ⟨3, _⟩ => ⟨S1024x512, .bf16⟩
  | .local _ .vmem, ⟨4, _⟩ => ⟨S256x512, .f32⟩
  | .local _ .vmem, ⟨5, _⟩ => ⟨S256x512, .f32⟩
  | .local _ .vmem, ⟨6, _⟩ => ⟨S256x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UqBwRefIdeal.lean ====
abbrev S4096x256 : Shape := ⟨2, ![4096, 256]⟩
abbrev S4096x1024 : Shape := ⟨2, ![4096, 1024]⟩
abbrev S256x4096 : Shape := ⟨2, ![256, 4096]⟩
abbrev S256x1024 : Shape := ⟨2, ![256, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4096x256, .f32⟩
  | .hbm, ⟨3, _⟩ => ⟨S256x4096, .f32⟩
  | .hbm, ⟨4, _⟩ => ⟨S4096x1024, .f32⟩
  | .hbm, ⟨5, _⟩ => ⟨S256x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Ukv.lean ====
abbrev S4096x128 : Shape := ⟨2, ![4096, 128]⟩
abbrev S128x2048 : Shape := ⟨2, ![128, 2048]⟩
abbrev S4096x2048 : Shape := ⟨2, ![4096, 2048]⟩
abbrev S512x128 : Shape := ⟨2, ![512, 128]⟩
abbrev S128x512 : Shape := ⟨2, ![128, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x2048, .f32⟩
  | .local _ .vmem, ⟨0, _⟩ => ⟨S512x128, .bf16⟩
  | .local _ .vmem, ⟨1, _⟩ => ⟨S512x128, .bf16⟩
  | .local _ .vmem, ⟨2, _⟩ => ⟨S128x512, .bf16⟩
  | .local _ .vmem, ⟨3, _⟩ => ⟨S128x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvRefIdeal.lean ====
abbrev S4096x128 : Shape := ⟨2, ![4096, 128]⟩
abbrev S128x2048 : Shape := ⟨2, ![128, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S128x2048, .bf16⟩
  | .hbm, ⟨2, _⟩ => ⟨S4096x128, .f32⟩
  | .hbm, ⟨3, _⟩ => ⟨S128x2048, .f32⟩
  | .hbm, ⟨4, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UkvBx.lean ====
abbrev S4096x2048 : Shape := ⟨2, ![4096, 2048]⟩
abbrev S128x2048 : Shape := ⟨2, ![128, 2048]⟩
abbrev S4096x128 : Shape := ⟨2, ![4096, 128]⟩
abbrev S512x1024 : Shape := ⟨2, ![512, 1024]⟩
abbrev S128x1024 : Shape := ⟨2, ![128, 1024]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S128x1024, .bf16⟩
  | .local _ .vmem, ⟨3, _⟩ => ⟨S128x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvBxRefIdeal.lean ====
abbrev S4096x2048 : Shape := ⟨2, ![4096, 2048]⟩
abbrev S128x2048 : Shape := ⟨2, ![128, 2048]⟩
abbrev S2048x128 : Shape := ⟨2, ![2048, 128]⟩
abbrev S4096x128 : Shape := ⟨2, ![4096, 128]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S128x2048, .bf16⟩
  | .hbm, ⟨2, _⟩ => ⟨S4096x2048, .f32⟩
  | .hbm, ⟨3, _⟩ => ⟨S128x2048, .f32⟩
  | .hbm, ⟨4, _⟩ => ⟨S2048x128, .f32⟩
  | .hbm, ⟨5, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UkvBw.lean ====
abbrev S4096x128 : Shape := ⟨2, ![4096, 128]⟩
abbrev S4096x2048 : Shape := ⟨2, ![4096, 2048]⟩
abbrev S128x2048 : Shape := ⟨2, ![128, 2048]⟩
abbrev S1024x128 : Shape := ⟨2, ![1024, 128]⟩
abbrev S1024x512 : Shape := ⟨2, ![1024, 512]⟩
abbrev S128x512 : Shape := ⟨2, ![128, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S128x2048, .f32⟩
  | .local _ .vmem, ⟨0, _⟩ => ⟨S1024x128, .bf16⟩
  | .local _ .vmem, ⟨1, _⟩ => ⟨S1024x128, .bf16⟩
  | .local _ .vmem, ⟨2, _⟩ => ⟨S1024x512, .bf16⟩
  | .local _ .vmem, ⟨3, _⟩ => ⟨S1024x512, .bf16⟩
  | .local _ .vmem, ⟨4, _⟩ => ⟨S128x512, .f32⟩
  | .local _ .vmem, ⟨5, _⟩ => ⟨S128x512, .f32⟩
  | .local _ .vmem, ⟨6, _⟩ => ⟨S128x512, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UkvBwRefIdeal.lean ====
abbrev S4096x128 : Shape := ⟨2, ![4096, 128]⟩
abbrev S4096x2048 : Shape := ⟨2, ![4096, 2048]⟩
abbrev S128x4096 : Shape := ⟨2, ![128, 4096]⟩
abbrev S128x2048 : Shape := ⟨2, ![128, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S4096x2048, .bf16⟩
  | .hbm, ⟨2, _⟩ => ⟨S4096x128, .f32⟩
  | .hbm, ⟨3, _⟩ => ⟨S128x4096, .f32⟩
  | .hbm, ⟨4, _⟩ => ⟨S4096x2048, .f32⟩
  | .hbm, ⟨5, _⟩ => ⟨S128x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.ExchangeLaunch.lean ====
/-
  The launch of a program that starts with an exchange between devices.

  The kernels of this problem write their blocks straight into the result buffers of other devices, and they do so
  without first hearing from those devices. So the right to write a slab of device `d`'s result has to be in the hands
  of the sending device from the start. `exchange_launch` is a launch theorem of that kind: the certificate
  regroups, in one step for all devices, the kernel's own semaphores together with every device's unscoped buffers,
  and thereby deals the slabs of each result to the devices that write them.
-/
module

public import Idealize.ShloMosaic.Lib.Pipeline.Launch
public import Idealize.ShloMosaic.Lib.Pipeline.RegionArrays

@[expose] public section

noncomputable section

namespace Cert.Exchange

open Idealize.ShloMosaic Idealize.ShloMosaic.TcCoe Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.Rounds

variable {nD : Nat} {τ : Topo} {sig : RefSig} {Val : EltTy → Type}
variable {Ix : Type} [DecidableEq Ix] {Name : Type} [DecidableEq Name] {U : Type} [URA U] {Lvl : Type} [Preorder Lvl]
variable {Λ₀ : Labels} {P : Type} [Fintype P] [DecidableEq P]

local notation "𝕄" => MT nD τ sig Ix Val Name U Lvl

variable (cfgs : P → Cfg sig Λ₀) (dats : (p : P) → (c : Dev nD) → Dat τ Val Ix Name U Lvl (cfgs p) c) (ι : Ix)
variable (hinj : Function.Injective (cellOf (nD := nD) (τ := τ) cfgs)) (p : P)
variable {K : Type} [Fintype K] {osem : K → SemLoc sig}
variable (hw : WinFacts (cfgs p).spec) (ho : OwnSemFacts (cfgs p).spec osem)
variable (EP : Emb (URounds (GSem nD τ sig) Unit) (MT nD τ sig Ix Val Name U Lvl))
variable (defs₀ : Defs nD τ sig Val Λ₀) (𝒱₀ : Variants)

local notation "𝕡" => fun q => Cfg.toPCfg (Val := Val) (cfgs q)
local notation "𝔻" => Pipeline.defs 𝕡 defs₀
local notation "𝕍" => Variants.lift 𝒱₀

include hinj hw ho in
/-- A program that is one kernel call without windows and then `rest`. Every device may owe units to cells of other
    devices at launch (`O₀`). One update for all devices (`hglob`) turns the kernel's own semaphores at zero, the unscoped
    buffers at the launch contents, the credit of what the others owe and the certificate's ghost state `G` into what each
    device takes into the kernel (`X`) and what it keeps for later (`E`); with that and what the kernel hands back (`Y`)
    the rest runs (`hrest`), and what it leaves (`Z`) is read against the final memory (`hZ`). -/
theorem exchange_launch [∀ e, Nonempty (Val e)] [Infinite Name] [EP.LandsIn (upEmb : UEmb _ 𝕄)]
    [hW : IsEmpty (Fin (cfgs p).W)]
    (m : (ℓ : Loc nD τ sig) → Buf Val ℓ) (g : Dev nD → PrngReg)
    (main : Dev nD → Prog (TpuEff nD τ sig Val (Sig Λ₀ P fun q => ((cfgs q).toPCfg (Val := Val)).Adm) .tc) PUnit)
    (rest : Dev nD → Prog (TpuEff nD τ sig Val (Sig Λ₀ P fun q => ((cfgs q).toPCfg (Val := Val)).Adm) .tc) PUnit)
    (hmain : ∀ c, main c = .op (.customCall (entry p) ()) fun _ => rest c)
    (hbody : ∀ c, BodyObligationLoose (dats p c) defs₀ 𝒱₀ ι Set.univ)
    (O₀ : Dev nD → CellTallies nD τ sig Ix) (howed₀ : ∀ c, (dats p c).owed 0 = O₀ c)
    (howedN : ∀ c, (dats p c).owed (Fin.last _) = 0)
    (G : sProp 𝕄) (u₀ : U)
    (hu₀ : (ownU u₀ : sProp 𝕄) ⊢ |={Set.univ}=> iprop(BI.own (EP (initOf (cells cfgs hinj) (launchToks cfgs hinj))) ∗ G))
    (X Y E Z : Dev nD → sProp 𝕄)
    (hglob : iprop((bigSep Finset.univ fun c : Dev nD => iprop(ownSems0 osem c
          ∗ unscopedBufs c (fun b => m ((c.tc : Thread nD τ).loc b)) ∗ launchCred O₀ c)) ∗ G)
        ⊢ (|={Set.univ}=> bigSep Finset.univ fun c => iprop(X c ∗ E c) : sProp 𝕄))
    (hin : ∀ c, iprop(X c ∗ scopedRest (cfgs p).spec c) ⊢ (dats p c).Φ 0)
    (hout : ∀ c, (dats p c).Φ (Fin.last (cfgs p).N) ⊢ iprop(Y c ∗ ownSems0 osem c ∗ scopedRest (cfgs p).spec c))
    (hrest : ∀ c (R : sProp 𝕄), iprop(boundary (c.tc : Thread nD τ) ∗ (Y c ∗ E c) ∗ ((boundary (c.tc : Thread nD τ) ∗ Z c) -∗ R))
      ⊢ wp frame (wpE 𝔻 𝕍 (c.tc : Thread nD τ) none) Set.univ (rest c) fun _ => R)
    (QY : Dev nD → MemSt nD τ sig Val → Prop)
    (hZ : ∀ c (s' : Phys nD τ sig Val), iprop(Z c ∗ SI s') ⊢ |={Set.univ}=> iprop(⌜QY c s'.mem⌝ ∗ SI s'))
    {Q : PUnit × MemSt nD τ sig Val → Prop}
    (hQ : ∀ s : MemSt nD τ sig Val, (∀ c : Dev nD, QY c s) →
      (∀ g' : GSem nD τ sig, (g'.1.2 ≠ .tc ∨ g'.2.isScoped .tc = true) → s.sem g' = 0) → Q (⟨⟩, s)) :
    θ_run 𝔻 (onTc main) ⟨m, fun _ => 0, g⟩ Q := by
  classical
  -- a device's scoped semaphores and buffers, told apart
  have hsems := fun c : Dev nD => scopedSems0_split cfgs hinj p hw.to₀ ho (Ix := Ix) (Val := Val) (Name := Name) (U := U) (Lvl := Lvl) c
  have hbufs := fun c : Dev nD => PerCore.scopedBufs_split (fun _ : Dev nD => cfgs) p c hw.stage_scoped hw.stage_inj (fun w => hW.elim w)
    (τ := τ) (Ix := Ix) (Val := Val) (Name := Name) (U := U) (Lvl := Lvl)
  -- what a device keeps to itself, what it puts into the common update, and what it starts from
  let priv : Dev nD → sProp 𝕄 := fun c => iprop(scopedBufs (c.tc : Thread nD τ) ∗ cellsSems0 cfgs p c ∗ idleSems0 cfgs hinj p ho c
      ∗ opIdle (c.tc : Thread nD τ) ∗ owes (c.tc : Thread nD τ) (O₀ c) ∅)
  let shared : Dev nD → sProp 𝕄 := fun c => iprop(ownSems0 osem c ∗ unscopedBufs c (fun b => m ((c.tc : Thread nD τ).loc b)) ∗ launchCred O₀ c)
  let pre : Dev nD → sProp 𝕄 := fun c => iprop(priv c ∗ (cellsGhost cfgs EP p c ∗ toksInit cfgs EP p c) ∗ X c ∗ E c)
  let fin : Dev nD → sProp 𝕄 := fun c => iprop(Z c ∗ scopedSems0 (c.tc : Thread nD τ))
  refine (θ_run 𝔻 _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => hQ r.2 (fun c => (hr.1 c).1) (sems_of_reads (fun c => (hr.1 c).2) hr.2)) (adequate_tpu 𝔻 _ _ _
    (reflect_intro_fupd_tc_sems (X := Unit) 𝕍 (owing O₀) 0 (noBookings fun _ => le_rfl) (owing_of_ne O₀) u₀ (fun _ => pre) (fun _ => fin)
      (fun _ => iprop(emp)) Set.univ ?_ (fun _ c => ?_) fun _ => ?_))
  · -- the launch
    have hcore (c : Dev nD) :
        coreInit (Ix := Ix) (Name := Name) (U := U) (Lvl := Lvl) (owing O₀) 0 (⟨m, fun _ => 0, g⟩ : MemSt nD τ sig Val) (c.tc : Thread nD τ)
          ⊢ iprop(priv c ∗ shared c) := by
      refine (coreInit_boundary_owing O₀ m g c).trans ?_
      unfold boundary
      rw [hsems c]
      iintro ⟨⟨Hsc, ⟨⟨Hcells, Hown⟩, Hidle⟩, Hop⟩, Hub, -, HO, -, -, Hcr⟩
      isplitl [Hsc Hcells Hidle Hop HO]
      · isplitl [Hsc]; · iexact Hsc
        isplitl [Hcells]; · iexact Hcells
        isplitl [Hidle]; · iexact Hidle
        isplitl [Hop] <;> iassumption
      · isplitl [Hown]; · iexact Hown
        isplitl [Hub] <;> iassumption
    have hpick (Φ : P → Dev nD → sProp 𝕄) :
        (bigSep Finset.univ fun c : Dev nD => bigSep Finset.univ fun p' => Φ p' c) ⊢ bigSep Finset.univ fun c : Dev nD => Φ p c :=
      bigSep_mono fun c _ => BI.bigSep_elim (Finset.mem_univ p)
    iintro ⟨Hcores, Hu⟩
    ihave Hc := (show _ ⊢ iprop(bigSep Finset.univ priv ∗ bigSep Finset.univ shared) from
      (bigSep_mono fun c _ => hcore c).trans (Entails.of_eq (bigSep_sep' Finset.univ priv shared))) $$ Hcores
    icases Hc with ⟨Hpriv, Hglob⟩
    imod hu₀ $$ Hu with ⟨HP, HG⟩
    imod (fund_ghost cfgs EP hinj) $$ HP with ⟨Hg, Ht⟩
    imod hglob $$ [Hglob HG] with HX
    · isplitl [Hglob] <;> iassumption
    imodintro
    iexists ()
    isplitr []
    · iapply (Entails.of_eq (bigSep_sep' Finset.univ priv fun c => iprop((cellsGhost cfgs EP p c ∗ toksInit cfgs EP p c) ∗ X c ∗ E c)).symm)
      isplitl [Hpriv]; · iexact Hpriv
      iapply (Entails.of_eq (bigSep_sep' Finset.univ (fun c => iprop(cellsGhost cfgs EP p c ∗ toksInit cfgs EP p c)) fun c => iprop(X c ∗ E c)).symm)
      isplitl [Hg Ht]
      · iapply (Entails.of_eq (bigSep_sep' Finset.univ (cellsGhost cfgs EP p) (toksInit cfgs EP p)).symm)
        isplitl [Hg]; · iapply (hpick fun p' c => cellsGhost cfgs EP p' c); iexact Hg
        iapply (hpick fun p' c => toksInit cfgs EP p' c); iexact Ht
      iexact HX
    · iempintro
  · -- one device's run: the call, then the rest
    have harr (Aw) : (emp : sProp 𝕄) ⊢ (dats p c).arrays Aw := by
      unfold Dat.arrays; rw [Finset.univ_eq_empty, BI.bigSep_empty]; exact Entails.refl _
    have hend : iprop((dats p c).Φ (Fin.last (cfgs p).N) ∗ cellsSems0 cfgs p c ∗ Dat.staging (cfgs p) c ∗ idleSems0 cfgs hinj p ho c)
        ⊢ iprop(Y c ∗ scopedSems0 (c.tc : Thread nD τ) ∗ scopedBufs (c.tc : Thread nD τ)) := by
      rw [hsems c, hbufs c]
      iintro ⟨HΦ, Hcells, Hst, Hidle⟩
      ihave H := (hout c) $$ HΦ
      icases H with ⟨HY, Hown, Hrest⟩
      isplitl [HY]; · iexact HY
      isplitl [Hcells Hown Hidle]
      · isplitl [Hcells Hown]; · isplitl [Hcells] <;> iassumption
        iexact Hidle
      isplitl [Hst] <;> iassumption
    simp only [pre, priv]
    rw [hmain c]
    iintro ⟨⟨Hsc, Hcells, Hidle, Hop, HO⟩, ⟨Hg, Ht⟩, HX, HE⟩
    iapply (fupd_wp frame (wpE 𝔻 𝕍 (c.tc : Thread nD τ) none) Set.univ _ _)
    imod (cellsInit_alloc cfgs dats EP hinj p c) $$ [Hcells Hg] with ⟨%κ, -, Hinit⟩
    · isplitl [Hcells] <;> iassumption
    imodintro
    iapply (PerCore.wp_customCall_entry_frame 𝕡 (fun _ q => (cfgs q).toPCfg_adm) dats ι EP κ hinj p defs₀ 𝒱₀ (fun _ => fullShare) c Set.univ (fun _ _ => Set.mem_univ _)
        (hbody c) (fun w => hW.elim w) none (fun u h => nomatch h) (X := X c) (Y := Y c) (R := scopedRest (cfgs p).spec c) (I := idleSems0 cfgs hinj p ho c)
        (Entails.of_eq (hbufs c)) (by iintro ⟨HX, -, HR⟩; iapply (hin c); isplitl [HX] <;> iassumption) hend
        (k := fun _ => rest c) (Q := fun _ => post (liftTc fin BI.emp) (c.tc : Thread nD τ))) $$ [HO Hinit Ht HX Hidle Hsc]
    · isplitl [HO Hinit Ht]
      · unfold PerCore.EntryPre Dat.owesAt owesWithin
        rw [howed₀ c]
        isplitr; · iapply (harr _); iempintro
        isplitl [HO]
        · iexists ∅; isplitr; · ipureintro; rw [Finset.coe_empty]; exact Set.empty_subset _
          iexact HO
        isplitr
        · iapply (cellsWaits_intro cfgs dats ι p c (R := iprop(emp)) fun w => hW.elim w); iempintro
        isplitl [Hinit] <;> iassumption
      isplitr; · iapply (Entails.of_eq (prefHeld_of_none _ rfl c _ _).symm); iempintro
      isplitl [HX]; · iexact HX
      isplitl [Hidle]; · iexact Hidle
      iexact Hsc
    unfold PerCore.EntryPost Dat.owesAt owesWithin
    rw [howedN c]
    iintro ⟨⟨-, ⟨%W, -, HO⟩⟩, HY, Hsems, Hsc⟩
    iapply (hrest c _)
    isplitl [Hsc Hsems Hop]
    · unfold boundary
      isplitl [Hsc]; · iexact Hsc
      isplitl [Hsems] <;> iassumption
    isplitl [HY HE]
    · isplitl [HY] <;> iassumption
    iintro ⟨Hb, HZ⟩
    unfold boundary
    icases Hb with ⟨-, Hsems, -⟩
    unfold post; simp only [liftTc_tc, fin]
    isplitr [HO]
    · isplitl [HZ] <;> iassumption
    · iexists W; iexact HO
  · -- what the devices end with, read against the final state
    have hread (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HZ, Hsems⟩, HSI⟩
      ihave %hz := (tcScoped_read_pers c s') $$ [Hsems HSI]
      · isplitl [Hsems] <;> iassumption
      imod (hZ c s') $$ [HZ HSI] with ⟨%hq, HSI⟩
      · isplitl [HZ] <;> iassumption
      imodintro
      isplitr; · ipureintro; exact ⟨hq, hz⟩
      iexact HSI
    iintro ⟨H, -, Hrest⟩ %s' HSI
    ihave %hsc := (scSems_read_zero m g s') $$ [Hrest HSI]
    · isplitl [Hrest] <;> iassumption
    imod (posts_fupd Finset.univ hread s') $$ [H HSI] with %h
    · isplitl [H] <;> iassumption
    imodintro
    ipureintro
    exact ⟨fun c => h c (Finset.mem_univ c), hsc⟩

end Cert.Exchange

end
-- ==== Proof.Exchange.lean ====
/-
  One exchange between devices: every device sends `n` slabs, each to another device, and copies `l` slabs to itself.

  The protocol is the same for the five calls of this problem, whatever the slabs are. Send `j` of device `c` goes to
  `peer c j`, and `peer · j` is an involution, so that `c` hears on its receive semaphore `j` from that same device.
  Three kinds of semaphore cells carry it, all with a single round of one duty: the send cell returns the share of the
  source, the receive cell hands over the slab of the own result as the peer wrote it, and the cell of a local copy
  does both. Who may write a slab is settled at launch: the sender holds it.

  The five bodies issue these operations in different orders; `St c a b r w z` is the state of device `c` when the first
  `a` local copies and `b` sends are issued and the first `r` receives, `w` sends and `z` local copies are waited for.
  One lemma for each kind of operation steps it.
-/
module

public import proofs.«01_k».proof.Proof.ExchangeLaunch
public import Idealize.ShloMosaic.Lib.Pipeline.Kit
public import Idealize.ShloMosaic.Lib.Rounds.Family
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation BodyObligationLoose ownSems0 launchCred scopedRest)

/-! ## The data of an exchange -/

/-- The semaphores of an exchange: one for each send, one for each receive, one for each local copy. -/
abbrev Slot (n l : ℕ) : Type := Fin n ⊕ Fin n ⊕ Fin l

/-- An exchange: the slabs of every device, whom each send goes to, the semaphores, the shares in which the sources are
    lent to the copies, and the units one slab brings. -/
structure Plan (nD : ℕ) (sig : RefSig) (n l : ℕ) where
  /-- The shape and the element type of a slab. -/
  shape : Shape
  elt : EltTy
  /-- What device `c`'s send `j` reads, on `c`, and the slab it writes, on `peer c j`. -/
  src : Dev nD → Fin n → Memref sig .tc .hbm shape elt
  dst : Dev nD → Fin n → Memref sig .tc .hbm shape elt
  /-- What device `c`'s local copy `i` reads and writes, both on `c`. -/
  srcL : Dev nD → Fin l → Memref sig .tc .hbm shape elt
  dstL : Dev nD → Fin l → Memref sig .tc .hbm shape elt
  peer : Dev nD → Fin n → Dev nD
  semS : Fin n → DmaSem sig
  semR : Fin n → DmaSem sig
  semL : Fin l → DmaSem sig
  shareS : Fin n → PosShare TreeShare
  shareL : Fin l → PosShare TreeShare
  units : ℕ

variable {nD : ℕ} {τ : Topo} {sig : RefSig} {Val : EltTy → Type} {n l : ℕ}

/-- The semaphore of a slot. -/
def Plan.sem (X : Plan nD sig n l) : Slot n l → SemLoc sig
  | .inl j => .dma (X.semS j)
  | .inr (.inl j) => .dma (X.semR j)
  | .inr (.inr i) => .dma (X.semL i)

/-- What a plan has to satisfy. -/
structure Plan.Ok (X : Plan nD sig n l) : Prop where
  peer_peer : ∀ c j, X.peer (X.peer c j) j = c
  sem_inj : Function.Injective X.sem
  units_pos : 0 < X.units
  units_dst : ∀ c j, (X.dst c j).view.amount (.dma (X.semR j)) = X.units
  units_dstL : ∀ c i, (X.dstL c i).view.amount (.dma (X.semL i)) = X.units

/-- The cell of a slot on a device. -/
def Plan.cell (X : Plan nD sig n l) (ck : Dev nD × Slot n l) : GSem nD τ sig := ((ck.1 : Thread nD τ), X.sem ck.2)

theorem Plan.cell_injective {X : Plan nD sig n l} (ok : X.Ok) : Function.Injective (X.cell (τ := τ)) := fun a b h =>
  Prod.ext (congrArg (fun g : GSem nD τ sig => g.1.1) h) (ok.sem_inj (congrArg Prod.snd h))

/-- What a device owes others at launch, and when its first `b` sends are issued: the units of the sends to come. -/
def Plan.owed (X : Plan nD sig n l) (b : ℕ) (c : Dev nD) : CellTallies nD τ sig Unit :=
  ∑ j ∈ Finset.univ.filter (fun j : Fin n => b ≤ j.val), tallyAt (X.cell (X.peer c j, .inr (.inl j))) () X.units

theorem Plan.owed_step (X : Plan nD sig n l) (c : Dev nD) (j : Fin n) :
    X.owed (τ := τ) j.val c = X.owed (j.val + 1) c + tallyAt (X.cell (X.peer c j, .inr (.inl j))) () X.units := by
  have h : Finset.univ.filter (fun i : Fin n => j.val ≤ i.val) = insert j (Finset.univ.filter fun i : Fin n => j.val + 1 ≤ i.val) := by
    ext i
    simp only [Finset.mem_filter, Finset.mem_univ, true_and, Finset.mem_insert, Fin.ext_iff]
    omega
  unfold Plan.owed
  rw [h, Finset.sum_insert (by simp), add_comm]

theorem Plan.owed_end (X : Plan nD sig n l) (c : Dev nD) : X.owed (τ := τ) n c = 0 := by
  unfold Plan.owed
  rw [Finset.filter_false_of_mem fun j _ => by have := j.isLt; omega, Finset.sum_empty]

/-! ## Resources -/

abbrev U2 (nD : ℕ) (τ : Topo) (sig : RefSig) : Type := UR sig nD τ × UR sig nD τ

local notation "𝕄" => MT nD τ sig Unit Val ℕ (U2 nD τ sig) ℕ

/-- The staging cells of the library's call rule use the first half of the ghost state, the exchange's cells the second. -/
abbrev EP : Emb (UR sig nD τ) (MT nD τ sig Unit Val ℕ (U2 nD τ sig) ℕ) := embL
abbrev ER : Emb (UR sig nD τ) (MT nD τ sig Unit Val ℕ (U2 nD τ sig) ℕ) := embR

section General
variable {M : Type*} [URA M]

theorem bigSep_with_persistent {I : Type} [DecidableEq I] {S : Finset I} {R : sProp M} [BI.Persistent R] {Φ Ψ : I → sProp M}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- One member of a family is taken out and put back changed. -/
theorem bigSep_step {I : Type} [Fintype I] [DecidableEq I] {Φ Ψ : I → sProp M} {A B : sProp M} (j : I) (h : ∀ i, i ≠ j → Φ i = Ψ i)
    (hA : Φ j = A) (hB : Ψ j = B) : bigSep Finset.univ Φ ⊢ iprop(A ∗ (B -∗ bigSep Finset.univ Ψ)) := by
  subst hA hB
  have out (Θ : I → sProp M) : bigSep Finset.univ Θ = iprop(Θ j ∗ bigSep (Finset.univ.erase j) Θ) := bigSep_erase (Finset.mem_univ j)
  rw [out Φ, out Ψ, bigSep_congr (s := Finset.univ.erase j) fun i hi => h i (Finset.ne_of_mem_erase hi)]
  iintro ⟨H, R⟩
  isplitl [H]; · iexact H
  iintro H'
  isplitl [H'] <;> iassumption

/-- A step stated with what runs after it. -/
theorem wp_of_rest {A B C D : sProp M} (key : A ⊢ iprop((B -∗ C) -∗ D)) (h : B ⊢ C) : A ⊢ D := by
  iintro H
  iapply key $$ H
  iintro H
  iapply h
  iexact H

end General

section Resources
variable (X : Plan nD sig n l) (m : (ℓ : Loc nD τ sig) → Buf Val ℓ)

/-- The share of send `j`'s source. -/
def srcPts (c : Dev nD) (j : Fin n) : sProp 𝕄 :=
  (X.src c j).view.loc (c : Thread nD τ) ↦[(X.src c j).view.set]{X.shareS j} m _
/-- The slab of device `d`'s result that device `c`'s send `j` writes, at the launch contents. -/
def hole (c d : Dev nD) (j : Fin n) : sProp 𝕄 :=
  (X.dst c j).view.loc (d : Thread nD τ) ↦[(X.dst c j).view.set]{fullShare} m _
/-- A slab's buffer on device `d` after device `c`'s send `j`. -/
def landed (c d : Dev nD) (j : Fin n) : Buf Val ((X.dst c j).view.loc (d : Thread nD τ)) :=
  (X.dst c j).view.write Val (m ((X.dst c j).view.loc (d : Thread nD τ))) ((X.src c j).view.read Val (m ((X.src c j).view.loc (c : Thread nD τ)))) Finset.univ
/-- That slab, written. -/
def filled (c d : Dev nD) (j : Fin n) : sProp 𝕄 :=
  (X.dst c j).view.loc (d : Thread nD τ) ↦[(X.dst c j).view.set]{fullShare} landed X m c d j
/-- The share of local copy `i`'s source, its slab at launch, and its slab after it. -/
def srcLPts (c : Dev nD) (i : Fin l) : sProp 𝕄 :=
  (X.srcL c i).view.loc (c : Thread nD τ) ↦[(X.srcL c i).view.set]{X.shareL i} m _
def holeL (c : Dev nD) (i : Fin l) : sProp 𝕄 :=
  (X.dstL c i).view.loc (c : Thread nD τ) ↦[(X.dstL c i).view.set]{fullShare} m _
def landedL (c : Dev nD) (i : Fin l) : Buf Val ((X.dstL c i).view.loc (c : Thread nD τ)) :=
  (X.dstL c i).view.write Val (m ((X.dstL c i).view.loc (c : Thread nD τ))) ((X.srcL c i).view.read Val (m ((X.srcL c i).view.loc (c : Thread nD τ)))) Finset.univ
def filledL (c : Dev nD) (i : Fin l) : sProp 𝕄 :=
  (X.dstL c i).view.loc (c : Thread nD τ) ↦[(X.dstL c i).view.set]{fullShare} landedL X m c i

/-- What the one round of a slot's cell delivers on device `c`. -/
def pay (c : Dev nD) : Slot n l → sProp 𝕄
  | .inl j => srcPts X m c j
  | .inr (.inl j) => filled X m (X.peer c j) c j
  | .inr (.inr i) => iprop(filledL X m c i ∗ srcLPts X m c i)

instance pay_storable (c : Dev nD) (k : Slot n l) : BI.Storable (upEmb : UEmb _ 𝕄) (pay X m c k) := by
  rcases k with j | j | i <;> unfold pay <;> simp only [srcPts, filled, filledL, srcLPts] <;> infer_instance

open Classical in
/-- The cells' schedule: a single round of one duty each. -/
def sched (ok : X.Ok) : Rounds.Schedule (GSem nD τ sig) Unit 𝕄 where
  duties g r := if r = 0 ∧ ∃ ck, g = X.cell ck then {()} else ∅
  unitless _ := False
  amount _ _ _ := X.units
  payload g _ _ := bigSep (Finset.univ.filter fun k => X.sem k = g.2) fun k => pay X m g.1.1 k
  amount_pos _ _ _ _ := ok.units_pos

variable (ok : X.Ok)

instance sched_storable (g : GSem nD τ sig) (r : ℕ) (d : Unit) : BI.Storable (upEmb : UEmb _ 𝕄) ((sched X m ok).payload g r d) := by
  unfold sched; dsimp only; infer_instance

theorem duties_cell (ck : Dev nD × Slot n l) : (sched X m ok).duties (X.cell ck) 0 = {()} := by
  unfold sched; dsimp only; exact if_pos ⟨rfl, ck, rfl⟩
theorem duties_later (g : GSem nD τ sig) (r : ℕ) (h : 1 ≤ r) : (sched X m ok).duties g r = ∅ := by
  unfold sched; dsimp only; exact if_neg fun h' => by omega
theorem expect_cell (ck : Dev nD × Slot n l) : (sched X m ok).expect (X.cell ck) 0 = X.units := by
  unfold Schedule.expect Schedule.amountOf; rw [duties_cell, Finset.sum_singleton]; rfl
theorem payload_cell (c : Dev nD) (k : Slot n l) (d : Unit) : (sched X m ok).payload (X.cell (c, k)) 0 d = pay X m c k := by
  have h : Finset.univ.filter (fun k' => X.sem k' = X.sem k) = {k} := by
    ext k'
    simp only [Finset.mem_filter, Finset.mem_univ, true_and, Finset.mem_singleton]
    exact ok.sem_inj.eq_iff
  show bigSep (Finset.univ.filter fun k' => X.sem k' = X.sem k) (fun k' => pay X m c k') = _
  rw [h, BI.bigSep_singleton]

/-! ## The state of a device -/

/-- A send: not issued, issued, or waited for. -/
def sendSt (c : Dev nD) (j : Fin n) : Bool → Bool → sProp 𝕄
  | false, _ => iprop(srcPts X m c j ∗ hole X m c (X.peer c j) j ∗ dutyTok ER (X.cell (c, .inl j)) 0 ()
      ∗ dutyTok ER (X.cell (X.peer c j, .inr (.inl j))) 0 () ∗ atPos ER (X.cell (c, .inl j)) 0 ∅ 0)
  | true, false => iprop(cred (tallyAt (X.cell (c, .inl j)) () X.units) ∗ atPos ER (X.cell (c, .inl j)) 0 ∅ 0)
  | true, true => iprop(atPos ER (X.cell (c, .inl j)) 1 ∅ 0 ∗ srcPts X m c j)
/-- A receive: still to be waited for, or waited for. -/
def recvSt (c : Dev nD) (j : Fin n) : Bool → sProp 𝕄
  | false => iprop(cred (tallyAt (X.cell (c, .inr (.inl j))) () X.units) ∗ atPos ER (X.cell (c, .inr (.inl j))) 0 ∅ 0)
  | true => iprop(atPos ER (X.cell (c, .inr (.inl j))) 1 ∅ 0 ∗ filled X m (X.peer c j) c j)
/-- A local copy: not issued, issued, or waited for. -/
def copySt (c : Dev nD) (i : Fin l) : Bool → Bool → sProp 𝕄
  | false, _ => iprop(srcLPts X m c i ∗ holeL X m c i ∗ dutyTok ER (X.cell (c, .inr (.inr i))) 0 () ∗ atPos ER (X.cell (c, .inr (.inr i))) 0 ∅ 0)
  | true, false => iprop(cred (tallyAt (X.cell (c, .inr (.inr i))) () X.units) ∗ atPos ER (X.cell (c, .inr (.inr i))) 0 ∅ 0)
  | true, true => iprop(atPos ER (X.cell (c, .inr (.inr i))) 1 ∅ 0 ∗ filledL X m c i ∗ srcLPts X m c i)

/-- The cells' invariants, under the names `K`, and that their one round is open. -/
def records (K : Dev nD × Slot n l → ℕ) : sProp 𝕄 :=
  iprop((bigSep Finset.univ fun ck => cellInv ER (sched X m ok) (K ck) (X.cell ck)) ∗ bigSep Finset.univ fun ck => reached ER (X.cell ck) 0)

instance records_persistent (K : Dev nD × Slot n l → ℕ) : BI.Persistent (records X m ok K) := by
  unfold records; infer_instance

theorem records_at (K : Dev nD × Slot n l → ℕ) (ck : Dev nD × Slot n l) :
    records X m ok K ⊢ iprop(cellInv ER (sched X m ok) (K ck) (X.cell ck) ∗ reached ER (X.cell ck) 0) :=
  BI.sep_mono (BI.bigSep_elim (Finset.mem_univ ck)) (BI.bigSep_elim (Finset.mem_univ ck))

/-- The slots of device `c` in the middle of its run. -/
def Slots (c : Dev nD) (a b r w z : ℕ) : sProp 𝕄 :=
  iprop((bigSep Finset.univ fun j : Fin n => sendSt X m c j (decide (j.val < b)) (decide (j.val < w)))
    ∗ (bigSep Finset.univ fun j : Fin n => recvSt X m c j (decide (j.val < r)))
    ∗ (bigSep Finset.univ fun i : Fin l => copySt X m c i (decide (i.val < a)) (decide (i.val < z))))

/-- The state of device `c` in the middle of its run. -/
def St (c : Dev nD) (a b r w z : ℕ) : sProp 𝕄 :=
  iprop((∃ K, records X m ok K) ∗ Slots X m c a b r w z ∗ ∃ W, owes (c : Thread nD τ) (X.owed b c) W)

end Resources

/-! ## The steps -/

section Steps
variable (X : Plan nD sig n l) (m : (ℓ : Loc nD τ sig) → Buf Val ℓ) (ok : X.Ok)
variable {Λ : Labels} {defs₀ : Defs nD τ sig Val Λ} {𝒱 : Variants} {c : Dev nD}
variable {a b r w z : ℕ} {Q : PUnit → sProp (MT nD τ sig Unit Val ℕ (U2 nD τ sig) ℕ)}
variable {k : PUnit → Prog (TpuEff nD τ sig Val Λ .tc) PUnit}

local notation "WP" => wp frame (wpE defs₀ 𝒱 (c : Thread nD τ) none) Set.univ

theorem slot_other {N : ℕ} (j : Fin N) : ∀ i : Fin N, i ≠ j → decide (i.val < j.val) = decide (i.val < j.val + 1) := fun i h => by
  have : i.val ≠ j.val := fun e => h (Fin.ext e)
  exact decide_eq_decide.mpr (by omega)

theorem step_copy (i : Fin l) (ha : a = i.val) (hz : z ≤ i.val)
    {src dst : Memref sig .tc .hbm X.shape X.elt} {sem : DmaSem sig} (hs : src = X.srcL c i) (hd : dst = X.dstL c i) (he : sem = X.semL i)
    {h₁ : src.view.WordExact} {h₂ : dst.view.WordExact} {h₃ : DmaTarget.Typed (nD := nD) (τ := τ) (p := .tc) .hbm (.dma sem) (.here dst)}
    (h : St X m ok c (a + 1) b r w z ⊢ WP (k ⟨⟩) Q) :
    St X m ok c a b r w z ⊢ WP (.op (.enqueueDma src (.here dst) (.dma sem) h₁ h₂ h₃) k) Q := by
  subst hs hd he ha
  have step := bigSep_step (Φ := fun i' : Fin l => copySt X m c i' (decide (i'.val < i.val)) (decide (i'.val < z)))
    (Ψ := fun i' : Fin l => copySt X m c i' (decide (i'.val < i.val + 1)) (decide (i'.val < z))) i
    (fun i' hi => by rw [slot_other i i' hi]) (A := copySt X m c i false false) (B := copySt X m c i true false)
    (by simp [Nat.not_lt.mpr hz]) (by simp [Nat.not_lt.mpr hz])
  have key : St X m ok c i.val b r w z ⊢ iprop((St X m ok c (i.val + 1) b r w z -∗ WP (k ⟨⟩) Q)
      -∗ WP (.op (.enqueueDma (X.srcL c i) (.here (X.dstL c i)) (.dma (X.semL i)) h₁ h₂ h₃) k) Q) := by
    unfold St Slots
    iintro ⟨⟨%K, #HK⟩, ⟨HS, HR, HL⟩, %W, HO⟩ Hk
    ihave H := step $$ HL
    icases H with ⟨Hi, Hback⟩
    unfold copySt
    icases Hi with ⟨Hsrc, Hdst, Htok, Hat⟩
    ihave Hrec := (records_at X m ok K (c, .inr (.inr i))) $$ HK
    icases Hrec with ⟨#Hinv, #Hreached⟩
    unfold srcLPts holeL
    iapply (wp_copy_pointsTo 𝒱 ER (sched X m ok) (c : Thread nD τ) none (κ := K (c, .inr (.inr i))) (d := ())
      (by rw [show (((c : Thread nD τ), SemLoc.dma (X.semL i)) : GSem nD τ sig) = X.cell (c, .inr (.inr i)) from rfl, duties_cell]; exact Finset.mem_singleton_self _)
      () X.units (ok.units_dstL c i) rfl (by
        rw [show (((c : Thread nD τ), SemLoc.dma (X.semL i)) : GSem nD τ sig) = X.cell (c, .inr (.inr i)) from rfl, payload_cell]
        exact Entails.refl _)) $$ [Hsrc Hdst Htok]
    · isplitr; · iexact Hinv
      isplitl [Hsrc]; · iexact Hsrc
      isplitl [Hdst]; · iexact Hdst
      isplitl [Htok]; · iexact Htok
      iexact Hreached
    iintro Hcr
    iapply Hk
    isplitr; · iexists K; iexact HK
    isplitr [HO]
    · isplitl [HS]; · iexact HS
      isplitl [HR]; · iexact HR
      iapply Hback
      isplitl [Hcr]; · iexact Hcr
      iexact Hat
    iexists W; iexact HO
  exact wp_of_rest key h

theorem step_send (j : Fin n) (hb : b = j.val) (hw : w ≤ j.val)
    {src dst : Memref sig .tc .hbm X.shape X.elt} {s₁ s₂ : DmaSem sig} {d : Dev nD} (hs : src = X.src c j) (hd : dst = X.dst c j)
    (hp : d = X.peer c j) (he₁ : s₁ = X.semS j) (he₂ : s₂ = X.semR j)
    {h₀ : dst.view.ref.isScScratch = false}
    {h₁ : src.view.WordExact} {h₂ : dst.view.WordExact} {h₃ : DmaTarget.Typed (nD := nD) (τ := τ) (p := .tc) .hbm (.dma s₂) (.remote d.tc dst (.dma s₁) h₀)}
    (h : St X m ok c a (b + 1) r w z ⊢ WP (k ⟨⟩) Q) :
    St X m ok c a b r w z ⊢ WP (.op (.enqueueDma src (.remote d.tc dst (.dma s₁) h₀) (.dma s₂) h₁ h₂ h₃) k) Q := by
  subst hs hd hp he₁ he₂ hb
  have step := bigSep_step (Φ := fun i : Fin n => sendSt X m c i (decide (i.val < j.val)) (decide (i.val < w)))
    (Ψ := fun i : Fin n => sendSt X m c i (decide (i.val < j.val + 1)) (decide (i.val < w))) j
    (fun i hi => by rw [slot_other j i hi]) (A := sendSt X m c j false false) (B := sendSt X m c j true false)
    (by simp [Nat.not_lt.mpr hw]) (by simp [Nat.not_lt.mpr hw])
  have key : St X m ok c a j.val r w z ⊢ iprop((St X m ok c a (j.val + 1) r w z -∗ WP (k ⟨⟩) Q)
      -∗ WP (.op (.enqueueDma (X.src c j) (.remote (X.peer c j).tc (X.dst c j) (.dma (X.semS j)) h₀) (.dma (X.semR j)) h₁ h₂ h₃) k) Q) := by
    unfold St Slots
    iintro ⟨⟨%K, #HK⟩, ⟨HS, HR, HL⟩, %W, HO⟩ Hk
    ihave H := step $$ HS
    icases H with ⟨Hj, Hback⟩
    unfold sendSt
    icases Hj with ⟨Hsrc, Hdst, Htok, Htok', Hat⟩
    ihave Hrec := (records_at X m ok K (c, .inl j)) $$ HK
    icases Hrec with ⟨#Hinv, #Hreached⟩
    ihave Hrec := (records_at X m ok K (X.peer c j, .inr (.inl j))) $$ HK
    icases Hrec with ⟨#Hinv', #Hreached'⟩
    unfold srcPts hole
    iapply (wp_send_pointsTo 𝒱 ER (sched X m ok) (c : Thread nD τ) none (c' := (X.peer c j).tc) (κ₁ := K (c, .inl j)) (κ₂ := K (X.peer c j, .inr (.inl j))) (d₁ := ()) (d₂ := ())
      (by rw [show (((c : Thread nD τ), SemLoc.dma (X.semS j)) : GSem nD τ sig) = X.cell (c, .inl j) from rfl, duties_cell]; exact Finset.mem_singleton_self _)
      (by rw [show (((X.peer c j : Thread nD τ), SemLoc.dma (X.semR j)) : GSem nD τ sig) = X.cell (X.peer c j, .inr (.inl j)) from rfl, duties_cell]; exact Finset.mem_singleton_self _)
      () () X.units (ok.units_dst c j) rfl rfl (X.owed (j.val + 1) c) (X.owed_step c j)
      (by
        rw [show (((c : Thread nD τ), SemLoc.dma (X.semS j)) : GSem nD τ sig) = X.cell (c, .inl j) from rfl, payload_cell]
        exact Entails.refl _)
      (by
        rw [show (((X.peer c j : Thread nD τ), SemLoc.dma (X.semR j)) : GSem nD τ sig) = X.cell (X.peer c j, .inr (.inl j)) from rfl, payload_cell]
        show _ ⊢ filled X m (X.peer (X.peer c j) j) (X.peer c j) j
        rw [ok.peer_peer]
        exact Entails.refl _) (hr := Topo.routes_tc _ _)) $$ [Hsrc Hdst Htok Htok' HO]
    · isplitr; · iexact Hinv
      isplitr; · iexact Hinv'
      isplitl [Hsrc]; · iexact Hsrc
      isplitl [Hdst]; · iexact Hdst
      isplitl [HO]; · iexact HO
      isplitl [Htok]; · iexact Htok
      isplitr; · iexact Hreached
      isplitl [Htok']; · iexact Htok'
      iexact Hreached'
    iintro ⟨Hcr, HO⟩
    iapply Hk
    isplitr; · iexists K; iexact HK
    isplitr [HO]
    · isplitr [HR HL]
      · iapply Hback
        isplitl [Hcr]; · iexact Hcr
        iexact Hat
      isplitl [HR] <;> iassumption
    iexists W; iexact HO
  exact wp_of_rest key h

/-- A wait for a slot's cell, all sends issued: it takes the credit and the position of the cell's owner and hands over
    what the cell delivers. -/
theorem wait_slot (s : Slot n l) {sem : DmaSem sig} (he : X.sem s = .dma sem)
    {sp sp' : Space} {sh sh' : Shape} {e e' : EltTy} {src : Memref sig .tc sp' sh' e'} {κ' : Kind} {dst : Memref sig κ' sp sh e}
    {h₁ : src.view.WordExact} {h₂ : dst.view.WordExact} (hu : dst.view.dmaCredit = X.units) (K : Dev nD × Slot n l → ℕ) {W : Waits sig Unit} :
    iprop(records X m ok K ∗ cred (tallyAt (X.cell (c, s)) () X.units) ∗ owes (c : Thread nD τ) (X.owed n c) W ∗ atPos ER (X.cell (c, s)) 0 ∅ 0)
      ⊢ iprop(((∃ W, owes (c : Thread nD τ) (X.owed n c) W) ∗ atPos ER (X.cell (c, s)) 1 ∅ 0 ∗ pay X m c s -∗ WP (k ⟨⟩) Q)
        -∗ WP (.op (.waitDma2 sem src dst h₁ h₂) k) Q) := by
  have hcell : X.cell (c, s) = (((c : Thread nD τ), SemLoc.dma sem) : GSem nD τ sig) := by unfold Plan.cell; rw [he]
  have hpay : bigSep ((sched X m ok).duties (X.cell (c, s)) 0 \ ∅) (fun d => (sched X m ok).payload (X.cell (c, s)) 0 d) = pay X m c s := by
    rw [duties_cell, Finset.sdiff_empty, BI.bigSep_singleton, payload_cell]
  have hexp := expect_cell X m ok (c, s)
  rw [X.owed_end c]
  iintro ⟨HK, Hcr, HO, Hat⟩ Hk
  ihave Hrec := (records_at X m ok K (c, s)) $$ HK
  icases Hrec with ⟨Hinv, -⟩
  rw [← hpay]
  rw [hcell] at *
  iapply (wp_wait_rest_token 𝒱 ER (sched X m ok) (c : Thread nD τ) none (κ := K (c, s)) (sm := .dma sem) (k' := X.units) (R := 0) (T := ∅) (m := 0)
    (fun K' => by rw [← hu]; exact wpE_waitDma2_eq 𝒱 (c : Thread nD τ) none Set.univ K') (Set.mem_univ _) () (by rw [hexp, Nat.zero_add])) $$ [Hinv Hcr HO Hat]
  · isplitl [Hinv]; · iexact Hinv
    isplitl [Hcr]; · iexact Hcr
    isplitl [HO]; · iexact HO
    isplitr; · rw [MayWait_zero]; iempintro
    iexact Hat
  iintro ⟨HO, Hat, -, Hpay⟩
  iapply Hk
  isplitl [HO]; · iexists _; iexact HO
  isplitl [Hat]; · iexact Hat
  iexact Hpay

section Waits
variable {sp sp' : Space} {sh sh' : Shape} {e e' : EltTy} {src : Memref sig .tc sp' sh' e'} {κ' : Kind} {dst : Memref sig κ' sp sh e}
variable {h₁ : src.view.WordExact} {h₂ : dst.view.WordExact} {sem : DmaSem sig}

theorem step_wait_recv (j : Fin n) (hr : r = j.val) (he : sem = X.semR j) (hu : dst.view.dmaCredit = X.units)
    (h : St X m ok c a n (r + 1) w z ⊢ WP (k ⟨⟩) Q) :
    St X m ok c a n r w z ⊢ WP (.op (.waitDma2 sem src dst h₁ h₂) k) Q := by
  subst he hr
  have step := bigSep_step (Φ := fun i : Fin n => recvSt X m c i (decide (i.val < j.val)))
    (Ψ := fun i : Fin n => recvSt X m c i (decide (i.val < j.val + 1))) j
    (fun i hi => by rw [slot_other j i hi]) (A := recvSt X m c j false) (B := recvSt X m c j true) (by simp) (by simp)
  refine wp_of_rest ?_ h
  unfold St Slots
  iintro ⟨⟨%K, #HK⟩, ⟨HS, HR, HL⟩, %W, HO⟩ Hk
  ihave H := step $$ HR
  icases H with ⟨Hj, Hback⟩
  unfold recvSt
  icases Hj with ⟨Hcr, Hat⟩
  iapply (wait_slot X m ok (.inr (.inl j)) rfl hu K) $$ [Hcr Hat HO]
  · isplitr; · iexact HK
    isplitl [Hcr]; · iexact Hcr
    isplitl [HO] <;> iassumption
  simp only [pay]
  iintro ⟨HO, Hat, Hpay⟩
  iapply Hk
  isplitr; · iexists K; iexact HK
  isplitr [HO]
  · isplitl [HS]; · iexact HS
    isplitr [HL]
    · iapply Hback
      isplitl [Hat]; · iexact Hat
      iexact Hpay
    iexact HL
  iexact HO

theorem step_wait_send (j : Fin n) (hw : w = j.val) (he : sem = X.semS j) (hu : dst.view.dmaCredit = X.units)
    (h : St X m ok c a n r (w + 1) z ⊢ WP (k ⟨⟩) Q) :
    St X m ok c a n r w z ⊢ WP (.op (.waitDma2 sem src dst h₁ h₂) k) Q := by
  subst he hw
  have step := bigSep_step (Φ := fun i : Fin n => sendSt X m c i (decide (i.val < n)) (decide (i.val < j.val)))
    (Ψ := fun i : Fin n => sendSt X m c i (decide (i.val < n)) (decide (i.val < j.val + 1))) j
    (fun i hi => by rw [slot_other j i hi]) (A := sendSt X m c j true false) (B := sendSt X m c j true true) (by simp) (by simp)
  refine wp_of_rest ?_ h
  unfold St Slots
  iintro ⟨⟨%K, #HK⟩, ⟨HS, HR, HL⟩, %W, HO⟩ Hk
  ihave H := step $$ HS
  icases H with ⟨Hj, Hback⟩
  unfold sendSt
  icases Hj with ⟨Hcr, Hat⟩
  iapply (wait_slot X m ok (.inl j) rfl hu K) $$ [Hcr Hat HO]
  · isplitr; · iexact HK
    isplitl [Hcr]; · iexact Hcr
    isplitl [HO] <;> iassumption
  simp only [pay]
  iintro ⟨HO, Hat, Hpay⟩
  iapply Hk
  isplitr; · iexists K; iexact HK
  isplitr [HO]
  · isplitr [HR HL]
    · iapply Hback
      isplitl [Hat]; · iexact Hat
      iexact Hpay
    isplitl [HR] <;> iassumption
  iexact HO

theorem step_wait_copy (i : Fin l) (hz : z = i.val) (ha : i.val < a) (he : sem = X.semL i) (hu : dst.view.dmaCredit = X.units)
    (h : St X m ok c a n r w (z + 1) ⊢ WP (k ⟨⟩) Q) :
    St X m ok c a n r w z ⊢ WP (.op (.waitDma2 sem src dst h₁ h₂) k) Q := by
  subst he hz
  have step := bigSep_step (Φ := fun i' : Fin l => copySt X m c i' (decide (i'.val < a)) (decide (i'.val < i.val)))
    (Ψ := fun i' : Fin l => copySt X m c i' (decide (i'.val < a)) (decide (i'.val < i.val + 1))) i
    (fun i' hi => by rw [slot_other i i' hi]) (A := copySt X m c i true false) (B := copySt X m c i true true) (by simp [ha]) (by simp [ha])
  refine wp_of_rest ?_ h
  unfold St Slots
  iintro ⟨⟨%K, #HK⟩, ⟨HS, HR, HL⟩, %W, HO⟩ Hk
  ihave H := step $$ HL
  icases H with ⟨Hi, Hback⟩
  unfold copySt
  icases Hi with ⟨Hcr, Hat⟩
  iapply (wait_slot X m ok (.inr (.inr i)) rfl hu K) $$ [Hcr Hat HO]
  · isplitr; · iexact HK
    isplitl [Hcr]; · iexact Hcr
    isplitl [HO] <;> iassumption
  simp only [pay]
  iintro ⟨HO, Hat, Hpay⟩
  iapply Hk
  isplitr; · iexists K; iexact HK
  isplitr [HO]
  · isplitl [HS]; · iexact HS
    isplitl [HR]; · iexact HR
    iapply Hback
    isplitl [Hat]; · iexact Hat
    iexact Hpay
  iexact HO

end Waits

end Steps

end Cert.Exchange

end
-- ==== Proof.ExchangeRun.lean ====
/-
  The run of a program that is one exchange (`Exchange.lean`), or starts with one: from a proof that the body steps through the exchange and
  a division of the devices' buffers among the copies, every result slab ends at what its writer's source held at
  launch, the sources are unchanged, and every semaphore is back at zero.
-/
module

public import proofs.«01_k».proof.Proof.Exchange

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {nD : ℕ} {τ : Topo} {sig : RefSig} {Val : EltTy → Type} {n l : ℕ}

local notation "𝕄" => MT nD τ sig Unit Val ℕ (U2 nD τ sig) ℕ

/-- A family over the slots, by their three kinds. -/
theorem bigSep_slots {M : Type*} [URA M] (Φ : Slot n l → sProp M) :
    bigSep Finset.univ Φ = iprop((bigSep Finset.univ fun j : Fin n => Φ (.inl j))
      ∗ (bigSep Finset.univ fun j : Fin n => Φ (.inr (.inl j))) ∗ bigSep Finset.univ fun i : Fin l => Φ (.inr (.inr i))) := by
  rw [bigSep_univ_sum, bigSep_univ_sum]; rfl

section Ends
variable (X : Plan nD sig n l) (m : (ℓ : Loc nD τ sig) → Buf Val ℓ) (ok : X.Ok)

/-- The buffers of device `c` when the exchange is over. -/
def Done (c : Dev nD) : sProp 𝕄 :=
  iprop((bigSep Finset.univ fun j : Fin n => srcPts X m c j) ∗ (bigSep Finset.univ fun j : Fin n => filled X m (X.peer c j) c j)
    ∗ bigSep Finset.univ fun i : Fin l => iprop(filledL X m c i ∗ srcLPts X m c i))

/-- With everything waited for, the cells are closed. -/
theorem close (c : Dev nD) :
    St X m ok c l n n n l ⊢ |={Set.univ}=> iprop(Done X m c ∗ ownSems0 X.sem c ∗ ∃ W, owes (c : Thread nD τ) 0 W) := by
  have hall (K : Dev nD × Slot n l → ℕ) : iprop(records X m ok K ∗ Slots X m c l n n n l)
      ⊢ iprop(Done X m c ∗ bigSep Finset.univ fun s => iprop(cellInv ER (sched X m ok) (K (c, s)) (X.cell (c, s)) ∗ atPos ER (X.cell (c, s)) 1 ∅ 0)) := by
    have hat : iprop(records X m ok K ∗ bigSep Finset.univ fun s => atPos ER (X.cell (c, s)) 1 ∅ 0)
        ⊢ (bigSep Finset.univ fun s => iprop(cellInv ER (sched X m ok) (K (c, s)) (X.cell (c, s)) ∗ atPos ER (X.cell (c, s)) 1 ∅ 0) : sProp 𝕄) :=
      bigSep_with_persistent fun s _ => BI.sep_mono_l ((records_at X m ok K (c, s)).trans (by iintro ⟨H, -⟩; iexact H))
    refine BIBase.Entails.trans ?_ (sep_mono_right hat)
    have e : Slots X m c l n n n l = iprop((bigSep Finset.univ fun j : Fin n => sendSt X m c j true true)
        ∗ (bigSep Finset.univ fun j : Fin n => recvSt X m c j true) ∗ bigSep Finset.univ fun i : Fin l => copySt X m c i true true) := by
      unfold Slots; simp only [Fin.is_lt, decide_true]
    unfold Done
    rw [e, bigSep_slots]
    simp only [sendSt, recvSt, copySt]
    rw [bigSep_sep', bigSep_sep', bigSep_sep']
    iintro ⟨HK, ⟨Ha, Hs⟩, ⟨Hb, Hf⟩, Hd, Hl⟩
    isplitl [Hs Hf Hl]
    · isplitl [Hs]; · iexact Hs
      isplitl [Hf] <;> iassumption
    isplitl [HK]; · iexact HK
    isplitl [Ha]; · iexact Ha
    isplitl [Hb] <;> iassumption
  unfold St
  rw [X.owed_end c]
  iintro ⟨⟨%K, HK⟩, HS, HO⟩
  ihave H := (hall K) $$ [HK HS]
  · isplitl [HK] <;> iassumption
  icases H with ⟨HD, Hc⟩
  imod (cells_close ER (sched X m ok) Finset.univ (fun s => X.cell (c, s)) (fun s => K (c, s)) (fun _ _ => Set.mem_univ _)
    (fun _ _ h => h) (fun _ => 1) (fun s _ r hr => duties_later X m ok _ r hr)) $$ Hc with Hz
  imodintro
  isplitl [HD]; · iexact HD
  isplitl [Hz]; · unfold ownSems0; iexact Hz
  iexact HO

/-! ## The launch -/

/-- The exchange's cells and their launch tokens. -/
def cells : Finset (GSem nD τ sig) := Finset.univ.map ⟨X.cell, X.cell_injective ok⟩
def toks : Finset (GSem nD τ sig × ℕ × Unit) :=
  Finset.univ.map ⟨fun ck => (X.cell ck, 0, ()), fun _ _ h => X.cell_injective ok (congrArg Prod.fst h)⟩

/-- What the ghost state gives at launch. -/
def Ghost : sProp 𝕄 :=
  iprop((bigSep Finset.univ fun ck => roundState ER (sched X m ok) (X.cell ck) 0) ∗ (bigSep Finset.univ fun ck => reached ER (X.cell ck) 0)
    ∗ (bigSep Finset.univ fun ck => atPos ER (X.cell ck) 0 ∅ 0) ∗ bigSep Finset.univ fun ck => dutyTok ER (X.cell ck) 0 ())

theorem fund_cells : BI.own (ER (initOf (cells X ok) (toks X ok))) ⊢ (|==> Ghost X m ok : sProp 𝕄) := by
  have h := Rounds.fund ER (sched X m ok) (cells X ok) (toks X ok)
  unfold cells toks at h
  simp only [bigSep_map] at h
  exact h

/-- A family over the cells, as one over the devices of the three kinds. -/
theorem by_kind (Φ : Dev nD × Slot n l → sProp 𝕄) :
    bigSep Finset.univ Φ = iprop((bigSep Finset.univ fun c : Dev nD => bigSep Finset.univ fun j : Fin n => Φ (c, .inl j))
      ∗ (bigSep Finset.univ fun c : Dev nD => bigSep Finset.univ fun j : Fin n => Φ (c, .inr (.inl j)))
      ∗ bigSep Finset.univ fun c : Dev nD => bigSep Finset.univ fun i : Fin l => Φ (c, .inr (.inr i))) := by
  rw [bigSep_univ_prod, ← bigSep_sep', ← bigSep_sep']
  exact bigSep_congr fun c _ => bigSep_slots _

include ok in
/-- What is indexed by the receiving device, dealt to the sending one. -/
theorem deal (Φ : Dev nD → Fin n → sProp 𝕄) :
    (bigSep Finset.univ fun c : Dev nD => bigSep Finset.univ fun j : Fin n => Φ c j)
      = bigSep Finset.univ fun c : Dev nD => bigSep Finset.univ fun j : Fin n => Φ (X.peer c j) j := by
  have swap (Ψ : Dev nD → Fin n → sProp 𝕄) : (bigSep Finset.univ fun c : Dev nD => bigSep Finset.univ fun j : Fin n => Ψ c j)
      = bigSep Finset.univ fun j : Fin n => bigSep Finset.univ fun c : Dev nD => Ψ c j := by
    rw [← bigSep_univ_prod (fun cj : Dev nD × Fin n => Ψ cj.1 cj.2), bigSep_univ_equiv (Equiv.prodComm (Fin n) (Dev nD)), bigSep_univ_prod]
    rfl
  rw [swap, swap]
  exact bigSep_congr fun j _ => bigSep_univ_equiv ⟨fun c => X.peer c j, fun c => X.peer c j, fun c => ok.peer_peer c j, fun c => ok.peer_peer c j⟩ fun c => Φ c j

include ok in
theorem credits (c : Dev nD) :
    (launchCred (X.owed (τ := τ) 0) c : sProp 𝕄) ⊢ bigSep Finset.univ fun j : Fin n => cred (tallyAt (X.cell (c, .inr (.inl j))) () X.units) := by
  have h : X.owed (τ := τ) 0 = fun d => ∑ j : Fin n, tallyAt (X.cell (X.peer d j, .inr (.inl j))) () X.units := by
    funext d; unfold Plan.owed; rw [Finset.filter_true_of_mem fun j _ => Nat.zero_le _]
  rw [h, launchCred_sum]
  exact bigSep_mono fun j _ => launchCred_tallyAt (.dma (X.semR j)) (fun d => X.peer d j) (fun d => X.peer d j)
    (fun d => ok.peer_peer d j) (fun d => ok.peer_peer d j) () X.units c

/-- The buffers a device starts from: the sources, the slabs of its own result by who writes them, and the slabs of its
    local copies. -/
def Bufs (c : Dev nD) : sProp 𝕄 :=
  iprop((bigSep Finset.univ fun j : Fin n => srcPts X m c j) ∗ (bigSep Finset.univ fun j : Fin n => hole X m (X.peer c j) c j)
    ∗ bigSep Finset.univ fun i : Fin l => iprop(srcLPts X m c i ∗ holeL X m c i))

/-- The update at launch: the invariants of all cells, and everything dealt to the device that uses it. -/
theorem start :
    iprop((bigSep Finset.univ fun c : Dev nD => iprop(ownSems0 X.sem c ∗ Bufs X m c ∗ launchCred (X.owed 0) c)) ∗ Ghost X m ok)
      ⊢ (|={Set.univ}=> bigSep Finset.univ fun c : Dev nD => iprop((∃ K, records X m ok K) ∗ Slots X m c 0 0 0 0 0) : sProp 𝕄) := by
  have hinv : iprop((bigSep Finset.univ fun c : Dev nD => ownSems0 X.sem c) ∗ bigSep Finset.univ fun ck => roundState ER (sched X m ok) (X.cell ck) 0)
      ⊢ (|={Set.univ}=> ∃ K : Dev nD × Slot n l → ℕ, bigSep Finset.univ fun ck => cellInv ER (sched X m ok) (K ck) (X.cell ck) : sProp 𝕄) := by
    have e : (bigSep Finset.univ fun c : Dev nD => ownSems0 X.sem c) = (bigSep Finset.univ fun ck : Dev nD × Slot n l => semVal (X.cell ck) 0 : sProp 𝕄) := by
      rw [bigSep_univ_prod]; rfl
    rw [e, ← bigSep_sep']
    have one (ck : Dev nD × Slot n l) : iprop(semVal (X.cell ck) 0 ∗ roundState ER (sched X m ok) (X.cell ck) 0)
        ⊢ (|={Set.univ}=> ∃ κ : ℕ, cellInv ER (sched X m ok) κ (X.cell ck) : sProp 𝕄) :=
      (Rounds.body_intro ER (sched X m ok) (X.cell ck)).trans inv_alloc
    exact ((bigSep_mono fun ck _ => one ck).trans (bigSep_fupd _ _)).trans
      (BI.fupd_mono (BI.bigSep_exists_pi Finset.univ fun (ck : Dev nD × Slot n l) (κ : ℕ) => cellInv ER (sched X m ok) κ (X.cell ck)))
  have hslots : (bigSep Finset.univ fun c : Dev nD => Slots X m c 0 0 0 0 0 : sProp 𝕄)
      = iprop((bigSep Finset.univ fun c : Dev nD => bigSep Finset.univ fun j : Fin n => sendSt X m c j false false)
        ∗ (bigSep Finset.univ fun c : Dev nD => bigSep Finset.univ fun j : Fin n => recvSt X m c j false)
        ∗ bigSep Finset.univ fun c : Dev nD => bigSep Finset.univ fun i : Fin l => copySt X m c i false false) := by
    rw [← bigSep_sep', ← bigSep_sep']
    exact bigSep_congr fun c _ => by unfold Slots; simp
  have hcr : (bigSep Finset.univ fun c : Dev nD => launchCred (X.owed 0) c : sProp 𝕄)
      ⊢ bigSep Finset.univ fun c : Dev nD => bigSep Finset.univ fun j : Fin n => cred (tallyAt (X.cell (c, .inr (.inl j))) () X.units) :=
    bigSep_mono fun c _ => credits X ok c
  have hhole : (bigSep Finset.univ fun c : Dev nD => bigSep Finset.univ fun j : Fin n => hole X m (X.peer c j) c j : sProp 𝕄)
      = bigSep Finset.univ fun c : Dev nD => bigSep Finset.univ fun j : Fin n => hole X m c (X.peer c j) j := by
    rw [deal X ok]
    exact bigSep_congr fun c _ => bigSep_congr fun j _ => by rw [ok.peer_peer]
  have hgive : iprop((∃ K, records X m ok K) ∗ bigSep Finset.univ fun c : Dev nD => Slots X m c 0 0 0 0 0)
      ⊢ (bigSep Finset.univ fun c : Dev nD => iprop((∃ K, records X m ok K) ∗ Slots X m c 0 0 0 0 0) : sProp 𝕄) :=
    bigSep_with_persistent fun c _ => Entails.refl _
  refine BIBase.Entails.trans ?_ (BI.fupd_mono hgive)
  unfold Bufs Ghost
  simp only [bigSep_sep']
  iintro ⟨⟨Hsem, ⟨Hsrc, Hhole, HsrcL, HholeL⟩, Hcr⟩, Hst, Hr, Hat, Htok⟩
  imod hinv $$ [Hsem Hst] with ⟨%K, HI⟩
  · isplitl [Hsem] <;> iassumption
  imodintro
  isplitl [HI Hr]
  · iexists K; unfold records; isplitl [HI] <;> iassumption
  ihave Hcr := hcr $$ Hcr
  ihave Hhole := (Entails.of_eq hhole) $$ Hhole
  ihave Hat := (Entails.of_eq (by_kind fun ck => atPos ER (X.cell ck) 0 ∅ 0)) $$ Hat
  ihave Htok := (Entails.of_eq (by_kind fun ck => dutyTok ER (X.cell ck) 0 ())) $$ Htok
  icases Hat with ⟨HaS, HaR, HaL⟩
  icases Htok with ⟨HtS, HtR, HtL⟩
  ihave HtR := (Entails.of_eq (deal X ok fun c j => dutyTok ER (X.cell (c, .inr (.inl j))) 0 ())) $$ HtR
  rw [hslots]
  simp only [sendSt, recvSt, copySt, bigSep_sep']
  isplitl [Hsrc Hhole HtS HtR HaS]
  · isplitl [Hsrc]; · iexact Hsrc
    isplitl [Hhole]; · iexact Hhole
    isplitl [HtS]; · iexact HtS
    isplitl [HtR] <;> iassumption
  isplitl [Hcr HaR]
  · isplitl [Hcr] <;> iassumption
  isplitl [HsrcL]; · iexact HsrcL
  isplitl [HholeL]; · iexact HholeL
  isplitl [HtL] <;> iassumption

/-! ## What the run leaves -/

/-- The end of the exchange on device `c`: sources as at launch, slabs as their writers' sources were at launch. -/
structure Final (c : Dev nD) (μ : (ℓ : Loc nD τ sig) → Buf Val ℓ) : Prop where
  src : ∀ j, ∀ i ∈ (X.src c j).view.set, μ ((X.src c j).view.loc (c : Thread nD τ)) i = m ((X.src c j).view.loc (c : Thread nD τ)) i
  dst : ∀ j, (X.dst (X.peer c j) j).view.read Val (μ ((X.dst (X.peer c j) j).view.loc (c : Thread nD τ)))
    = (X.src (X.peer c j) j).view.read Val (m ((X.src (X.peer c j) j).view.loc (X.peer c j : Thread nD τ)))
  srcL : ∀ i, ∀ x ∈ (X.srcL c i).view.set, μ ((X.srcL c i).view.loc (c : Thread nD τ)) x = m ((X.srcL c i).view.loc (c : Thread nD τ)) x
  dstL : ∀ i, (X.dstL c i).view.read Val (μ ((X.dstL c i).view.loc (c : Thread nD τ)))
    = (X.srcL c i).view.read Val (m ((X.srcL c i).view.loc (c : Thread nD τ)))

theorem read_written {c : Thread nD τ} {sh : Shape} {e : EltTy} (v : Memref sig c.2.kind .hbm sh e) {f g : Buf Val (v.view.loc c)} {w : sh.Idx → Val e}
    (h : ∀ i ∈ v.view.set, f i = v.view.write Val g w Finset.univ i) : v.view.read Val f = w := by
  rw [← View.read_write_univ (v := v.view) g w]
  funext x
  rw [View.read_apply, View.read_apply, h _ (v.view.emb_mem_set x)]

theorem done_read (c : Dev nD) (s : Phys nD τ sig Val) : iprop(Done X m c ∗ SI s) ⊢ (⌜Final X m c s.mem.mem⌝ : sProp 𝕄) := by
  have one {I : Type} [Fintype I] [DecidableEq I] {Φ : I → sProp 𝕄} {φ : I → Prop} (h : ∀ i, iprop(SI s ∗ Φ i) ⊢ (⌜φ i⌝ : sProp 𝕄)) :
      iprop(SI s ∗ bigSep Finset.univ Φ) ⊢ (⌜∀ i, φ i⌝ : sProp 𝕄) :=
    (Laws.forall_intro fun i => (BI.sep_mono_r (BI.bigSep_elim (Finset.mem_univ i))).trans (h i)).trans Laws.pure_forall.2
  have h1 : iprop(SI s ∗ bigSep Finset.univ fun j : Fin n => srcPts X m c j) ⊢ (⌜_⌝ : sProp 𝕄) := one fun j => SI_pointsTo_agree
  have h2 : iprop(SI s ∗ bigSep Finset.univ fun j : Fin n => filled X m (X.peer c j) c j) ⊢ (⌜_⌝ : sProp 𝕄) := one fun j => SI_pointsTo_agree
  have h3 : iprop(SI s ∗ bigSep Finset.univ fun i : Fin l => srcLPts X m c i) ⊢ (⌜_⌝ : sProp 𝕄) := one fun j => SI_pointsTo_agree
  have h4 : iprop(SI s ∗ bigSep Finset.univ fun i : Fin l => filledL X m c i) ⊢ (⌜_⌝ : sProp 𝕄) := one fun j => SI_pointsTo_agree
  unfold Done
  rw [bigSep_sep']
  iintro ⟨⟨Hs, Hf, HfL, HsL⟩, HSI⟩
  ihave %e1 := h1 $$ [HSI Hs]
  · isplitl [HSI] <;> iassumption
  ihave %e2 := h2 $$ [HSI Hf]
  · isplitl [HSI] <;> iassumption
  ihave %e3 := h3 $$ [HSI HsL]
  · isplitl [HSI] <;> iassumption
  ihave %e4 := h4 $$ [HSI HfL]
  · isplitl [HSI] <;> iassumption
  ipureintro
  exact ⟨e1, fun j => read_written (c := (c : Thread nD τ)) _ (e2 j), e3, fun i => read_written (c := (c : Thread nD τ)) _ (e4 i)⟩

end Ends

/-! ## The run -/

section Run
variable {Λ₀ : Labels} {P : Type} [Fintype P] [DecidableEq P]
variable (X : Plan nD sig n l) (m : (ℓ : Loc nD τ sig) → Buf Val ℓ) (ok : X.Ok)
variable (cfgs : P → Cfg sig Λ₀) (hinj : Function.Injective (cellOf (nD := nD) (τ := τ) cfgs)) (p : P)
variable (hW : ∀ q, IsEmpty (Fin (cfgs q).W)) (defs₀ : Defs nD τ sig Val Λ₀)

/-- What the call's rule keeps before and after the body. -/
def dats (q : P) (c : Dev nD) : Dat τ Val Unit ℕ (U2 nD τ sig) ℕ (cfgs q) c where
  A w := (hW q).elim w
  after w := (hW q).elim w
  Φ t := if t.val = 0 then iprop((∃ K, records X m ok K) ∗ Slots X m c 0 0 0 0 0) else iprop(Done X m c ∗ ownSems0 X.sem c)
  q w := (hW q).elim w
  owed t := if t.val = 0 then X.owed 0 c else 0

/-- The body as the launch theorem takes it, from a body that steps through the exchange. -/
theorem body_steps (hN : (cfgs p).N = 1) (c : Dev nD)
    (hbody : ∀ t s (R : sProp 𝕄), (St X m ok c l n n n l ⊢ |={Set.univ}=> R)
      → St X m ok c 0 0 0 0 0 ⊢ wp frame (wpE defs₀ Variants.none (c : Thread nD τ) none) Set.univ
          (defs₀ .tc (cfgs p).body ((cfgs p).bodyArgs t s)) fun _ => R) :
    BodyObligation (dats X m ok cfgs hW p c) defs₀ Variants.none () Set.univ := by
  intro t
  have ht : t.val = 0 := by have := t.isLt; omega
  have := hW p
  refine BIBase.Entails.trans ?_ (hbody t _ _ ?_)
  · unfold dats Dat.owesAt owesWithin
    dsimp only
    rw [if_pos (show t.castSucc.val = 0 from ht), if_pos (show t.castSucc.val = 0 from ht)]
    unfold St
    iintro ⟨⟨HK, HS⟩, ⟨%W, -, HO⟩, -⟩
    isplitl [HK]; · iexact HK
    isplitl [HS]; · iexact HS
    iexists W; iexact HO
  · unfold dats Dat.owesAt owesWithin
    dsimp only
    rw [if_neg (show ¬ t.succ.val = 0 from Nat.succ_ne_zero _), if_neg (show ¬ t.succ.val = 0 from Nat.succ_ne_zero _)]
    refine (close X m ok c).trans (BI.fupd_mono ?_)
    rw [Finset.univ_eq_empty, BI.bigSep_empty]
    iintro ⟨HD, Hz, ⟨%W, HO⟩⟩
    isplitl [HD Hz]; · isplitl [HD] <;> iassumption
    isplitl [HO]
    · iexists W
      isplitr; · ipureintro; exact fun _ _ => Or.inl trivial
      iexact HO
    iempintro

include hW hinj in
/-- An exchange at the head of `main`, run: the rest of `main` starts from the exchange's end and from what is left of the
    buffers, `E`, and what it leaves, `Z`, is read against the final memory. -/
theorem exchange_then [∀ e, Nonempty (Val e)] (hw : WinFacts (cfgs p).spec) (ho : OwnSemFacts (cfgs p).spec X.sem)
    (hN : (cfgs p).N = 1) (E : Dev nD → sProp 𝕄) (hrest : ∀ c : Dev nD, (scopedRest (cfgs p).spec c : sProp 𝕄) = BI.emp)
    (g : Dev nD → PrngReg) (main rest : Dev nD → Prog (TpuEff nD τ sig Val (Sig Λ₀ P fun q => ((cfgs q).toPCfg (Val := Val)).Adm) .tc) PUnit)
    (hmain : ∀ c, main c = .op (.customCall (entry p) ()) fun _ => rest c)
    (hbody : ∀ c t s (R : sProp 𝕄), (St X m ok c l n n n l ⊢ |={Set.univ}=> R)
      → St X m ok c 0 0 0 0 0 ⊢ wp frame (wpE defs₀ Variants.none (c : Thread nD τ) none) Set.univ
          (defs₀ .tc (cfgs p).body ((cfgs p).bodyArgs t s)) fun _ => R)
    (hbufs : ∀ c : Dev nD, (unscopedBufs c (fun b => m ((c.tc : Thread nD τ).loc b)) : sProp 𝕄) ⊢ iprop(Bufs X m c ∗ E c))
    (Z : Dev nD → sProp 𝕄) (QZ : Dev nD → ((ℓ : Loc nD τ sig) → Buf Val ℓ) → Prop)
    (htail : ∀ c (R : sProp 𝕄), iprop(boundary (c.tc : Thread nD τ) ∗ (Done X m c ∗ E c) ∗ ((boundary (c.tc : Thread nD τ) ∗ Z c) -∗ R))
      ⊢ wp frame (wpE (Pipeline.defs (fun q => Cfg.toPCfg (Val := Val) (cfgs q)) defs₀) (Variants.lift Variants.none) (c.tc : Thread nD τ) none) Set.univ
          (rest c) fun _ => R)
    (hZ : ∀ c (s : Phys nD τ sig Val), iprop(Z c ∗ SI s) ⊢ |={Set.univ}=> iprop(⌜QZ c s.mem.mem⌝ ∗ SI s)) :
    θ_run (Pipeline.defs (fun q => Cfg.toPCfg (Val := Val) (cfgs q)) defs₀) (onTc main) ⟨m, fun _ => 0, g⟩
      (fun r => (∀ c, QZ c r.2.mem) ∧ ∀ g', (g'.1.2 ≠ .tc ∨ g'.2.isScoped .tc = true) → r.2.sem g' = 0) := by
  have := hW p
  have hlast : (Fin.last (cfgs p).N).val ≠ 0 := by rw [Fin.val_last, hN]; exact Nat.one_ne_zero
  refine exchange_launch cfgs (dats X m ok cfgs hW) () hinj p hw ho EP defs₀ Variants.none m g main rest hmain
    (fun c => (body_steps X m ok cfgs p hW defs₀ hN c (hbody c)).loose) (X.owed 0)
    (fun c => by unfold dats; dsimp only; rw [if_pos (show (0 : Fin ((cfgs p).N + 1)).val = 0 from rfl)]) (fun c => by unfold dats; dsimp only; rw [if_neg hlast])
    (Ghost X m ok) (initOf (Pipeline.cells cfgs hinj) (launchToks cfgs hinj), initOf (cells X ok) (toks X ok)) ?_
    (fun c => iprop((∃ K, records X m ok K) ∗ Slots X m c 0 0 0 0 0)) (Done X m) E Z ?_ (fun c => ?_) (fun c => ?_) htail
    (fun c s => QZ c s.mem) hZ (fun s h hs => ⟨h, hs⟩)
  · iintro Hu
    ihave H := (ownU_pair _ _) $$ Hu
    icases H with ⟨HP, HX⟩
    imod (fund_cells X m ok) $$ HX with HG
    imodintro
    isplitl [HP] <;> iassumption
  · have hdeal : (bigSep Finset.univ fun c : Dev nD => iprop(ownSems0 X.sem c ∗ unscopedBufs c (fun b => m ((c.tc : Thread nD τ).loc b)) ∗ launchCred (X.owed 0) c))
        ⊢ (iprop((bigSep Finset.univ fun c : Dev nD => iprop(ownSems0 X.sem c ∗ Bufs X m c ∗ launchCred (X.owed 0) c)) ∗ bigSep Finset.univ E) : sProp 𝕄) := by
      rw [← bigSep_sep']
      refine bigSep_mono fun c _ => (sep_mono_right (sep_mono_left (hbufs c))).trans ?_
      iintro ⟨Ho, ⟨HB, HE⟩, Hc⟩
      isplitr [HE]
      · isplitl [Ho]; · iexact Ho
        isplitl [HB] <;> iassumption
      iexact HE
    rw [bigSep_sep' Finset.univ (fun c => iprop((∃ K, records X m ok K) ∗ Slots X m c 0 0 0 0 0)) E]
    refine (sep_mono_left hdeal).trans ?_
    iintro ⟨⟨HB, HE⟩, HG⟩
    imod (start X m ok) $$ [HB HG] with HX
    · isplitl [HB] <;> iassumption
    imodintro
    isplitl [HX] <;> iassumption
  · rw [hrest c]
    unfold dats
    dsimp only
    rw [if_pos (show (0 : Fin ((cfgs p).N + 1)).val = 0 from rfl)]
    iintro ⟨H, -⟩
    iexact H
  · rw [hrest c]
    unfold dats
    dsimp only
    rw [if_neg hlast]
    iintro ⟨H, H'⟩
    isplitl [H]; · iexact H
    isplitl [H']; · iexact H'
    iempintro

include hW hinj in
/-- An exchange that is all of `main`, run. -/
theorem exchange_run [∀ e, Nonempty (Val e)] (hw : WinFacts (cfgs p).spec) (ho : OwnSemFacts (cfgs p).spec X.sem)
    (hN : (cfgs p).N = 1) (hrest : ∀ c : Dev nD, (scopedRest (cfgs p).spec c : sProp 𝕄) = BI.emp)
    (g : Dev nD → PrngReg) (main : Dev nD → Prog (TpuEff nD τ sig Val (Sig Λ₀ P fun q => ((cfgs q).toPCfg (Val := Val)).Adm) .tc) PUnit)
    (hmain : ∀ c, main c = .op (.customCall (entry p) ()) fun _ => .ret ⟨⟩)
    (hbody : ∀ c t s (R : sProp 𝕄), (St X m ok c l n n n l ⊢ |={Set.univ}=> R)
      → St X m ok c 0 0 0 0 0 ⊢ wp frame (wpE defs₀ Variants.none (c : Thread nD τ) none) Set.univ
          (defs₀ .tc (cfgs p).body ((cfgs p).bodyArgs t s)) fun _ => R)
    (hbufs : ∀ c : Dev nD, (unscopedRest (cfgs p).spec c (fun b => m ((c.tc : Thread nD τ).loc b)) : sProp 𝕄) ⊢ Bufs X m c) :
    θ_run (Pipeline.defs (fun q => Cfg.toPCfg (Val := Val) (cfgs q)) defs₀) (onTc main) ⟨m, fun _ => 0, g⟩
      (fun r => (∀ c, Final X m c r.2.mem) ∧ ∀ g', (g'.1.2 ≠ .tc ∨ g'.2.isScoped .tc = true) → r.2.sem g' = 0) := by
  have := hW p
  refine exchange_then X m ok cfgs hinj p hW defs₀ hw ho hN (fun _ => BI.emp) hrest g main (fun _ => .ret ⟨⟩) hmain hbody (fun c => ?_)
    (Done X m) (Final X m) (fun c R => ?_) (fun c s => ?_)
  · rw [PerCore.unscopedBufs_split (fun _ : Dev nD => cfgs) p c (fun w => this.elim w) (fun w => this.elim w)]
    iintro ⟨-, H⟩
    isplitl [H]
    · iapply (hbufs c); iexact H
    iempintro
  · rw [wp_ret]
    iintro ⟨Hb, ⟨HD, -⟩, Hk⟩
    imodintro
    iapply Hk
    isplitl [Hb] <;> iassumption
  · iintro ⟨HD, HSI⟩
    ihave %h := (done_read X m c s) $$ [HD HSI]
    · isplitl [HD] <;> iassumption
    imodintro
    isplitr; · ipureintro; exact h
    iexact HSI

end Run

end Cert.Exchange

end
-- ==== Proof.Slabs.lean ====
/-
  A buffer of `N` slabs: the view of one of them, and the buffer held slab by slab.
-/
module

public import Idealize.ShloMosaic.Lib.Ring
public import Idealize.ShloMosaic.Lib.ShareLeaves
public import Idealize.ShloMosaic.Lib.ValueIdxCore

@[expose] public section

noncomputable section

namespace Cert.Slabs

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws

/-- `N` slabs of `R` rows and `L` lanes, and one slab with and without its leading axis. -/
abbrev Stack (N R L : ℕ) : Shape := ⟨3, ![N, R, L]⟩
abbrev Slab (R L : ℕ) : Shape := ⟨2, ![R, L]⟩

variable {nD : ℕ} {τ : Topo} {sig : RefSig} {Val : EltTy → Type} {N R L : ℕ} {e : EltTy}

/-- The slab of `M` at an offset, as the printed bodies name it. -/
abbrev at_ (M : Memref sig .tc .hbm (Stack N R L) e) (off : Fin 3 → ℕ) (inb : ∀ a, off a + (Stack 1 R L).size a ≤ (Stack N R L).size a)
    (sq : (Stack 1 R L).Squeezes (Slab R L)) : Memref sig .tc .hbm (Slab R L) e :=
  (M.slice (Rect.unit (s := Stack N R L) off (Stack 1 R L).size inb) (fun _ => rfl)).squeeze (Slab R L) sq

variable {M : Memref sig .tc .hbm (Stack N R L) e} {off : Fin 3 → ℕ} {inb : ∀ a, off a + (Stack 1 R L).size a ≤ (Stack N R L).size a}
  {sq : (Stack 1 R L).Squeezes (Slab R L)} {k : Fin N}

theorem emb_at (ho : off = ![k.val, 0, 0]) (r : Fin R) (l : Fin L) : (at_ M off inb sq).view.emb (ix2 r l) = M.view.emb (ix3 k r l) := by
  refine congrArg M.view.emb (funext fun a => ?_)
  have h : Shape.reshapeEquiv sq.numel_eq (ix2 r l) = Fin.cons (α := fun a => Fin ((Stack 1 R L).size a)) ⟨0, Nat.one_pos⟩ (ix2 r l) :=
    Shape.reshapeEquiv_cons_one (d := ![R, L]) _ _
  apply Fin.ext
  show off a + 1 * (Shape.reshapeEquiv sq.numel_eq (ix2 r l) a).val = (ix3 k r l a).val
  rw [h, ho]
  match a with
  | ⟨0, _⟩ => rfl
  | ⟨1, _⟩ => show 0 + 1 * r.val = r.val; omega
  | ⟨2, _⟩ => show 0 + 1 * l.val = l.val; omega

theorem read_at (ho : off = ![k.val, 0, 0]) (f : M.view.ty.Contents Val) (r : Fin R) (l : Fin L) :
    (at_ M off inb sq).view.read Val f (ix2 r l) = M.view.read Val f (ix3 k r l) := by
  rw [View.read_apply, View.read_apply]
  exact congrArg (fun i => cast (congrArg Val M.view.elt_eq) (f i)) (emb_at ho r l)

theorem mem_at (ho : off = ![k.val, 0, 0]) (j : (Stack N R L).Idx) : M.view.emb j ∈ (at_ M off inb sq).view.set ↔ j 0 = k := by
  constructor
  · intro h
    obtain ⟨x, -, hx⟩ := Finset.mem_map.mp h
    rw [eq_ix2 x] at hx
    rw [← M.view.emb.injective ((emb_at ho _ _).symm.trans hx)]
    rfl
  · obtain ⟨k', r, l, rfl⟩ : ∃ k' r l, j = ix3 k' r l := ⟨_, _, _, eq_ix3 j⟩
    rintro (rfl : k' = k)
    exact (emb_at (M := M) (inb := inb) (sq := sq) ho r l) ▸ View.emb_mem_set _ _

theorem exists_emb (hM : M.view.set = Finset.univ) (i : M.view.ty.Idx) : ∃ j, M.view.emb j = i := by
  obtain ⟨j, -, h⟩ := Finset.mem_map.mp (hM ▸ Finset.mem_univ i : i ∈ M.view.set)
  exact ⟨j, h⟩

variable {B : Type} [Fintype B] [DecidableEq B] (offs : B → Fin 3 → ℕ) (inbs : ∀ b a, offs b a + (Stack 1 R L).size a ≤ (Stack N R L).size a)
  (κ : B → Fin N)

/-- Every element of the buffer is in one of the slabs. -/
theorem exists_slab (hM : M.view.set = Finset.univ) (hκ : Function.Surjective κ) (ho : ∀ b, offs b = ![(κ b).val, 0, 0]) (i : M.view.ty.Idx) :
    ∃ b, i ∈ (at_ M (offs b) (inbs b) sq).view.set := by
  obtain ⟨j, rfl⟩ := exists_emb hM i
  obtain ⟨b, hb⟩ := hκ (j 0)
  exact ⟨b, (mem_at (ho b) j).mpr hb.symm⟩

local notation "𝕄" => MT nD τ sig Unit Val ℕ (UR sig nD τ × UR sig nD τ) ℕ

/-- A buffer held whole is held slab by slab. -/
theorem pointsTo_slabs (hM : M.view.set = Finset.univ) (hκ : Function.Bijective κ) (ho : ∀ b, offs b = ![(κ b).val, 0, 0])
    (c : Dev nD) (f : Buf Val (M.view.loc (c : Thread nD τ))) :
    (M.view.loc (c : Thread nD τ) ↦{fullShare} f : sProp 𝕄)
      = bigSep Finset.univ fun b => (at_ M (offs b) (inbs b) sq).view.loc (c : Thread nD τ) ↦[(at_ M (offs b) (inbs b) sq).view.set]{fullShare} f := by
  refine Ring.pointsTo_blocks (ℓ := M.view.loc (c : Thread nD τ)) (fun b => (at_ M (offs b) (inbs b) sq).view.set) (fun b b' h => ?_) ?_ f
  · refine Finset.disjoint_left.mpr fun i hi hi' => h (hκ.1 ?_)
    obtain ⟨j, rfl⟩ := exists_emb hM i
    exact ((mem_at (ho b) j).mp hi).symm.trans ((mem_at (ho b') j).mp hi')
  · refine Finset.eq_univ_of_forall fun i => Finset.mem_biUnion.mpr ?_
    obtain ⟨b, hb⟩ := exists_slab (sq := sq) offs inbs κ hM hκ.2 ho i
    exact ⟨b, Finset.mem_univ b, hb⟩

/-- Share `b` of the `n + 1` equal shares of a buffer lent `n` times over and once more. -/
def part (k : ℕ) {n : ℕ} (h : n + 1 = 2 ^ k) (b : Fin n ⊕ Fin 1) : PosShare TreeShare :=
  ShareLeaves.leaf k fullShare (finCongr h (finSumFinEquiv b))

/-- A buffer held whole is held in its shares. -/
theorem pointsTo_parts (k : ℕ) {n : ℕ} (h : n + 1 = 2 ^ k) (ℓ : Loc nD τ sig) (f : Buf Val ℓ) :
    (ℓ ↦{fullShare} f : sProp 𝕄) = bigSep Finset.univ fun b : Fin n ⊕ Fin 1 => ℓ ↦{part k h b} f := by
  rw [ShareLeaves.pointsTo_leaves Finset.univ f k fullShare, bigSep_univ_equiv (finSumFinEquiv.trans (finCongr h))]
  rfl

end Cert.Slabs

end
-- ==== Proof.Collect.lean ====
/-
  Exchanges that collect slabs: device `c` writes one slab to each of `n` devices and one to itself, always at the same
  place `κ c` of the receiver's result, and so ends with one slab from each of those devices, at that device's place.
-/
module

public import proofs.«01_k».proof.Proof.ExchangeRun
public import proofs.«01_k».proof.Proof.Slabs

@[expose] public section

noncomputable section

namespace Cert.Exchange

open Cert.Slabs

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

/-- Such an exchange. A device's copies are numbered `Fin n ⊕ Fin 1`: those to others, and the local one. -/
structure Collect (nD : ℕ) (sig : RefSig) (n N R L : ℕ) where
  elt : EltTy
  res : Memref sig .tc .hbm (Stack N R L) elt
  off : Dev nD → Fin 3 → ℕ
  inb : ∀ c a, off c a + (Stack 1 R L).size a ≤ (Stack N R L).size a
  sq : (Stack 1 R L).Squeezes (Slab R L)
  /-- What a copy of device `c` reads, and in which share. -/
  src : Dev nD → Fin n ⊕ Fin 1 → Memref sig .tc .hbm (Slab R L) elt
  share : Fin n ⊕ Fin 1 → PosShare TreeShare
  peer : Dev nD → Fin n → Dev nD
  /-- The place of a device's slabs. -/
  κ : Dev nD → Fin N
  semS : Fin n → DmaSem sig
  semR : Fin n → DmaSem sig
  semL : DmaSem sig
  units : ℕ

variable {nD : ℕ} {τ : Topo} {sig : RefSig} {Val : EltTy → Type} {n N R L : ℕ} (C : Collect nD sig n N R L)

/-- The slab that device `c` writes on every receiver. -/
abbrev Collect.slab (c : Dev nD) : Memref sig .tc .hbm (Slab R L) C.elt := at_ C.res (C.off c) (C.inb c) C.sq

def Collect.plan : Plan nD sig n 1 where
  shape := Slab R L
  elt := C.elt
  src c j := C.src c (.inl j)
  dst c _ := C.slab c
  srcL c i := C.src c (.inr i)
  dstL c _ := C.slab c
  peer := C.peer
  semS := C.semS
  semR := C.semR
  semL _ := C.semL
  shareS j := C.share (.inl j)
  shareL i := C.share (.inr i)
  units := C.units

/-- The device at the other end of a copy. -/
def Collect.who (c : Dev nD) : Fin n ⊕ Fin 1 → Dev nD := Sum.elim (C.peer c) fun _ => c

structure Collect.Good : Prop where
  res_set : C.res.view.set = Finset.univ
  off_eq : ∀ c, C.off c = ![(C.κ c).val, 0, 0]
  κ_who : ∀ c, Function.Bijective fun b => C.κ (C.who c b)

variable {C} (good : C.Good) (m : (ℓ : Loc nD τ sig) → Buf Val ℓ)

local notation "𝕄" => MT nD τ sig Unit Val ℕ (U2 nD τ sig) ℕ

/-- A buffer's pieces, those of the sends first. -/
theorem bigSep_copies (Φ : Fin n ⊕ Fin 1 → sProp 𝕄) :
    bigSep Finset.univ Φ = iprop((bigSep Finset.univ fun j => Φ (.inl j)) ∗ bigSep Finset.univ fun i => Φ (.inr i)) :=
  BI.bigSep_univ_sum Φ

include good in
/-- The sources and the result are what a device starts from. -/
theorem Collect.bufs (c : Dev nD) {A : sProp 𝕄}
    (hA : A = bigSep Finset.univ fun b => (C.src c b).view.loc (c : Thread nD τ) ↦[(C.src c b).view.set]{C.share b} m _) :
    iprop(A ∗ (C.res.view.loc (c : Thread nD τ) ↦{fullShare} m _)) ⊢ Bufs C.plan m c := by
  rw [hA, pointsTo_slabs (sq := C.sq) (fun b => C.off (C.who c b)) (fun b => C.inb (C.who c b)) (fun b => C.κ (C.who c b)) good.res_set
    (good.κ_who c) (fun b => good.off_eq _) c, bigSep_copies, bigSep_copies]
  unfold Bufs
  rw [bigSep_sep']
  iintro ⟨⟨Hs, Hl⟩, Hd, Hdl⟩
  isplitl [Hs]; · iexact Hs
  isplitl [Hd]; · iexact Hd
  isplitl [Hl]; · iexact Hl
  iexact Hdl

/-- A result's buffer on device `c` when the slab of copy `b` is in it. -/
def Collect.slabIn (c : Dev nD) (b : Fin n ⊕ Fin 1) : Buf Val (C.res.view.loc (c : Thread nD τ)) :=
  (C.slab (C.who c b)).view.write Val (m (C.res.view.loc (c : Thread nD τ)))
    ((C.src (C.who c b) b).view.read Val (m ((C.src (C.who c b) b).view.loc (C.who c b : Thread nD τ)))) Finset.univ

include good in
/-- The end of the exchange is the sources as they were and the result whole again, with every sender's slab at its place. -/
theorem Collect.whole (c : Dev nD) {A : sProp 𝕄}
    (hA : A = bigSep Finset.univ fun b => (C.src c b).view.loc (c : Thread nD τ) ↦[(C.src c b).view.set]{C.share b} m _) :
    ∃ f : Buf Val (C.res.view.loc (c : Thread nD τ)), (Done C.plan m c ⊢ iprop(A ∗ (C.res.view.loc (c : Thread nD τ) ↦{fullShare} f)))
      ∧ ∀ k, ∃ b, C.κ (C.who c b) = k ∧ ∀ r l, C.res.view.read Val f (ix3 k r l)
        = (C.src (C.who c b) b).view.read Val (m ((C.src (C.who c b) b).view.loc (C.who c b : Thread nD τ))) (ix2 r l) := by
  have ho := fun b => good.off_eq (C.who c b)
  choose β hβ using exists_slab (sq := C.sq) (fun b => C.off (C.who c b)) (fun b => C.inb (C.who c b)) (fun b => C.κ (C.who c b)) good.res_set
    (good.κ_who c).2 ho
  have hf (b) : ∀ i ∈ (C.slab (C.who c b)).view.set, C.slabIn m c (β i) i = C.slabIn m c b i := fun i hi => by
    obtain ⟨j, rfl⟩ := exists_emb good.res_set i
    rw [(good.κ_who c).1 (((mem_at (ho _) j).mp (hβ _)).symm.trans ((mem_at (ho b) j).mp hi))]
  refine ⟨fun i => C.slabIn m c (β i) i, ?_, fun k => ?_⟩
  · have e : (C.res.view.loc (c : Thread nD τ) ↦{fullShare} fun i => C.slabIn m c (β i) i : sProp 𝕄)
        = bigSep Finset.univ fun b => (C.slab (C.who c b)).view.loc (c : Thread nD τ) ↦[(C.slab (C.who c b)).view.set]{fullShare} C.slabIn m c b :=
      (pointsTo_slabs (sq := C.sq) (fun b => C.off (C.who c b)) (fun b => C.inb (C.who c b)) (fun b => C.κ (C.who c b)) good.res_set
        (good.κ_who c) ho c _).trans (bigSep_congr fun b _ => pointsTo_congr (hf b))
    rw [hA, e, bigSep_copies, bigSep_copies]
    unfold Done
    rw [bigSep_sep']
    iintro ⟨Hs, Hd, Hdl, Hl⟩
    isplitl [Hs Hl]
    · isplitl [Hs]; · iexact Hs
      iexact Hl
    isplitl [Hd]; · iexact Hd
    iexact Hdl
  · obtain ⟨b, rfl⟩ := (good.κ_who c).2 k
    refine ⟨b, rfl, fun r l => ?_⟩
    rw [← read_at (inb := C.inb (C.who c b)) (sq := C.sq) (ho b)]
    exact congrFun (read_written (c := (c : Thread nD τ)) (C.slab (C.who c b)) (hf b)) (ix2 r l)

include good in
/-- What a place of the result holds at the end: the slab that a device of this place sent. -/
theorem Collect.result {c : Dev nD} {μ : (ℓ : Loc nD τ sig) → Buf Val ℓ} (h : Final C.plan m c μ) (k : Fin N) :
    ∃ b, C.κ (C.who c b) = k ∧ ∀ r l, C.res.view.read Val (μ (C.res.view.loc (c : Thread nD τ))) (ix3 k r l)
      = (C.src (C.who c b) b).view.read Val (m ((C.src (C.who c b) b).view.loc (C.who c b : Thread nD τ))) (ix2 r l) := by
  obtain ⟨b, rfl⟩ := (good.κ_who c).2 k
  refine ⟨b, rfl, fun r l => ?_⟩
  rw [← read_at (inb := C.inb (C.who c b)) (sq := C.sq) (good.off_eq (C.who c b))]
  match b with
  | .inl j => exact congrFun (h.dst j) (ix2 r l)
  | .inr i => exact congrFun (h.dstL i) (ix2 r l)

/-- What a copy reads is unchanged at the end. -/
theorem Collect.kept {c : Dev nD} {μ : (ℓ : Loc nD τ sig) → Buf Val ℓ} (h : Final C.plan m c μ) (b : Fin n ⊕ Fin 1)
    (i : (C.src c b).view.ty.Idx) (hi : i ∈ (C.src c b).view.set) :
    μ ((C.src c b).view.loc (c : Thread nD τ)) i = m ((C.src c b).view.loc (c : Thread nD τ)) i :=
  match b with
  | .inl j => h.src j i hi
  | .inr j => h.srcL j i hi

end Cert.Exchange

end
-- ==== Proof.GatherRun.lean ====
/-
  The gather of weight shards: device `(x, y, c)` writes its shard at place `2 x + y` of its own result and of those of
  `(1 - x, y, c)`, `(x, 1 - y, c)` and `(1 - x, 1 - y, c)`.
-/
module

public import proofs.«01_k».proof.Proof.Collect
public import proofs.«01_k».proof.Proof.Gen.GatherIdeal
public import proofs.«01_k».proof.Proof.Gen.GatherIdeal.Skeleton
public import proofs.«01_k».proof.Proof.Gen.GatherIdeal.Launch

@[expose] public section

noncomputable section

namespace Cert.GatherProof

open Cert.GatherIdeal Cert.GatherIdeal.Gen Cert.Exchange Cert.Slabs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (U2 nD τ sig) ℕ

/-- The three other devices with the same third coordinate. -/
def peer (c : Dev nD) : Fin 3 → Dev nD := ![⟨k0_dev1 c, k0_dev1_lt c⟩, ⟨k0_dev2 c, k0_dev2_lt c⟩, ⟨k0_dev3 c, k0_dev3_lt c⟩]

theorem nth_inb : ∀ j : Fin 3, ∀ a, (![j.val] : Fin 1 → ℕ) a + S1.size a ≤ S3.size a := by decide

/-- One semaphore of an array of three. -/
abbrev nth (sems : DmaSems sig S3) (j : Fin 3) : DmaSem sig :=
  ((sems.slice (Rect.unit (s := S3) ![j.val] S1.size (nth_inb j))).squeeze S_ squeezes_S1_S_).sem

def collect : Collect nD sig 3 4 5184 1024 where
  elt := .bf16
  res := Memref.whole main_v1
  off := k0_off1
  inb := k0_off1_inb
  sq := squeezes_S1x5184x1024_S5184x1024
  src _ _ := Memref.whole main_arg0
  share := part 2 rfl
  peer := peer
  κ c := ⟨c.val / 2, by have := c.isLt; change c.val < 8 at this; omega⟩
  semS := nth cc0_scratch0
  semR := nth cc0_scratch1
  semL := cc0_scratch2.sem
  units := (Memref.whole main_arg0 : Memref sig .tc .hbm S5184x1024 .bf16).view.dmaCredit

theorem good : collect.Good where
  res_set := View.set_whole _
  off_eq c := (k0_off1_eq c).trans (congrArg (![·, 0, 0]) (by have := c.isLt; change c.val < 8 at this; simp only [collect]; omega))
  κ_who := by decide +kernel

theorem plan_ok : collect.plan.Ok where
  peer_peer := by decide +kernel
  sem_inj := by decide
  units_pos := View.dmaCredit_pos (Memref.whole main_arg0 : Memref sig .tc .hbm S5184x1024 .bf16).view (by decide)
  units_dst _ _ := rfl
  units_dstL _ _ := rfl

variable (m : (ℓ : Loc nD τ sig) → Buf (Elt F) ℓ)

theorem bufs (c : Dev nD) : (Pipeline.unscopedRest cfg0.spec c (fun b => m ((c.tc : Thread nD τ).loc b)) : sProp 𝕄) ⊢ Bufs collect.plan m c := by
  rw [unscopedRest0_eq]
  refine Collect.bufs good m c ((pointsTo_parts 2 rfl _ _).trans ?_)
  exact bigSep_congr fun b _ => by simp only [collect, Memref.view_whole, View.set_whole]

theorem body (c : Dev nD) (R : sProp 𝕄) (h : St collect.plan m plan_ok c 1 3 3 3 1 ⊢ |={Set.univ}=> R) :
    St collect.plan m plan_ok c 0 0 0 0 0 ⊢ wp frame (wpE defs₀ Variants.none (c : Thread nD τ) none) Set.univ
      (cc0_gather_weight_shards (F := F) (Memref.whole main_arg0) (Memref.isWhole_whole _) (Memref.whole main_v1) (Memref.isWhole_whole _)
        cc0_scratch0 cc0_scratch1 cc0_scratch2)
      fun _ => R := by
  simp only [cc0_gather_weight_shards_eq_skeleton]
  unfold cc0_gather_weight_shards_skel
  simp only [k0_part1_eq_skeleton, k0_part2_eq_skeleton, k0_part3_eq_skeleton]
  unfold k0_part1_skel k0_part2_skel k0_part3_skel
  simp only [Prog.lift, Prog.bind_op, Prog.bind_ret, Prog.pure_eq_ret, wp_deviceId]
  refine step_copy collect.plan m plan_ok 0 rfl (Nat.zero_le _) rfl rfl rfl ?_
  refine step_send collect.plan m plan_ok 0 rfl (Nat.zero_le _) rfl rfl rfl rfl rfl ?_
  refine step_send collect.plan m plan_ok 1 rfl (Nat.zero_le _) rfl rfl rfl rfl rfl ?_
  refine step_send collect.plan m plan_ok 2 rfl (Nat.zero_le _) rfl rfl rfl rfl rfl ?_
  refine step_wait_recv collect.plan m plan_ok 0 rfl rfl rfl ?_
  refine step_wait_recv collect.plan m plan_ok 1 rfl rfl rfl ?_
  refine step_wait_recv collect.plan m plan_ok 2 rfl rfl rfl ?_
  refine step_wait_send collect.plan m plan_ok 0 rfl rfl rfl ?_
  refine step_wait_send collect.plan m plan_ok 1 rfl rfl rfl ?_
  refine step_wait_send collect.plan m plan_ok 2 rfl rfl rfl ?_
  refine step_wait_copy collect.plan m plan_ok 0 rfl Nat.one_pos rfl rfl ?_
  rw [wp_ret]
  exact h

theorem run (g : Dev nD → PrngReg) :
    θ_run (defs (F := F)) (onTc (τ := τ) main) ⟨m, fun _ => 0, g⟩ (fun r => (∀ c, Final collect.plan m c r.2.mem) ∧ r.2.sem = fun _ => 0) :=
  (θ_run defs _ _).mono (fun _ h => ⟨h.1, sem_eq_zero_of_scoped (by decide) h.2⟩)
    (exchange_run collect.plan m plan_ok cfgs cellOf_inj 0 (fun _ => inferInstanceAs (IsEmpty (Fin 0))) defs₀ winFacts0 (by decide) N_0 scopedRest0_eq g main
      (fun _ => rfl) (fun c _ _ R h => body m c R h) (bufs m))

end Cert.GatherProof

end
-- ==== Proof.Stacks.lean ====
/-
  An array of `N · R` rows read as a stack of `N` slabs of `R` rows.
-/
module

public import proofs.«01_k».proof.Proof.Slabs
public import Idealize.ShloMosaic.Lib.Layout
public import Idealize.ShloMosaic.Lib.Pipeline.Value

@[expose] public section

namespace Cert.Stacks

open Cert.Slabs

open Idealize.ShloMosaic Idealize.ShloMosaic.ValueIdx

variable {α : Type} {T N R L : ℕ}

theorem stack_apply (A : (Slab T L).Idx → α) (h : (Slab T L).ShapeCasts (Stack N R L)) (k : Fin N) (r : Fin R) (l : Fin L) (i : Fin T)
    (hi : i.val = k.val * R + r.val) : shapeCast (Stack N R L) A h (ix3 k r l) = A (ix2 i l) :=
  shapeCast_apply A h _ _ (by
    rw [Shape.rowMajor_val_two, Shape.rowMajor_val_three]
    show i.val * L + l.val = (k.val * R + r.val) * L + l.val
    rw [hi])

end Cert.Stacks
-- ==== Proof.GatherValue.lean ====
/-
  The gather of weight shards against one device's view of all the rows as four stacked shards.
-/
module

public import proofs.«01_k».proof.Proof.GatherRun
public import proofs.«01_k».proof.Proof.Stacks
public import proofs.«01_k».proof.Proof.Gen.GatherRefIdeal

@[expose] public section

noncomputable section

namespace Cert.GatherProof

open Cert.GatherIdeal Cert.GatherIdeal.Gen Cert.Exchange Cert.Slabs Cert.Stacks

open Idealize.ShloMosaic Idealize.ShloMosaic.TcCoe Idealize.ShloMosaic.ValueIdx
open Idealize.SL.Sem

variable {F : FTy → Type} [FloatOps F]

/-- What the reference computes: the rows as four shards. -/
def stacked {α : Type} (A : (Slab 20736 1024).Idx → α) : (Stack 4 5184 1024).Idx → α :=
  shapeCast _ A Cert.GatherRefIdeal.Gen.shapeCasts_S20736x1024_S4x5184x1024

/-- Row `r` of shard `k`. -/
def row (k : Fin 4) (r : Fin 5184) : Fin 20736 := ⟨k.val * 5184 + r.val, by omega⟩

theorem stacked_apply {α : Type} (A : (Slab 20736 1024).Idx → α) (k : Fin 4) (r : Fin 5184) (l : Fin 1024) :
    stacked A (ix3 k r l) = A (ix2 (row k r) l) :=
  stack_apply A _ k r l (row k r) rfl

/-- The part of the rows that a device starts with. -/
abbrev own {α : Type} (c : Dev nD) (A : (Slab 20736 1024).Idx → α) : (Slab 5184 1024).Idx → α :=
  Layout.blockN ⟨2, ![5184, 1024]⟩ ⟨2, ![20736, 1024]⟩ (Layout.meshBlock [2, 2, 2] ![[0, 1], []] c) A

theorem place (c : Dev nD) : (Layout.meshBlock [2, 2, 2] (![[0, 1], []] : Fin 2 → List ℕ) c (by decide) 0).val = (collect.κ c).val := by
  revert c
  decide +kernel

theorem own_apply {α : Type} (c : Dev nD) (A : (Slab 20736 1024).Idx → α) (r : Fin 5184) (l : Fin 1024) :
    own c A (ix2 r l) = A (ix2 (row (collect.κ c) r) l) := by
  refine congrArg A (funext fun b => Fin.ext ?_)
  match b with
  | ⟨0, _⟩ => exact congrArg (· * 5184 + r.val) (place c)
  | ⟨1, _⟩ => show 0 * 1024 + l.val = l.val; omega

variable (m : (ℓ : Loc nD τ sig) → Buf (Elt F) ℓ) (g : Dev nD → PrngReg)

theorem arg_kept {c : Dev nD} {μ : (ℓ : Loc nD τ sig) → Buf (Elt F) ℓ} (h : Final collect.plan m c μ) :
    μ ((c.tc : Thread nD τ).loc main_arg0) = m ((c.tc : Thread nD τ).loc main_arg0) :=
  funext fun i => Collect.kept m h (.inl 0) i (by simp only [collect, Memref.view_whole, View.set_whole]; exact Finset.mem_univ i)

theorem result {c : Dev nD} {μ : (ℓ : Loc nD τ sig) → Buf (Elt F) ℓ} (h : Final collect.plan m c μ) (A : (Slab 20736 1024).Idx → Elt F .bf16)
    (hA : ∀ c : Dev nD, m ((c.tc : Thread nD τ).loc main_arg0) = own c A) :
    μ ((c.tc : Thread nD τ).loc main_v1) = stacked A := by
  funext i
  obtain ⟨k, r, l, rfl⟩ : ∃ k r l, i = ix3 k r l := ⟨_, _, _, eq_ix3 i⟩
  obtain ⟨b, rfl, hb⟩ := Collect.result good m h k
  exact (hb r l).trans ((congrFun (hA _) (ix2 r l)).trans ((own_apply _ A r l).trans (stacked_apply A _ r l).symm))

/-- The argument ends unchanged and every counter ends at zero. -/
theorem frame : θ_run (defs (F := F)) (onTc (τ := τ) main) ⟨m, fun _ => 0, g⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => arg_kept m (h.1 c), h.2⟩) (run m g)

/-- From shards of a whole `A`, each device ends holding all of them. -/
theorem value (A : (Slab 20736 1024).Idx → Elt F .bf16)
    (hA : ∀ c : Dev nD, m ((c.tc : Thread nD τ).loc main_arg0) = own c A) :
    θ_run (defs (F := F)) (onTc (τ := τ) main) ⟨m, fun _ => 0, g⟩ (fun r => ∀ c : Dev nD,
      r.2.mem ((c.tc : Thread nD τ).loc main_v1) = stacked A
      ∧ r.2.mem ((c.tc : Thread nD τ).loc main_arg0) = m ((c.tc : Thread nD τ).loc main_arg0)) :=
  (θ_run defs _ _).mono (fun _ h c => ⟨result m (h.1 c) A hA, arg_kept m (h.1 c)⟩) (run m g)

end Cert.GatherProof

end
-- ==== Proof.GatherClaims.lean ====
/-
  The claims about the gather of weight shards.
-/
module

public import proofs.«01_k».proof.Defs
public import proofs.«01_k».proof.Proof.GatherValue
public import proofs.«01_k».proof.Proof.Gen.Gather
public import proofs.«01_k».proof.Proof.Gen.GatherRefIdeal.Run
public import proofs.«01_k».proof.Proof.Gen.GatherRef.Run
public import Idealize.ShloMosaic.Lib.Quiescent

@[expose] public section

noncomputable section

namespace Cert.GatherProof

open Idealize.ShloMosaic Idealize.SL.Sem

theorem frame_kernel : Cert.quiescent_Gather := fun m g _ => frame (F := Bits) m g

theorem frame_ideal : Cert.quiescent_GatherIdeal := fun m g _ => frame (F := Ideal) m g

theorem frame_ref_ideal : Cert.quiescent_GatherRefIdeal := fun m g _ =>
  (θ_run Cert.GatherRefIdeal.defs _ _).mono (fun _ h => ⟨fun c => (h c).2, sem_eq_zero_of_no_sems rfl _⟩) (Cert.GatherRefIdeal.Value.run m g)

theorem frame_ref : Cert.quiescent_GatherRef := fun m g _ =>
  (θ_run Cert.GatherRef.defs _ _).mono (fun _ h => ⟨fun c => (h c).2, sem_eq_zero_of_no_sems rfl _⟩) (Cert.GatherRef.Value.run m g)

theorem preserves : Cert.preserves_Gather_GatherIdeal := trivial

theorem algebraic : Cert.algebraic_GatherIdeal_GatherRefIdeal := fun m g m' g' _ hA =>
  ⟨stacked (m' (((0 : Dev Cert.GatherRefIdeal.nD).tc : Thread Cert.GatherRefIdeal.nD Cert.GatherRefIdeal.τ).loc Cert.GatherRefIdeal.main_arg0)), value (F := Ideal) m g _ hA, (θ_run Cert.GatherRefIdeal.defs _ _).mono (fun _ h => h 0) (Cert.GatherRefIdeal.Value.run m' g')⟩

theorem bitexact : Cert.bitexact_Gather_GatherRef := fun m g m' g' _ hA =>
  ⟨stacked (m' (((0 : Dev Cert.GatherRef.nD).tc : Thread Cert.GatherRef.nD Cert.GatherRef.τ).loc Cert.GatherRef.main_arg0)), value (F := Bits) m g _ hA, (θ_run Cert.GatherRef.defs _ _).mono (fun _ h => h 0) (Cert.GatherRef.Value.run m' g')⟩

end Cert.GatherProof

end
-- ==== Proof.SwapRun.lean ====
/-
  The exchange of gradient halves: device `(x, y, c)` sends its whole buffer to `(x, y, 1 - c)` and receives that device's.
-/
module

public import proofs.«01_k».proof.Proof.ExchangeRun
public import proofs.«01_k».proof.Proof.Gen.SwapIdeal
public import proofs.«01_k».proof.Proof.Gen.SwapIdeal.Skeleton
public import proofs.«01_k».proof.Proof.Gen.SwapIdeal.Launch

@[expose] public section

noncomputable section

namespace Cert.SwapProof

open Cert.SwapIdeal Cert.SwapIdeal.Gen Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (U2 nD τ sig) ℕ

/-- The device with the other coordinate along the third axis. -/
def sib (c : Dev nD) : Dev nD := ⟨k0_dev1 c, k0_dev1_lt c⟩

def plan : Plan nD sig 1 0 where
  shape := S4x2592x1024
  elt := .bf16
  src _ _ := Memref.whole main_arg0
  dst _ _ := Memref.whole main_v1
  srcL _ i := i.elim0
  dstL _ i := i.elim0
  peer c _ := sib c
  semS _ := cc0_scratch0.sem
  semR _ := cc0_scratch1.sem
  semL i := i.elim0
  shareS _ := fullShare
  shareL i := i.elim0
  units := (Memref.whole main_v1 : Memref sig .tc .hbm _ _).view.dmaCredit

theorem sib_sib (c : Dev nD) : sib (sib c) = c := by
  apply Fin.ext
  simp only [sib, k0_dev1_eq]
  have := c.isLt
  omega

theorem plan_ok : plan.Ok where
  peer_peer c _ := sib_sib c
  sem_inj := by decide
  units_pos := View.dmaCredit_pos (Memref.whole main_v1 : Memref sig .tc .hbm S4x2592x1024 .bf16).view (by decide)
  units_dst _ _ := rfl
  units_dstL _ i := i.elim0

variable (m : (ℓ : Loc nD τ sig) → Buf (Elt F) ℓ)

theorem bufs (c : Dev nD) : (Pipeline.unscopedRest cfg0.spec c (fun b => m ((c.tc : Thread nD τ).loc b)) : sProp 𝕄) ⊢ Bufs plan m c := by
  rw [unscopedRest0_eq]
  unfold Bufs
  rw [bigSep_univ_of_subsingleton (0 : Fin 1), bigSep_univ_of_subsingleton (0 : Fin 1), Finset.univ_eq_empty (α := Fin 0), BI.bigSep_empty]
  unfold srcPts hole
  iintro ⟨Ha, Hv⟩
  isplitl [Ha]
  · iapply (Entails.of_eq (by simp only [plan, Memref.view_whole, View.set_whole])) $$ Ha
  isplitl [Hv]
  · iapply (Entails.of_eq (by simp only [plan, Memref.view_whole, View.set_whole])) $$ Hv
  iempintro

theorem body (c : Dev nD) (R : sProp 𝕄) (h : St plan m plan_ok c 0 1 1 1 0 ⊢ |={Set.univ}=> R) :
    St plan m plan_ok c 0 0 0 0 0 ⊢ wp frame (wpE defs₀ Variants.none (c : Thread nD τ) none) Set.univ
      (cc0_swap_grad_halves (F := F) (Memref.whole main_arg0) (Memref.isWhole_whole _) (Memref.whole main_v1) (Memref.isWhole_whole _) cc0_scratch0 cc0_scratch1)
      fun _ => R := by
  simp only [cc0_swap_grad_halves_eq_skeleton]
  unfold cc0_swap_grad_halves_skel
  simp only [Prog.lift, Prog.bind_op, Prog.bind_ret, Prog.pure_eq_ret, wp_deviceId]
  refine step_send plan m plan_ok 0 rfl (Nat.zero_le _) rfl rfl rfl rfl rfl ?_
  refine step_wait_send plan m plan_ok 0 rfl rfl rfl ?_
  refine step_wait_recv plan m plan_ok 0 rfl rfl rfl ?_
  rw [wp_ret]
  exact h

theorem run (g : Dev nD → PrngReg) :
    θ_run (defs (F := F)) (onTc (τ := τ) main) ⟨m, fun _ => 0, g⟩ (fun r => (∀ c, Final plan m c r.2.mem) ∧ r.2.sem = fun _ => 0) :=
  (θ_run defs _ _).mono (fun _ h => ⟨h.1, sem_eq_zero_of_scoped (by decide) h.2⟩)
    (exchange_run plan m plan_ok cfgs cellOf_inj 0 (fun _ => inferInstanceAs (IsEmpty (Fin 0))) defs₀ winFacts0 (by decide) N_0 scopedRest0_eq g main
      (fun _ => rfl) (fun c _ _ R h => body m c R h) (bufs m))

end Cert.SwapProof

end
-- ==== Proof.Rows.lean ====
/-
  Arrays of 32 slabs, four on each of eight devices, read slab by slab: slab `8 p + 4 q + s` is slab `s` of device `2 p + q`.
-/
module

public import Idealize.ShloMosaic.Lib.Layout
public import Idealize.ShloMosaic.Lib.Pipeline.Value
public import Idealize.ShloMosaic.Lib.ValueIdxCore

@[expose] public section

namespace Cert.Rows

open Idealize.ShloMosaic Idealize.ShloMosaic.ValueIdx

/-- All the slabs. -/
abbrev All : Shape := ⟨3, ![32, 2592, 1024]⟩
/-- One device's slabs. -/
abbrev Own : Shape := ⟨3, ![4, 2592, 1024]⟩
/-- All the slabs, the devices and their slabs along axes of their own. -/
abbrev Grid : Shape := ⟨5, ![4, 2, 4, 2592, 1024]⟩

variable {α : Type}

/-- Slab `s` of device `2 p + q`. -/
def slab (p : Fin 4) (q : Fin 2) (s : Fin 4) : Fin 32 := ⟨8 * p.val + 4 * q.val + s.val, by omega⟩

/-- The device with coordinates `p` and `q`. -/
def dev (p : Fin 4) (q : Fin 2) : Fin 8 := ⟨2 * p.val + q.val, by omega⟩

theorem exists_dev (c : Fin 8) : ∃ p q, c = dev p q :=
  ⟨⟨c.val / 2, by omega⟩, ⟨c.val % 2, by omega⟩, Fin.ext (by simp only [dev]; omega)⟩

theorem split_apply (A : All.Idx → α) (h : All.ShapeCasts Grid) (p : Fin 4) (q : Fin 2) (s : Fin 4) (r : Fin 2592) (l : Fin 1024) :
    shapeCast Grid A h (ix5 p q s r l) = A (ix3 (slab p q s) r l) :=
  shapeCast_apply A h _ _ (by
    rw [Shape.rowMajor_val_three, Shape.rowMajor_val_five]
    show ((8 * p.val + 4 * q.val + s.val) * 2592 + r.val) * 1024 + l.val
      = (((p.val * 2 + q.val) * 4 + s.val) * 2592 + r.val) * 1024 + l.val
    omega)

theorem join_apply (B : Grid.Idx → α) (h : Grid.ShapeCasts All) (p : Fin 4) (q : Fin 2) (s : Fin 4) (r : Fin 2592) (l : Fin 1024) :
    shapeCast All B h (ix3 (slab p q s) r l) = B (ix5 p q s r l) :=
  shapeCast_apply B h _ _ (by
    rw [Shape.rowMajor_val_three, Shape.rowMajor_val_five]
    show (((p.val * 2 + q.val) * 4 + s.val) * 2592 + r.val) * 1024 + l.val
      = ((8 * p.val + 4 * q.val + s.val) * 2592 + r.val) * 1024 + l.val
    omega)

theorem block_apply (A : All.Idx → α) (h : Layout.Tiles Own All 0 8) (p : Fin 4) (q : Fin 2) (s : Fin 4) (r : Fin 2592) (l : Fin 1024) :
    Layout.block Own All 0 8 (dev p q) A h (ix3 s r l) = A (ix3 (slab p q s) r l) :=
  congrArg A (funext fun b => by
    match b with
    | ⟨0, _⟩ =>
      apply Fin.ext
      show (2 * p.val + q.val) * 4 + s.val = 8 * p.val + 4 * q.val + s.val
      omega
    | ⟨1, _⟩ => rfl
    | ⟨2, _⟩ => rfl)

end Cert.Rows
-- ==== Proof.SwapValue.lean ====
/-
  The exchange of gradient halves against one device's swap of each pair of blocks.
-/
module

public import proofs.«01_k».proof.Proof.SwapRun
public import proofs.«01_k».proof.Proof.Rows
public import proofs.«01_k».proof.Proof.Gen.SwapRefIdeal

@[expose] public section

noncomputable section

namespace Cert.SwapProof

open Cert.SwapIdeal Cert.SwapIdeal.Gen Cert.Exchange Cert.Rows

open Idealize.ShloMosaic Idealize.ShloMosaic.TcCoe Idealize.ShloMosaic.ValueIdx
open Idealize.SL.Sem

variable {F : FTy → Type} [FloatOps F]

section Spec
open Cert.SwapRefIdeal Cert.SwapRefIdeal.Gen

/-- What the reference computes: the two blocks of each pair of devices exchanged. -/
def swapped {α : Type} (A : All.Idx → α) : All.Idx → α :=
  shapeCast _ (concatenate S4x2x4x2592x1024 1
    [⟨S4x1x4x2592x1024, extractStridedSlice S4x1x4x2592x1024 ![0, 1, 0, 0, 0] (shapeCast _ A shapeCasts_S32x2592x1024_S4x2x4x2592x1024)
        slices_S4x2x4x2592x1024_S4x1x4x2592x1024_0_1_0_0_0⟩,
     ⟨S4x1x4x2592x1024, extractStridedSlice S4x1x4x2592x1024 ![0, 0, 0, 0, 0] (shapeCast _ A shapeCasts_S32x2592x1024_S4x2x4x2592x1024)
        slices_S4x2x4x2592x1024_S4x1x4x2592x1024_0_0_0_0_0⟩]
    concatenates_S4x1x4x2592x1024_S4x1x4x2592x1024_S4x2x4x2592x1024_d1) shapeCasts_S4x2x4x2592x1024_S32x2592x1024

theorem swapped_apply {α : Type} (A : All.Idx → α) (p : Fin 4) (q : Fin 2) (s : Fin 4) (r : Fin 2592) (l : Fin 1024) :
    swapped A (ix3 (slab p q s) r l) = A (ix3 (slab p (1 - q) s) r l) := by
  refine (join_apply _ _ p q s r l).trans ?_
  match q with
  | ⟨0, _⟩ =>
    refine (concatenate_pair_apply_left (t := S4x2x4x2592x1024) (s₁ := S4x1x4x2592x1024) (s₂ := S4x1x4x2592x1024) 1 _ _ _ _ rfl
      (ix5 p 0 s r l) (fun b => ?_)).trans ?_
    · match b with
      | ⟨0, _⟩ | ⟨1, _⟩ | ⟨2, _⟩ | ⟨3, _⟩ | ⟨4, _⟩ => rfl
    refine (extractStridedSlice_apply _ _ _ _ (ix5 p 1 s r l) (fun b => ?_)).trans (split_apply A _ p 1 s r l)
    match b with
    | ⟨0, _⟩ | ⟨2, _⟩ | ⟨3, _⟩ | ⟨4, _⟩ => exact (Nat.zero_add _).symm
    | ⟨1, _⟩ => rfl
  | ⟨1, _⟩ =>
    refine (concatenate_pair_apply_right (t := S4x2x4x2592x1024) (s₁ := S4x1x4x2592x1024) (s₂ := S4x1x4x2592x1024) 1 _ _ _ _ rfl rfl
      (ix5 p 0 s r l) (fun b hb => ?_) rfl).trans ?_
    · match b with
      | ⟨0, _⟩ | ⟨2, _⟩ | ⟨3, _⟩ | ⟨4, _⟩ => rfl
      | ⟨1, _⟩ => exact absurd rfl hb
    refine (extractStridedSlice_apply _ _ _ _ (ix5 p 0 s r l) (fun b => ?_)).trans (split_apply A _ p 0 s r l)
    match b with
    | ⟨0, _⟩ | ⟨1, _⟩ | ⟨2, _⟩ | ⟨3, _⟩ | ⟨4, _⟩ => exact (Nat.zero_add _).symm

end Spec

theorem sib_dev (p : Fin 4) (q : Fin 2) : sib (dev p q) = dev p (1 - q) := by
  apply Fin.ext
  simp only [sib, k0_dev1_eq]
  match q with
  | ⟨0, _⟩ | ⟨1, _⟩ => simp [dev]; omega

/-- Each device's block of the exchanged whole is its sibling's block. -/
theorem block_swapped {α : Type} (A : All.Idx → α) (h : Layout.Tiles Own All 0 8) (c : Fin 8) :
    Layout.block Own All 0 8 c (swapped A) h = Layout.block Own All 0 8 (sib c) A h := by
  obtain ⟨p, q, rfl⟩ := exists_dev c
  funext i
  obtain ⟨s, r, l, rfl⟩ : ∃ s r l, i = ix3 s r l := ⟨_, _, _, eq_ix3 i⟩
  rw [block_apply, swapped_apply, sib_dev, block_apply]

variable (m : (ℓ : Loc nD τ sig) → Buf (Elt F) ℓ) (g : Dev nD → PrngReg)

theorem arg_kept {c : Dev nD} {μ : (ℓ : Loc nD τ sig) → Buf (Elt F) ℓ} (h : Final plan m c μ) :
    μ ((c.tc : Thread nD τ).loc main_arg0) = m ((c.tc : Thread nD τ).loc main_arg0) :=
  funext fun i => h.src 0 i (by simp only [plan, Memref.view_whole, View.set_whole]; exact Finset.mem_univ i)

theorem result {c : Dev nD} {μ : (ℓ : Loc nD τ sig) → Buf (Elt F) ℓ} (h : Final plan m c μ) :
    μ ((c.tc : Thread nD τ).loc main_v1) = m ((sib c).tc.loc main_arg0) :=
  h.dst 0

/-- The argument ends unchanged and every counter ends at zero. -/
theorem frame : θ_run (defs (F := F)) (onTc (τ := τ) main) ⟨m, fun _ => 0, g⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => arg_kept m (h.1 c), h.2⟩) (run m g)

/-- From blocks of a whole `A`, each device ends holding its block of the exchanged whole. -/
theorem value (A : All.Idx → Elt F .bf16)
    (hA : ∀ c : Dev nD, m ((c.tc : Thread nD τ).loc main_arg0) = Layout.block ⟨3, ![4, 2592, 1024]⟩ ⟨3, ![32, 2592, 1024]⟩ 0 8 c A) :
    θ_run (defs (F := F)) (onTc (τ := τ) main) ⟨m, fun _ => 0, g⟩ (fun r => ∀ c : Dev nD,
      r.2.mem ((c.tc : Thread nD τ).loc main_v1) = Layout.block ⟨3, ![4, 2592, 1024]⟩ ⟨3, ![32, 2592, 1024]⟩ 0 8 c (swapped A)
      ∧ r.2.mem ((c.tc : Thread nD τ).loc main_arg0) = m ((c.tc : Thread nD τ).loc main_arg0)) :=
  (θ_run defs _ _).mono (fun _ h c => ⟨(result m (h.1 c)).trans ((hA (sib c)).trans (block_swapped A _ c).symm), arg_kept m (h.1 c)⟩)
    (run m g)

end Cert.SwapProof

end
-- ==== Proof.SwapClaims.lean ====
/-
  The claims about the exchange of gradient halves.
-/
module

public import proofs.«01_k».proof.Defs
public import proofs.«01_k».proof.Proof.SwapValue
public import proofs.«01_k».proof.Proof.Gen.Swap
public import proofs.«01_k».proof.Proof.Gen.SwapRefIdeal.Run
public import proofs.«01_k».proof.Proof.Gen.SwapRef.Run
public import Idealize.ShloMosaic.Lib.Quiescent

@[expose] public section

noncomputable section

namespace Cert.SwapProof

open Idealize.ShloMosaic Idealize.SL.Sem

theorem frame_kernel : Cert.quiescent_Swap := fun m g _ => frame (F := Bits) m g

theorem frame_ideal : Cert.quiescent_SwapIdeal := fun m g _ => frame (F := Ideal) m g

theorem frame_ref_ideal : Cert.quiescent_SwapRefIdeal := fun m g _ =>
  (θ_run Cert.SwapRefIdeal.defs _ _).mono (fun _ h => ⟨fun c => (h c).2, sem_eq_zero_of_no_sems rfl _⟩) (Cert.SwapRefIdeal.Value.run m g)

theorem frame_ref : Cert.quiescent_SwapRef := fun m g _ =>
  (θ_run Cert.SwapRef.defs _ _).mono (fun _ h => ⟨fun c => (h c).2, sem_eq_zero_of_no_sems rfl _⟩) (Cert.SwapRef.Value.run m g)

theorem preserves : Cert.preserves_Swap_SwapIdeal := trivial

theorem algebraic : Cert.algebraic_SwapIdeal_SwapRefIdeal := fun m g m' g' _ hA =>
  ⟨swapped (m' (((0 : Dev Cert.SwapRefIdeal.nD).tc : Thread Cert.SwapRefIdeal.nD Cert.SwapRefIdeal.τ).loc Cert.SwapRefIdeal.main_arg0)), value (F := Ideal) m g _ hA, (θ_run Cert.SwapRefIdeal.defs _ _).mono (fun _ h => h 0) (Cert.SwapRefIdeal.Value.run m' g')⟩

theorem bitexact : Cert.bitexact_Swap_SwapRef := fun m g m' g' _ hA =>
  ⟨swapped (m' (((0 : Dev Cert.SwapRef.nD).tc : Thread Cert.SwapRef.nD Cert.SwapRef.τ).loc Cert.SwapRef.main_arg0)), value (F := Bits) m g _ hA, (θ_run Cert.SwapRef.defs _ _).mono (fun _ h => h 0) (Cert.SwapRef.Value.run m' g')⟩

end Cert.SwapProof

end
-- ==== Proof.ScatterRun.lean ====
/-
  The scatter of gradient quarters: device `(x, y, c)` writes at place `2 x + y` of each device `(x', y', c)`, itself among
  them, its own slab `2 x' + y'`.
-/
module

public import proofs.«01_k».proof.Proof.Collect
public import proofs.«01_k».proof.Proof.Gen.ScatterIdeal
public import proofs.«01_k».proof.Proof.Gen.ScatterIdeal.Skeleton
public import proofs.«01_k».proof.Proof.Gen.ScatterIdeal.Launch

@[expose] public section

noncomputable section

namespace Cert.ScatterProof

open Cert.ScatterIdeal Cert.ScatterIdeal.Gen Cert.Exchange Cert.Slabs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (U2 nD τ sig) ℕ

/-- The three other devices with the same third coordinate. -/
def peer (c : Dev nD) : Fin 3 → Dev nD := ![⟨k0_dev1 c, k0_dev1_lt c⟩, ⟨k0_dev2 c, k0_dev2_lt c⟩, ⟨k0_dev3 c, k0_dev3_lt c⟩]

theorem nth_inb : ∀ j : Fin 3, ∀ a, (![j.val] : Fin 1 → ℕ) a + S1.size a ≤ S3.size a := by decide

/-- One semaphore of an array of three. -/
abbrev nth (sems : DmaSems sig S3) (j : Fin 3) : DmaSem sig :=
  ((sems.slice (Rect.unit (s := S3) ![j.val] S1.size (nth_inb j))).squeeze S_ squeezes_S1_S_).sem

/-- Where a copy's source lies: at the place of the device it goes to. -/
def srcOff (c : Dev nD) : Fin 3 ⊕ Fin 1 → Fin 3 → ℕ := Sum.elim ![k0_off2 c, k0_off3 c, k0_off4 c] fun _ => k0_off1 c

theorem srcOff_inb (c : Dev nD) : ∀ b a, srcOff c b a + (Stack 1 2592 1024).size a ≤ (Stack 4 2592 1024).size a
  | .inl 0 => k0_off2_inb c
  | .inl 1 => k0_off3_inb c
  | .inl 2 => k0_off4_inb c
  | .inr _ => k0_off1_inb c

def collect : Collect nD sig 3 4 2592 1024 where
  elt := .bf16
  res := Memref.whole main_v1
  off := k0_off1
  inb := k0_off1_inb
  sq := squeezes_S1x2592x1024_S2592x1024
  src c b := at_ (Memref.whole main_arg0) (srcOff c b) (srcOff_inb c b) squeezes_S1x2592x1024_S2592x1024
  share _ := fullShare
  peer := peer
  κ c := ⟨c.val / 2, by have := c.isLt; change c.val < 8 at this; omega⟩
  semS := nth cc0_scratch0
  semR := nth cc0_scratch1
  semL := cc0_scratch2.sem
  units := (at_ (Memref.whole main_arg0) (srcOff 0 (.inr 0)) (srcOff_inb 0 (.inr 0)) squeezes_S1x2592x1024_S2592x1024).view.dmaCredit

theorem good : collect.Good where
  res_set := View.set_whole _
  off_eq c := (k0_off1_eq c).trans (congrArg (![·, 0, 0]) (by have := c.isLt; change c.val < 8 at this; simp only [collect]; omega))
  κ_who := by decide +kernel

/-- The source of a copy is the slab at the receiver's place. -/
theorem srcOff_eq : ∀ (c : Dev nD) b, srcOff c b = ![(collect.κ (collect.who c b)).val, 0, 0] := by decide +kernel

theorem plan_ok : collect.plan.Ok where
  peer_peer := by decide +kernel
  sem_inj := by decide
  units_pos := View.dmaCredit_pos (at_ (Memref.whole main_arg0) (srcOff 0 (.inr 0)) (srcOff_inb 0 (.inr 0)) squeezes_S1x2592x1024_S2592x1024).view (by decide)
  units_dst _ _ := rfl
  units_dstL _ _ := rfl

variable (m : (ℓ : Loc nD τ sig) → Buf (Elt F) ℓ)

theorem bufs (c : Dev nD) : (Pipeline.unscopedRest cfg0.spec c (fun b => m ((c.tc : Thread nD τ).loc b)) : sProp 𝕄) ⊢ Bufs collect.plan m c := by
  rw [unscopedRest0_eq]
  refine Collect.bufs good m c ?_
  exact pointsTo_slabs (M := Memref.whole main_arg0) (sq := squeezes_S1x2592x1024_S2592x1024) (srcOff c) (srcOff_inb c)
    (fun b => collect.κ (collect.who c b)) (View.set_whole _) (good.κ_who c) (srcOff_eq c) c (m ((c.tc : Thread nD τ).loc main_arg0))

theorem body (c : Dev nD) (R : sProp 𝕄) (h : St collect.plan m plan_ok c 1 3 3 3 1 ⊢ |={Set.univ}=> R) :
    St collect.plan m plan_ok c 0 0 0 0 0 ⊢ wp frame (wpE defs₀ Variants.none (c : Thread nD τ) none) Set.univ
      (cc0_scatter_grad_quarters (F := F) (Memref.whole main_arg0) (Memref.isWhole_whole _) (Memref.whole main_v1) (Memref.isWhole_whole _)
        cc0_scratch0 cc0_scratch1 cc0_scratch2)
      fun _ => R := by
  simp only [cc0_scatter_grad_quarters_eq_skeleton]
  unfold cc0_scatter_grad_quarters_skel
  simp only [k0_part1_eq_skeleton, k0_part2_eq_skeleton, k0_part3_eq_skeleton, k0_part4_eq_skeleton]
  unfold k0_part1_skel k0_part2_skel k0_part3_skel k0_part4_skel
  simp only [Prog.lift, Prog.bind_op, Prog.bind_ret, Prog.pure_eq_ret, wp_deviceId]
  refine step_copy collect.plan m plan_ok 0 rfl (Nat.zero_le _) rfl rfl rfl ?_
  refine step_send collect.plan m plan_ok 0 rfl (Nat.zero_le _) rfl rfl rfl rfl rfl ?_
  refine step_send collect.plan m plan_ok 1 rfl (Nat.zero_le _) rfl rfl rfl rfl rfl ?_
  refine step_send collect.plan m plan_ok 2 rfl (Nat.zero_le _) rfl rfl rfl rfl rfl ?_
  refine step_wait_recv collect.plan m plan_ok 0 rfl rfl rfl ?_
  refine step_wait_recv collect.plan m plan_ok 1 rfl rfl rfl ?_
  refine step_wait_recv collect.plan m plan_ok 2 rfl rfl rfl ?_
  refine step_wait_send collect.plan m plan_ok 0 rfl rfl rfl ?_
  refine step_wait_send collect.plan m plan_ok 1 rfl rfl rfl ?_
  refine step_wait_send collect.plan m plan_ok 2 rfl rfl rfl ?_
  refine step_wait_copy collect.plan m plan_ok 0 rfl Nat.one_pos rfl rfl ?_
  rw [wp_ret]
  exact h

theorem run (g : Dev nD → PrngReg) :
    θ_run (defs (F := F)) (onTc (τ := τ) main) ⟨m, fun _ => 0, g⟩ (fun r => (∀ c, Final collect.plan m c r.2.mem) ∧ r.2.sem = fun _ => 0) :=
  (θ_run defs _ _).mono (fun _ h => ⟨h.1, sem_eq_zero_of_scoped (by decide) h.2⟩)
    (exchange_run collect.plan m plan_ok cfgs cellOf_inj 0 (fun _ => inferInstanceAs (IsEmpty (Fin 0))) defs₀ winFacts0 (by decide) N_0 scopedRest0_eq g main
      (fun _ => rfl) (fun c _ _ R h => body m c R h) (bufs m))

end Cert.ScatterProof

end
-- ==== Proof.ScatterValue.lean ====
/-
  The scatter of gradient quarters against one device's exchange of two of the coordinates.
-/
module

public import proofs.«01_k».proof.Proof.ScatterRun
public import proofs.«01_k».proof.Proof.Rows
public import proofs.«01_k».proof.Proof.Gen.ScatterRefIdeal

@[expose] public section

noncomputable section

namespace Cert.ScatterProof

open Cert.ScatterIdeal Cert.ScatterIdeal.Gen Cert.Exchange Cert.Slabs Cert.Rows

open Idealize.ShloMosaic Idealize.ShloMosaic.TcCoe Idealize.ShloMosaic.ValueIdx
open Idealize.SL.Sem

variable {F : FTy → Type} [FloatOps F]

/-- What the reference computes: the devices' first coordinate and the slabs' number exchanged. -/
def transposed {α : Type} (A : All.Idx → α) : All.Idx → α :=
  shapeCast _ (transpose Cert.ScatterRefIdeal.S4x2x4x2592x1024 [2, 1, 0, 3, 4]
    (shapeCast _ A Cert.ScatterRefIdeal.Gen.shapeCasts_S32x2592x1024_S4x2x4x2592x1024)
    Cert.ScatterRefIdeal.Gen.transposes_S4x2x4x2592x1024_S4x2x4x2592x1024_2_1_0_3_4)
    Cert.ScatterRefIdeal.Gen.shapeCasts_S4x2x4x2592x1024_S32x2592x1024

theorem transposed_apply {α : Type} (A : All.Idx → α) (p : Fin 4) (q : Fin 2) (s : Fin 4) (r : Fin 2592) (l : Fin 1024) :
    transposed A (ix3 (slab p q s) r l) = A (ix3 (slab s q p) r l) := by
  refine (join_apply _ _ p q s r l).trans ((transpose_apply _ _ _ _ (ix5 s q p r l) (fun b => ?_)).trans (split_apply A _ s q p r l))
  match b with
  | ⟨0, _⟩ | ⟨1, _⟩ | ⟨2, _⟩ | ⟨3, _⟩ | ⟨4, _⟩ => rfl

/-- The slabs of a device. -/
abbrev own {α : Type} (c : Dev nD) (A : All.Idx → α) : Own.Idx → α :=
  Layout.block ⟨3, ![4, 2592, 1024]⟩ ⟨3, ![32, 2592, 1024]⟩ 0 8 c A

/-- The third coordinate of a device. -/
def third (c : Dev nD) : Fin 2 := ⟨c.val % 2, Nat.mod_lt _ (by decide)⟩

theorem dev_coords : ∀ c : Dev nD, dev (collect.κ c) (third c) = c := by decide +kernel

theorem third_who : ∀ c b, third (collect.who c b) = third c := by decide +kernel

/-- What a device receives is the sender's slab at the receiver's place. -/
theorem srcOff_who : ∀ c b, srcOff (collect.who c b) b = ![(collect.κ c).val, 0, 0] := by decide +kernel

theorem own_apply {α : Type} (c : Dev nD) (A : All.Idx → α) (s : Fin 4) (r : Fin 2592) (l : Fin 1024) :
    own c A (ix3 s r l) = A (ix3 (slab (collect.κ c) (third c) s) r l) := by
  conv_lhs => rw [← dev_coords c]
  exact block_apply A _ _ _ s r l

variable (m : (ℓ : Loc nD τ sig) → Buf (Elt F) ℓ) (g : Dev nD → PrngReg)

theorem arg_kept {c : Dev nD} {μ : (ℓ : Loc nD τ sig) → Buf (Elt F) ℓ} (h : Final collect.plan m c μ) :
    μ ((c.tc : Thread nD τ).loc main_arg0) = m ((c.tc : Thread nD τ).loc main_arg0) := by
  funext i
  obtain ⟨b, hb⟩ := exists_slab (M := Memref.whole main_arg0) (sq := squeezes_S1x2592x1024_S2592x1024) (srcOff c) (srcOff_inb c)
    (fun b => collect.κ (collect.who c b)) (View.set_whole _) (good.κ_who c).2 (srcOff_eq c) i
  exact Collect.kept m h b i hb

theorem result {c : Dev nD} {μ : (ℓ : Loc nD τ sig) → Buf (Elt F) ℓ} (h : Final collect.plan m c μ) (A : All.Idx → Elt F .bf16)
    (hA : ∀ c : Dev nD, m ((c.tc : Thread nD τ).loc main_arg0) = own c A) :
    μ ((c.tc : Thread nD τ).loc main_v1) = own c (transposed A) := by
  funext i
  obtain ⟨k, r, l, rfl⟩ : ∃ k r l, i = ix3 k r l := ⟨_, _, _, eq_ix3 i⟩
  obtain ⟨b, rfl, hb⟩ := Collect.result good m h k
  refine (hb r l).trans ((read_at (M := Memref.whole main_arg0) (sq := squeezes_S1x2592x1024_S2592x1024) (srcOff_who c b) _ r l).trans ?_)
  refine (congrFun (hA _) (ix3 (collect.κ c) r l)).trans ?_
  rw [own_apply, own_apply, transposed_apply, third_who]

/-- The argument ends unchanged and every counter ends at zero. -/
theorem frame : θ_run (defs (F := F)) (onTc (τ := τ) main) ⟨m, fun _ => 0, g⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => arg_kept m (h.1 c), h.2⟩) (run m g)

/-- From the slabs of a whole `A`, each device ends holding its slabs of the transposed whole. -/
theorem value (A : All.Idx → Elt F .bf16)
    (hA : ∀ c : Dev nD, m ((c.tc : Thread nD τ).loc main_arg0) = own c A) :
    θ_run (defs (F := F)) (onTc (τ := τ) main) ⟨m, fun _ => 0, g⟩ (fun r => ∀ c : Dev nD,
      r.2.mem ((c.tc : Thread nD τ).loc main_v1) = own c (transposed A)
      ∧ r.2.mem ((c.tc : Thread nD τ).loc main_arg0) = m ((c.tc : Thread nD τ).loc main_arg0)) :=
  (θ_run defs _ _).mono (fun _ h c => ⟨result m (h.1 c) A hA, arg_kept m (h.1 c)⟩) (run m g)

end Cert.ScatterProof

end
-- ==== Proof.ScatterClaims.lean ====
/-
  The claims about the scatter of gradient quarters.
-/
module

public import proofs.«01_k».proof.Defs
public import proofs.«01_k».proof.Proof.ScatterValue
public import proofs.«01_k».proof.Proof.Gen.Scatter
public import proofs.«01_k».proof.Proof.Gen.ScatterRefIdeal.Run
public import proofs.«01_k».proof.Proof.Gen.ScatterRef.Run
public import Idealize.ShloMosaic.Lib.Quiescent

@[expose] public section

noncomputable section

namespace Cert.ScatterProof

open Idealize.ShloMosaic Idealize.SL.Sem

theorem frame_kernel : Cert.quiescent_Scatter := fun m g _ => frame (F := Bits) m g

theorem frame_ideal : Cert.quiescent_ScatterIdeal := fun m g _ => frame (F := Ideal) m g

theorem frame_ref_ideal : Cert.quiescent_ScatterRefIdeal := fun m g _ =>
  (θ_run Cert.ScatterRefIdeal.defs _ _).mono (fun _ h => ⟨fun c => (h c).2, sem_eq_zero_of_no_sems rfl _⟩) (Cert.ScatterRefIdeal.Value.run m g)

theorem frame_ref : Cert.quiescent_ScatterRef := fun m g _ =>
  (θ_run Cert.ScatterRef.defs _ _).mono (fun _ h => ⟨fun c => (h c).2, sem_eq_zero_of_no_sems rfl _⟩) (Cert.ScatterRef.Value.run m g)

theorem preserves : Cert.preserves_Scatter_ScatterIdeal := trivial

theorem algebraic : Cert.algebraic_ScatterIdeal_ScatterRefIdeal := fun m g m' g' _ hA =>
  ⟨transposed (m' (((0 : Dev Cert.ScatterRefIdeal.nD).tc : Thread Cert.ScatterRefIdeal.nD Cert.ScatterRefIdeal.τ).loc Cert.ScatterRefIdeal.main_arg0)), value (F := Ideal) m g _ hA, (θ_run Cert.ScatterRefIdeal.defs _ _).mono (fun _ h => h 0) (Cert.ScatterRefIdeal.Value.run m' g')⟩

theorem bitexact : Cert.bitexact_Scatter_ScatterRef := fun m g m' g' _ hA =>
  ⟨transposed (m' (((0 : Dev Cert.ScatterRef.nD).tc : Thread Cert.ScatterRef.nD Cert.ScatterRef.τ).loc Cert.ScatterRef.main_arg0)), value (F := Bits) m g _ hA, (θ_run Cert.ScatterRef.defs _ _).mono (fun _ h => h 0) (Cert.ScatterRef.Value.run m' g')⟩

end Cert.ScatterProof

end
-- ==== Proof.ShareRun.lean ====
/-
  The exchange of finished halves: device `(x, y, c)` writes its half at place `c` of its own result and of that of
  `(x, y, 1 - c)`.
-/
module

public import proofs.«01_k».proof.Proof.Collect
public import proofs.«01_k».proof.Proof.Gen.ShareIdeal
public import proofs.«01_k».proof.Proof.Gen.ShareIdeal.Skeleton
public import proofs.«01_k».proof.Proof.Gen.ShareIdeal.Launch

@[expose] public section

noncomputable section

namespace Cert.ShareProof

open Cert.ShareIdeal Cert.ShareIdeal.Gen Cert.Exchange Cert.Slabs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (U2 nD τ sig) ℕ

/-- The device with the other coordinate along the third axis. -/
def sib (c : Dev nD) : Dev nD := ⟨k0_dev1 c, k0_dev1_lt c⟩

def collect : Collect nD sig 1 2 2592 1024 where
  elt := .f32
  res := Memref.whole main_v1
  off := k0_off1
  inb := k0_off1_inb
  sq := squeezes_S1x2592x1024_S2592x1024
  src _ _ := Memref.whole main_arg0
  share := part 1 rfl
  peer c _ := sib c
  κ c := ⟨c.val % 2, Nat.mod_lt _ (by decide)⟩
  semS _ := cc0_scratch0.sem
  semR _ := cc0_scratch1.sem
  semL := cc0_scratch2.sem
  units := (Memref.whole main_arg0 : Memref sig .tc .hbm S2592x1024 .f32).view.dmaCredit

theorem good : collect.Good where
  res_set := View.set_whole _
  off_eq := k0_off1_eq
  κ_who := by decide +kernel

theorem plan_ok : collect.plan.Ok where
  peer_peer := by decide +kernel
  sem_inj := by decide
  units_pos := View.dmaCredit_pos (Memref.whole main_arg0 : Memref sig .tc .hbm S2592x1024 .f32).view (by decide)
  units_dst _ _ := rfl
  units_dstL _ _ := rfl

variable (m : (ℓ : Loc nD τ sig) → Buf (Elt F) ℓ)

theorem bufs (c : Dev nD) : (Pipeline.unscopedRest cfg0.spec c (fun b => m ((c.tc : Thread nD τ).loc b)) : sProp 𝕄) ⊢ Bufs collect.plan m c := by
  rw [unscopedRest0_eq]
  refine Collect.bufs good m c ((pointsTo_parts 1 rfl _ _).trans ?_)
  exact bigSep_congr fun b _ => by simp only [collect, Memref.view_whole, View.set_whole]

theorem body (c : Dev nD) (R : sProp 𝕄) (h : St collect.plan m plan_ok c 1 1 1 1 1 ⊢ |={Set.univ}=> R) :
    St collect.plan m plan_ok c 0 0 0 0 0 ⊢ wp frame (wpE defs₀ Variants.none (c : Thread nD τ) none) Set.univ
      (cc0_share_grad_halves (F := F) (Memref.whole main_arg0) (Memref.isWhole_whole _) (Memref.whole main_v1) (Memref.isWhole_whole _)
        cc0_scratch0 cc0_scratch1 cc0_scratch2)
      fun _ => R := by
  simp only [cc0_share_grad_halves_eq_skeleton]
  unfold cc0_share_grad_halves_skel
  simp only [k0_part1_eq_skeleton]
  unfold k0_part1_skel
  simp only [Prog.lift, Prog.bind_op, Prog.bind_ret, Prog.pure_eq_ret, wp_deviceId]
  refine step_copy collect.plan m plan_ok 0 rfl (Nat.zero_le _) rfl rfl rfl ?_
  refine step_send collect.plan m plan_ok 0 rfl (Nat.zero_le _) rfl rfl rfl rfl rfl ?_
  refine step_wait_recv collect.plan m plan_ok 0 rfl rfl rfl ?_
  refine step_wait_send collect.plan m plan_ok 0 rfl rfl rfl ?_
  refine step_wait_copy collect.plan m plan_ok 0 rfl Nat.one_pos rfl rfl ?_
  rw [wp_ret]
  exact h

theorem run (g : Dev nD → PrngReg) :
    θ_run (defs (F := F)) (onTc (τ := τ) main) ⟨m, fun _ => 0, g⟩ (fun r => (∀ c, Final collect.plan m c r.2.mem) ∧ r.2.sem = fun _ => 0) :=
  (θ_run defs _ _).mono (fun _ h => ⟨h.1, sem_eq_zero_of_scoped (by decide) h.2⟩)
    (exchange_run collect.plan m plan_ok cfgs cellOf_inj 0 (fun _ => inferInstanceAs (IsEmpty (Fin 0))) defs₀ winFacts0 (by decide) N_0 scopedRest0_eq g main
      (fun _ => rfl) (fun c _ _ R h => body m c R h) (bufs m))

end Cert.ShareProof

end
-- ==== Proof.ShareValue.lean ====
/-
  The exchange of finished halves against one device's view of all the rows as eight stacked halves.
-/
module

public import proofs.«01_k».proof.Proof.ShareRun
public import proofs.«01_k».proof.Proof.Stacks
public import proofs.«01_k».proof.Proof.Gen.ShareRefIdeal

@[expose] public section

noncomputable section

namespace Cert.ShareProof

open Cert.ShareIdeal Cert.ShareIdeal.Gen Cert.Exchange Cert.Slabs Cert.Stacks

open Idealize.ShloMosaic Idealize.ShloMosaic.TcCoe Idealize.ShloMosaic.ValueIdx
open Idealize.SL.Sem

variable {F : FTy → Type} [FloatOps F]

/-- What the reference computes: the rows as eight halves. -/
def stacked {α : Type} (A : (Slab 20736 1024).Idx → α) : (Stack 8 2592 1024).Idx → α :=
  shapeCast _ A Cert.ShareRefIdeal.Gen.shapeCasts_S20736x1024_S8x2592x1024

/-- Row `r` of half `k`. -/
def row (k : Fin 8) (r : Fin 2592) : Fin 20736 := ⟨k.val * 2592 + r.val, by omega⟩

theorem stacked_apply {α : Type} (A : (Slab 20736 1024).Idx → α) (k : Fin 8) (r : Fin 2592) (l : Fin 1024) :
    stacked A (ix3 k r l) = A (ix2 (row k r) l) :=
  stack_apply A _ k r l (row k r) rfl

/-- The part of the rows that a device starts with. -/
abbrev own {α : Type} (c : Dev nD) (A : (Slab 20736 1024).Idx → α) : (Slab 2592 1024).Idx → α :=
  Layout.block ⟨2, ![2592, 1024]⟩ ⟨2, ![20736, 1024]⟩ 0 8 c A

/-- The two halves that a device ends with. -/
abbrev pair {α : Type} (c : Dev nD) (B : (Stack 8 2592 1024).Idx → α) : (Stack 2 2592 1024).Idx → α :=
  Layout.blockN ⟨3, ![2, 2592, 1024]⟩ ⟨3, ![8, 2592, 1024]⟩ (Layout.meshBlock [2, 2, 2] ![[0, 1], [], []] c) B

theorem place : ∀ c b, (Layout.meshBlock [2, 2, 2] (![[0, 1], [], []] : Fin 3 → List ℕ) c (by decide) 0).val * 2
    + (collect.κ (collect.who c b)).val = (collect.who c b).val := by
  decide +kernel

/-- A device's pair has, at the place of one of its two senders, that sender's half. -/
theorem pair_apply {α : Type} (c : Dev nD) (b : Fin 1 ⊕ Fin 1) (B : (Stack 8 2592 1024).Idx → α) (r : Fin 2592) (l : Fin 1024) :
    pair c B (ix3 (collect.κ (collect.who c b)) r l) = B (ix3 (collect.who c b) r l) := by
  refine congrArg B (funext fun a => Fin.ext ?_)
  match a with
  | ⟨0, _⟩ => exact place c b
  | ⟨1, _⟩ => show 0 * 2592 + r.val = r.val; omega
  | ⟨2, _⟩ => show 0 * 1024 + l.val = l.val; omega

theorem own_apply {α : Type} (c : Dev nD) (A : (Slab 20736 1024).Idx → α) (r : Fin 2592) (l : Fin 1024) :
    own c A (ix2 r l) = A (ix2 (row c r) l) := by
  refine congrArg A (funext fun b => Fin.ext ?_)
  match b with
  | ⟨0, _⟩ => rfl
  | ⟨1, _⟩ => rfl

variable (m : (ℓ : Loc nD τ sig) → Buf (Elt F) ℓ) (g : Dev nD → PrngReg)

theorem arg_kept {c : Dev nD} {μ : (ℓ : Loc nD τ sig) → Buf (Elt F) ℓ} (h : Final collect.plan m c μ) :
    μ ((c.tc : Thread nD τ).loc main_arg0) = m ((c.tc : Thread nD τ).loc main_arg0) :=
  funext fun i => Collect.kept m h (.inl 0) i (by simp only [collect, Memref.view_whole, View.set_whole]; exact Finset.mem_univ i)

theorem result {c : Dev nD} {μ : (ℓ : Loc nD τ sig) → Buf (Elt F) ℓ} (h : Final collect.plan m c μ) (A : (Slab 20736 1024).Idx → Elt F .f32)
    (hA : ∀ c : Dev nD, m ((c.tc : Thread nD τ).loc main_arg0) = own c A) :
    μ ((c.tc : Thread nD τ).loc main_v1) = pair c (stacked A) := by
  funext i
  obtain ⟨k, r, l, rfl⟩ : ∃ k r l, i = ix3 k r l := ⟨_, _, _, eq_ix3 i⟩
  obtain ⟨b, rfl, hb⟩ := Collect.result good m h k
  exact (hb r l).trans ((congrFun (hA _) (ix2 r l)).trans ((own_apply _ A r l).trans ((pair_apply c b _ r l).trans (stacked_apply A _ r l)).symm))

/-- The argument ends unchanged and every counter ends at zero. -/
theorem frame : θ_run (defs (F := F)) (onTc (τ := τ) main) ⟨m, fun _ => 0, g⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => arg_kept m (h.1 c), h.2⟩) (run m g)

/-- From the eight parts of a whole `A`, each device ends holding its own and its neighbour's. -/
theorem value (A : (Slab 20736 1024).Idx → Elt F .f32)
    (hA : ∀ c : Dev nD, m ((c.tc : Thread nD τ).loc main_arg0) = own c A) :
    θ_run (defs (F := F)) (onTc (τ := τ) main) ⟨m, fun _ => 0, g⟩ (fun r => ∀ c : Dev nD,
      r.2.mem ((c.tc : Thread nD τ).loc main_v1) = pair c (stacked A)
      ∧ r.2.mem ((c.tc : Thread nD τ).loc main_arg0) = m ((c.tc : Thread nD τ).loc main_arg0)) :=
  (θ_run defs _ _).mono (fun _ h c => ⟨result m (h.1 c) A hA, arg_kept m (h.1 c)⟩) (run m g)

end Cert.ShareProof

end
-- ==== Proof.ShareClaims.lean ====
/-
  The claims about the exchange of finished halves.
-/
module

public import proofs.«01_k».proof.Defs
public import proofs.«01_k».proof.Proof.ShareValue
public import proofs.«01_k».proof.Proof.Gen.Share
public import proofs.«01_k».proof.Proof.Gen.ShareRefIdeal.Run
public import proofs.«01_k».proof.Proof.Gen.ShareRef.Run
public import Idealize.ShloMosaic.Lib.Quiescent

@[expose] public section

noncomputable section

namespace Cert.ShareProof

open Idealize.ShloMosaic Idealize.SL.Sem

theorem frame_kernel : Cert.quiescent_Share := fun m g _ => frame (F := Bits) m g

theorem frame_ideal : Cert.quiescent_ShareIdeal := fun m g _ => frame (F := Ideal) m g

theorem frame_ref_ideal : Cert.quiescent_ShareRefIdeal := fun m g _ =>
  (θ_run Cert.ShareRefIdeal.defs _ _).mono (fun _ h => ⟨fun c => (h c).2, sem_eq_zero_of_no_sems rfl _⟩) (Cert.ShareRefIdeal.Value.run m g)

theorem frame_ref : Cert.quiescent_ShareRef := fun m g _ =>
  (θ_run Cert.ShareRef.defs _ _).mono (fun _ h => ⟨fun c => (h c).2, sem_eq_zero_of_no_sems rfl _⟩) (Cert.ShareRef.Value.run m g)

theorem preserves : Cert.preserves_Share_ShareIdeal := trivial

theorem algebraic : Cert.algebraic_ShareIdeal_ShareRefIdeal := fun m g m' g' _ hA =>
  ⟨stacked (m' (((0 : Dev Cert.ShareRefIdeal.nD).tc : Thread Cert.ShareRefIdeal.nD Cert.ShareRefIdeal.τ).loc Cert.ShareRefIdeal.main_arg0)), value (F := Ideal) m g _ hA, (θ_run Cert.ShareRefIdeal.defs _ _).mono (fun _ h => h 0) (Cert.ShareRefIdeal.Value.run m' g')⟩

theorem bitexact : Cert.bitexact_Share_ShareRef := fun m g m' g' _ hA =>
  ⟨stacked (m' (((0 : Dev Cert.ShareRef.nD).tc : Thread Cert.ShareRef.nD Cert.ShareRef.τ).loc Cert.ShareRef.main_arg0)), value (F := Bits) m g _ hA, (θ_run Cert.ShareRef.defs _ _).mono (fun _ h => h 0) (Cert.ShareRef.Value.run m' g')⟩

end Cert.ShareProof

end
-- ==== Proof.SmallRun.lean ====
/-
  The gather of small gradients: each device writes its rows at its own place of its result and of that of every other
  device.
-/
module

public import proofs.«01_k».proof.Proof.Collect
public import proofs.«01_k».proof.Proof.Gen.SmallIdeal
public import proofs.«01_k».proof.Proof.Gen.SmallIdeal.Skeleton
public import proofs.«01_k».proof.Proof.Gen.SmallIdeal.Launch

@[expose] public section

noncomputable section

namespace Cert.SmallProof

open Cert.SmallIdeal Cert.SmallIdeal.Gen Cert.Exchange Cert.Slabs

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (U2 nD τ sig) ℕ

/-- The seven other devices. -/
def peer (c : Dev nD) : Fin 7 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩]

theorem nth_inb : ∀ j : Fin 7, ∀ a, (![j.val] : Fin 1 → ℕ) a + S1.size a ≤ S7.size a := by decide

/-- One semaphore of an array of seven. -/
abbrev nth (sems : DmaSems sig S7) (j : Fin 7) : DmaSem sig :=
  ((sems.slice (Rect.unit (s := S7) ![j.val] S1.size (nth_inb j))).squeeze S_ squeezes_S1_S_).sem

def collect : Collect nD sig 7 8 16 1024 where
  elt := .f32
  res := Memref.whole main_v1
  off := k0_off1
  inb := k0_off1_inb
  sq := squeezes_S1x16x1024_S16x1024
  src _ _ := Memref.whole main_arg0
  share := part 3 rfl
  peer := peer
  κ c := c
  semS := nth cc0_scratch0
  semR := nth cc0_scratch1
  semL := cc0_scratch2.sem
  units := (Memref.whole main_arg0 : Memref sig .tc .hbm S16x1024 .f32).view.dmaCredit

theorem good : collect.Good where
  res_set := View.set_whole _
  off_eq c := (k0_off1_eq c).trans (congrArg (![·, 0, 0]) (by have := c.isLt; change c.val < 8 at this; simp only [collect]; omega))
  κ_who := by decide +kernel

theorem plan_ok : collect.plan.Ok where
  peer_peer := by decide +kernel
  sem_inj := by decide
  units_pos := View.dmaCredit_pos (Memref.whole main_arg0 : Memref sig .tc .hbm S16x1024 .f32).view (by decide)
  units_dst _ _ := rfl
  units_dstL _ _ := rfl

variable (m : (ℓ : Loc nD τ sig) → Buf (Elt F) ℓ)

theorem bufs (c : Dev nD) : (Pipeline.unscopedRest cfg0.spec c (fun b => m ((c.tc : Thread nD τ).loc b)) : sProp 𝕄) ⊢ Bufs collect.plan m c := by
  rw [unscopedRest0_eq]
  refine Collect.bufs good m c ((pointsTo_parts 3 rfl _ _).trans ?_)
  exact bigSep_congr fun b _ => by simp only [collect, Memref.view_whole, View.set_whole]

theorem body (c : Dev nD) (R : sProp 𝕄) (h : St collect.plan m plan_ok c 1 7 7 7 1 ⊢ |={Set.univ}=> R) :
    St collect.plan m plan_ok c 0 0 0 0 0 ⊢ wp frame (wpE defs₀ Variants.none (c : Thread nD τ) none) Set.univ
      (cc0_gather_small_grads (F := F) (Memref.whole main_arg0) (Memref.isWhole_whole _) (Memref.whole main_v1) (Memref.isWhole_whole _)
        cc0_scratch0 cc0_scratch1 cc0_scratch2)
      fun _ => R := by
  simp only [cc0_gather_small_grads_eq_skeleton]
  unfold cc0_gather_small_grads_skel
  simp only [k0_part1_eq_skeleton, k0_part2_eq_skeleton, k0_part3_eq_skeleton, k0_part4_eq_skeleton, k0_part5_eq_skeleton, k0_part6_eq_skeleton, k0_part7_eq_skeleton]
  unfold k0_part1_skel k0_part2_skel k0_part3_skel k0_part4_skel k0_part5_skel k0_part6_skel k0_part7_skel
  simp only [Prog.lift, Prog.bind_op, Prog.bind_ret, Prog.pure_eq_ret, wp_deviceId]
  refine step_copy collect.plan m plan_ok 0 rfl (Nat.zero_le _) rfl rfl rfl ?_
  refine step_send collect.plan m plan_ok 0 rfl (Nat.zero_le _) rfl rfl rfl rfl rfl ?_
  refine step_send collect.plan m plan_ok 1 rfl (Nat.zero_le _) rfl rfl rfl rfl rfl ?_
  refine step_send collect.plan m plan_ok 2 rfl (Nat.zero_le _) rfl rfl rfl rfl rfl ?_
  refine step_send collect.plan m plan_ok 3 rfl (Nat.zero_le _) rfl rfl rfl rfl rfl ?_
  refine step_send collect.plan m plan_ok 4 rfl (Nat.zero_le _) rfl rfl rfl rfl rfl ?_
  refine step_send collect.plan m plan_ok 5 rfl (Nat.zero_le _) rfl rfl rfl rfl rfl ?_
  refine step_send collect.plan m plan_ok 6 rfl (Nat.zero_le _) rfl rfl rfl rfl rfl ?_
  refine step_wait_recv collect.plan m plan_ok 0 rfl rfl rfl ?_
  refine step_wait_recv collect.plan m plan_ok 1 rfl rfl rfl ?_
  refine step_wait_recv collect.plan m plan_ok 2 rfl rfl rfl ?_
  refine step_wait_recv collect.plan m plan_ok 3 rfl rfl rfl ?_
  refine step_wait_recv collect.plan m plan_ok 4 rfl rfl rfl ?_
  refine step_wait_recv collect.plan m plan_ok 5 rfl rfl rfl ?_
  refine step_wait_recv collect.plan m plan_ok 6 rfl rfl rfl ?_
  refine step_wait_send collect.plan m plan_ok 0 rfl rfl rfl ?_
  refine step_wait_send collect.plan m plan_ok 1 rfl rfl rfl ?_
  refine step_wait_send collect.plan m plan_ok 2 rfl rfl rfl ?_
  refine step_wait_send collect.plan m plan_ok 3 rfl rfl rfl ?_
  refine step_wait_send collect.plan m plan_ok 4 rfl rfl rfl ?_
  refine step_wait_send collect.plan m plan_ok 5 rfl rfl rfl ?_
  refine step_wait_send collect.plan m plan_ok 6 rfl rfl rfl ?_
  refine step_wait_copy collect.plan m plan_ok 0 rfl Nat.one_pos rfl rfl ?_
  rw [wp_ret]
  exact h

theorem run (g : Dev nD → PrngReg) :
    θ_run (defs (F := F)) (onTc (τ := τ) main) ⟨m, fun _ => 0, g⟩ (fun r => (∀ c, Final collect.plan m c r.2.mem) ∧ r.2.sem = fun _ => 0) :=
  (θ_run defs _ _).mono (fun _ h => ⟨h.1, sem_eq_zero_of_scoped (by decide) h.2⟩)
    (exchange_run collect.plan m plan_ok cfgs cellOf_inj 0 (fun _ => inferInstanceAs (IsEmpty (Fin 0))) defs₀ winFacts0 (by decide) N_0 scopedRest0_eq g main
      (fun _ => rfl) (fun c _ _ R h => body m c R h) (bufs m))

end Cert.SmallProof

end
-- ==== Proof.SmallValue.lean ====
/-
  The gather of small gradients against one device's view of all the rows as eight stacked parts.
-/
module

public import proofs.«01_k».proof.Proof.SmallRun
public import proofs.«01_k».proof.Proof.Stacks
public import proofs.«01_k».proof.Proof.Gen.SmallRefIdeal

@[expose] public section

noncomputable section

namespace Cert.SmallProof

open Cert.SmallIdeal Cert.SmallIdeal.Gen Cert.Exchange Cert.Slabs Cert.Stacks

open Idealize.ShloMosaic Idealize.ShloMosaic.TcCoe Idealize.ShloMosaic.ValueIdx
open Idealize.SL.Sem

variable {F : FTy → Type} [FloatOps F]

/-- What the reference computes: the rows as eight parts. -/
def stacked {α : Type} (A : (Slab 128 1024).Idx → α) : (Stack 8 16 1024).Idx → α :=
  shapeCast _ A Cert.SmallRefIdeal.Gen.shapeCasts_S128x1024_S8x16x1024

/-- Row `r` of part `k`. -/
def row (k : Fin 8) (r : Fin 16) : Fin 128 := ⟨k.val * 16 + r.val, by omega⟩

theorem stacked_apply {α : Type} (A : (Slab 128 1024).Idx → α) (k : Fin 8) (r : Fin 16) (l : Fin 1024) :
    stacked A (ix3 k r l) = A (ix2 (row k r) l) :=
  stack_apply A _ k r l (row k r) rfl

/-- The part of the rows that a device starts with. -/
abbrev own {α : Type} (c : Dev nD) (A : (Slab 128 1024).Idx → α) : (Slab 16 1024).Idx → α :=
  Layout.block ⟨2, ![16, 1024]⟩ ⟨2, ![128, 1024]⟩ 0 8 c A

theorem own_apply {α : Type} (c : Dev nD) (A : (Slab 128 1024).Idx → α) (r : Fin 16) (l : Fin 1024) :
    own c A (ix2 r l) = A (ix2 (row (collect.κ c) r) l) := by
  refine congrArg A (funext fun b => Fin.ext ?_)
  match b with
  | ⟨0, _⟩ => rfl
  | ⟨1, _⟩ => rfl

variable (m : (ℓ : Loc nD τ sig) → Buf (Elt F) ℓ) (g : Dev nD → PrngReg)

theorem arg_kept {c : Dev nD} {μ : (ℓ : Loc nD τ sig) → Buf (Elt F) ℓ} (h : Final collect.plan m c μ) :
    μ ((c.tc : Thread nD τ).loc main_arg0) = m ((c.tc : Thread nD τ).loc main_arg0) :=
  funext fun i => Collect.kept m h (.inl 0) i (by simp only [collect, Memref.view_whole, View.set_whole]; exact Finset.mem_univ i)

theorem result {c : Dev nD} {μ : (ℓ : Loc nD τ sig) → Buf (Elt F) ℓ} (h : Final collect.plan m c μ) (A : (Slab 128 1024).Idx → Elt F .f32)
    (hA : ∀ c : Dev nD, m ((c.tc : Thread nD τ).loc main_arg0) = own c A) :
    μ ((c.tc : Thread nD τ).loc main_v1) = stacked A := by
  funext i
  obtain ⟨k, r, l, rfl⟩ : ∃ k r l, i = ix3 k r l := ⟨_, _, _, eq_ix3 i⟩
  obtain ⟨b, rfl, hb⟩ := Collect.result good m h k
  exact (hb r l).trans ((congrFun (hA _) (ix2 r l)).trans ((own_apply _ A r l).trans (stacked_apply A _ r l).symm))

/-- The argument ends unchanged and every counter ends at zero. -/
theorem frame : θ_run (defs (F := F)) (onTc (τ := τ) main) ⟨m, fun _ => 0, g⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => arg_kept m (h.1 c), h.2⟩) (run m g)

/-- From parts of a whole `A`, each device ends holding all of them. -/
theorem value (A : (Slab 128 1024).Idx → Elt F .f32)
    (hA : ∀ c : Dev nD, m ((c.tc : Thread nD τ).loc main_arg0) = own c A) :
    θ_run (defs (F := F)) (onTc (τ := τ) main) ⟨m, fun _ => 0, g⟩ (fun r => ∀ c : Dev nD,
      r.2.mem ((c.tc : Thread nD τ).loc main_v1) = stacked A
      ∧ r.2.mem ((c.tc : Thread nD τ).loc main_arg0) = m ((c.tc : Thread nD τ).loc main_arg0)) :=
  (θ_run defs _ _).mono (fun _ h c => ⟨result m (h.1 c) A hA, arg_kept m (h.1 c)⟩) (run m g)

end Cert.SmallProof

end
-- ==== Proof.SmallClaims.lean ====
/-
  The claims about the gather of small gradients.
-/
module

public import proofs.«01_k».proof.Defs
public import proofs.«01_k».proof.Proof.SmallValue
public import proofs.«01_k».proof.Proof.Gen.Small
public import proofs.«01_k».proof.Proof.Gen.SmallRefIdeal.Run
public import proofs.«01_k».proof.Proof.Gen.SmallRef.Run
public import Idealize.ShloMosaic.Lib.Quiescent

@[expose] public section

noncomputable section

namespace Cert.SmallProof

open Idealize.ShloMosaic Idealize.SL.Sem

theorem frame_kernel : Cert.quiescent_Small := fun m g _ => frame (F := Bits) m g

theorem frame_ideal : Cert.quiescent_SmallIdeal := fun m g _ => frame (F := Ideal) m g

theorem frame_ref_ideal : Cert.quiescent_SmallRefIdeal := fun m g _ =>
  (θ_run Cert.SmallRefIdeal.defs _ _).mono (fun _ h => ⟨fun c => (h c).2, sem_eq_zero_of_no_sems rfl _⟩) (Cert.SmallRefIdeal.Value.run m g)

theorem frame_ref : Cert.quiescent_SmallRef := fun m g _ =>
  (θ_run Cert.SmallRef.defs _ _).mono (fun _ h => ⟨fun c => (h c).2, sem_eq_zero_of_no_sems rfl _⟩) (Cert.SmallRef.Value.run m g)

theorem preserves : Cert.preserves_Small_SmallIdeal := trivial

theorem algebraic : Cert.algebraic_SmallIdeal_SmallRefIdeal := fun m g m' g' _ hA =>
  ⟨stacked (m' (((0 : Dev Cert.SmallRefIdeal.nD).tc : Thread Cert.SmallRefIdeal.nD Cert.SmallRefIdeal.τ).loc Cert.SmallRefIdeal.main_arg0)), value (F := Ideal) m g _ hA, (θ_run Cert.SmallRefIdeal.defs _ _).mono (fun _ h => h 0) (Cert.SmallRefIdeal.Value.run m' g')⟩

theorem bitexact : Cert.bitexact_Small_SmallRef := fun m g m' g' _ hA =>
  ⟨stacked (m' (((0 : Dev Cert.SmallRef.nD).tc : Thread Cert.SmallRef.nD Cert.SmallRef.τ).loc Cert.SmallRef.main_arg0)), value (F := Bits) m g _ hA, (θ_run Cert.SmallRef.defs _ _).mono (fun _ h => h 0) (Cert.SmallRef.Value.run m' g')⟩

end Cert.SmallProof

end
-- ==== Proof.AdamW.lean ====
/-
  One AdamW step over the extended reals: what the host's operations on whole arrays compute, entry by entry.
-/
module

public import Idealize.ShloMosaic.PureOps
public import Idealize.ShloMosaic.PureOps.Ideal
public import Idealize.ShloMosaic.Lib.StableHlo

@[expose] public section

noncomputable section

namespace Cert.AdamW

open Idealize.ShloMosaic

variable {s : Shape} (h : (⟨0, ![]⟩ : Shape).BroadcastsInDim s ![])

/-- An array filled with one number. -/
abbrev filled (b : BitVec 32) : FVec Ideal s .f32 := broadcastInDim s ![] h (constant (F := Ideal) ⟨0, ![]⟩ .f32 b)

/-- The number that a word stands for. -/
abbrev num (b : BitVec 32) : Ideal .f32 := Scalar.ofBits .f32 b

/-- The host's new first moment. -/
abbrev hostMean (g m : FVec Ideal s .f32) : FVec Ideal s .f32 := addf (mulf (filled h 0x3F666666#32) m) (mulf (filled h 0x3DCCCCCD#32) g)

/-- The host's new second moment. -/
abbrev hostSquare (g v : FVec Ideal s .f32) : FVec Ideal s .f32 := addf (mulf (filled h 0x3F7FBE77#32) v) (mulf (filled h 0x3A83126F#32) (mulf g g))

/-- The host's change of the weights from the two new moments `p` and `q`. -/
abbrev hostChange (w p q : FVec Ideal s .f32) : FVec Ideal s .f32 :=
  mulf (filled h 0xBA83126F#32) (addf (Host.divf (Host.divf p (filled h 0x3F26BD02#32)) (addf (Host.sqrt (Host.divf q (filled h 0x3C231ACC#32))) (filled h 0x322BCC77#32))) (mulf (filled h 0x3C23D70A#32) w))

/-- The new first moment, entry by entry. -/
abbrev mean (g m : FVec Ideal s .f32) : FVec Ideal s .f32 :=
  fun i => FloatOps.addf (FloatOps.mulf (num 0x3F666666#32) (m i)) (FloatOps.mulf (num 0x3DCCCCCD#32) (g i))

/-- The new second moment, entry by entry. -/
abbrev square (g v : FVec Ideal s .f32) : FVec Ideal s .f32 :=
  fun i => FloatOps.addf (FloatOps.mulf (num 0x3F7FBE77#32) (v i)) (FloatOps.mulf (num 0x3A83126F#32) (FloatOps.mulf (g i) (g i)))

/-- The change of the weights from the two new moments, entry by entry. -/
abbrev change (w p q : FVec Ideal s .f32) : FVec Ideal s .f32 :=
  fun i => FloatOps.mulf (num 0xBA83126F#32) (FloatOps.addf (FloatOps.divf (FloatOps.divf (p i) (num 0x3F26BD02#32)) (FloatOps.addf (FloatOps.sqrt (FloatOps.divf (q i) (num 0x3C231ACC#32))) (num 0x322BCC77#32))) (FloatOps.mulf (num 0x3C23D70A#32) (w i)))

theorem hostChange_eq (w p q : FVec Ideal s .f32) : hostChange h w p q = change w p q := by
  funext i
  simp only [mulf, addf, Host.divf, Host.sqrt, Ideal.divf_def, Ideal.hostDivf_def]
  rfl

/-- What the host's step leaves, as the step entry by entry of equal arguments. -/
theorem step {K : Prop} {d p q w g m v w' g' m' v' : FVec Ideal s .f32}
    (hs : d = hostChange h w' (hostMean h g' m') (hostSquare h g' v') ∧ p = hostMean h g' m' ∧ q = hostSquare h g' v' ∧ K)
    (ha : w' = w ∧ g' = g ∧ m' = m ∧ v' = v) :
    d = change w (mean g m) (square g v) ∧ p = mean g m ∧ q = square g v ∧ K := by
  obtain ⟨rfl, rfl, rfl, rfl⟩ := ha
  exact ⟨hs.1.trans (hostChange_eq h ..), hs.2⟩

end Cert.AdamW

end
-- ==== Proof.AdamWClaims.lean ====
/-
  The claims about the AdamW step of the large weights, one namespace for each shape of a device's shard.
-/
module

public import proofs.«01_k».proof.Defs
public import proofs.«01_k».proof.Proof.AdamW
public import proofs.«01_k».proof.Proof.Gen.AdamGate.Frame
public import proofs.«01_k».proof.Proof.Gen.AdamGateIdeal.Value
public import proofs.«01_k».proof.Proof.Gen.AdamGateRefIdeal.Run
public import proofs.«01_k».proof.Proof.Gen.AdamDown.Frame
public import proofs.«01_k».proof.Proof.Gen.AdamDownIdeal.Value
public import proofs.«01_k».proof.Proof.Gen.AdamDownRefIdeal.Run
public import proofs.«01_k».proof.Proof.Gen.AdamIn.Frame
public import proofs.«01_k».proof.Proof.Gen.AdamInIdeal.Value
public import proofs.«01_k».proof.Proof.Gen.AdamInRefIdeal.Run
public import proofs.«01_k».proof.Proof.Gen.AdamQ.Frame
public import proofs.«01_k».proof.Proof.Gen.AdamQIdeal.Value
public import proofs.«01_k».proof.Proof.Gen.AdamQRefIdeal.Run
public import proofs.«01_k».proof.Proof.Gen.AdamKv.Frame
public import proofs.«01_k».proof.Proof.Gen.AdamKvIdeal.Value
public import proofs.«01_k».proof.Proof.Gen.AdamKvRefIdeal.Run
public import proofs.«01_k».proof.Proof.Gen.AdamConv.Frame
public import proofs.«01_k».proof.Proof.Gen.AdamConvIdeal.Value
public import proofs.«01_k».proof.Proof.Gen.AdamConvRefIdeal.Run
public import proofs.«01_k».proof.Proof.Gen.AdamOut.Frame
public import proofs.«01_k».proof.Proof.Gen.AdamOutIdeal.Value
public import proofs.«01_k».proof.Proof.Gen.AdamOutRefIdeal.Run
public import Idealize.ShloMosaic.Lib.Quiescent

@[expose] public section

noncomputable section

open Idealize.ShloMosaic Idealize.SL.Sem

/-! ## The gate and up weights of the feed-forward layers -/

namespace Cert.AdamGateProof

theorem frame_kernel : Cert.quiescent_AdamGate := fun m g _ => Cert.AdamGate.Gen.frame m g

theorem frame_ideal : Cert.quiescent_AdamGateIdeal := fun m g _ => Cert.AdamGateIdeal.Gen.frame m g

theorem frame_ref_ideal : Cert.quiescent_AdamGateRefIdeal := fun m g _ =>
  (θ_run Cert.AdamGateRefIdeal.defs _ _).mono (fun _ h => ⟨fun c => (h c).2.2.2, sem_eq_zero_of_no_sems rfl _⟩) (Cert.AdamGateRefIdeal.Value.run m g)

theorem preserves : Cert.preserves_AdamGate_AdamGateIdeal := trivial

theorem algebraic : Cert.algebraic_AdamGateIdeal_AdamGateRefIdeal := fun m g m' g' _ hA =>
  ⟨_, _, _, Cert.AdamGateIdeal.Value.run m g, (θ_run Cert.AdamGateRefIdeal.defs _ _).mono
    (fun _ h c => AdamW.step Cert.AdamGateRefIdeal.Gen.facts.bcast_S_S1024x704 (h c) (hA c)) (Cert.AdamGateRefIdeal.Value.run m' g')⟩

end Cert.AdamGateProof

/-! ## The down weights of the feed-forward layers -/

namespace Cert.AdamDownProof

theorem frame_kernel : Cert.quiescent_AdamDown := fun m g _ => Cert.AdamDown.Gen.frame m g

theorem frame_ideal : Cert.quiescent_AdamDownIdeal := fun m g _ => Cert.AdamDownIdeal.Gen.frame m g

theorem frame_ref_ideal : Cert.quiescent_AdamDownRefIdeal := fun m g _ =>
  (θ_run Cert.AdamDownRefIdeal.defs _ _).mono (fun _ h => ⟨fun c => (h c).2.2.2, sem_eq_zero_of_no_sems rfl _⟩) (Cert.AdamDownRefIdeal.Value.run m g)

theorem preserves : Cert.preserves_AdamDown_AdamDownIdeal := trivial

theorem algebraic : Cert.algebraic_AdamDownIdeal_AdamDownRefIdeal := fun m g m' g' _ hA =>
  ⟨_, _, _, Cert.AdamDownIdeal.Value.run m g, (θ_run Cert.AdamDownRefIdeal.defs _ _).mono
    (fun _ h c => AdamW.step Cert.AdamDownRefIdeal.Gen.facts.bcast_S_S704x1024 (h c) (hA c)) (Cert.AdamDownRefIdeal.Value.run m' g')⟩

end Cert.AdamDownProof

/-! ## The input projection -/

namespace Cert.AdamInProof

theorem frame_kernel : Cert.quiescent_AdamIn := fun m g _ => Cert.AdamIn.Gen.frame m g

theorem frame_ideal : Cert.quiescent_AdamInIdeal := fun m g _ => Cert.AdamInIdeal.Gen.frame m g

theorem frame_ref_ideal : Cert.quiescent_AdamInRefIdeal := fun m g _ =>
  (θ_run Cert.AdamInRefIdeal.defs _ _).mono (fun _ h => ⟨fun c => (h c).2.2.2, sem_eq_zero_of_no_sems rfl _⟩) (Cert.AdamInRefIdeal.Value.run m g)

theorem preserves : Cert.preserves_AdamIn_AdamInIdeal := trivial

theorem algebraic : Cert.algebraic_AdamInIdeal_AdamInRefIdeal := fun m g m' g' _ hA =>
  ⟨_, _, _, Cert.AdamInIdeal.Value.run m g, (θ_run Cert.AdamInRefIdeal.defs _ _).mono
    (fun _ h c => AdamW.step Cert.AdamInRefIdeal.Gen.facts.bcast_S_S1024x620 (h c) (hA c)) (Cert.AdamInRefIdeal.Value.run m' g')⟩

end Cert.AdamInProof

/-! ## The query weights -/

namespace Cert.AdamQProof

theorem frame_kernel : Cert.quiescent_AdamQ := fun m g _ => Cert.AdamQ.Gen.frame m g

theorem frame_ideal : Cert.quiescent_AdamQIdeal := fun m g _ => Cert.AdamQIdeal.Gen.frame m g

theorem frame_ref_ideal : Cert.quiescent_AdamQRefIdeal := fun m g _ =>
  (θ_run Cert.AdamQRefIdeal.defs _ _).mono (fun _ h => ⟨fun c => (h c).2.2.2, sem_eq_zero_of_no_sems rfl _⟩) (Cert.AdamQRefIdeal.Value.run m g)

theorem preserves : Cert.preserves_AdamQ_AdamQIdeal := trivial

theorem algebraic : Cert.algebraic_AdamQIdeal_AdamQRefIdeal := fun m g m' g' _ hA =>
  ⟨_, _, _, Cert.AdamQIdeal.Value.run m g, (θ_run Cert.AdamQRefIdeal.defs _ _).mono
    (fun _ h c => AdamW.step Cert.AdamQRefIdeal.Gen.facts.bcast_S_S256x192 (h c) (hA c)) (Cert.AdamQRefIdeal.Value.run m' g')⟩

end Cert.AdamQProof

/-! ## The key and value weights -/

namespace Cert.AdamKvProof

theorem frame_kernel : Cert.quiescent_AdamKv := fun m g _ => Cert.AdamKv.Gen.frame m g

theorem frame_ideal : Cert.quiescent_AdamKvIdeal := fun m g _ => Cert.AdamKvIdeal.Gen.frame m g

theorem frame_ref_ideal : Cert.quiescent_AdamKvRefIdeal := fun m g _ =>
  (θ_run Cert.AdamKvRefIdeal.defs _ _).mono (fun _ h => ⟨fun c => (h c).2.2.2, sem_eq_zero_of_no_sems rfl _⟩) (Cert.AdamKvRefIdeal.Value.run m g)

theorem preserves : Cert.preserves_AdamKv_AdamKvIdeal := trivial

theorem algebraic : Cert.algebraic_AdamKvIdeal_AdamKvRefIdeal := fun m g m' g' _ hA =>
  ⟨_, _, _, Cert.AdamKvIdeal.Value.run m g, (θ_run Cert.AdamKvRefIdeal.defs _ _).mono
    (fun _ h c => AdamW.step Cert.AdamKvRefIdeal.Gen.facts.bcast_S_S128x256 (h c) (hA c)) (Cert.AdamKvRefIdeal.Value.run m' g')⟩

end Cert.AdamKvProof

/-! ## The convolution -/

namespace Cert.AdamConvProof

theorem frame_kernel : Cert.quiescent_AdamConv := fun m g _ => Cert.AdamConv.Gen.frame m g

theorem frame_ideal : Cert.quiescent_AdamConvIdeal := fun m g _ => Cert.AdamConvIdeal.Gen.frame m g

theorem frame_ref_ideal : Cert.quiescent_AdamConvRefIdeal := fun m g _ =>
  (θ_run Cert.AdamConvRefIdeal.defs _ _).mono (fun _ h => ⟨fun c => (h c).2.2.2, sem_eq_zero_of_no_sems rfl _⟩) (Cert.AdamConvRefIdeal.Value.run m g)

theorem preserves : Cert.preserves_AdamConv_AdamConvIdeal := trivial

theorem algebraic : Cert.algebraic_AdamConvIdeal_AdamConvRefIdeal := fun m g m' g' _ hA =>
  ⟨_, _, _, Cert.AdamConvIdeal.Value.run m g, (θ_run Cert.AdamConvRefIdeal.defs _ _).mono
    (fun _ h c => AdamW.step Cert.AdamConvRefIdeal.Gen.facts.bcast_S_S4x384 (h c) (hA c)) (Cert.AdamConvRefIdeal.Value.run m' g')⟩

end Cert.AdamConvProof

/-! ## The output projection -/

namespace Cert.AdamOutProof

theorem frame_kernel : Cert.quiescent_AdamOut := fun m g _ => Cert.AdamOut.Gen.frame m g

theorem frame_ideal : Cert.quiescent_AdamOutIdeal := fun m g _ => Cert.AdamOutIdeal.Gen.frame m g

theorem frame_ref_ideal : Cert.quiescent_AdamOutRefIdeal := fun m g _ =>
  (θ_run Cert.AdamOutRefIdeal.defs _ _).mono (fun _ h => ⟨fun c => (h c).2.2.2, sem_eq_zero_of_no_sems rfl _⟩) (Cert.AdamOutRefIdeal.Value.run m g)

theorem preserves : Cert.preserves_AdamOut_AdamOutIdeal := trivial

theorem algebraic : Cert.algebraic_AdamOutIdeal_AdamOutRefIdeal := fun m g m' g' _ hA =>
  ⟨_, _, _, Cert.AdamOutIdeal.Value.run m g, (θ_run Cert.AdamOutRefIdeal.defs _ _).mono
    (fun _ h c => AdamW.step Cert.AdamOutRefIdeal.Gen.facts.bcast_S_S256x1024 (h c) (hA c)) (Cert.AdamOutRefIdeal.Value.run m' g')⟩

end Cert.AdamOutProof

end
-- ==== Proof.Sums.lean ====
/-
  The host's sum over the slabs of a stack, over the extended reals.
-/
module

public import proofs.«01_k».proof.Proof.Stacks
public import Idealize.ShloMosaic.PureOps.Ideal
public import Idealize.ShloMosaic.Lib.Pointwise.Reduce
public import Idealize.ShloMosaic.Lib.IdealHost

@[expose] public section

noncomputable section

namespace Cert.Sums

open Cert.Slabs

open Idealize.ShloMosaic Idealize.ShloMosaic.ValueIdx

variable {T N R L : ℕ}

/-- An array of `N · R` rows, read as `N` slabs and summed from zero: at `j` the sum of the entries `row k`, `k · R` rows further down. -/
theorem slab_sum (A : FVec Ideal (Slab T L) .f32) (hc : (Slab T L).ShapeCasts (Stack N R L)) (h : (Stack N R L).ReducesTo [0] (Slab R L))
    (hz : 0 < (⟨0, ![]⟩ : Shape).numel) (j : (Slab R L).Idx) (row : Fin N → (Slab T L).Idx)
    (hrow : ∀ k, (row k 0).val = k.val * R + (j 0).val ∧ (row k 1).val = (j 1).val) :
    Host.reduceAdd (shapeCast (Stack N R L) A hc) (constant (F := Ideal) ⟨0, ![]⟩ .f32 0x00000000#32) h hz j = ∑ k : Fin N, A (row k) := by
  rw [hostReduceAdd_apply, Ideal.hostReduceAdd_r3_a0]
  refine (congrArg₂ (· + ·) Ideal.ofBits_zero_f32 (Finset.sum_congr rfl fun k _ => ?_)).trans (zero_add _)
  refine shapeCast_apply A hc _ (row k) ?_
  rw [Shape.rowMajor_val_two, Shape.rowMajor_val_three, (hrow k).1, (hrow k).2]
  rfl

end Cert.Sums

end
-- ==== Proof.AdamSmallClaims.lean ====
/-
  The claims about the AdamW step of the small weights from the gradients of all the devices.
-/
module

public import proofs.«01_k».proof.Defs
public import proofs.«01_k».proof.Proof.AdamW
public import proofs.«01_k».proof.Proof.Sums
public import proofs.«01_k».proof.Proof.Gen.AdamSmall.Frame
public import proofs.«01_k».proof.Proof.Gen.AdamSmallIdeal.Value
public import proofs.«01_k».proof.Proof.Gen.AdamSmallRefIdeal.Run
public import Idealize.ShloMosaic.Lib.Quiescent

@[expose] public section

noncomputable section

namespace Cert.AdamSmallProof

open Idealize.ShloMosaic Idealize.SL.Sem
open Cert.AdamSmallIdeal (S128x1024 S16x1024)

theorem frame_kernel : Cert.quiescent_AdamSmall := fun m g _ => Cert.AdamSmall.Gen.frame m g

theorem frame_ideal : Cert.quiescent_AdamSmallIdeal := fun m g _ => Cert.AdamSmallIdeal.Gen.frame m g

theorem frame_ref_ideal : Cert.quiescent_AdamSmallRefIdeal := fun m g _ =>
  (θ_run Cert.AdamSmallRefIdeal.defs _ _).mono (fun _ h => ⟨fun c => (h c).2.2.2.2, sem_eq_zero_of_no_sems rfl _⟩) (Cert.AdamSmallRefIdeal.Value.run m g)

theorem preserves : Cert.preserves_AdamSmall_AdamSmallIdeal := trivial

/-- Row `j` of device `k`'s slot. -/
def row (j : S16x1024.Idx) (k : Fin 8) : S128x1024.Idx :=
  ValueIdx.ix2 ⟨k.val * 16 + (j 0).val, by have h : (j 0).val < 16 := (j 0).isLt; have := k.isLt; omega⟩ (j 1)

/-- The rows that the kernel cuts out for device `k`. -/
theorem slot (A : FVec Ideal S128x1024 .f32) (k : Fin 8) (off : Fin 2 → ℕ) (h : S128x1024.Slices off S16x1024) (j : S16x1024.Idx)
    (ho : off 0 = k.val * 16) (ho' : off 1 = 0) : extractStridedSlice S16x1024 off A h j = A (row j k) :=
  extractStridedSlice_apply off A h j (row j k) fun a => match a with
    | ⟨0, _⟩ => (congrArg (· + (j 0).val) ho).symm
    | ⟨1, _⟩ => (congrArg (· + (j 1).val) ho').symm ▸ (Nat.zero_add _).symm

/-- The host's sum of the eight slots is the chain of additions. -/
theorem total (A : FVec Ideal S128x1024 .f32) :
    Host.reduceAdd (shapeCast _ A Cert.AdamSmallRefIdeal.Gen.facts.shapeCasts_S128x1024_S8x16x1024)
      (constant Cert.AdamSmallRefIdeal.S_ .f32 0x00000000#32) Cert.AdamSmallRefIdeal.Gen.facts.reducesTo_S8x16x1024_S16x1024_d0 Cert.AdamSmallRefIdeal.Gen.facts.h_S_
      = Cert.AdamSmallIdeal.Gen.k0_pay2 A := by
  funext j
  refine (Sums.slab_sum _ _ _ _ j (row j) fun k => ⟨rfl, rfl⟩).trans ((Fin.sum_univ_eight _).trans ?_)
  unfold Cert.AdamSmallIdeal.Gen.k0_pay2
  simp only [addf]
  rw [slot A 0 _ _ j rfl rfl, slot A 1 _ _ j rfl rfl, slot A 2 _ _ j rfl rfl, slot A 3 _ _ j rfl rfl, slot A 4 _ _ j rfl rfl, slot A 5 _ _ j rfl rfl,
    slot A 6 _ _ j rfl rfl, slot A 7 _ _ j rfl rfl]
  rfl

theorem algebraic : Cert.algebraic_AdamSmallIdeal_AdamSmallRefIdeal := fun m g m' g' _ hA =>
  ⟨_, _, _, _, Cert.AdamSmallIdeal.Value.run m g, (θ_run Cert.AdamSmallRefIdeal.defs _ _).mono
    (fun _ h c => by
      obtain ⟨ew, em, ev, es⟩ := hA c
      have e := (total _).trans (congrArg _ es)
      exact ⟨(h c).1.trans e, AdamW.step Cert.AdamSmallRefIdeal.Gen.facts.bcast_S_S16x1024 (h c).2 ⟨ew, e, em, ev⟩⟩)
    (Cert.AdamSmallRefIdeal.Value.run m' g')⟩

end Cert.AdamSmallProof

end
-- ==== Proof.AddPairClaims.lean ====
/-
  The claims about the sum of the two devices' gradient halves.
-/
module

public import proofs.«01_k».proof.Defs
public import proofs.«01_k».proof.Proof.Gen.AddPair.Value
public import proofs.«01_k».proof.Proof.Gen.AddPairIdeal.Value
public import proofs.«01_k».proof.Proof.Gen.AddPairRefIdeal.Run
public import proofs.«01_k».proof.Proof.Gen.AddPairRef.Run
public import Idealize.ShloMosaic.Lib.Quiescent

@[expose] public section

noncomputable section

namespace Cert.AddPairProof

open Idealize.ShloMosaic Idealize.SL.Sem

theorem frame_kernel : Cert.quiescent_AddPair := fun m g _ => Cert.AddPair.Gen.frame m g

theorem frame_ideal : Cert.quiescent_AddPairIdeal := fun m g _ => Cert.AddPairIdeal.Gen.frame m g

theorem frame_ref_ideal : Cert.quiescent_AddPairRefIdeal := fun m g _ =>
  (θ_run Cert.AddPairRefIdeal.defs _ _).mono (fun _ h => ⟨fun c => (h c).2, sem_eq_zero_of_no_sems rfl _⟩) (Cert.AddPairRefIdeal.Value.run m g)

theorem frame_ref : Cert.quiescent_AddPairRef := fun m g _ =>
  (θ_run Cert.AddPairRef.defs _ _).mono (fun _ h => ⟨fun c => (h c).2, sem_eq_zero_of_no_sems rfl _⟩) (Cert.AddPairRef.Value.run m g)

theorem preserves : Cert.preserves_AddPair_AddPairIdeal := trivial

theorem algebraic : Cert.algebraic_AddPairIdeal_AddPairRefIdeal := fun m g m' g' _ hA =>
  ⟨_, Cert.AddPairIdeal.Value.run m g, (θ_run Cert.AddPairRefIdeal.defs _ _).mono
    (fun _ h c => ⟨(h c).1.trans (by rw [(hA c).1, (hA c).2]; rfl), (h c).2⟩)
    (Cert.AddPairRefIdeal.Value.run m' g')⟩

theorem bitexact : Cert.bitexact_AddPair_AddPairRef := fun m g m' g' _ hA =>
  ⟨_, Cert.AddPair.Value.run m g, (θ_run Cert.AddPairRef.defs _ _).mono
    (fun _ h c => ⟨(h c).1.trans (by rw [(hA c).1, (hA c).2]; rfl), (h c).2⟩)
    (Cert.AddPairRef.Value.run m' g')⟩

end Cert.AddPairProof

end
-- ==== Proof.AddChipsClaims.lean ====
/-
  The claims about the sum of the four chips' gradient quarters.
-/
module

public import proofs.«01_k».proof.Defs
public import proofs.«01_k».proof.Proof.Sums
public import proofs.«01_k».proof.Proof.Gen.AddChips.Frame
public import proofs.«01_k».proof.Proof.Gen.AddChipsIdeal.Value
public import proofs.«01_k».proof.Proof.Gen.AddChipsRefIdeal.Run
public import Idealize.ShloMosaic.Lib.Quiescent

@[expose] public section

noncomputable section

namespace Cert.AddChipsProof

open Idealize.ShloMosaic Idealize.SL.Sem
open Cert.AddChipsIdeal (S10368x1024 S2592x1024)
open Cert.AddChipsIdeal.Value (G4 inIdx4_0 inIdx4_1 inIdx4_2 inIdx4_3)

theorem frame_kernel : Cert.quiescent_AddChips := fun m g _ => Cert.AddChips.Gen.frame m g

theorem frame_ideal : Cert.quiescent_AddChipsIdeal := fun m g _ => Cert.AddChipsIdeal.Gen.frame m g

theorem frame_ref_ideal : Cert.quiescent_AddChipsRefIdeal := fun m g _ =>
  (θ_run Cert.AddChipsRefIdeal.defs _ _).mono (fun _ h => ⟨fun c => (h c).2, sem_eq_zero_of_no_sems rfl _⟩) (Cert.AddChipsRefIdeal.Value.run m g)

theorem preserves : Cert.preserves_AddChips_AddChipsIdeal := trivial

/-- The row of slab `k` that lands on row `j`. -/
def row (j : S2592x1024.Idx) : Fin 4 → S10368x1024.Idx := ![inIdx4_0 j, inIdx4_1 j, inIdx4_2 j, inIdx4_3 j]

/-- The host's sum of the four slabs is the chain of additions. -/
theorem total (A : FVec Ideal S10368x1024 .bf16) :
    Host.reduceAdd (shapeCast _ (extf .f32 A Cert.AddChipsRefIdeal.Gen.facts.bitsLt_bf16_f32) Cert.AddChipsRefIdeal.Gen.facts.shapeCasts_S10368x1024_S4x2592x1024)
      (constant Cert.AddChipsRefIdeal.S_ .f32 0x00000000#32) Cert.AddChipsRefIdeal.Gen.facts.reducesTo_S4x2592x1024_S2592x1024_d0 Cert.AddChipsRefIdeal.Gen.facts.h_S_
      = G4 (F := Ideal) A A A A := by
  funext j
  refine (Sums.slab_sum _ _ _ _ j (row j) fun k => ?_).trans ((Fin.sum_univ_four _).trans rfl)
  fin_cases k <;> exact ⟨by first | exact Nat.add_comm _ _ | simp [row], rfl⟩

theorem algebraic : Cert.algebraic_AddChipsIdeal_AddChipsRefIdeal := fun m g m' g' _ hA =>
  ⟨_, Cert.AddChipsIdeal.Value.run m g, (θ_run Cert.AddChipsRefIdeal.defs _ _).mono
    (fun _ h c => ⟨(h c).1.trans ((total _).trans (by rw [hA c])), (h c).2⟩)
    (Cert.AddChipsRefIdeal.Value.run m' g')⟩

end Cert.AddChipsProof

end
-- ==== Proof.GradsRun.lean ====
/-
  The exchange of finished halves, and then the two halves of a device cut into the gradients of the large weights.
-/
module

public import proofs.«01_k».proof.Proof.Collect
public import proofs.«01_k».proof.Proof.Gen.GradsIdeal
public import proofs.«01_k».proof.Proof.Gen.GradsIdeal.Skeleton
public import proofs.«01_k».proof.Proof.Gen.GradsIdeal.Launch
public import Idealize.ShloMosaic.Lib.Pipeline.Frame

@[expose] public section

noncomputable section

namespace Cert.GradsProof

open Cert.GradsIdeal Cert.GradsIdeal.Gen Cert.Exchange Cert.Slabs

open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (U2 nD τ sig) ℕ

/-- The device with the other coordinate along the third axis. -/
def sib (c : Dev nD) : Dev nD := ⟨k0_dev1 c, k0_dev1_lt c⟩

def collect : Collect nD sig 1 2 2592 1024 where
  elt := .f32
  res := Memref.whole main_v1
  off := k0_off1
  inb := k0_off1_inb
  sq := squeezes_S1x2592x1024_S2592x1024
  src _ _ := Memref.whole main_arg0
  share := part 1 rfl
  peer c _ := sib c
  κ c := ⟨c.val % 2, Nat.mod_lt _ (by decide)⟩
  semS _ := cc0_scratch0.sem
  semR _ := cc0_scratch1.sem
  semL := cc0_scratch2.sem
  units := (Memref.whole main_arg0 : Memref sig .tc .hbm S2592x1024 .f32).view.dmaCredit

theorem good : collect.Good where
  res_set := View.set_whole _
  off_eq := k0_off1_eq
  κ_who := by decide +kernel

theorem plan_ok : collect.plan.Ok where
  peer_peer := by decide +kernel
  sem_inj := by decide
  units_pos := View.dmaCredit_pos (Memref.whole main_arg0 : Memref sig .tc .hbm S2592x1024 .f32).view (by decide)
  units_dst _ _ := rfl
  units_dstL _ _ := rfl

variable (m : (ℓ : Loc nD τ sig) → Buf (Elt F) ℓ)

/-- A device's buffers at launch, and when `f` is in the result of the exchange. -/
abbrev V0 (c : Dev nD) : Valuation τ sig (Elt F) := fun b => m (c, b)
abbrev V1 (c : Dev nD) (f : Buf (Elt F) ((c : Thread nD τ).loc main_v1)) : Valuation τ sig (Elt F) := Function.update (V0 m c) main_v1 f

/-- The buffers that the exchange uses. -/
def used : Finset (DevRef τ sig) := {Proc.devRef .tc main_arg0, Proc.devRef .tc main_v1}

theorem used_sub : used ⊆ Pipeline.ucRefs τ sig := by decide

/-- The buffers that it does not use. -/
def others (c : Dev nD) : sProp 𝕄 := StableHlo.held (c : Thread nD τ) (Pipeline.ucRefs τ sig \ used) (V0 m c)

/-- All buffers, when `f` is in the result of the exchange, are those that the exchange uses and the others. -/
theorem all_bufs (c : Dev nD) (f : Buf (Elt F) ((c : Thread nD τ).loc main_v1)) :
    (StableHlo.held (c : Thread nD τ) (Pipeline.ucRefs τ sig) (V1 m c f) : sProp 𝕄)
      = iprop((((c : Thread nD τ).loc main_arg0 ↦{fullShare} m _) ∗ ((c : Thread nD τ).loc main_v1 ↦{fullShare} f)) ∗ others m c) := by
  have hne : (Proc.devRef .tc main_arg0 : DevRef τ sig) ≠ Proc.devRef .tc main_v1 := by decide
  have h0 : V1 m c f (Proc.devRef .tc main_arg0) = m ((c : Thread nD τ).loc main_arg0) := Function.update_of_ne hne _ _
  have h1 : V1 m c f (Proc.devRef .tc main_v1) = f := Function.update_self _ _ _
  have e : (StableHlo.held (c : Thread nD τ) used (V1 m c f) : sProp 𝕄)
      = iprop(((c : Thread nD τ).loc main_arg0 ↦{fullShare} m _) ∗ ((c : Thread nD τ).loc main_v1 ↦{fullShare} f)) := by
    unfold StableHlo.held used
    rw [BI.bigSep_insert (by rw [Finset.mem_singleton]; exact hne), BI.bigSep_singleton, h0, h1]
    rfl
  rw [StableHlo.held_sub_split _ used_sub, e]
  unfold others
  rw [StableHlo.held_congr _ fun b hb => ?_]
  refine Function.update_of_ne (fun h => ?_) _ _
  subst h
  exact (Finset.mem_sdiff.mp hb).2 (by decide)

/-- The argument as the copies read it. -/
theorem arg_parts (c : Dev nD) : ((c : Thread nD τ).loc main_arg0 ↦{fullShare} m _ : sProp 𝕄)
    = bigSep Finset.univ fun b => (collect.src c b).view.loc (c : Thread nD τ) ↦[(collect.src c b).view.set]{collect.share b} m _ :=
  (pointsTo_parts 1 rfl _ _).trans (bigSep_congr fun b _ => by simp only [collect, Memref.view_whole, View.set_whole])

theorem bufs (c : Dev nD) : (unscopedBufs c (fun b => m ((c.tc : Thread nD τ).loc b)) : sProp 𝕄) ⊢ iprop(Bufs collect.plan m c ∗ others m c) := by
  have e : V0 m c = V1 m c (m _) := (Function.update_eq_self _ _).symm
  rw [show (unscopedBufs c (fun b => m ((c.tc : Thread nD τ).loc b)) : sProp 𝕄) = _ from Pipeline.unscopedBufs_held c (V0 m c), e, all_bufs]
  exact sep_mono_left (Collect.bufs good m c (arg_parts m c))

/-- What a result of the exchange holds at its end: every sender's half at its place. -/
def Placed (c : Dev nD) (f : Buf (Elt F) ((c : Thread nD τ).loc main_v1)) : Prop :=
  ∀ k, ∃ b, collect.κ (collect.who c b) = k ∧ ∀ r l, collect.res.view.read (Elt F) f (ix3 k r l)
    = (collect.src (collect.who c b) b).view.read (Elt F) (m ((collect.src (collect.who c b) b).view.loc (collect.who c b : Thread nD τ))) (ix2 r l)

/-- A device's buffers at the end of the program. -/
def Left (c : Dev nD) : sProp 𝕄 :=
  iprop(∃ f, ⌜Placed m c f⌝ ∗ StableHlo.held (c : Thread nD τ) (Pipeline.ucRefs τ sig) (StableHlo.after hostOps1 (V1 m c f)))

def Ends (c : Dev nD) (μ : (ℓ : Loc nD τ sig) → Buf (Elt F) ℓ) : Prop :=
  ∃ f, Placed m c f ∧ ∀ b ∈ Pipeline.ucRefs τ sig, μ (c, b) = StableHlo.after hostOps1 (V1 m c f) b

theorem fresh : ∀ op ∈ (hostOps1 : List (HloOp τ sig (Elt F))), op.fresh = ∅ :=
  List.forall_iff_forall_mem.mp (by simp only [List.Forall]; repeat' constructor)

/-- The operations after the exchange. -/
theorem tail (c : Dev nD) (R : sProp 𝕄) :
    iprop(boundary (c.tc : Thread nD τ) ∗ (Done collect.plan m c ∗ others m c) ∗ ((boundary (c.tc : Thread nD τ) ∗ Left m c) -∗ R))
      ⊢ wp frame (wpE (defs (F := F)) (Variants.lift Variants.none) (c.tc : Thread nD τ) none) Set.univ (StableHlo.seq hostOps1) fun _ => R := by
  obtain ⟨f, hf, hp⟩ := Collect.whole good m c (arg_parts m c)
  rw [show (StableHlo.seq hostOps1 : Prog (TpuEff nD τ sig (Elt F) _ .tc) PUnit) = StableHlo.seq hostOps1 >>= fun u => .ret u from (bind_pure _).symm]
  iintro ⟨Hb, Hd, Hk⟩
  ihave Hh := ((sep_mono_left hf).trans (BIBase.Entails.of_eq (all_bufs m c f).symm)) $$ Hd
  iapply (StableHlo.wp_seq (defs := defs (F := F)) (Variants.lift Variants.none) none Set.univ c (Pipeline.ucRefs τ sig) (fun u => .ret u) hostOps1
    (fun op h => Pipeline.sub_ucRefs op ((List.forall_iff_forall_mem.mp hostOps1_sub) op h)) fresh (V1 m c f)) $$ [Hb Hh]
  · isplitl [Hb] <;> iassumption
  iintro ⟨Hb, Hh⟩
  rw [wp_ret]; imodintro
  iapply Hk
  isplitl [Hb]; · iexact Hb
  unfold Left
  iexists f
  isplitr; · ipureintro; exact hp
  iexact Hh

theorem left_read (c : Dev nD) (s : Phys nD τ sig (Elt F)) : iprop(Left m c ∗ SI s) ⊢ |={Set.univ}=> iprop(⌜Ends m c s.mem.mem⌝ ∗ SI s) := by
  unfold Left StableHlo.held
  iintro ⟨⟨%f, %hp, Hh⟩, HSI⟩
  ihave Hr := (pointsTo_read_all (Pipeline.ucRefs τ sig) (fun b => ((c : Thread nD τ).1, b)) (StableHlo.after hostOps1 (V1 m c f)) s) $$ [Hh HSI]
  · isplitl [Hh] <;> iassumption
  icases Hr with ⟨%h, HSI⟩
  imodintro
  isplitr; · ipureintro; exact ⟨f, hp, h⟩
  iexact HSI

theorem body (c : Dev nD) (R : sProp 𝕄) (h : St collect.plan m plan_ok c 1 1 1 1 1 ⊢ |={Set.univ}=> R) :
    St collect.plan m plan_ok c 0 0 0 0 0 ⊢ wp frame (wpE defs₀ Variants.none (c : Thread nD τ) none) Set.univ
      (cc0_share_grad_halves (F := F) (Memref.whole main_arg0) (Memref.isWhole_whole _) (Memref.whole main_v1) (Memref.isWhole_whole _)
        cc0_scratch0 cc0_scratch1 cc0_scratch2)
      fun _ => R := by
  simp only [cc0_share_grad_halves_eq_skeleton]
  unfold cc0_share_grad_halves_skel
  simp only [k0_part1_eq_skeleton]
  unfold k0_part1_skel
  simp only [Prog.lift, Prog.bind_op, Prog.bind_ret, Prog.pure_eq_ret, wp_deviceId]
  refine step_copy collect.plan m plan_ok 0 rfl (Nat.zero_le _) rfl rfl rfl ?_
  refine step_send collect.plan m plan_ok 0 rfl (Nat.zero_le _) rfl rfl rfl rfl rfl ?_
  refine step_wait_recv collect.plan m plan_ok 0 rfl rfl rfl ?_
  refine step_wait_send collect.plan m plan_ok 0 rfl rfl rfl ?_
  refine step_wait_copy collect.plan m plan_ok 0 rfl Nat.one_pos rfl rfl ?_
  rw [wp_ret]
  exact h

theorem run (g : Dev nD → PrngReg) :
    θ_run (defs (F := F)) (onTc (τ := τ) main) ⟨m, fun _ => 0, g⟩ (fun r => (∀ c, Ends m c r.2.mem) ∧ r.2.sem = fun _ => 0) :=
  (θ_run defs _ _).mono (fun _ h => ⟨h.1, sem_eq_zero_of_scoped (by decide) h.2⟩)
    (exchange_then collect.plan m plan_ok cfgs cellOf_inj 0 (fun _ => inferInstanceAs (IsEmpty (Fin 0))) defs₀ winFacts0 (by decide) N_0 (others m) scopedRest0_eq g
      main (fun _ => StableHlo.seq hostOps1) (fun c => main_chain c) (fun c _ _ R h => body m c R h) (bufs m) (Left m) (Ends m) (tail m) (left_read m))

end Cert.GradsProof

end
-- ==== Proof.GradsValue.lean ====
/-
  The gradients of the large weights, cut out of each device's two halves, against one device's view of all the rows as
  four packed buffers.
-/
module

public import proofs.«01_k».proof.Proof.GradsRun
public import proofs.«01_k».proof.Proof.ShareValue
public import proofs.«01_k».proof.Proof.Gen.GradsRefIdeal

@[expose] public section

noncomputable section

namespace Cert.GradsProof

open Cert.GradsIdeal Cert.GradsIdeal.Gen Cert.Exchange Cert.Slabs Cert.ShareProof

open Idealize.ShloMosaic Idealize.ShloMosaic.TcCoe Idealize.ShloMosaic.ValueIdx
open Idealize.SL.Sem

variable {F : FTy → Type} [FloatOps F]

/-- The packed buffer of one chip, as a vector. -/
abbrev Packed : Shape := ⟨1, ![5308416]⟩
/-- The chip of a device. -/
abbrev chip (c : Dev nD) : Fin 4 := Layout.meshBlock [2, 2, 2] (![[0, 1], []] : Fin 2 → List ℕ) c (by decide) 0

/-- Entry `p` of chip `x`'s packed buffer in the whole of the rows. -/
def entry {α : Type} (A : (Slab 20736 1024).Idx → α) (x : Fin 4) (p : Fin 5308416) : α :=
  A (ix2 ⟨(x.val * 5308416 + p.val) / 1024, by omega⟩ ⟨p.val % 1024, by omega⟩)

theorem place : ∀ c b, (chip c).val * 2 + (collect.κ (collect.who c b)).val = (collect.who c b).val := by
  decide +kernel

/-- A device's two halves, one after the other, are its chip's packed buffer. -/
theorem packed_apply {α : Type} (c : Dev nD) (A : (Slab 20736 1024).Idx → α) (h₁ : (Stack 2 2592 1024).ShapeCasts (Slab 5184 1024))
    (h₂ : (Slab 5184 1024).ShapeCasts Packed) (p : Fin 5308416) :
    shapeCast Packed (shapeCast (Slab 5184 1024) (pair c (stacked A)) h₁) h₂ (ix1 p) = entry A (chip c) p := by
  obtain ⟨b, hb⟩ := (good.κ_who c).2 ⟨p.val / 2654208, by omega⟩
  have hk : (collect.κ (collect.who c b)).val = p.val / 2654208 := congrArg Fin.val hb
  rw [shapeCast_apply _ h₂ _ (ix2 (⟨p.val / 1024, by omega⟩ : Fin 5184) (⟨p.val % 1024, by omega⟩ : Fin 1024)) (by
      rw [Shape.rowMajor_val_two, Shape.rowMajor_val_one]
      show p.val / 1024 * 1024 + p.val % 1024 = p.val
      omega),
    shapeCast_apply _ h₁ _ (ix3 (collect.κ (collect.who c b)) (⟨p.val / 1024 % 2592, by omega⟩ : Fin 2592) (⟨p.val % 1024, by omega⟩ : Fin 1024)) (by
      rw [Shape.rowMajor_val_two, Shape.rowMajor_val_three]
      show ((collect.κ (collect.who c b)).val * 2592 + p.val / 1024 % 2592) * 1024 + p.val % 1024 = p.val / 1024 * 1024 + p.val % 1024
      omega)]
  refine (ShareProof.pair_apply c b _ _ _).trans ((stacked_apply A _ _ _).trans (congrArg A (congrArg₂ ix2 (Fin.ext ?_) rfl)))
  have := place c b
  show (collect.who c b).val * 2592 + p.val / 1024 % 2592 = ((chip c).val * 5308416 + p.val) / 1024
  omega

variable {r l n q : ℕ}

/-- What the reference computes: the entries from `off` on in each packed buffer, as the rows of one gradient. -/
def cut {α : Type} (A : (Slab 20736 1024).Idx → α) (off : ℕ) (g₂ : (Slab 4 5308416).Slices ![0, off] (Slab 4 n)) (g₃ : (Slab 4 n).ShapeCasts (Slab q l)) :
    (Slab q l).Idx → α :=
  shapeCast (Slab q l) (extractStridedSlice (Slab 4 n) ![0, off] (shapeCast (Slab 4 5308416) A Cert.GradsRefIdeal.Gen.shapeCasts_S20736x1024_S4x5308416) g₂) g₃

/-- The part of a gradient that a device ends with. -/
abbrev mine {α : Type} (c : Dev nD) (B : (Slab q l).Idx → α)
    (hT : Layout.TilesN (Slab r l) (Slab q l) fun b => Layout.cutSize [2, 2, 2] ((![[0, 1], []] : Fin 2 → List ℕ) b)) : (Slab r l).Idx → α :=
  Layout.blockN (Slab r l) (Slab q l) (Layout.meshBlock [2, 2, 2] ![[0, 1], []] c (by decide)) B hT

/-- A gradient cut out of a device's packed buffer is the device's part of that gradient cut out of the four packed buffers. -/
theorem shard {α : Type} (c : Dev nD) (A : (Slab 20736 1024).Idx → α) (off : ℕ) (hn : n = r * l) (hq : q = 4 * r)
    (h₁ : (Stack 2 2592 1024).ShapeCasts (Slab 5184 1024)) (h₂ : (Slab 5184 1024).ShapeCasts Packed)
    (h₃ : Packed.Slices ![off] ⟨1, ![n]⟩) (h₄ : (⟨1, ![n]⟩ : Shape).ShapeCasts (Slab r l))
    (g₂ : (Slab 4 5308416).Slices ![0, off] (Slab 4 n)) (g₃ : (Slab 4 n).ShapeCasts (Slab q l)) (hT) :
    shapeCast (Slab r l) (extractStridedSlice ⟨1, ![n]⟩ ![off] (shapeCast Packed (shapeCast (Slab 5184 1024) (pair c (stacked A)) h₁) h₂) h₃) h₄
      = mine c (cut A off g₂ g₃) hT := by
  subst hn hq
  have hoff : off + r * l ≤ 5308416 := h₃.2 0
  funext i
  obtain ⟨a, b, rfl⟩ : ∃ a b, i = ix2 a b := ⟨_, _, eq_ix2 i⟩
  have he : a.val * l + b.val < r * l := by
    have h := Nat.mul_le_mul_right l (Nat.succ_le_of_lt a.isLt)
    have := b.isLt
    rw [Nat.succ_mul] at h
    omega
  have hr : (chip c).val * r + a.val < 4 * r := by
    have h := Nat.mul_le_mul_right r (Nat.le_of_lt_succ (chip c).isLt)
    have := a.isLt
    omega
  let p : Fin 5308416 := ⟨off + (a.val * l + b.val), by omega⟩
  have hl : shapeCast (Slab r l) (extractStridedSlice ⟨1, ![r * l]⟩ ![off] (shapeCast Packed (shapeCast (Slab 5184 1024) (pair c (stacked A)) h₁) h₂) h₃) h₄ (ix2 a b)
      = entry A (chip c) p := by
    rw [shapeCast_apply _ h₄ _ (ix1 (⟨a.val * l + b.val, he⟩ : Fin (r * l))) (by rw [Shape.rowMajor_val_two, Shape.rowMajor_val_one]; rfl),
      extractStridedSlice_apply _ _ h₃ _ (ix1 p) (fun x => by match x with | ⟨0, _⟩ => rfl)]
    exact packed_apply c A h₁ h₂ p
  rw [hl]
  have hi : hT.idx (Layout.meshBlock [2, 2, 2] ![[0, 1], []] c (by decide)) (ix2 a b) = ix2 (⟨(chip c).val * r + a.val, hr⟩ : Fin (4 * r)) b := funext fun x => Fin.ext (by
    match x with
    | ⟨0, _⟩ => rfl
    | ⟨1, _⟩ => show 0 * l + b.val = b.val; omega)
  unfold cut mine
  rw [Layout.blockN_apply, hi,
    shapeCast_apply _ g₃ _ (ix2 (chip c) (⟨a.val * l + b.val, he⟩ : Fin (r * l))) (by
      rw [Shape.rowMajor_val_two, Shape.rowMajor_val_two]
      show (chip c).val * (r * l) + (a.val * l + b.val) = ((chip c).val * r + a.val) * l + b.val
      rw [Nat.add_mul, Nat.mul_assoc, Nat.add_assoc]),
    extractStridedSlice_apply _ _ g₂ _ (ix2 (chip c) p) (fun x => by
      match x with
      | ⟨0, _⟩ => show (chip c).val = 0 + (chip c).val; omega
      | ⟨1, _⟩ => rfl),
    shapeCast_apply A _ _ (ix2 (⟨((chip c).val * 5308416 + p.val) / 1024, by omega⟩ : Fin 20736) (⟨p.val % 1024, by omega⟩ : Fin 1024)) (by
      rw [Shape.rowMajor_val_two, Shape.rowMajor_val_two]
      show ((chip c).val * 5308416 + p.val) / 1024 * 1024 + p.val % 1024 = (chip c).val * 5308416 + p.val
      omega)]
  rfl

variable (m : (ℓ : Loc nD τ sig) → Buf (Elt F) ℓ) (g : Dev nD → PrngReg)

theorem arg_kept {c : Dev nD} {μ : (ℓ : Loc nD τ sig) → Buf (Elt F) ℓ} (h : Ends m c μ) :
    μ ((c.tc : Thread nD τ).loc main_arg0) = m ((c.tc : Thread nD τ).loc main_arg0) := by
  obtain ⟨f, -, h⟩ := h
  refine (h (Proc.devRef .tc main_arg0) (by decide)).trans ?_
  after_results
  exact Function.update_of_ne (by decide) _ _

theorem placed {c : Dev nD} {f : Buf (Elt F) ((c : Thread nD τ).loc main_v1)} (h : Placed m c f) (A : (Slab 20736 1024).Idx → Elt F .f32)
    (hA : ∀ c : Dev nD, m ((c.tc : Thread nD τ).loc main_arg0) = own c A) : f = pair c (stacked A) := by
  funext i
  obtain ⟨k, r, l, rfl⟩ : ∃ k r l, i = ix3 k r l := ⟨_, _, _, eq_ix3 i⟩
  obtain ⟨b, rfl, hb⟩ := h k
  exact (hb r l).trans ((congrFun (hA _) (ix2 r l)).trans ((own_apply _ A r l).trans ((ShareProof.pair_apply c b _ r l).trans (stacked_apply A _ r l)).symm))

open Cert.GradsRefIdeal.Gen in
/-- A device's results: its parts of the eleven gradients. -/
theorem results {c : Dev nD} {μ : (ℓ : Loc nD τ sig) → Buf (Elt F) ℓ} (h : Ends m c μ) (A : (Slab 20736 1024).Idx → Elt F .f32)
    (hA : ∀ c : Dev nD, m ((c.tc : Thread nD τ).loc main_arg0) = own c A) :
    μ ((c.tc : Thread nD τ).loc main_v5) = mine c (cut A 0 slices_S4x5308416_S4x720896_0_0 shapeCasts_S4x720896_S4096x704) (by decide)
    ∧ μ ((c.tc : Thread nD τ).loc main_v7) = mine c (cut A 720896 slices_S4x5308416_S4x720896_0_720896 shapeCasts_S4x720896_S4096x704) (by decide)
    ∧ μ ((c.tc : Thread nD τ).loc main_v9) = mine c (cut A 1441792 slices_S4x5308416_S4x720896_0_1441792 shapeCasts_S4x720896_S2816x1024) (by decide)
    ∧ μ ((c.tc : Thread nD τ).loc main_v11) = mine c (cut A 2162688 slices_S4x5308416_S4x634880_0_2162688 shapeCasts_S4x634880_S4096x620) (by decide)
    ∧ μ ((c.tc : Thread nD τ).loc main_v13) = mine c (cut A 2797568 slices_S4x5308416_S4x49152_0_2797568 shapeCasts_S4x49152_S1024x192) (by decide)
    ∧ μ ((c.tc : Thread nD τ).loc main_v15) = mine c (cut A 2846720 slices_S4x5308416_S4x32768_0_2846720 shapeCasts_S4x32768_S512x256) (by decide)
    ∧ μ ((c.tc : Thread nD τ).loc main_v17) = mine c (cut A 2879488 slices_S4x5308416_S4x1536_0_2879488 shapeCasts_S4x1536_S16x384) (by decide)
    ∧ μ ((c.tc : Thread nD τ).loc main_v19) = mine c (cut A 2881024 slices_S4x5308416_S4x262144_0_2881024 shapeCasts_S4x262144_S1024x1024) (by decide)
    ∧ μ ((c.tc : Thread nD τ).loc main_v21) = mine c (cut A 3143168 slices_S4x5308416_S4x720896_0_3143168 shapeCasts_S4x720896_S4096x704) (by decide)
    ∧ μ ((c.tc : Thread nD τ).loc main_v23) = mine c (cut A 3864064 slices_S4x5308416_S4x720896_0_3864064 shapeCasts_S4x720896_S4096x704) (by decide)
    ∧ μ ((c.tc : Thread nD τ).loc main_v25) = mine c (cut A 4584960 slices_S4x5308416_S4x720896_0_4584960 shapeCasts_S4x720896_S2816x1024) (by decide)
    ∧ μ ((c.tc : Thread nD τ).loc main_arg0) = m ((c.tc : Thread nD τ).loc main_arg0) := by
  have hk := arg_kept m h
  obtain ⟨f, hf, h⟩ := h
  have hv : V1 m c f (Proc.devRef .tc main_v1) = pair c (stacked A) := (Function.update_self _ _ _).trans (placed m hf A hA)
  have hr (b : Ref sig .tc) (hb : ¬ (Proc.devRef (τ := τ) .tc b).isScoped) : μ ((c.tc : Thread nD τ).loc b) = StableHlo.after hostOps1 (V1 m c f) b :=
    h _ (Finset.mem_filter.mpr ⟨StableHlo.devRef_mem_tcRefs b, hb⟩)
  refine ⟨(hr _ (by decide)).trans ?_, (hr _ (by decide)).trans ?_, (hr _ (by decide)).trans ?_, (hr _ (by decide)).trans ?_, (hr _ (by decide)).trans ?_,
    (hr _ (by decide)).trans ?_, (hr _ (by decide)).trans ?_, (hr _ (by decide)).trans ?_, (hr _ (by decide)).trans ?_, (hr _ (by decide)).trans ?_,
    (hr _ (by decide)).trans ?_, hk⟩ <;>
  · after_results
    rw [hv]
    exact shard c A _ rfl rfl _ _ _ _ _ _ _

/-- The argument ends unchanged and every counter ends at zero. -/
theorem frame : θ_run (defs (F := F)) (onTc (τ := τ) main) ⟨m, fun _ => 0, g⟩ (fun r =>
    (∀ c : Dev nD, r.2.mem ((c.tc : Thread nD τ).loc main_arg0) = m ((c.tc : Thread nD τ).loc main_arg0)) ∧ r.2.sem = fun _ => 0) :=
  (θ_run defs _ _).mono (fun _ h => ⟨fun c => arg_kept m (h.1 c), h.2⟩) (run m g)

end Cert.GradsProof

end
-- ==== Proof.GradsClaims.lean ====
/-
  The claims about the exchange of finished halves that is unpacked into the gradients of the large weights.
-/
module

public import proofs.«01_k».proof.Defs
public import proofs.«01_k».proof.Proof.GradsValue
public import proofs.«01_k».proof.Proof.Gen.Grads
public import proofs.«01_k».proof.Proof.Gen.GradsRefIdeal.Run
public import proofs.«01_k».proof.Proof.Gen.GradsRef.Run
public import Idealize.ShloMosaic.Lib.Quiescent

@[expose] public section

noncomputable section

namespace Cert.GradsProof

open Idealize.ShloMosaic Idealize.SL.Sem

theorem frame_kernel : Cert.quiescent_Grads := fun m g _ => frame (F := Bits) m g

theorem frame_ideal : Cert.quiescent_GradsIdeal := fun m g _ => frame (F := Ideal) m g

theorem frame_ref_ideal : Cert.quiescent_GradsRefIdeal := fun m g _ =>
  (θ_run Cert.GradsRefIdeal.defs _ _).mono (fun _ h => ⟨fun c => (h c).2.2.2.2.2.2.2.2.2.2.2, sem_eq_zero_of_no_sems rfl _⟩) (Cert.GradsRefIdeal.Value.run m g)

theorem frame_ref : Cert.quiescent_GradsRef := fun m g _ =>
  (θ_run Cert.GradsRef.defs _ _).mono (fun _ h => ⟨fun c => (h c).2.2.2.2.2.2.2.2.2.2.2, sem_eq_zero_of_no_sems rfl _⟩) (Cert.GradsRef.Value.run m g)

theorem preserves : Cert.preserves_Grads_GradsIdeal := trivial

theorem algebraic : Cert.algebraic_GradsIdeal_GradsRefIdeal := fun m g m' g' _ hA =>
  ⟨_, _, _, _, _, _, _, _, _, _, _,
    (θ_run Cert.GradsIdeal.defs _ _).mono (fun _ h c => results (F := Ideal) m (h.1 c) _ hA) (run m g),
    (θ_run Cert.GradsRefIdeal.defs _ _).mono (fun _ h => h 0) (Cert.GradsRefIdeal.Value.run m' g')⟩

theorem bitexact : Cert.bitexact_Grads_GradsRef := fun m g m' g' _ hA =>
  ⟨_, _, _, _, _, _, _, _, _, _, _,
    (θ_run Cert.Grads.defs _ _).mono (fun _ h c => results (F := Bits) m (h.1 c) _ hA) (run m g),
    (θ_run Cert.GradsRef.defs _ _).mono (fun _ h => h 0) (Cert.GradsRef.Value.run m' g')⟩

end Cert.GradsProof

end
-- ==== Proof.Blocks.lean ====
/-
  An array of 4096 rows by blocks of 512 rows: the rows of a block, and a sum over the rows taken block after block.
-/
module

public import proofs.«01_k».proof.Proof.Slabs
public import Idealize.ShloMosaic.Lib.Pointwise.Reduce

@[expose] public section

noncomputable section

namespace Cert.Blocks

open Cert.Slabs

open Idealize.ShloMosaic

/-- Row `a` of block `k`. -/
def row (k : Fin 8) (a : Fin 512) : Fin 4096 := ⟨k.val * 512 + a.val, by omega⟩

/-- Block `k` of an array. -/
abbrev block {α : Type} (k : Fin 8) (A : (Slab 4096 1024).Idx → α) : (Slab 512 1024).Idx → α := fun j => A (ix2 (row k (j 0)) (j 1))

/-- A position in the tile at block `k`, and one in the tile that is the whole array. -/
theorem at_block {o : Fin 2 → ℕ} {k : Fin 8} (ho : o = ![k.val, 0]) {j : (Slab 512 1024).Idx} {i : (Slab 4096 1024).Idx}
    (h0 : (i 0).val = o 0 * 512 + 1 * (j 0).val) (h1 : (i 1).val = o 1 * 1024 + 1 * (j 1).val) : i = ix2 (row k (j 0)) (j 1) := by
  subst ho
  refine funext fun a => Fin.ext ?_
  match a with
  | ⟨0, _⟩ => exact h0.trans (congrArg (k.val * 512 + ·) (Nat.one_mul _))
  | ⟨1, _⟩ => exact h1.trans (show 0 * 1024 + 1 * (j 1).val = (j 1).val by omega)

theorem at_whole {o : Fin 2 → ℕ} (ho : o = ![0, 0]) {i j : (Slab 1 1024).Idx}
    (h0 : (i 0).val = o 0 * 1 + 1 * (j 0).val) (h1 : (i 1).val = o 1 * 1024 + 1 * (j 1).val) : i = j := by
  subst ho
  refine funext fun a => Fin.ext ?_
  match a with
  | ⟨0, _⟩ => exact h0.trans (show 0 * 1 + 1 * (j 0).val = (j 0).val by omega)
  | ⟨1, _⟩ => exact h1.trans (show 0 * 1024 + 1 * (j 1).val = (j 1).val by omega)

/-- The bounds of the tile at block `k`, and of the tile that is the whole array. -/
theorem mem_block {o : Fin 2 → ℕ} {k : Fin 8} (ho : o = ![k.val, 0]) (i : (Slab 4096 1024).Idx) (h : (i 0).val / 512 = k.val) (a : Fin 2) :
    o a * (Slab 512 1024).size a ≤ (i a).val ∧ (i a).val < o a * (Slab 512 1024).size a + (Slab 512 1024).size a := by
  subst ho
  have h1 : (i 1).val < 1024 := (i 1).isLt
  match a with
  | ⟨0, _⟩ => show k.val * 512 ≤ (i 0).val ∧ (i 0).val < k.val * 512 + 512; omega
  | ⟨1, _⟩ => show 0 * 1024 ≤ (i 1).val ∧ (i 1).val < 0 * 1024 + 1024; omega

theorem mem_whole {o : Fin 2 → ℕ} (ho : o = ![0, 0]) (i : (Slab 1 1024).Idx) (a : Fin 2) :
    o a * (Slab 1 1024).size a ≤ (i a).val ∧ (i a).val < o a * (Slab 1 1024).size a + (Slab 1 1024).size a := by
  subst ho
  have h0 : (i 0).val < 1 := (i 0).isLt
  have h1 : (i 1).val < 1024 := (i 1).isLt
  match a with
  | ⟨0, _⟩ => show 0 * 1 ≤ (i 0).val ∧ (i 0).val < 0 * 1 + 1; omega
  | ⟨1, _⟩ => show 0 * 1024 ≤ (i 1).val ∧ (i 1).val < 0 * 1024 + 1024; omega

theorem sum_rows (f : Fin 4096 → EReal) : ∑ k : Fin 8, ∑ a : Fin 512, f (row k a) = ∑ r : Fin 4096, f r := by
  rw [← Fintype.sum_prod_type']
  refine Fintype.sum_equiv (finProdFinEquiv (m := 8) (n := 512)) _ f fun p => congrArg f (Fin.ext ?_)
  show p.1.val * 512 + p.2.val = p.2.val + 512 * p.1.val
  omega

/-- A sum taken block after block, over the points of a grid, is the sum over the rows. -/
theorem sum_points {N : ℕ} (hN : N = 8) (f : Fin 4096 → EReal) (acc : (n : ℕ) → n < N → EReal)
    (h0 : ∀ h : 0 < N, acc 0 h = ∑ a : Fin 512, f (row 0 a))
    (hs : ∀ (n : ℕ) (h : n + 1 < N), acc (n + 1) h = acc n (Nat.lt_of_succ_lt h) + ∑ a : Fin 512, f (row ⟨n + 1, lt_of_lt_of_eq h hN⟩ a))
    (h : 7 < N) : acc 7 h = ∑ r : Fin 4096, f r := by
  rw [← sum_rows, Fin.sum_univ_eight, hs, hs, hs, hs, hs, hs, hs, h0]
  rfl

end Cert.Blocks

end
-- ==== Proof.LossValue.lean ====
/-
  What the call that takes the loss leaves: the gradient of the activations, element by element, and the squares of the
  errors, summed over the rows.
-/
module

public import proofs.«01_k».proof.Defs
public import proofs.«01_k».proof.Proof.Blocks
public import proofs.«01_k».proof.Proof.Gen.LossIdeal.Run
public import Idealize.ShloMosaic.Lib.Pointwise
public import Idealize.ShloMosaic.Lib.IdealHost
public import Idealize.ShloMosaic.Lib.Pipeline.Value

@[expose] public section

noncomputable section

namespace Cert.LossProof

open Idealize.ShloMosaic Idealize.ShloMosaic.TcCoe Idealize.SL.Sem
open Idealize.ShloMosaic.Pipeline (Dat)
open Cert.LossIdeal Cert.LossIdeal.Gen Cert.Blocks Cert.Slabs

/-! ## The functions -/

section Functions

variable {R : ℕ} (y z : (Slab R 1024).Idx → EReal) (r : Fin R) (l : Fin 1024)

/-- The gradient of the activations. -/
def slope : EReal := (y (ix2 r l) - z (ix2 r l)) * Ideal.ofBits .f32 0x3A800000#32

/-- The square of an error. -/
def square : EReal := (y (ix2 r l) - z (ix2 r l)) * (y (ix2 r l) - z (ix2 r l))

end Functions

theorem pay_slope (y z : FVec Ideal S512x1024 .f32) (j : S512x1024.Idx) : k0_pay2 (F := Ideal) y z j = slope y z (j 0) (j 1) := by
  pointwise [k0_pay2, k0_pay1, slope]

theorem pay_square (y z : FVec Ideal S512x1024 .f32) (v : FVec Ideal S1x1024 .f32) (j : S1x1024.Idx) :
    k0_pay4 (F := Ideal) y z v j = v j + ∑ a : Fin 512, square y z a (j 1) := by
  pointwise [k0_pay4, k0_pay1, square]

/-! ## What one grid point leaves -/

section Point

variable {F : FTy → Type} [FloatOps F]
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (y z : Vec F S512x1024 .f32) (v : Vec F S1x1024 .f32)

theorem origin : (![0, 0] : Fin 2 → ℕ) = fun _ => 0 := funext fun a => by fin_cases a <;> rfl

theorem first_slope (hc : cond0_0 i) : out0_A_2 c i a1 h1 a2 h2 a3 h3 a4 h4 hc y z = k0_pay2 y z := by
  unfold out0_A_2
  rw [View.read_writes_eq_canon _ _ _ (cover0_A_2 c i a1 h1 a2 h2 a3 h3 a4 h4 hc y z)]
  unfold kernelRun0_A
  dsimp only
  sl_unfold_words
  rw [View.canon_unit_zero origin]
  simp only [View.readAt_eq_ld, h1.read_unread, h2.read_unread, View.ld_unit_zero (S := S512x1024) origin]

theorem later_slope (hc : ¬cond0_0 i) : out0_B_2 c i a1 h1 a2 h2 a3 h3 a4 h4 hc y z v = k0_pay2 y z := by
  unfold out0_B_2
  rw [View.read_writes_eq_canon _ _ _ (cover0_B_2 c i a1 h1 a2 h2 a3 h3 a4 h4 hc y z v)]
  unfold kernelRun0_B
  dsimp only
  sl_unfold_words
  rw [View.canon_unit_zero origin]
  simp only [View.readAt_eq_ld, h1.read_unread, h2.read_unread, View.ld_unit_zero (S := S512x1024) origin]

theorem first_square (hc : cond0_0 i) : out0_A_3 c i a1 h1 a2 h2 a3 h3 a4 h4 hc y z = k0_pay4 y z (k0_pay3 (F := F)) := by
  unfold out0_A_3
  rw [View.read_writes_eq_canon _ _ _ (cover0_A_3 c i a1 h1 a2 h2 a3 h3 a4 h4 hc y z)]
  unfold kernelRun0_A
  dsimp only
  sl_unfold_words
  rw [View.canon_cons_unit_zero (S := S1x1024) origin, View.readCov_unit_zero (S := S1x1024) _ origin]
  simp only [View.readAt_eq_ld, h1.read_unread, h2.read_unread, View.ld_unit_zero (S := S512x1024) origin]

theorem later_square (hc : ¬cond0_0 i) : out0_B_3 c i a1 h1 a2 h2 a3 h3 a4 h4 hc y z v = k0_pay4 y z v := by
  unfold out0_B_3
  rw [View.read_writes_eq_canon _ _ _ (cover0_B_3 c i a1 h1 a2 h2 a3 h3 a4 h4 hc y z v)]
  unfold kernelRun0_B
  dsimp only
  sl_unfold_words
  rw [View.canon_unit_zero origin]
  simp only [View.readAt_eq_ld, h1.read_unread, h2.read_unread, h4.read_unread, View.ld_unit_zero (S := S512x1024) origin, View.ld_unit_zero (S := S1x1024) origin]

end Point

/-! ## What the call leaves -/

variable (m : (ℓ : Loc nD τ sig) → Buf (Elt Ideal) ℓ) (c : Dev nD)

abbrev argY : (Slab 4096 1024).Idx → EReal := m ((c : Thread nD τ).loc main_arg0)
abbrev argZ : (Slab 4096 1024).Idx → EReal := m ((c : Thread nD τ).loc main_arg1)

/-- A grid point as the number of its block. -/
def num (t : Fin cfg0.N) : Fin 8 := ⟨t.val, lt_of_lt_of_eq t.isLt N_0⟩

theorem offsets : ∀ t : Fin cfg0.N, win0_0.index t = ![t.val, 0] ∧ win0_1.index t = ![t.val, 0] ∧ win0_2.index t = ![t.val, 0] ∧ win0_3.index t = ![0, 0] :=
  (by decide +kernel : ∀ t : Fin grid0.N, _)

theorem in_y (t : Fin cfg0.N) : iblk m c 0 t = block (num t) (argY m c) :=
  funext fun _ => congrArg (argY m c) (at_block (k := num t) (offsets t).1 rfl rfl)

theorem in_z (t : Fin cfg0.N) : iblk m c 1 t = block (num t) (argZ m c) :=
  funext fun _ => congrArg (argZ m c) (at_block (k := num t) (offsets t).2.1 rfl rfl)

/-- The two results of the call. -/
abbrev outSlope (j : (Slab 4096 1024).Idx) : EReal := slope (argY m c) (argZ m c) (j 0) (j 1)
abbrev outSquare (j : (Slab 1 1024).Idx) : EReal := ∑ r : Fin 4096, square (argY m c) (argZ m c) r (j 1)

/-- Block `k`'s part of the second. -/
abbrev part (j : (Slab 1 1024).Idx) (k : Fin 8) : EReal := ∑ a : Fin 512, square (argY m c) (argZ m c) (row k a) (j 1)

theorem left_slope (t : Fin cfg0.N) : k0_pay2 (F := Ideal) (iblk m c 0 t) (iblk m c 1 t) = block (num t) (outSlope m c) := by
  rw [in_y, in_z]
  exact funext fun j => pay_slope _ _ j

theorem left_square (t : Fin cfg0.N) (v : FVec Ideal S1x1024 .f32) :
    k0_pay4 (F := Ideal) (iblk m c 0 t) (iblk m c 1 t) v = fun j => v j + part m c j (num t) := by
  rw [in_y, in_z]
  exact funext fun j => pay_square _ _ _ j

theorem first (t : Fin cfg0.N) (h : t.val % 8 = 0) :
    outsAt0 m c t.val t.isLt = (block (num t) (outSlope m c), fun j => part m c j (num t)) := by
  rw [outsAt0_A m c t h, first_slope, first_square, left_slope, left_square]
  refine congrArg (Prod.mk _) (funext fun j => ?_)
  exact (congrArg (· + part m c j (num t)) Ideal.ofBits_zero_f32).trans (zero_add _)

theorem later (t : Fin cfg0.N) (h : ¬t.val % 8 = 0) : outsAt0 m c t.val t.isLt
    = (block (num t) (outSlope m c), fun j => (outsAt0 m c (t.val - 1) (Nat.lt_of_le_of_lt (Nat.sub_le _ _) t.isLt)).2 j + part m c j (num t)) := by
  rw [outsAt0_B m c t h, later_slope, later_square, left_slope, left_square]

/-- What the first result's buffer holds after a point: its block. -/
theorem holds_slope (t : Fin cfg0.N) : (outsAt0 m c t.val t.isLt).1 = block (num t) (outSlope m c) := by
  by_cases h : t.val % 8 = 0
  · rw [first m c t h]
  · rw [later m c t h]

/-- What the second result's buffer holds after the last point: the sum over the rows. -/
theorem holds_square (j : (Slab 1 1024).Idx) : (outsAt0 m c 7 t0_7.isLt).2 j = ∑ r : Fin 4096, square (argY m c) (argZ m c) r (j 1) :=
  sum_points N_0 (fun r => square (argY m c) (argZ m c) r (j 1)) (fun n h => (outsAt0 m c n h).2 j)
    (fun h => congrFun (congrArg Prod.snd (first m c ⟨0, h⟩ rfl)) j)
    (fun n h => congrFun (congrArg Prod.snd (later m c ⟨n + 1, h⟩ (by have : n + 1 < 8 := lt_of_lt_of_eq h N_0; dsimp only; omega))) j) t0_7.isLt

theorem final_slope : (dats m 0 c).arrAt 2 cfg0.N = outSlope m c :=
  (dats m 0 c).arrAt_eq_of_cover 2 (outSlope m c)
    (fun t _ => (show (dats m 0 c).flushed 2 t = (cfg0.win 2).cut (grid0.coords t) (outsAt0 m c t.val t.isLt).1 from
      congrArg ((cfg0.win 2).cut (grid0.coords t)) (after0_2 m c t)).trans (by
      rw [holds_slope]
      exact funext fun j => congrArg (outSlope m c) (at_block (k := num t) (offsets t).2.2.1 (j := j) rfl rfl).symm))
    fun i => by
      have hi : (i 0).val < 4096 := (i 0).isLt
      let t : Fin cfg0.N := ⟨(i 0).val / 512, by rw [show cfg0.N = 8 from N_0]; omega⟩
      refine ⟨t, flush0_2 t, ?_⟩
      show i ∈ ((View.whole main_v0_0).slice (win0_2.rect t)).set
      rw [View.set_slice_whole, Rect.mem_set_unit]
      exact mem_block (k := num t) (offsets t).2.2.1 i rfl

theorem final_square : (dats m 0 c).arrAt 3 cfg0.N = outSquare m c :=
  (dats m 0 c).arrAt_eq_of_cover 3 (outSquare m c)
    (fun t ht => (show (dats m 0 c).flushed 3 t = (cfg0.win 3).cut (grid0.coords t) (outsAt0 m c t.val t.isLt).2 from
      congrArg ((cfg0.win 3).cut (grid0.coords t)) (after0_3 m c t)).trans (by
      obtain rfl : t = t0_7 := Fin.ext (by have := (flush0_3 t).mp ht; have : t.val < 8 := lt_of_lt_of_eq t.isLt N_0; show t.val = 7; omega)
      refine funext fun j => (holds_square m c j).trans ?_
      exact (congrArg (outSquare m c) (at_whole (offsets t0_7).2.2.2 (j := j) rfl rfl).symm)))
    fun i => by
      refine ⟨t0_7, (flush0_3 t0_7).mpr rfl, ?_⟩
      show i ∈ ((View.whole main_v0_1).slice (win0_3.rect t0_7)).set
      rw [View.set_slice_whole, Rect.mem_set_unit]
      exact mem_whole (offsets t0_7).2.2.2 i

end Cert.LossProof

end
-- ==== Proof.LossClaims.lean ====
/-
  The claims about the loss of one chip's rows and the gradient of the activations there.
-/
module

public import proofs.«01_k».proof.Defs
public import proofs.«01_k».proof.Proof.LossValue
public import proofs.«01_k».proof.Proof.Gen.Loss.Frame
public import proofs.«01_k».proof.Proof.Gen.LossRefIdeal.Run
public import Idealize.ShloMosaic.Lib.Quiescent

@[expose] public section

noncomputable section

namespace Cert.LossProof

open Idealize.ShloMosaic Idealize.ShloMosaic.TcCoe Idealize.SL.Sem
open Cert.Slabs

theorem frame_kernel : Cert.quiescent_Loss := fun m g _ => Cert.Loss.Gen.frame m g

theorem frame_ideal : Cert.quiescent_LossIdeal := fun m g _ => Cert.LossIdeal.Gen.frame m g

theorem frame_ref_ideal : Cert.quiescent_LossRefIdeal := fun m g _ =>
  (θ_run Cert.LossRefIdeal.defs _ _).mono (fun _ h => ⟨fun c => (h c).2.2, sem_eq_zero_of_no_sems rfl _⟩) (Cert.LossRefIdeal.Value.run m g)

theorem preserves : Cert.preserves_Loss_LossIdeal := trivial

theorem whole_bits : Ideal.ofBits .f32 0x44800000#32 = ((1024 : ℝ) : EReal) := by
  simp [Ideal.ofBits, Ideal.ieee, -EReal.coe_mul]
  norm_num

theorem part_bits : Ideal.ofBits .f32 0x3A800000#32 = (((1024 : ℝ)⁻¹ : ℝ) : EReal) := by
  simp [Ideal.ofBits, Ideal.ieee, -EReal.coe_mul]
  norm_num

/-- Dividing by the number of lanes is multiplying by its inverse. -/
theorem div_lanes (x : EReal) : Ideal.div x (Ideal.ofBits .f32 0x44800000#32) = x * Ideal.ofBits .f32 0x3A800000#32 := by
  rw [whole_bits, part_bits, EReal.coe_inv]
  exact if_neg (by norm_num)

/-- Half the sum of the squares, column by column, over the number of lanes is half the sum of the rows' means. -/
theorem mean_rows (h : EReal) (f : Fin 4096 → Fin 1024 → EReal) :
    Ideal.div (h * ∑ l : Fin 1024, ∑ r : Fin 4096, f r l) (Ideal.ofBits .f32 0x44800000#32)
      = h * ∑ r : Fin 4096, Ideal.div (∑ l : Fin 1024, f r l) (Ideal.ofBits .f32 0x44800000#32) := by
  have hc : (0 : EReal) ≤ Ideal.ofBits .f32 0x3A800000#32 := by rw [part_bits]; exact EReal.coe_nonneg.mpr (by norm_num)
  have ht : Ideal.ofBits .f32 0x3A800000#32 ≠ ⊤ := by rw [part_bits]; exact EReal.coe_ne_top _
  simp only [div_lanes]
  rw [mul_assoc, Finset.sum_comm]
  refine congrArg (h * ·) ?_
  exact map_sum (⟨⟨fun x => x * Ideal.ofBits .f32 0x3A800000#32, zero_mul _⟩, fun x y => EReal.right_distrib_of_nonneg_of_ne_top hc ht x y⟩ : EReal →+ EReal) _ _

theorem algebraic : Cert.algebraic_LossIdeal_LossRefIdeal := fun m g m' g' _ hA => by
  refine ⟨_, outSlope m, (θ_run Cert.LossIdeal.defs _ _).mono
      (fun _ h c => ⟨(h c).1, (h c).2.1.trans (final_slope m c), (h c).2.2⟩) (Cert.LossIdeal.Value.run m g),
    (θ_run Cert.LossRefIdeal.defs _ _).mono (fun _ h c => ?_) (Cert.LossRefIdeal.Value.run m' g')⟩
  obtain ⟨hy, hz⟩ := hA c
  refine ⟨(h c).1.trans ?_, (h c).2.1.trans ?_, (h c).2.2⟩
  · rw [hy, hz]
    beta_reduce
    rw [show Cert.LossIdeal.Value.reg_main_v0_1 m c = outSquare m c from final_square m c]
    funext j
    pointwise [outSquare, square]
    rw [Fin.sum_univ_one]
    exact (mean_rows (Ideal.ofBits .f32 0x3F000000#32) fun r l => square (argY m c) (argZ m c) r l).symm
  · rw [hy, hz]
    funext j
    pointwise [outSlope, slope]
    exact div_lanes _

end Cert.LossProof

end
-- ==== Proof.NormBackValue.lean ====
/-
  What the call that takes a gradient back through RMSNorm leaves: the gradient of the input, row by row, and the
  gradient of the gain, summed over the rows.
-/
module

public import proofs.«01_k».proof.Defs
public import proofs.«01_k».proof.Proof.Blocks
public import proofs.«01_k».proof.Proof.Gen.NormBackIdeal.Value
public import Idealize.ShloMosaic.Lib.Pointwise
public import Idealize.ShloMosaic.Lib.IdealHost
public import Idealize.ShloMosaic.Lib.Pipeline.Value

@[expose] public section

noncomputable section

namespace Cert.NormBackProof

open Idealize.ShloMosaic Idealize.ShloMosaic.TcCoe Idealize.SL.Sem
open Idealize.ShloMosaic.Pipeline (Dat)
open Cert.NormBackIdeal Cert.NormBackIdeal.Gen Cert.Blocks Cert.Slabs

/-! ## The functions -/

section Functions

variable {R : ℕ} (x dn dy : (Slab R 1024).Idx → EReal) (g : (Slab 1 1024).Idx → EReal) (r : Fin R) (l : Fin 1024)

/-- One over the root of the mean square of row `r`. -/
def scale : EReal :=
  Ideal.rsqrt (Ideal.div (∑ k : Fin 1024, x (ix2 r k) * x (ix2 r k)) (Ideal.ofBits .f32 0x44800000#32) + Ideal.ofBits .f32 0x358637BD#32)

/-- The gradient of the input. -/
def back : EReal :=
  dy (ix2 r l) + scale x r * (dn (ix2 r l) * g (ix2 0 l)
    - x (ix2 r l) * scale x r * Ideal.div (∑ k : Fin 1024, dn (ix2 r k) * g (ix2 0 k) * (x (ix2 r k) * scale x r)) (Ideal.ofBits .f32 0x44800000#32))

/-- Row `r`'s part of the gradient of the gain. -/
def gain : EReal := dn (ix2 r l) * (x (ix2 r l) * scale x r)

end Functions

theorem pay_back (x dn dy : FVec Ideal S512x1024 .f32) (g : FVec Ideal S1x1024 .f32) (j : S512x1024.Idx) :
    k0_pay3 (F := Ideal) x dn dy g j = back x dn dy g (j 0) (j 1) := by
  pointwise [k0_pay3, k0_pay2, k0_pay1, back, scale]

theorem pay_gain (x dn : FVec Ideal S512x1024 .f32) (v : FVec Ideal S1x1024 .f32) (j : S1x1024.Idx) :
    k0_pay5 (F := Ideal) x dn v j = v j + ∑ a : Fin 512, gain x dn a (j 1) := by
  pointwise [k0_pay5, k0_pay2, k0_pay1, gain, scale]

/-! ## What one grid point leaves -/

section Point

variable {F : FTy → Type} [FloatOps F]
variable (c : Dev nD) (i : grid0.Coords) (a1 : Memref sig .tc .vmem S512x1024 .f32) (h1 : a1.IsWhole) (a2 : Memref sig .tc .vmem S512x1024 .f32) (h2 : a2.IsWhole)
  (a3 : Memref sig .tc .vmem S512x1024 .f32) (h3 : a3.IsWhole) (a4 : Memref sig .tc .vmem S1x1024 .f32) (h4 : a4.IsWhole)
  (a5 : Memref sig .tc .vmem S512x1024 .f32) (h5 : a5.IsWhole) (a6 : Memref sig .tc .vmem S1x1024 .f32) (h6 : a6.IsWhole)
  (x dn dy : Vec F S512x1024 .f32) (g v : Vec F S1x1024 .f32)

theorem origin : (![0, 0] : Fin 2 → ℕ) = fun _ => 0 := funext fun a => by fin_cases a <;> rfl

theorem first_back (hc : cond0_0 i) : out0_A_4 c i a1 h1 a2 h2 a3 h3 a4 h4 a5 h5 a6 h6 hc x dn dy g = k0_pay3 x dn dy g := by
  unfold out0_A_4
  rw [View.read_writes_eq_canon _ _ _ (cover0_A_4 c i a1 h1 a2 h2 a3 h3 a4 h4 a5 h5 a6 h6 hc x dn dy g)]
  unfold kernelRun0_A
  dsimp only
  sl_unfold_words
  rw [View.canon_unit_zero origin]
  simp only [View.readAt_eq_ld, h1.read_unread, h2.read_unread, h3.read_unread, h4.read_unread, View.ld_unit_zero (S := S512x1024) origin, View.ld_unit_zero (S := S1x1024) origin]

theorem later_back (hc : ¬cond0_0 i) : out0_B_4 c i a1 h1 a2 h2 a3 h3 a4 h4 a5 h5 a6 h6 hc x dn dy g v = k0_pay3 x dn dy g := by
  unfold out0_B_4
  rw [View.read_writes_eq_canon _ _ _ (cover0_B_4 c i a1 h1 a2 h2 a3 h3 a4 h4 a5 h5 a6 h6 hc x dn dy g v)]
  unfold kernelRun0_B
  dsimp only
  sl_unfold_words
  rw [View.canon_unit_zero origin]
  simp only [View.readAt_eq_ld, h1.read_unread, h2.read_unread, h3.read_unread, h4.read_unread, View.ld_unit_zero (S := S512x1024) origin, View.ld_unit_zero (S := S1x1024) origin]

theorem first_gain (hc : cond0_0 i) : out0_A_5 c i a1 h1 a2 h2 a3 h3 a4 h4 a5 h5 a6 h6 hc x dn dy g = k0_pay5 x dn (k0_pay4 (F := F)) := by
  unfold out0_A_5
  rw [View.read_writes_eq_canon _ _ _ (cover0_A_5 c i a1 h1 a2 h2 a3 h3 a4 h4 a5 h5 a6 h6 hc x dn dy g)]
  unfold kernelRun0_A
  dsimp only
  sl_unfold_words
  rw [View.canon_cons_unit_zero (S := S1x1024) origin, View.readCov_unit_zero (S := S1x1024) _ origin]
  simp only [View.readAt_eq_ld, h1.read_unread, h2.read_unread, View.ld_unit_zero (S := S512x1024) origin]

theorem later_gain (hc : ¬cond0_0 i) : out0_B_5 c i a1 h1 a2 h2 a3 h3 a4 h4 a5 h5 a6 h6 hc x dn dy g v = k0_pay5 x dn v := by
  unfold out0_B_5
  rw [View.read_writes_eq_canon _ _ _ (cover0_B_5 c i a1 h1 a2 h2 a3 h3 a4 h4 a5 h5 a6 h6 hc x dn dy g v)]
  unfold kernelRun0_B
  dsimp only
  sl_unfold_words
  rw [View.canon_unit_zero origin]
  simp only [View.readAt_eq_ld, h1.read_unread, h2.read_unread, h6.read_unread, View.ld_unit_zero (S := S512x1024) origin, View.ld_unit_zero (S := S1x1024) origin]

end Point

/-! ## What the call leaves -/

variable (m : (ℓ : Loc nD τ sig) → Buf (Elt Ideal) ℓ) (c : Dev nD)

abbrev argX : (Slab 4096 1024).Idx → EReal := m ((c : Thread nD τ).loc main_arg0)
abbrev argN : (Slab 4096 1024).Idx → EReal := m ((c : Thread nD τ).loc main_arg1)
abbrev argY : (Slab 4096 1024).Idx → EReal := m ((c : Thread nD τ).loc main_arg2)
abbrev argG : (Slab 1 1024).Idx → EReal := m ((c : Thread nD τ).loc main_arg3)

/-- A grid point as the number of its block. -/
def num (t : Fin cfg0.N) : Fin 8 := ⟨t.val, lt_of_lt_of_eq t.isLt N_0⟩

theorem offsets : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem in_x (t : Fin cfg0.N) : iblk m c 0 t = block (num t) (argX m c) :=
  funext fun _ => congrArg (argX m c) (at_block (k := num t) (offsets t).1 rfl rfl)

theorem in_n (t : Fin cfg0.N) : iblk m c 1 t = block (num t) (argN m c) :=
  funext fun _ => congrArg (argN m c) (at_block (k := num t) (offsets t).2.1 rfl rfl)

theorem in_y (t : Fin cfg0.N) : iblk m c 2 t = block (num t) (argY m c) :=
  funext fun _ => congrArg (argY m c) (at_block (k := num t) (offsets t).2.2.1 rfl rfl)

theorem in_g (t : Fin cfg0.N) : iblk m c 3 t = argG m c :=
  funext fun _ => congrArg (argG m c) (at_whole (offsets t).2.2.2.1 rfl rfl)

/-- The two results. -/
abbrev outBack (j : (Slab 4096 1024).Idx) : EReal := back (argX m c) (argN m c) (argY m c) (argG m c) (j 0) (j 1)
abbrev outGain (j : (Slab 1 1024).Idx) : EReal := ∑ r : Fin 4096, gain (argX m c) (argN m c) r (j 1)

/-- Block `k`'s part of the second. -/
abbrev part (j : (Slab 1 1024).Idx) (k : Fin 8) : EReal := ∑ a : Fin 512, gain (argX m c) (argN m c) (row k a) (j 1)

theorem left_back (t : Fin cfg0.N) :
    k0_pay3 (F := Ideal) (iblk m c 0 t) (iblk m c 1 t) (iblk m c 2 t) (iblk m c 3 t) = block (num t) (outBack m c) := by
  rw [in_x, in_n, in_y, in_g]
  exact funext fun j => pay_back _ _ _ _ j

theorem left_gain (t : Fin cfg0.N) (v : FVec Ideal S1x1024 .f32) :
    k0_pay5 (F := Ideal) (iblk m c 0 t) (iblk m c 1 t) v = fun j => v j + part m c j (num t) := by
  rw [in_x, in_n]
  exact funext fun j => pay_gain _ _ _ j

theorem first (t : Fin cfg0.N) (h : t.val % 8 = 0) :
    outsAt0 m c t.val t.isLt = (block (num t) (outBack m c), fun j => part m c j (num t)) := by
  rw [outsAt0_A m c t h, first_back, first_gain, left_back, left_gain]
  refine congrArg (Prod.mk _) (funext fun j => ?_)
  exact (congrArg (· + part m c j (num t)) Ideal.ofBits_zero_f32).trans (zero_add _)

theorem later (t : Fin cfg0.N) (h : ¬t.val % 8 = 0) : outsAt0 m c t.val t.isLt
    = (block (num t) (outBack m c), fun j => (outsAt0 m c (t.val - 1) (Nat.lt_of_le_of_lt (Nat.sub_le _ _) t.isLt)).2 j + part m c j (num t)) := by
  rw [outsAt0_B m c t h, later_back, later_gain, left_back, left_gain]

/-- What the first result's buffer holds after a point: its block. -/
theorem holds_back (t : Fin cfg0.N) : (outsAt0 m c t.val t.isLt).1 = block (num t) (outBack m c) := by
  by_cases h : t.val % 8 = 0
  · rw [first m c t h]
  · rw [later m c t h]

/-- What the second result's buffer holds after the last point: the sum over the rows. -/
theorem holds_gain (j : (Slab 1 1024).Idx) : (outsAt0 m c 7 t0_7.isLt).2 j = ∑ r : Fin 4096, gain (argX m c) (argN m c) r (j 1) :=
  sum_points N_0 (fun r => gain (argX m c) (argN m c) r (j 1)) (fun n h => (outsAt0 m c n h).2 j)
    (fun h => congrFun (congrArg Prod.snd (first m c ⟨0, h⟩ rfl)) j)
    (fun n h => congrFun (congrArg Prod.snd (later m c ⟨n + 1, h⟩ (by have : n + 1 < 8 := lt_of_lt_of_eq h N_0; dsimp only; omega))) j) t0_7.isLt

theorem final_back : (dats m 0 c).arrAt 4 cfg0.N = outBack m c :=
  (dats m 0 c).arrAt_eq_of_cover 4 (outBack m c)
    (fun t _ => (Value.flushed4 m c t).trans (by
      rw [holds_back]
      exact funext fun j => congrArg (outBack m c) (at_block (k := num t) (offsets t).2.2.2.2.1 (j := j) rfl rfl).symm))
    fun i => by
      have hi : (i 0).val < 4096 := (i 0).isLt
      let t : Fin cfg0.N := ⟨(i 0).val / 512, by rw [show cfg0.N = 8 from N_0]; omega⟩
      refine ⟨t, flush0_4 t, ?_⟩
      show i ∈ ((View.whole main_v0_0).slice (win0_4.rect t)).set
      rw [View.set_slice_whole, Rect.mem_set_unit]
      exact mem_block (k := num t) (offsets t).2.2.2.2.1 i rfl

theorem final_gain : (dats m 0 c).arrAt 5 cfg0.N = outGain m c :=
  (dats m 0 c).arrAt_eq_of_cover 5 (outGain m c)
    (fun t ht => (Value.flushed5 m c t).trans (by
      obtain rfl : t = t0_7 := Fin.ext (by have := (flush0_5 t).mp ht; have : t.val < 8 := lt_of_lt_of_eq t.isLt N_0; show t.val = 7; omega)
      refine funext fun j => (holds_gain m c j).trans ?_
      exact (congrArg (outGain m c) (at_whole (offsets t0_7).2.2.2.2.2 (j := j) rfl rfl).symm)))
    fun i => by
      refine ⟨t0_7, (flush0_5 t0_7).mpr rfl, ?_⟩
      show i ∈ ((View.whole main_v0_1).slice (win0_5.rect t0_7)).set
      rw [View.set_slice_whole, Rect.mem_set_unit]
      exact mem_whole (offsets t0_7).2.2.2.2.2 i

end Cert.NormBackProof

end
-- ==== Proof.NormBackClaims.lean ====
/-
  The claims about the gradient taken back through RMSNorm.
-/
module

public import proofs.«01_k».proof.Defs
public import proofs.«01_k».proof.Proof.NormBackValue
public import proofs.«01_k».proof.Proof.Gen.NormBack.Frame
public import proofs.«01_k».proof.Proof.Gen.NormBackRefIdeal.Run
public import Idealize.ShloMosaic.Lib.Quiescent

@[expose] public section

noncomputable section

namespace Cert.NormBackProof

open Idealize.ShloMosaic Idealize.ShloMosaic.TcCoe Idealize.SL.Sem
open Cert.Slabs

theorem frame_kernel : Cert.quiescent_NormBack := fun m g _ => Cert.NormBack.Gen.frame m g

theorem frame_ideal : Cert.quiescent_NormBackIdeal := fun m g _ => Cert.NormBackIdeal.Gen.frame m g

theorem frame_ref_ideal : Cert.quiescent_NormBackRefIdeal := fun m g _ =>
  (θ_run Cert.NormBackRefIdeal.defs _ _).mono (fun _ h => ⟨fun c => (h c).2.2, sem_eq_zero_of_no_sems rfl _⟩) (Cert.NormBackRefIdeal.Value.run m g)

theorem preserves : Cert.preserves_NormBack_NormBackIdeal := trivial

theorem algebraic : Cert.algebraic_NormBackIdeal_NormBackRefIdeal := fun m g m' g' _ hA => by
  refine ⟨outBack m, outGain m, (θ_run Cert.NormBackIdeal.defs _ _).mono
      (fun _ h c => ⟨(h c).1.trans (final_back m c), (h c).2.1.trans (final_gain m c), (h c).2.2⟩) (Cert.NormBackIdeal.Value.run_blocks m g),
    (θ_run Cert.NormBackRefIdeal.defs _ _).mono (fun _ h c => ?_) (Cert.NormBackRefIdeal.Value.run m' g')⟩
  obtain ⟨hx, hn, hy, hg⟩ := hA c
  refine ⟨(h c).1.trans ?_, (h c).2.1.trans ?_, (h c).2.2⟩
  · rw [hx, hn, hy, hg]
    funext j
    pointwise [outBack, back, scale]
  · rw [hx, hn]
    funext j
    pointwise [outGain, gain, scale]

end Cert.NormBackProof

end
-- ==== Proof.Products.lean ====
/-
  Matrices read at natural numbers, for a product that is taken tile by tile: an entry of a tile as an entry of the
  matrix, and a sum over a contracted axis taken tile after tile.
-/
module

public import proofs.«01_k».proof.Proof.Slabs
public import Idealize.ShloMosaic.Lib.Pipeline.ValueKit.Acc
public import Idealize.ShloMosaic.Lib.IdealHost

@[expose] public section

noncomputable section

namespace Cert.Products

open Cert.Slabs

open Idealize.ShloMosaic Idealize.ShloMosaic.ValueIdx

/-- The entry of a matrix in row `p` and column `q`, zero outside of it. -/
def entry {R C : ℕ} (A : (Slab R C).Idx → EReal) (p q : ℕ) : EReal := if h : p < R ∧ q < C then A (ix2 ⟨p, h.1⟩ ⟨q, h.2⟩) else 0

theorem entry_eq {R C : ℕ} (A : (Slab R C).Idx → EReal) (i : (Slab R C).Idx) {p q : ℕ} (h0 : (i 0).val = p) (h1 : (i 1).val = q) : A i = entry A p q := by
  subst h0 h1
  have h : (i 0).val < R ∧ (i 1).val < C := ⟨(i 0).isLt, (i 1).isLt⟩
  rw [entry, dif_pos h]
  exact congrArg A (eq_ix2 i)

/-- An entry of the tile at block `o` of a matrix. -/
theorem entry_tile {R C r s : ℕ} (A : (Slab R C).Idx → EReal) {o : Fin 2 → ℕ} {a b : ℕ} (ho : o = ![a, b]) {i : (Slab R C).Idx} {j : (Slab r s).Idx}
    (h0 : (i 0).val = o 0 * r + 1 * (j 0).val) (h1 : (i 1).val = o 1 * s + 1 * (j 1).val) : A i = entry A (a * r + (j 0).val) (b * s + (j 1).val) := by
  subst ho
  exact entry_eq A i (h0.trans (congrArg (a * r + ·) (Nat.one_mul _))) (h1.trans (congrArg (b * s + ·) (Nat.one_mul _)))

/-- The row in the matrix of a row of the tile at block `o`. -/
theorem row_tile {r : ℕ} {o : Fin 2 → ℕ} {a b p j : ℕ} (ho : o = ![a, b]) (h : p = o 0 * r + 1 * j) : a * r + j = p := by
  subst ho
  exact ((Nat.one_mul j) ▸ h).symm

/-- The column in the matrix of a column of the tile at block `o`. -/
theorem col_tile {s : ℕ} {o : Fin 2 → ℕ} {a b q j : ℕ} (ho : o = ![a, b]) (h : q = o 1 * s + 1 * j) : b * s + j = q := by
  subst ho
  exact ((Nat.one_mul j) ▸ h).symm

/-- A sum over `n` tiles of `b` places is the sum over all the places. -/
theorem sum_tiles (n b : ℕ) (f : ℕ → EReal) : ∑ k ∈ Finset.range n, ∑ x : Fin b, f (k * b + x.val) = ∑ x : Fin (n * b), f x.val := by
  rw [Finset.sum_range, ← Fintype.sum_prod_type']
  refine Fintype.sum_equiv (finProdFinEquiv (m := n) (n := b)) _ (fun x => f x.val) fun p => congrArg f ?_
  show p.1.val * b + p.2.val = p.2.val + b * p.1.val
  rw [Nat.mul_comm, Nat.add_comm]

/-- The product of `u` and `v` over `n` lanes, at an element. -/
abbrev prod (n : ℕ) {R C : ℕ} (u v : ℕ → ℕ → EReal) (i : (Slab R C).Idx) : EReal := ∑ x : Fin n, u (i 0).val x.val * v x.val (i 1).val

/-- What the lanes of place `k` add to the tile in row `p` and column `q` of the tiles. -/
abbrev part (b : ℕ) {r s : ℕ} (u v : ℕ → ℕ → EReal) (p q k : ℕ) (j : (Slab r s).Idx) : EReal :=
  ∑ x : Fin b, u (p * r + (j 0).val) (k * b + x.val) * v (k * b + x.val) (q * s + (j 1).val)

/-- The first lanes being all of them, they make the product. -/
theorem part_prod {b r s R C : ℕ} (u v : ℕ → ℕ → EReal) {o : Fin 2 → ℕ} {p q : ℕ} (ho : o = ![p, q]) {i : (Slab R C).Idx} {j : (Slab r s).Idx}
    (i0 : (i 0).val = o 0 * r + 1 * (j 0).val) (i1 : (i 1).val = o 1 * s + 1 * (j 1).val) : part b u v p q 0 j = prod b u v i :=
  Finset.sum_congr rfl fun x _ => by rw [row_tile ho i0, col_tile ho i1, Nat.zero_mul, Nat.zero_add]

/-- A tile that starts at zero and takes on a place's lanes at each of `n` points holds the product after the last of
    them. The tiles are taken row by row, `w` to a row. -/
theorem tile_prod {N : ℕ} (n b w : ℕ) {r s R C : ℕ} (u v : ℕ → ℕ → EReal) (f : ∀ t, t < N → (Slab r s).Idx → EReal)
    (h0 : ∀ t : Fin N, t.val % n = 0 → ∀ j, f t.val t.isLt j = 0 + part b u v (t.val / n / w) (t.val / n % w) (t.val % n) j)
    (hs : ∀ t : Fin N, ¬t.val % n = 0 → ∀ j, f t.val t.isLt j = f (t.val - 1) (lt_of_le_of_lt (Nat.sub_le _ _) t.isLt) j
      + part b u v (t.val / n / w) (t.val / n % w) (t.val % n) j)
    (t : Fin N) (ht : t.val % n + 1 = n) {o : Fin 2 → ℕ} (ho : o = ![t.val / n / w, t.val / n % w]) {i : (Slab R C).Idx} {j : (Slab r s).Idx}
    (i0 : (i 0).val = o 0 * r + 1 * (j 0).val) (i1 : (i 1).val = o 1 * s + 1 * (j 1).val) : f t.val t.isLt j = prod (n * b) u v i := by
  have h := Pipeline.eq_sum_of_reset_step_apply_divmod f n (fun _ => 0) (fun a k => part b u v (a / w) (a % w) k) h0 hs t j
  rw [ht, zero_add] at h
  refine h.trans ((sum_tiles n b fun x => u (t.val / n / w * r + (j 0).val) x * v x (t.val / n % w * s + (j 1).val)).trans ?_)
  exact congrArg₂ (fun p q => ∑ x : Fin (n * b), u p x.val * v x.val q) (row_tile ho i0) (col_tile ho i1)

end Cert.Products

end
-- ==== Proof.GateUpProduct.lean ====
/-
  The product of a feed-forward layer's inputs with its two inner weights, and its claims.
-/
module

public import proofs.«01_k».proof.Defs
public import proofs.«01_k».proof.Proof.Products
public import proofs.«01_k».proof.Proof.Gen.GateUp.Frame
public import proofs.«01_k».proof.Proof.Gen.GateUpIdeal.Value
public import proofs.«01_k».proof.Proof.Gen.GateUpRefIdeal.Run
public import Idealize.ShloMosaic.Lib.Pointwise
public import Idealize.ShloMosaic.Lib.Pipeline.ReadBack
public import Idealize.ShloMosaic.Lib.Pipeline.ValueKit.Geometry
public import Idealize.ShloMosaic.Lib.IdealHost
public import Idealize.ShloMosaic.Lib.Quiescent

@[expose] public section

noncomputable section

namespace Cert.GateUpProof

open Idealize.ShloMosaic Idealize.ShloMosaic.TcCoe Idealize.SL.Sem
open Cert.GateUpIdeal Cert.GateUpIdeal.Gen Cert.Products Cert.Slabs

theorem pay (x : FVec Ideal S512x1024 .bf16) (y : FVec Ideal S1024x512 .bf16) (j : S512x512.Idx) :
    k0_pay3 (F := Ideal) (k0_pay2 (F := Ideal) (k0_pay1 (F := Ideal)) x y) j = ∑ k : Fin 1024, x (ix2 (j 0) k) * y (ix2 k (j 1)) := by
  pointwise [k0_pay3, k0_pay2, k0_pay1]

variable (m : (ℓ : Loc nD τ sig) → Buf (Elt Ideal) ℓ) (c : Dev nD)

abbrev argA : (Slab 4096 1024).Idx → EReal := m ((c : Thread nD τ).loc main_arg0)
abbrev argB : (Slab 1024 5632).Idx → EReal := m ((c : Thread nD τ).loc main_arg1)

theorem offsets : ∀ t : Fin cfg0.N, win0_0.index t = ![t.val / 11, 0] ∧ win0_1.index t = ![0, t.val % 11]
    ∧ win0_2.index t = ![t.val / 11, t.val % 11] :=
  (by decide +kernel : ∀ t : Fin grid0.N, _)

/-- The two factors, at a row and a lane and at a lane and a column. -/
abbrev rows (p x : ℕ) : EReal := entry (argA m c) p x
abbrev cols (x q : ℕ) : EReal := entry (argB m c) x q

theorem point (t : Fin cfg0.N) (j : S512x512.Idx) :
    outsAt0 m c t j = part 1024 (rows m c) (cols m c) (t.val / 11) (t.val % 11) 0 j := by
  unfold outsAt0
  frame_out
  rw [pay]
  refine Finset.sum_congr rfl fun k _ => ?_
  exact congrArg₂ (· * ·) (entry_tile (argA m c) (offsets t).1 (j := ix2 (j 0) k) rfl rfl) (entry_tile (argB m c) (offsets t).2.1 (j := ix2 k (j 1)) rfl rfl)

abbrev out : (Slab 4096 5632).Idx → EReal := prod 1024 (rows m c) (cols m c)

theorem final : (dats m 0 c).arrAt 2 cfg0.N = out m c := by
  refine (dats m 0 c).arrAt_eq_of_covers 2 _ (by decide +kernel) fun t _ y => ?_
  blk_simp
  rw [after0_2, point]
  exact part_prod (rows m c) (cols m c) (offsets t).2.2 rfl rfl

theorem frame_kernel : Cert.quiescent_GateUp := fun m g _ => Cert.GateUp.Gen.frame m g

theorem frame_ideal : Cert.quiescent_GateUpIdeal := fun m g _ => Cert.GateUpIdeal.Gen.frame m g

theorem frame_ref_ideal : Cert.quiescent_GateUpRefIdeal := fun m g _ =>
  (θ_run Cert.GateUpRefIdeal.defs _ _).mono (fun _ h => ⟨fun c => (h c).2, sem_eq_zero_of_no_sems rfl _⟩) (Cert.GateUpRefIdeal.Value.run m g)

theorem preserves : Cert.preserves_GateUp_GateUpIdeal := trivial

theorem algebraic : Cert.algebraic_GateUpIdeal_GateUpRefIdeal := fun m g m' g' _ hA => by
  refine ⟨out m, (θ_run Cert.GateUpIdeal.defs _ _).mono
      (fun _ h c => ⟨(h c).1.trans (final m c), (h c).2⟩) (Cert.GateUpIdeal.Value.run_blocks m g),
    (θ_run Cert.GateUpRefIdeal.defs _ _).mono (fun _ h c => ?_) (Cert.GateUpRefIdeal.Value.run m' g')⟩
  obtain ⟨ha, hb⟩ := hA c
  refine ⟨(h c).1.trans ?_, (h c).2⟩
  rw [ha, hb]
  funext j
  pointwise [out, prod]
  exact Finset.sum_congr rfl fun x _ => congrArg₂ (· * ·) (entry_eq (argA m c) _ rfl rfl) (entry_eq (argB m c) _ rfl rfl)

end Cert.GateUpProof

end
-- ==== Proof.DownProduct.lean ====
/-
  The product of a feed-forward layer's hidden activations with its weights, and its claims.
-/
module

public import proofs.«01_k».proof.Defs
public import proofs.«01_k».proof.Proof.Products
public import proofs.«01_k».proof.Proof.Gen.Down.Frame
public import proofs.«01_k».proof.Proof.Gen.DownIdeal.Value
public import proofs.«01_k».proof.Proof.Gen.DownRefIdeal.Run
public import Idealize.ShloMosaic.Lib.Pointwise
public import Idealize.ShloMosaic.Lib.Pipeline.ReadBack
public import Idealize.ShloMosaic.Lib.Pipeline.ValueKit.Geometry
public import Idealize.ShloMosaic.Lib.IdealHost
public import Idealize.ShloMosaic.Lib.Quiescent

@[expose] public section

noncomputable section

namespace Cert.DownProof

open Idealize.ShloMosaic Idealize.ShloMosaic.TcCoe Idealize.SL.Sem
open Cert.DownIdeal Cert.DownIdeal.Gen Cert.Products Cert.Slabs

theorem pay (v : FVec Ideal S512x512 .f32) (x : FVec Ideal S512x256 .bf16) (y : FVec Ideal S256x512 .bf16) (j : S512x512.Idx) :
    k0_pay2 (F := Ideal) v x y j = v j + ∑ k : Fin 256, x (ix2 (j 0) k) * y (ix2 k (j 1)) := by
  pointwise [k0_pay2]

theorem pay_zero (j : S512x512.Idx) : k0_pay1 (F := Ideal) j = 0 := by
  pointwise [k0_pay1]

variable (m : (ℓ : Loc nD τ sig) → Buf (Elt Ideal) ℓ) (c : Dev nD)

abbrev argA : (Slab 4096 2816).Idx → EReal := m ((c : Thread nD τ).loc main_arg0)
abbrev argB : (Slab 2816 1024).Idx → EReal := m ((c : Thread nD τ).loc main_arg1)

theorem offsets : ∀ t : Fin cfg0.N, win0_0.index t = ![t.val / 11 / 2, t.val % 11] ∧ win0_1.index t = ![t.val % 11, t.val / 11 % 2]
    ∧ win0_2.index t = ![t.val / 11 / 2, t.val / 11 % 2] :=
  (by decide +kernel : ∀ t : Fin grid0.N, _)

/-- The two factors, at a row and a lane and at a lane and a column. -/
abbrev rows (p x : ℕ) : EReal := entry (argA m c) p x
abbrev cols (x q : ℕ) : EReal := entry (argB m c) x q

theorem step (t : Fin cfg0.N) (v : FVec Ideal S512x512 .f32) (j : S512x512.Idx) :
    k0_pay2 (F := Ideal) v (iblk m c 0 t) (iblk m c 1 t) j = v j + part 256 (rows m c) (cols m c) (t.val / 11 / 2) (t.val / 11 % 2) (t.val % 11) j := by
  rw [pay]
  refine congrArg (v j + ·) (Finset.sum_congr rfl fun k _ => ?_)
  exact congrArg₂ (· * ·) (entry_tile (argA m c) (offsets t).1 (j := ix2 (j 0) k) rfl rfl) (entry_tile (argB m c) (offsets t).2.1 (j := ix2 k (j 1)) rfl rfl)

theorem last (t : Fin cfg0.N) (h : t.val % 11 = 10) : (outsAt0 m c t.val t.isLt).1 = (outsAt0 m c t.val t.isLt).2 := by
  rw [outsAt0_C m c t (by omega) h]
  frame_out

abbrev out : (Slab 4096 1024).Idx → EReal := prod 2816 (rows m c) (cols m c)

theorem final : (dats m 0 c).arrAt 2 cfg0.N = out m c := by
  refine (dats m 0 c).arrAt_eq_of_covers 2 _ (by decide +kernel) fun t hf y => ?_
  have ht : t.val % 11 = 10 := (flush0_2 t).mp hf
  blk_simp
  rw [after0_2, last m c t ht]
  exact tile_prod 11 256 2 (rows m c) (cols m c) (fun n h => (outsAt0 m c n h).2)
    (fun t h j => by rw [outsAt0_A m c t h (by omega)]; frame_out; rw [step, pay_zero])
    (fun t h j => by
      by_cases h1 : t.val % 11 = 10
      · rw [outsAt0_C m c t h h1]; frame_out; rw [step, read_unread_whole]
      · rw [outsAt0_B m c t h h1]; frame_out; rw [step, read_unread_whole])
    t (by omega) (offsets t).2.2 rfl rfl

theorem frame_kernel : Cert.quiescent_Down := fun m g _ => Cert.Down.Gen.frame m g

theorem frame_ideal : Cert.quiescent_DownIdeal := fun m g _ => Cert.DownIdeal.Gen.frame m g

theorem frame_ref_ideal : Cert.quiescent_DownRefIdeal := fun m g _ =>
  (θ_run Cert.DownRefIdeal.defs _ _).mono (fun _ h => ⟨fun c => (h c).2, sem_eq_zero_of_no_sems rfl _⟩) (Cert.DownRefIdeal.Value.run m g)

theorem preserves : Cert.preserves_Down_DownIdeal := trivial

theorem algebraic : Cert.algebraic_DownIdeal_DownRefIdeal := fun m g m' g' _ hA => by
  refine ⟨out m, (θ_run Cert.DownIdeal.defs _ _).mono
      (fun _ h c => ⟨(h c).1.trans (final m c), (h c).2⟩) (Cert.DownIdeal.Value.run_blocks m g),
    (θ_run Cert.DownRefIdeal.defs _ _).mono (fun _ h c => ?_) (Cert.DownRefIdeal.Value.run m' g')⟩
  obtain ⟨ha, hb⟩ := hA c
  refine ⟨(h c).1.trans ?_, (h c).2⟩
  rw [ha, hb]
  funext j
  pointwise [out, prod]
  exact Finset.sum_congr rfl fun x _ => congrArg₂ (· * ·) (entry_eq (argA m c) _ rfl rfl) (entry_eq (argB m c) _ rfl rfl)

end Cert.DownProof

end
-- ==== Proof.DownBxProduct.lean ====
/-
  The gradient of a feed-forward layer's outputs taken back through its outer weights, and its claims.
-/
module

public import proofs.«01_k».proof.Defs
public import proofs.«01_k».proof.Proof.Products
public import proofs.«01_k».proof.Proof.Gen.DownBx.Frame
public import proofs.«01_k».proof.Proof.Gen.DownBxIdeal.Value
public import proofs.«01_k».proof.Proof.Gen.DownBxRefIdeal.Run
public import Idealize.ShloMosaic.Lib.Pointwise
public import Idealize.ShloMosaic.Lib.Pipeline.ReadBack
public import Idealize.ShloMosaic.Lib.Pipeline.ValueKit.Geometry
public import Idealize.ShloMosaic.Lib.IdealHost
public import Idealize.ShloMosaic.Lib.Quiescent

@[expose] public section

noncomputable section

namespace Cert.DownBxProof

open Idealize.ShloMosaic Idealize.ShloMosaic.TcCoe Idealize.SL.Sem
open Cert.DownBxIdeal Cert.DownBxIdeal.Gen Cert.Products Cert.Slabs

theorem pay (x : FVec Ideal S512x1024 .bf16) (y : FVec Ideal S256x1024 .bf16) (j : S512x256.Idx) :
    k0_pay3 (F := Ideal) (k0_pay2 (F := Ideal) (k0_pay1 (F := Ideal)) x y) j = ∑ k : Fin 1024, x (ix2 (j 0) k) * y (ix2 (j 1) k) := by
  pointwise [k0_pay3, k0_pay2, k0_pay1]

variable (m : (ℓ : Loc nD τ sig) → Buf (Elt Ideal) ℓ) (c : Dev nD)

abbrev argA : (Slab 4096 1024).Idx → EReal := m ((c : Thread nD τ).loc main_arg0)
abbrev argB : (Slab 2816 1024).Idx → EReal := m ((c : Thread nD τ).loc main_arg1)

theorem offsets : ∀ t : Fin cfg0.N, win0_0.index t = ![t.val / 11, 0] ∧ win0_1.index t = ![t.val % 11, 0]
    ∧ win0_2.index t = ![t.val / 11, t.val % 11] :=
  (by decide +kernel : ∀ t : Fin grid0.N, _)

/-- The two factors, at a row and a lane and at a lane and a column. -/
abbrev rows (p x : ℕ) : EReal := entry (argA m c) p x
abbrev cols (x q : ℕ) : EReal := entry (argB m c) q x

theorem point (t : Fin cfg0.N) (j : S512x256.Idx) :
    outsAt0 m c t j = part 1024 (rows m c) (cols m c) (t.val / 11) (t.val % 11) 0 j := by
  unfold outsAt0
  frame_out
  rw [pay]
  refine Finset.sum_congr rfl fun k _ => ?_
  exact congrArg₂ (· * ·) (entry_tile (argA m c) (offsets t).1 (j := ix2 (j 0) k) rfl rfl) (entry_tile (argB m c) (offsets t).2.1 (j := ix2 (j 1) k) rfl rfl)

abbrev out : (Slab 4096 2816).Idx → EReal := prod 1024 (rows m c) (cols m c)

theorem final : (dats m 0 c).arrAt 2 cfg0.N = out m c := by
  refine (dats m 0 c).arrAt_eq_of_covers 2 _ (by decide +kernel) fun t _ y => ?_
  blk_simp
  rw [after0_2, point]
  exact part_prod (rows m c) (cols m c) (offsets t).2.2 rfl rfl

theorem frame_kernel : Cert.quiescent_DownBx := fun m g _ => Cert.DownBx.Gen.frame m g

theorem frame_ideal : Cert.quiescent_DownBxIdeal := fun m g _ => Cert.DownBxIdeal.Gen.frame m g

theorem frame_ref_ideal : Cert.quiescent_DownBxRefIdeal := fun m g _ =>
  (θ_run Cert.DownBxRefIdeal.defs _ _).mono (fun _ h => ⟨fun c => (h c).2, sem_eq_zero_of_no_sems rfl _⟩) (Cert.DownBxRefIdeal.Value.run m g)

theorem preserves : Cert.preserves_DownBx_DownBxIdeal := trivial

theorem algebraic : Cert.algebraic_DownBxIdeal_DownBxRefIdeal := fun m g m' g' _ hA => by
  refine ⟨out m, (θ_run Cert.DownBxIdeal.defs _ _).mono
      (fun _ h c => ⟨(h c).1.trans (final m c), (h c).2⟩) (Cert.DownBxIdeal.Value.run_blocks m g),
    (θ_run Cert.DownBxRefIdeal.defs _ _).mono (fun _ h c => ?_) (Cert.DownBxRefIdeal.Value.run m' g')⟩
  obtain ⟨ha, hb⟩ := hA c
  refine ⟨(h c).1.trans ?_, (h c).2⟩
  rw [ha, hb]
  funext j
  pointwise [out, prod]
  exact Finset.sum_congr rfl fun x _ => congrArg₂ (· * ·) (entry_eq (argA m c) _ rfl rfl) (entry_eq (argB m c) _ rfl rfl)

end Cert.DownBxProof

end
-- ==== Proof.DownBwProduct.lean ====
/-
  The gradient of a feed-forward layer's outer weights, and its claims.
-/
module

public import proofs.«01_k».proof.Defs
public import proofs.«01_k».proof.Proof.Products
public import proofs.«01_k».proof.Proof.Gen.DownBw.Frame
public import proofs.«01_k».proof.Proof.Gen.DownBwIdeal.Value
public import proofs.«01_k».proof.Proof.Gen.DownBwRefIdeal.Run
public import Idealize.ShloMosaic.Lib.Pointwise
public import Idealize.ShloMosaic.Lib.Pipeline.ReadBack
public import Idealize.ShloMosaic.Lib.Pipeline.ValueKit.Geometry
public import Idealize.ShloMosaic.Lib.IdealHost
public import Idealize.ShloMosaic.Lib.Quiescent

@[expose] public section

noncomputable section

namespace Cert.DownBwProof

open Idealize.ShloMosaic Idealize.ShloMosaic.TcCoe Idealize.SL.Sem
open Cert.DownBwIdeal Cert.DownBwIdeal.Gen Cert.Products Cert.Slabs

theorem pay (v : FVec Ideal S256x512 .f32) (x : FVec Ideal S1024x256 .bf16) (y : FVec Ideal S1024x512 .bf16) (j : S256x512.Idx) :
    k0_pay2 (F := Ideal) v x y j = v j + ∑ k : Fin 1024, x (ix2 k (j 0)) * y (ix2 k (j 1)) := by
  pointwise [k0_pay2]

theorem pay_zero (j : S256x512.Idx) : k0_pay1 (F := Ideal) j = 0 := by
  pointwise [k0_pay1]

variable (m : (ℓ : Loc nD τ sig) → Buf (Elt Ideal) ℓ) (c : Dev nD)

abbrev argA : (Slab 4096 2816).Idx → EReal := m ((c : Thread nD τ).loc main_arg0)
abbrev argB : (Slab 4096 1024).Idx → EReal := m ((c : Thread nD τ).loc main_arg1)

theorem offsets : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

/-- The two factors, at a row and a lane and at a lane and a column. -/
abbrev rows (p x : ℕ) : EReal := entry (argA m c) x p
abbrev cols (x q : ℕ) : EReal := entry (argB m c) x q

theorem step (t : Fin cfg0.N) (v : FVec Ideal S256x512 .f32) (j : S256x512.Idx) :
    k0_pay2 (F := Ideal) v (iblk m c 0 t) (iblk m c 1 t) j = v j + part 1024 (rows m c) (cols m c) (t.val / 4 / 2) (t.val / 4 % 2) (t.val % 4) j := by
  rw [pay]
  refine congrArg (v j + ·) (Finset.sum_congr rfl fun k _ => ?_)
  exact congrArg₂ (· * ·) (entry_tile (argA m c) (offsets t).1 (j := ix2 k (j 0)) rfl rfl) (entry_tile (argB m c) (offsets t).2.1 (j := ix2 k (j 1)) rfl rfl)

theorem last (t : Fin cfg0.N) (h : t.val % 4 = 3) : (outsAt0 m c t.val t.isLt).1 = (outsAt0 m c t.val t.isLt).2 := by
  rw [outsAt0_C m c t (by omega) h]
  frame_out

abbrev out : (Slab 2816 1024).Idx → EReal := prod 4096 (rows m c) (cols m c)

theorem final : (dats m 0 c).arrAt 2 cfg0.N = out m c := by
  refine (dats m 0 c).arrAt_eq_of_covers 2 _ (by decide +kernel) fun t hf y => ?_
  have ht : t.val % 4 = 3 := (flush0_2 t).mp hf
  blk_simp
  rw [after0_2, last m c t ht]
  exact tile_prod 4 1024 2 (rows m c) (cols m c) (fun n h => (outsAt0 m c n h).2)
    (fun t h j => by rw [outsAt0_A m c t h (by omega)]; frame_out; rw [step, pay_zero])
    (fun t h j => by
      by_cases h1 : t.val % 4 = 3
      · rw [outsAt0_C m c t h h1]; frame_out; rw [step, read_unread_whole]
      · rw [outsAt0_B m c t h h1]; frame_out; rw [step, read_unread_whole])
    t (by omega) (offsets t).2.2 rfl rfl

theorem frame_kernel : Cert.quiescent_DownBw := fun m g _ => Cert.DownBw.Gen.frame m g

theorem frame_ideal : Cert.quiescent_DownBwIdeal := fun m g _ => Cert.DownBwIdeal.Gen.frame m g

theorem frame_ref_ideal : Cert.quiescent_DownBwRefIdeal := fun m g _ =>
  (θ_run Cert.DownBwRefIdeal.defs _ _).mono (fun _ h => ⟨fun c => (h c).2, sem_eq_zero_of_no_sems rfl _⟩) (Cert.DownBwRefIdeal.Value.run m g)

theorem preserves : Cert.preserves_DownBw_DownBwIdeal := trivial

theorem algebraic : Cert.algebraic_DownBwIdeal_DownBwRefIdeal := fun m g m' g' _ hA => by
  refine ⟨out m, (θ_run Cert.DownBwIdeal.defs _ _).mono
      (fun _ h c => ⟨(h c).1.trans (final m c), (h c).2⟩) (Cert.DownBwIdeal.Value.run_blocks m g),
    (θ_run Cert.DownBwRefIdeal.defs _ _).mono (fun _ h c => ?_) (Cert.DownBwRefIdeal.Value.run m' g')⟩
  obtain ⟨ha, hb⟩ := hA c
  refine ⟨(h c).1.trans ?_, (h c).2⟩
  rw [ha, hb]
  funext j
  pointwise [out, prod]
  exact Finset.sum_congr rfl fun x _ => congrArg₂ (· * ·) (entry_eq (argA m c) _ rfl rfl) (entry_eq (argB m c) _ rfl rfl)

end Cert.DownBwProof

end
-- ==== Proof.GateUpBxProduct.lean ====
/-
  The gradient of a feed-forward layer's two branches taken back through their weights, and its claims.
-/
module

public import proofs.«01_k».proof.Defs
public import proofs.«01_k».proof.Proof.Products
public import proofs.«01_k».proof.Proof.Gen.GateUpBx.Frame
public import proofs.«01_k».proof.Proof.Gen.GateUpBxIdeal.Value
public import proofs.«01_k».proof.Proof.Gen.GateUpBxRefIdeal.Run
public import Idealize.ShloMosaic.Lib.Pointwise
public import Idealize.ShloMosaic.Lib.Pipeline.ReadBack
public import Idealize.ShloMosaic.Lib.Pipeline.ValueKit.Geometry
public import Idealize.ShloMosaic.Lib.IdealHost
public import Idealize.ShloMosaic.Lib.Quiescent

@[expose] public section

noncomputable section

namespace Cert.GateUpBxProof

open Idealize.ShloMosaic Idealize.ShloMosaic.TcCoe Idealize.SL.Sem
open Cert.GateUpBxIdeal Cert.GateUpBxIdeal.Gen Cert.Products Cert.Slabs

theorem pay (v : FVec Ideal S512x512 .f32) (x : FVec Ideal S512x512 .bf16) (y : FVec Ideal S512x512 .bf16) (j : S512x512.Idx) :
    k0_pay2 (F := Ideal) v x y j = v j + ∑ k : Fin 512, x (ix2 (j 0) k) * y (ix2 (j 1) k) := by
  pointwise [k0_pay2]

theorem pay_zero (j : S512x512.Idx) : k0_pay1 (F := Ideal) j = 0 := by
  pointwise [k0_pay1]

variable (m : (ℓ : Loc nD τ sig) → Buf (Elt Ideal) ℓ) (c : Dev nD)

abbrev argA : (Slab 4096 5632).Idx → EReal := m ((c : Thread nD τ).loc main_arg0)
abbrev argB : (Slab 1024 5632).Idx → EReal := m ((c : Thread nD τ).loc main_arg1)

theorem offsets : ∀ t : Fin cfg0.N, win0_0.index t = ![t.val / 11 / 2, t.val % 11] ∧ win0_1.index t = ![t.val / 11 % 2, t.val % 11]
    ∧ win0_2.index t = ![t.val / 11 / 2, t.val / 11 % 2] :=
  (by decide +kernel : ∀ t : Fin grid0.N, _)

/-- The two factors, at a row and a lane and at a lane and a column. -/
abbrev rows (p x : ℕ) : EReal := entry (argA m c) p x
abbrev cols (x q : ℕ) : EReal := entry (argB m c) q x

theorem step (t : Fin cfg0.N) (v : FVec Ideal S512x512 .f32) (j : S512x512.Idx) :
    k0_pay2 (F := Ideal) v (iblk m c 0 t) (iblk m c 1 t) j = v j + part 512 (rows m c) (cols m c) (t.val / 11 / 2) (t.val / 11 % 2) (t.val % 11) j := by
  rw [pay]
  refine congrArg (v j + ·) (Finset.sum_congr rfl fun k _ => ?_)
  exact congrArg₂ (· * ·) (entry_tile (argA m c) (offsets t).1 (j := ix2 (j 0) k) rfl rfl) (entry_tile (argB m c) (offsets t).2.1 (j := ix2 (j 1) k) rfl rfl)

theorem last (t : Fin cfg0.N) (h : t.val % 11 = 10) : (outsAt0 m c t.val t.isLt).1 = (outsAt0 m c t.val t.isLt).2 := by
  rw [outsAt0_C m c t (by omega) h]
  frame_out

abbrev out : (Slab 4096 1024).Idx → EReal := prod 5632 (rows m c) (cols m c)

theorem final : (dats m 0 c).arrAt 2 cfg0.N = out m c := by
  refine (dats m 0 c).arrAt_eq_of_covers 2 _ (by decide +kernel) fun t hf y => ?_
  have ht : t.val % 11 = 10 := (flush0_2 t).mp hf
  blk_simp
  rw [after0_2, last m c t ht]
  exact tile_prod 11 512 2 (rows m c) (cols m c) (fun n h => (outsAt0 m c n h).2)
    (fun t h j => by rw [outsAt0_A m c t h (by omega)]; frame_out; rw [step, pay_zero])
    (fun t h j => by
      by_cases h1 : t.val % 11 = 10
      · rw [outsAt0_C m c t h h1]; frame_out; rw [step, read_unread_whole]
      · rw [outsAt0_B m c t h h1]; frame_out; rw [step, read_unread_whole])
    t (by omega) (offsets t).2.2 rfl rfl

theorem frame_kernel : Cert.quiescent_GateUpBx := fun m g _ => Cert.GateUpBx.Gen.frame m g

theorem frame_ideal : Cert.quiescent_GateUpBxIdeal := fun m g _ => Cert.GateUpBxIdeal.Gen.frame m g

theorem frame_ref_ideal : Cert.quiescent_GateUpBxRefIdeal := fun m g _ =>
  (θ_run Cert.GateUpBxRefIdeal.defs _ _).mono (fun _ h => ⟨fun c => (h c).2, sem_eq_zero_of_no_sems rfl _⟩) (Cert.GateUpBxRefIdeal.Value.run m g)

theorem preserves : Cert.preserves_GateUpBx_GateUpBxIdeal := trivial

theorem algebraic : Cert.algebraic_GateUpBxIdeal_GateUpBxRefIdeal := fun m g m' g' _ hA => by
  refine ⟨out m, (θ_run Cert.GateUpBxIdeal.defs _ _).mono
      (fun _ h c => ⟨(h c).1.trans (final m c), (h c).2⟩) (Cert.GateUpBxIdeal.Value.run_blocks m g),
    (θ_run Cert.GateUpBxRefIdeal.defs _ _).mono (fun _ h c => ?_) (Cert.GateUpBxRefIdeal.Value.run m' g')⟩
  obtain ⟨ha, hb⟩ := hA c
  refine ⟨(h c).1.trans ?_, (h c).2⟩
  rw [ha, hb]
  funext j
  pointwise [out, prod]
  exact Finset.sum_congr rfl fun x _ => congrArg₂ (· * ·) (entry_eq (argA m c) _ rfl rfl) (entry_eq (argB m c) _ rfl rfl)

end Cert.GateUpBxProof

end
-- ==== Proof.GateUpBwProduct.lean ====
/-
  The gradient of a feed-forward layer's two inner weights, and its claims.
-/
module

public import proofs.«01_k».proof.Defs
public import proofs.«01_k».proof.Proof.Products
public import proofs.«01_k».proof.Proof.Gen.GateUpBw.Frame
public import proofs.«01_k».proof.Proof.Gen.GateUpBwIdeal.Value
public import proofs.«01_k».proof.Proof.Gen.GateUpBwRefIdeal.Run
public import Idealize.ShloMosaic.Lib.Pointwise
public import Idealize.ShloMosaic.Lib.Pipeline.ReadBack
public import Idealize.ShloMosaic.Lib.Pipeline.ValueKit.Geometry
public import Idealize.ShloMosaic.Lib.IdealHost
public import Idealize.ShloMosaic.Lib.Quiescent

@[expose] public section

noncomputable section

namespace Cert.GateUpBwProof

open Idealize.ShloMosaic Idealize.ShloMosaic.TcCoe Idealize.SL.Sem
open Cert.GateUpBwIdeal Cert.GateUpBwIdeal.Gen Cert.Products Cert.Slabs

theorem pay (v : FVec Ideal S512x512 .f32) (x : FVec Ideal S1024x512 .bf16) (y : FVec Ideal S1024x512 .bf16) (j : S512x512.Idx) :
    k0_pay2 (F := Ideal) v x y j = v j + ∑ k : Fin 1024, x (ix2 k (j 0)) * y (ix2 k (j 1)) := by
  pointwise [k0_pay2]

theorem pay_zero (j : S512x512.Idx) : k0_pay1 (F := Ideal) j = 0 := by
  pointwise [k0_pay1]

variable (m : (ℓ : Loc nD τ sig) → Buf (Elt Ideal) ℓ) (c : Dev nD)

abbrev argA : (Slab 4096 1024).Idx → EReal := m ((c : Thread nD τ).loc main_arg0)
abbrev argB : (Slab 4096 5632).Idx → EReal := m ((c : Thread nD τ).loc main_arg1)

theorem offsets : ∀ t : Fin cfg0.N, win0_0.index t = ![t.val % 4, t.val / 4 / 11] ∧ win0_1.index t = ![t.val % 4, t.val / 4 % 11]
    ∧ win0_2.index t = ![t.val / 4 / 11, t.val / 4 % 11] :=
  (by decide +kernel : ∀ t : Fin grid0.N, _)

/-- The two factors, at a row and a lane and at a lane and a column. -/
abbrev rows (p x : ℕ) : EReal := entry (argA m c) x p
abbrev cols (x q : ℕ) : EReal := entry (argB m c) x q

theorem step (t : Fin cfg0.N) (v : FVec Ideal S512x512 .f32) (j : S512x512.Idx) :
    k0_pay2 (F := Ideal) v (iblk m c 0 t) (iblk m c 1 t) j = v j + part 1024 (rows m c) (cols m c) (t.val / 4 / 11) (t.val / 4 % 11) (t.val % 4) j := by
  rw [pay]
  refine congrArg (v j + ·) (Finset.sum_congr rfl fun k _ => ?_)
  exact congrArg₂ (· * ·) (entry_tile (argA m c) (offsets t).1 (j := ix2 k (j 0)) rfl rfl) (entry_tile (argB m c) (offsets t).2.1 (j := ix2 k (j 1)) rfl rfl)

theorem last (t : Fin cfg0.N) (h : t.val % 4 = 3) : (outsAt0 m c t.val t.isLt).1 = (outsAt0 m c t.val t.isLt).2 := by
  rw [outsAt0_C m c t (by omega) h]
  frame_out

abbrev out : (Slab 1024 5632).Idx → EReal := prod 4096 (rows m c) (cols m c)

theorem final : (dats m 0 c).arrAt 2 cfg0.N = out m c := by
  refine (dats m 0 c).arrAt_eq_of_covers 2 _ (by decide +kernel) fun t hf y => ?_
  have ht : t.val % 4 = 3 := (flush0_2 t).mp hf
  blk_simp
  rw [after0_2, last m c t ht]
  exact tile_prod 4 1024 11 (rows m c) (cols m c) (fun n h => (outsAt0 m c n h).2)
    (fun t h j => by rw [outsAt0_A m c t h (by omega)]; frame_out; rw [step, pay_zero])
    (fun t h j => by
      by_cases h1 : t.val % 4 = 3
      · rw [outsAt0_C m c t h h1]; frame_out; rw [step, read_unread_whole]
      · rw [outsAt0_B m c t h h1]; frame_out; rw [step, read_unread_whole])
    t (by omega) (offsets t).2.2 rfl rfl

theorem frame_kernel : Cert.quiescent_GateUpBw := fun m g _ => Cert.GateUpBw.Gen.frame m g

theorem frame_ideal : Cert.quiescent_GateUpBwIdeal := fun m g _ => Cert.GateUpBwIdeal.Gen.frame m g

theorem frame_ref_ideal : Cert.quiescent_GateUpBwRefIdeal := fun m g _ =>
  (θ_run Cert.GateUpBwRefIdeal.defs _ _).mono (fun _ h => ⟨fun c => (h c).2, sem_eq_zero_of_no_sems rfl _⟩) (Cert.GateUpBwRefIdeal.Value.run m g)

theorem preserves : Cert.preserves_GateUpBw_GateUpBwIdeal := trivial

theorem algebraic : Cert.algebraic_GateUpBwIdeal_GateUpBwRefIdeal := fun m g m' g' _ hA => by
  refine ⟨out m, (θ_run Cert.GateUpBwIdeal.defs _ _).mono
      (fun _ h c => ⟨(h c).1.trans (final m c), (h c).2⟩) (Cert.GateUpBwIdeal.Value.run_blocks m g),
    (θ_run Cert.GateUpBwRefIdeal.defs _ _).mono (fun _ h c => ?_) (Cert.GateUpBwRefIdeal.Value.run m' g')⟩
  obtain ⟨ha, hb⟩ := hA c
  refine ⟨(h c).1.trans ?_, (h c).2⟩
  rw [ha, hb]
  funext j
  pointwise [out, prod]
  exact Finset.sum_congr rfl fun x _ => congrArg₂ (· * ·) (entry_eq (argA m c) _ rfl rfl) (entry_eq (argB m c) _ rfl rfl)

end Cert.GateUpBwProof

end
-- ==== Proof.NormCall.lean ====
/-
  RMSNorm before a layer, and its claims.
-/
module

public import proofs.«01_k».proof.Defs
public import proofs.«01_k».proof.Proof.NormBackValue
public import proofs.«01_k».proof.Proof.Gen.Norm.Frame
public import proofs.«01_k».proof.Proof.Gen.NormIdeal.Value
public import proofs.«01_k».proof.Proof.Gen.NormRefIdeal.Run
public import Idealize.ShloMosaic.Lib.Pointwise
public import Idealize.ShloMosaic.Lib.Pipeline.ValueKit.Acc
public import Idealize.ShloMosaic.Lib.Pipeline.ValueKit.Geometry
public import Idealize.ShloMosaic.Lib.IdealHost
public import Idealize.ShloMosaic.Lib.Quiescent

@[expose] public section

noncomputable section

namespace Cert.NormProof

open Idealize.ShloMosaic Idealize.ShloMosaic.TcCoe Idealize.SL.Sem
open Cert.NormIdeal Cert.NormIdeal.Gen Cert.Blocks Cert.Slabs
open Cert.NormBackProof (scale)

/-- RMSNorm's entry in row `r` and lane `l`. -/
def normed {R : ℕ} (x : (Slab R 1024).Idx → EReal) (g : (Slab 1 1024).Idx → EReal) (r : Fin R) (l : Fin 1024) : EReal :=
  x (ix2 r l) * scale x r * g (ix2 0 l)

theorem pay (x : FVec Ideal S512x1024 .f32) (g : FVec Ideal S1x1024 .f32) (j : S512x1024.Idx) :
    k0_pay1 (F := Ideal) x g j = normed x g (j 0) (j 1) := by
  pointwise [k0_pay1, normed, scale]

variable (m : (ℓ : Loc nD τ sig) → Buf (Elt Ideal) ℓ) (c : Dev nD)

abbrev argX : (Slab 4096 1024).Idx → EReal := m ((c : Thread nD τ).loc main_arg0)
abbrev argG : (Slab 1 1024).Idx → EReal := m ((c : Thread nD τ).loc main_arg1)

/-- A grid point as the number of its block. -/
def num (t : Fin cfg0.N) : Fin 8 := ⟨t.val, lt_of_lt_of_eq t.isLt N_0⟩

theorem offsets : ∀ t : Fin cfg0.N, win0_0.index t = ![t.val, 0] ∧ win0_1.index t = ![0, 0] ∧ win0_2.index t = ![t.val, 0] :=
  (by decide +kernel : ∀ t : Fin grid0.N, _)

theorem in_x (t : Fin cfg0.N) : iblk m c 0 t = block (num t) (argX m c) :=
  funext fun _ => congrArg (argX m c) (at_block (k := num t) (offsets t).1 rfl rfl)

theorem in_g (t : Fin cfg0.N) : iblk m c 1 t = argG m c :=
  funext fun _ => congrArg (argG m c) (at_whole (offsets t).2.1 rfl rfl)

abbrev out (i : (Slab 4096 1024).Idx) : EReal := normed (argX m c) (argG m c) (i 0) (i 1)

theorem final : (dats m 0 c).arrAt 2 cfg0.N = out m c := by
  refine (dats m 0 c).arrAt_eq_of_covers 2 _ (by decide +kernel) fun t _ y => ?_
  blk_simp
  rw [after0_2]
  frame_out
  rw [in_x, in_g]
  exact (pay _ _ y).trans (congrArg (out m c) (at_block (k := num t) (offsets t).2.2 rfl rfl).symm)

theorem frame_kernel : Cert.quiescent_Norm := fun m g _ => Cert.Norm.Gen.frame m g

theorem frame_ideal : Cert.quiescent_NormIdeal := fun m g _ => Cert.NormIdeal.Gen.frame m g

theorem frame_ref_ideal : Cert.quiescent_NormRefIdeal := fun m g _ =>
  (θ_run Cert.NormRefIdeal.defs _ _).mono (fun _ h => ⟨fun c => (h c).2, sem_eq_zero_of_no_sems rfl _⟩) (Cert.NormRefIdeal.Value.run m g)

theorem preserves : Cert.preserves_Norm_NormIdeal := trivial

theorem algebraic : Cert.algebraic_NormIdeal_NormRefIdeal := fun m g m' g' _ hA => by
  refine ⟨out m, (θ_run Cert.NormIdeal.defs _ _).mono
      (fun _ h c => ⟨(h c).1.trans (final m c), (h c).2⟩) (Cert.NormIdeal.Value.run_blocks m g),
    (θ_run Cert.NormRefIdeal.defs _ _).mono (fun _ h c => ?_) (Cert.NormRefIdeal.Value.run m' g')⟩
  obtain ⟨hx, hg⟩ := hA c
  refine ⟨(h c).1.trans ?_, (h c).2⟩
  rw [hx, hg]
  funext j
  pointwise [out, normed, scale]

end Cert.NormProof

end
-- ==== Proof.ActCall.lean ====
/-
  The activation of a feed-forward layer, and its claims.
-/
module

public import proofs.«01_k».proof.Defs
public import proofs.«01_k».proof.Proof.Products
public import proofs.«01_k».proof.Proof.Gen.Act.Frame
public import proofs.«01_k».proof.Proof.Gen.ActIdeal.Value
public import proofs.«01_k».proof.Proof.Gen.ActRefIdeal.Run
public import Idealize.ShloMosaic.Lib.Pointwise
public import Idealize.ShloMosaic.Lib.Pipeline.ValueKit.Acc
public import Idealize.ShloMosaic.Lib.Pipeline.ValueKit.Geometry
public import Idealize.ShloMosaic.Lib.IdealHost
public import Idealize.ShloMosaic.Lib.Quiescent

@[expose] public section

noncomputable section

namespace Cert.ActProof

open Idealize.ShloMosaic Idealize.ShloMosaic.TcCoe Idealize.SL.Sem
open Cert.ActIdeal Cert.ActIdeal.Gen Cert.Products Cert.Slabs

/-- The logistic function. -/
def sigmoid (a : EReal) : EReal := Ideal.div 1 (1 + Ideal.exp (-a))

/-- The gate through `silu`, times the other branch. -/
def gated (a u : EReal) : EReal := a * sigmoid a * u

theorem pay (x y : FVec Ideal S256x2816 .bf16) (j : S256x2816.Idx) : k0_pay1 (F := Ideal) x y j = gated (x j) (y j) := by
  pointwise [k0_pay1, gated, sigmoid]
  rw [zero_sub]

variable (m : (ℓ : Loc nD τ sig) → Buf (Elt Ideal) ℓ) (c : Dev nD)

abbrev argA : (Slab 4096 5632).Idx → EReal := m ((c : Thread nD τ).loc main_arg0)

theorem offsets : ∀ t : Fin cfg0.N, win0_0.index t = ![t.val, 0] ∧ win0_1.index t = ![t.val, 1] ∧ win0_2.index t = ![t.val, 0] :=
  (by decide +kernel : ∀ t : Fin grid0.N, _)

abbrev out (i : (Slab 4096 2816).Idx) : EReal := gated (entry (argA m c) (i 0).val (i 1).val) (entry (argA m c) (i 0).val (2816 + (i 1).val))

theorem final : (dats m 0 c).arrAt 2 cfg0.N = out m c := by
  refine (dats m 0 c).arrAt_eq_of_covers 2 _ (by decide +kernel) fun t _ y => ?_
  blk_simp
  rw [after0_2]
  frame_out
  have hr := row_tile (r := 256) (offsets t).2.2 (p := ((win0_2.blk t).view.emb y 0).val) (j := (y 0).val) rfl
  have hc := col_tile (s := 2816) (offsets t).2.2 (q := ((win0_2.blk t).view.emb y 1).val) (j := (y 1).val) rfl
  refine (pay _ _ y).trans (congrArg₂ gated ((entry_tile (argA m c) (offsets t).1 (j := y) rfl rfl).trans ?_) ((entry_tile (argA m c) (offsets t).2.1 (j := y) rfl rfl).trans ?_))
  · rw [hr, hc]
  · rw [hr, ← hc, Nat.zero_mul, Nat.zero_add, Nat.one_mul]

theorem frame_kernel : Cert.quiescent_Act := fun m g _ => Cert.Act.Gen.frame m g

theorem frame_ideal : Cert.quiescent_ActIdeal := fun m g _ => Cert.ActIdeal.Gen.frame m g

theorem frame_ref_ideal : Cert.quiescent_ActRefIdeal := fun m g _ =>
  (θ_run Cert.ActRefIdeal.defs _ _).mono (fun _ h => ⟨fun c => (h c).2, sem_eq_zero_of_no_sems rfl _⟩) (Cert.ActRefIdeal.Value.run m g)

theorem preserves : Cert.preserves_Act_ActIdeal := trivial

theorem algebraic : Cert.algebraic_ActIdeal_ActRefIdeal := fun m g m' g' _ hA => by
  refine ⟨out m, (θ_run Cert.ActIdeal.defs _ _).mono
      (fun _ h c => ⟨(h c).1.trans (final m c), (h c).2⟩) (Cert.ActIdeal.Value.run_blocks m g),
    (θ_run Cert.ActRefIdeal.defs _ _).mono (fun _ h c => ?_) (Cert.ActRefIdeal.Value.run m' g')⟩
  refine ⟨(h c).1.trans ?_, (h c).2⟩
  rw [hA c]
  funext j
  pointwise [out]
  exact congrArg₂ gated (entry_eq (argA m c) _ rfl rfl) (entry_eq (argA m c) _ rfl rfl)

end Cert.ActProof

end
-- ==== Proof.PostCall.lean ====
/-
  RMSNorm after a feed-forward layer, half of it added to the layer's input, and its claims.
-/
module

public import proofs.«01_k».proof.Defs
public import proofs.«01_k».proof.Proof.NormBackValue
public import proofs.«01_k».proof.Proof.Gen.Post.Frame
public import proofs.«01_k».proof.Proof.Gen.PostIdeal.Value
public import proofs.«01_k».proof.Proof.Gen.PostRefIdeal.Run
public import Idealize.ShloMosaic.Lib.Pointwise
public import Idealize.ShloMosaic.Lib.Pipeline.ValueKit.Acc
public import Idealize.ShloMosaic.Lib.Pipeline.ValueKit.Geometry
public import Idealize.ShloMosaic.Lib.IdealHost
public import Idealize.ShloMosaic.Lib.Quiescent

@[expose] public section

noncomputable section

namespace Cert.PostProof

open Idealize.ShloMosaic Idealize.ShloMosaic.TcCoe Idealize.SL.Sem
open Cert.PostIdeal Cert.PostIdeal.Gen Cert.Blocks Cert.Slabs
open Cert.NormBackProof (scale)

/-- The result's entry in row `r` and lane `l`. -/
def added {R : ℕ} (x h : (Slab R 1024).Idx → EReal) (g : (Slab 1 1024).Idx → EReal) (r : Fin R) (l : Fin 1024) : EReal :=
  x (ix2 r l) + Ideal.ofBits .f32 0x3F000000#32 * (h (ix2 r l) * scale h r * g (ix2 0 l))

theorem pay (x h : FVec Ideal S512x1024 .f32) (g : FVec Ideal S1x1024 .f32) (j : S512x1024.Idx) :
    k0_pay1 (F := Ideal) x h g j = added x h g (j 0) (j 1) := by
  pointwise [k0_pay1, added, scale]

variable (m : (ℓ : Loc nD τ sig) → Buf (Elt Ideal) ℓ) (c : Dev nD)

abbrev argX : (Slab 4096 1024).Idx → EReal := m ((c : Thread nD τ).loc main_arg0)
abbrev argH : (Slab 4096 1024).Idx → EReal := m ((c : Thread nD τ).loc main_arg1)
abbrev argG : (Slab 1 1024).Idx → EReal := m ((c : Thread nD τ).loc main_arg2)

/-- A grid point as the number of its block. -/
def num (t : Fin cfg0.N) : Fin 8 := ⟨t.val, lt_of_lt_of_eq t.isLt N_0⟩

theorem offsets : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem in_x (t : Fin cfg0.N) : iblk m c 0 t = block (num t) (argX m c) :=
  funext fun _ => congrArg (argX m c) (at_block (k := num t) (offsets t).1 rfl rfl)

theorem in_h (t : Fin cfg0.N) : iblk m c 1 t = block (num t) (argH m c) :=
  funext fun _ => congrArg (argH m c) (at_block (k := num t) (offsets t).2.1 rfl rfl)

theorem in_g (t : Fin cfg0.N) : iblk m c 2 t = argG m c :=
  funext fun _ => congrArg (argG m c) (at_whole (offsets t).2.2.1 rfl rfl)

abbrev out (i : (Slab 4096 1024).Idx) : EReal := added (argX m c) (argH m c) (argG m c) (i 0) (i 1)

theorem final : (dats m 0 c).arrAt 3 cfg0.N = out m c := by
  refine (dats m 0 c).arrAt_eq_of_covers 3 _ (by decide +kernel) fun t _ y => ?_
  blk_simp
  rw [after0_3]
  frame_out
  rw [in_x, in_h, in_g]
  exact (pay _ _ _ y).trans (congrArg (out m c) (at_block (k := num t) (offsets t).2.2.2 rfl rfl).symm)

theorem frame_kernel : Cert.quiescent_Post := fun m g _ => Cert.Post.Gen.frame m g

theorem frame_ideal : Cert.quiescent_PostIdeal := fun m g _ => Cert.PostIdeal.Gen.frame m g

theorem frame_ref_ideal : Cert.quiescent_PostRefIdeal := fun m g _ =>
  (θ_run Cert.PostRefIdeal.defs _ _).mono (fun _ h => ⟨fun c => (h c).2, sem_eq_zero_of_no_sems rfl _⟩) (Cert.PostRefIdeal.Value.run m g)

theorem preserves : Cert.preserves_Post_PostIdeal := trivial

theorem algebraic : Cert.algebraic_PostIdeal_PostRefIdeal := fun m g m' g' _ hA => by
  refine ⟨out m, (θ_run Cert.PostIdeal.defs _ _).mono
      (fun _ h c => ⟨(h c).1.trans (final m c), (h c).2⟩) (Cert.PostIdeal.Value.run_blocks m g),
    (θ_run Cert.PostRefIdeal.defs _ _).mono (fun _ h c => ?_) (Cert.PostRefIdeal.Value.run m' g')⟩
  obtain ⟨hx, hh, hg⟩ := hA c
  refine ⟨(h c).1.trans ?_, (h c).2⟩
  rw [hx, hh, hg]
  funext j
  pointwise [out, added, scale]

end Cert.PostProof

end
-- ==== Proof.PostBackCall.lean ====
/-
  The gradient taken back through RMSNorm after a feed-forward layer, and its claims.
-/
module

public import proofs.«01_k».proof.Defs
public import proofs.«01_k».proof.Proof.NormBackValue
public import proofs.«01_k».proof.Proof.Gen.PostBack.Frame
public import proofs.«01_k».proof.Proof.Gen.PostBackIdeal.Value
public import proofs.«01_k».proof.Proof.Gen.PostBackRefIdeal.Run
public import Idealize.ShloMosaic.Lib.Pointwise
public import Idealize.ShloMosaic.Lib.Pipeline.ValueKit.Acc
public import Idealize.ShloMosaic.Lib.Pipeline.ValueKit.Geometry
public import Idealize.ShloMosaic.Lib.IdealHost
public import Idealize.ShloMosaic.Lib.Quiescent

@[expose] public section

noncomputable section

namespace Cert.PostBackProof

open Idealize.ShloMosaic Idealize.ShloMosaic.TcCoe Idealize.SL.Sem
open Cert.PostBackIdeal Cert.PostBackIdeal.Gen Cert.Blocks Cert.Slabs
open Cert.NormBackProof (scale)

/-! ## The functions -/

section Functions

variable {R : ℕ} (x dy : (Slab R 1024).Idx → EReal) (g : (Slab 1 1024).Idx → EReal) (r : Fin R) (l : Fin 1024)

/-- Half of the gradient. -/
def halved : EReal := Ideal.ofBits .f32 0x3F000000#32 * dy (ix2 r l)

/-- The gradient of the layer's result. -/
def back : EReal :=
  scale x r * (halved dy r l * g (ix2 0 l)
    - x (ix2 r l) * scale x r * Ideal.div (∑ k : Fin 1024, halved dy r k * g (ix2 0 k) * (x (ix2 r k) * scale x r)) (Ideal.ofBits .f32 0x44800000#32))

/-- Row `r`'s part of the gradient of the gain. -/
def gain : EReal := halved dy r l * (x (ix2 r l) * scale x r)

end Functions

theorem pay_back (x dy : FVec Ideal S512x1024 .f32) (g : FVec Ideal S1x1024 .f32) (j : S512x1024.Idx) :
    k0_pay4 (F := Ideal) x dy g j = back x dy g (j 0) (j 1) := by
  pointwise [k0_pay4, k0_pay3, k0_pay2, k0_pay1, back, halved, scale]

theorem pay_gain (x dy : FVec Ideal S512x1024 .f32) (v : FVec Ideal S1x1024 .f32) (j : S1x1024.Idx) :
    k0_pay6 (F := Ideal) x dy v j = v j + ∑ a : Fin 512, gain x dy a (j 1) := by
  pointwise [k0_pay6, k0_pay3, k0_pay2, k0_pay1, gain, halved, scale]

theorem pay_zero (j : S1x1024.Idx) : k0_pay5 (F := Ideal) j = 0 := by
  pointwise [k0_pay5]

variable (m : (ℓ : Loc nD τ sig) → Buf (Elt Ideal) ℓ) (c : Dev nD)

abbrev argX : (Slab 4096 1024).Idx → EReal := m ((c : Thread nD τ).loc main_arg0)
abbrev argY : (Slab 4096 1024).Idx → EReal := m ((c : Thread nD τ).loc main_arg1)
abbrev argG : (Slab 1 1024).Idx → EReal := m ((c : Thread nD τ).loc main_arg2)

/-- A grid point as the number of its block. -/
def num (t : Fin cfg0.N) : Fin 8 := ⟨t.val, lt_of_lt_of_eq t.isLt N_0⟩

theorem offsets : ∀ t : Fin cfg0.N, win0_0.index t = ![t.val, 0] ∧ win0_1.index t = ![t.val, 0] ∧ win0_2.index t = ![0, 0] ∧ win0_3.index t = ![t.val, 0]
    ∧ win0_4.index t = ![0, 0] :=
  (by decide +kernel : ∀ t : Fin grid0.N, _)

theorem in_x (t : Fin cfg0.N) : iblk m c 0 t = block (num t) (argX m c) :=
  funext fun _ => congrArg (argX m c) (at_block (k := num t) (offsets t).1 rfl rfl)

theorem in_y (t : Fin cfg0.N) : iblk m c 1 t = block (num t) (argY m c) :=
  funext fun _ => congrArg (argY m c) (at_block (k := num t) (offsets t).2.1 rfl rfl)

theorem in_g (t : Fin cfg0.N) : iblk m c 2 t = argG m c :=
  funext fun _ => congrArg (argG m c) (at_whole (offsets t).2.2.1 rfl rfl)

/-- The two results. -/
abbrev outBack (i : (Slab 4096 1024).Idx) : EReal := back (argX m c) (argY m c) (argG m c) (i 0) (i 1)
abbrev outGain (i : (Slab 1 1024).Idx) : EReal := ∑ r : Fin 4096, gain (argX m c) (argY m c) r (i 1)

theorem holds_back (t : Fin cfg0.N) : (outsAt0 m c t.val t.isLt).1 = block (num t) (outBack m c) := by
  by_cases h : t.val % 8 = 0
  · rw [outsAt0_A m c t h]; frame_out; rw [in_x, in_y, in_g]; exact funext fun j => pay_back _ _ _ j
  · rw [outsAt0_B m c t h]; frame_out; rw [in_x, in_y, in_g]; exact funext fun j => pay_back _ _ _ j

theorem first (t : Fin cfg0.N) (h : t.val % 8 = 0) (j : S1x1024.Idx) :
    (outsAt0 m c t.val t.isLt).2 j = ∑ a : Fin 512, gain (argX m c) (argY m c) (row (num t) a) (j 1) := by
  rw [outsAt0_A m c t h]; frame_out; rw [pay_gain, pay_zero, zero_add, in_x, in_y]; rfl

theorem later (t : Fin cfg0.N) (h : ¬t.val % 8 = 0) (j : S1x1024.Idx) :
    (outsAt0 m c t.val t.isLt).2 j = (outsAt0 m c (t.val - 1) (Nat.lt_of_le_of_lt (Nat.sub_le _ _) t.isLt)).2 j
      + ∑ a : Fin 512, gain (argX m c) (argY m c) (row (num t) a) (j 1) := by
  rw [outsAt0_B m c t h]; frame_out; rw [pay_gain, in_x, in_y]; rfl

theorem final_back : (dats m 0 c).arrAt 3 cfg0.N = outBack m c := by
  refine (dats m 0 c).arrAt_eq_of_covers 3 _ (by decide +kernel) fun t _ y => ?_
  blk_simp
  rw [after0_3, holds_back]
  exact congrArg (outBack m c) (at_block (k := num t) (offsets t).2.2.2.1 rfl rfl).symm

theorem final_gain : (dats m 0 c).arrAt 4 cfg0.N = outGain m c := by
  refine (dats m 0 c).arrAt_eq_of_covers 4 _ (by decide +kernel) fun t ht y => ?_
  obtain rfl : t = t0_7 := Fin.ext (by have := (flush0_4 t).mp ht; have : t.val < 8 := lt_of_lt_of_eq t.isLt N_0; show t.val = 7; omega)
  blk_simp
  rw [after0_4]
  refine (sum_points N_0 (fun r => gain (argX m c) (argY m c) r (y 1)) (fun n h => (outsAt0 m c n h).2 y)
    (fun h => first m c ⟨0, h⟩ rfl y) (fun n h => later m c ⟨n + 1, h⟩ (by have : n + 1 < 8 := lt_of_lt_of_eq h N_0; dsimp only; omega) y) t0_7.isLt).trans ?_
  exact congrArg (outGain m c) (at_whole (offsets t0_7).2.2.2.2 rfl rfl).symm

theorem frame_kernel : Cert.quiescent_PostBack := fun m g _ => Cert.PostBack.Gen.frame m g

theorem frame_ideal : Cert.quiescent_PostBackIdeal := fun m g _ => Cert.PostBackIdeal.Gen.frame m g

theorem frame_ref_ideal : Cert.quiescent_PostBackRefIdeal := fun m g _ =>
  (θ_run Cert.PostBackRefIdeal.defs _ _).mono (fun _ h => ⟨fun c => (h c).2.2, sem_eq_zero_of_no_sems rfl _⟩) (Cert.PostBackRefIdeal.Value.run m g)

theorem preserves : Cert.preserves_PostBack_PostBackIdeal := trivial

theorem algebraic : Cert.algebraic_PostBackIdeal_PostBackRefIdeal := fun m g m' g' _ hA => by
  refine ⟨outBack m, outGain m, (θ_run Cert.PostBackIdeal.defs _ _).mono
      (fun _ h c => ⟨(h c).1.trans (final_back m c), (h c).2.1.trans (final_gain m c), (h c).2.2⟩) (Cert.PostBackIdeal.Value.run_blocks m g),
    (θ_run Cert.PostBackRefIdeal.defs _ _).mono (fun _ h c => ?_) (Cert.PostBackRefIdeal.Value.run m' g')⟩
  obtain ⟨hx, hy, hg⟩ := hA c
  refine ⟨(h c).1.trans ?_, (h c).2.1.trans ?_, (h c).2.2⟩
  · rw [hx, hy, hg]
    funext j
    pointwise [outBack, back, halved, scale]
  · rw [hx, hy]
    funext j
    pointwise [outGain, gain, halved, scale]

end Cert.PostBackProof

end
-- ==== Proof.ActBackCall.lean ====
/-
  The gradient taken back through the activation of a feed-forward layer, and its claims.
-/
module

public import proofs.«01_k».proof.Defs
public import proofs.«01_k».proof.Proof.ActCall
public import proofs.«01_k».proof.Proof.Gen.ActBack.Frame
public import proofs.«01_k».proof.Proof.Gen.ActBackIdeal.Value
public import proofs.«01_k».proof.Proof.Gen.ActBackRefIdeal.Run
public import Idealize.ShloMosaic.Lib.Pointwise
public import Idealize.ShloMosaic.Lib.Pipeline.ValueKit.Acc
public import Idealize.ShloMosaic.Lib.Pipeline.ValueKit.Geometry
public import Idealize.ShloMosaic.Lib.IdealHost
public import Idealize.ShloMosaic.Lib.Quiescent

@[expose] public section

noncomputable section

namespace Cert.ActBackProof

open Idealize.ShloMosaic Idealize.ShloMosaic.TcCoe Idealize.SL.Sem
open Cert.ActBackIdeal Cert.ActBackIdeal.Gen Cert.Products Cert.Slabs
open Cert.ActProof (sigmoid)

/-- The gradient of the gate, and of the other branch. -/
def slope (a u d : EReal) : EReal :=
  d * u * (sigmoid a * (1 + a * (1 - sigmoid a)))
def passed (a d : EReal) : EReal := d * (a * sigmoid a)

/-- The lane in the second branch. -/
theorem lane {j : S256x5632.Idx} (h : ¬(j 1).val < 2816) : (j 1).val - 2816 < 2816 := by
  have : (j 1).val < 5632 := (j 1).isLt
  omega

theorem pay (x y z : FVec Ideal S256x2816 .bf16) (j : S256x5632.Idx) : k0_pay1 (F := Ideal) x y z j
    = if h : (j 1).val < 2816 then slope (x (ix2 (j 0) ⟨(j 1).val, h⟩)) (y (ix2 (j 0) ⟨(j 1).val, h⟩)) (z (ix2 (j 0) ⟨(j 1).val, h⟩))
      else passed (x (ix2 (j 0) ⟨(j 1).val - 2816, lane h⟩)) (z (ix2 (j 0) ⟨(j 1).val - 2816, lane h⟩)) := by
  pointwise [k0_pay1, slope, passed, sigmoid]
  simp only [zero_sub]

variable (m : (ℓ : Loc nD τ sig) → Buf (Elt Ideal) ℓ) (c : Dev nD)

abbrev argA : (Slab 4096 5632).Idx → EReal := m ((c : Thread nD τ).loc main_arg0)
abbrev argD : (Slab 4096 2816).Idx → EReal := m ((c : Thread nD τ).loc main_arg1)

theorem offsets : ∀ t : Fin cfg0.N, win0_0.index t = ![t.val, 0] ∧ win0_1.index t = ![t.val, 1] ∧ win0_2.index t = ![t.val, 0] ∧ win0_3.index t = ![t.val, 0] :=
  (by decide +kernel : ∀ t : Fin grid0.N, _)

abbrev out (i : (Slab 4096 5632).Idx) : EReal :=
  if (i 1).val < 2816 then slope (entry (argA m c) (i 0).val (i 1).val) (entry (argA m c) (i 0).val (2816 + (i 1).val)) (entry (argD m c) (i 0).val (i 1).val)
  else passed (entry (argA m c) (i 0).val ((i 1).val - 2816)) (entry (argD m c) (i 0).val ((i 1).val - 2816))

theorem final : (dats m 0 c).arrAt 3 cfg0.N = out m c := by
  refine (dats m 0 c).arrAt_eq_of_covers 3 _ (by decide +kernel) fun t _ y => ?_
  blk_simp
  rw [after0_3]
  frame_out
  have hr := row_tile (r := 256) (offsets t).2.2.2 (p := ((win0_3.blk t).view.emb y 0).val) (j := (y 0).val) rfl
  have hc := col_tile (s := 5632) (offsets t).2.2.2 (q := ((win0_3.blk t).view.emb y 1).val) (j := (y 1).val) rfl
  rw [Nat.zero_mul, Nat.zero_add] at hc
  have in_a (j : S256x2816.Idx) : iblk m c 0 t j = entry (argA m c) (t.val * 256 + (j 0).val) (j 1).val :=
    (entry_tile (argA m c) (offsets t).1 (j := j) rfl rfl).trans (by rw [Nat.zero_mul, Nat.zero_add])
  have in_u (j : S256x2816.Idx) : iblk m c 1 t j = entry (argA m c) (t.val * 256 + (j 0).val) (2816 + (j 1).val) :=
    (entry_tile (argA m c) (offsets t).2.1 (j := j) rfl rfl).trans (by rw [Nat.one_mul])
  have in_d (j : S256x2816.Idx) : iblk m c 2 t j = entry (argD m c) (t.val * 256 + (j 0).val) (j 1).val :=
    (entry_tile (argD m c) (offsets t).2.2.1 (j := j) rfl rfl).trans (by rw [Nat.zero_mul, Nat.zero_add])
  refine (pay _ _ _ y).trans ?_
  refine Eq.trans ?_ (congrArg₂ (fun p q => if q < 2816 then slope (entry (argA m c) p q) (entry (argA m c) p (2816 + q)) (entry (argD m c) p q)
    else passed (entry (argA m c) p (q - 2816)) (entry (argD m c) p (q - 2816))) hr hc)
  simp only [in_a, in_u, in_d, dite_eq_ite]
  rfl

theorem frame_kernel : Cert.quiescent_ActBack := fun m g _ => Cert.ActBack.Gen.frame m g

theorem frame_ideal : Cert.quiescent_ActBackIdeal := fun m g _ => Cert.ActBackIdeal.Gen.frame m g

theorem frame_ref_ideal : Cert.quiescent_ActBackRefIdeal := fun m g _ =>
  (θ_run Cert.ActBackRefIdeal.defs _ _).mono (fun _ h => ⟨fun c => (h c).2, sem_eq_zero_of_no_sems rfl _⟩) (Cert.ActBackRefIdeal.Value.run m g)

theorem preserves : Cert.preserves_ActBack_ActBackIdeal := trivial

theorem algebraic : Cert.algebraic_ActBackIdeal_ActBackRefIdeal := fun m g m' g' _ hA => by
  refine ⟨out m, (θ_run Cert.ActBackIdeal.defs _ _).mono
      (fun _ h c => ⟨(h c).1.trans (final m c), (h c).2⟩) (Cert.ActBackIdeal.Value.run_blocks m g),
    (θ_run Cert.ActBackRefIdeal.defs _ _).mono (fun _ h c => ?_) (Cert.ActBackRefIdeal.Value.run m' g')⟩
  obtain ⟨ha, hd⟩ := hA c
  refine ⟨(h c).1.trans ?_, (h c).2⟩
  rw [ha, hd]
  funext j
  pointwise [out]
  by_cases hj : (j 1).val < 2816
  · exact (dif_pos hj).trans ((congr (congrArg₂ slope (entry_eq (argA m c) _ rfl rfl) (entry_eq (argA m c) _ rfl rfl)) (entry_eq (argD m c) _ rfl rfl)).trans (if_pos hj).symm)
  · exact (dif_neg hj).trans ((congrArg₂ passed (entry_eq (argA m c) _ rfl rfl) (entry_eq (argD m c) _ rfl rfl)).trans (if_neg hj).symm)

end Cert.ActBackProof

end
-- ==== Proof.Layouts.lean ====
/-
  The three layouts in which a product's factors are stored, as they are or one of them transposed: what a pair of tiles
  adds to the result, and the product of the whole matrices.
-/
module

public import proofs.«01_k».proof.Proof.Products

@[expose] public section

noncomputable section

namespace Cert.Products

open Cert.Slabs

open Idealize.ShloMosaic Idealize.ShloMosaic.ValueIdx

/-- A matrix read with its rows and columns exchanged. -/
abbrev flip {R C : ℕ} (A : (Slab R C).Idx → EReal) (p q : ℕ) : EReal := entry A q p

section

variable {r s b R K C p q k : ℕ}

/-- A tile's entries are those of the matrix from row `p` and column `q` of the tiles on. -/
abbrev IsTile {r s R C : ℕ} (x : (Slab r s).Idx → EReal) (A : (Slab R C).Idx → EReal) (p q : ℕ) : Prop :=
  ∀ i, x i = entry A (p * r + (i 0).val) (q * s + (i 1).val)

theorem part_nn {A : (Slab R K).Idx → EReal} {B : (Slab K C).Idx → EReal} {x : (Slab r b).Idx → EReal} {y : (Slab b s).Idx → EReal}
    (hx : IsTile x A p k) (hy : IsTile y B k q) (j : (Slab r s).Idx) :
    ∑ l : Fin b, x (ix2 (j 0) l) * y (ix2 l (j 1)) = part b (entry A) (entry B) p q k j :=
  Finset.sum_congr rfl fun _ _ => congrArg₂ (· * ·) (hx _) (hy _)

theorem part_nt {A : (Slab R K).Idx → EReal} {B : (Slab C K).Idx → EReal} {x : (Slab r b).Idx → EReal} {y : (Slab s b).Idx → EReal}
    (hx : IsTile x A p k) (hy : IsTile y B q k) (j : (Slab r s).Idx) :
    ∑ l : Fin b, x (ix2 (j 0) l) * y (ix2 (j 1) l) = part b (entry A) (flip B) p q k j :=
  Finset.sum_congr rfl fun _ _ => congrArg₂ (· * ·) (hx _) (hy _)

theorem part_tn {A : (Slab K R).Idx → EReal} {B : (Slab K C).Idx → EReal} {x : (Slab b r).Idx → EReal} {y : (Slab b s).Idx → EReal}
    (hx : IsTile x A k p) (hy : IsTile y B k q) (j : (Slab r s).Idx) :
    ∑ l : Fin b, x (ix2 l (j 0)) * y (ix2 l (j 1)) = part b (flip A) (entry B) p q k j :=
  Finset.sum_congr rfl fun _ _ => congrArg₂ (· * ·) (hx _) (hy _)

theorem prod_nn (A : (Slab R K).Idx → EReal) (B : (Slab K C).Idx → EReal) (i : (Slab R C).Idx) :
    ∑ l : Fin K, A (ix2 (i 0) l) * B (ix2 l (i 1)) = prod K (entry A) (entry B) i :=
  Finset.sum_congr rfl fun _ _ => congrArg₂ (· * ·) (entry_eq A _ rfl rfl) (entry_eq B _ rfl rfl)

theorem prod_nt (A : (Slab R K).Idx → EReal) (B : (Slab C K).Idx → EReal) (i : (Slab R C).Idx) :
    ∑ l : Fin K, A (ix2 (i 0) l) * B (ix2 (i 1) l) = prod K (entry A) (flip B) i :=
  Finset.sum_congr rfl fun _ _ => congrArg₂ (· * ·) (entry_eq A _ rfl rfl) (entry_eq B _ rfl rfl)

theorem prod_tn (A : (Slab K R).Idx → EReal) (B : (Slab K C).Idx → EReal) (i : (Slab R C).Idx) :
    ∑ l : Fin K, A (ix2 l (i 0)) * B (ix2 l (i 1)) = prod K (flip A) (entry B) i :=
  Finset.sum_congr rfl fun _ _ => congrArg₂ (· * ·) (entry_eq A _ rfl rfl) (entry_eq B _ rfl rfl)

end

end Cert.Products

end
-- ==== Proof.MixerProducts.lean ====
/-
  The products of a mixer with its weights that take all their lanes in one pass, one namespace each, and their claims.
-/
module

public import proofs.«01_k».proof.Defs
public import proofs.«01_k».proof.Proof.Layouts
public import proofs.«01_k».proof.Proof.Gen.MixIn.Frame
public import proofs.«01_k».proof.Proof.Gen.MixInIdeal.Value
public import proofs.«01_k».proof.Proof.Gen.MixInRefIdeal.Run
public import proofs.«01_k».proof.Proof.Gen.MixOutBx.Frame
public import proofs.«01_k».proof.Proof.Gen.MixOutBxIdeal.Value
public import proofs.«01_k».proof.Proof.Gen.MixOutBxRefIdeal.Run
public import proofs.«01_k».proof.Proof.Gen.Uq.Frame
public import proofs.«01_k».proof.Proof.Gen.UqIdeal.Value
public import proofs.«01_k».proof.Proof.Gen.UqRefIdeal.Run
public import proofs.«01_k».proof.Proof.Gen.UqBx.Frame
public import proofs.«01_k».proof.Proof.Gen.UqBxIdeal.Value
public import proofs.«01_k».proof.Proof.Gen.UqBxRefIdeal.Run
public import proofs.«01_k».proof.Proof.Gen.Ukv.Frame
public import proofs.«01_k».proof.Proof.Gen.UkvIdeal.Value
public import proofs.«01_k».proof.Proof.Gen.UkvRefIdeal.Run
public import Idealize.ShloMosaic.Lib.Pointwise
public import Idealize.ShloMosaic.Lib.Pipeline.ReadBack
public import Idealize.ShloMosaic.Lib.Pipeline.ValueKit.Geometry
public import Idealize.ShloMosaic.Lib.IdealHost
public import Idealize.ShloMosaic.Lib.Quiescent

@[expose] public section

noncomputable section

open Idealize.ShloMosaic Idealize.ShloMosaic.TcCoe Idealize.SL.Sem
open Cert.Products Cert.Slabs

/-! ## The input projection -/

namespace Cert.MixInProof

open Cert.MixInIdeal Cert.MixInIdeal.Gen

theorem pay (x : FVec Ideal S512x1024 .bf16) (y : FVec Ideal S1024x384 .bf16) (j : S512x384.Idx) :
    k0_pay2 (F := Ideal) (k0_pay1 (F := Ideal)) x y j = ∑ l : Fin 1024, x (ix2 (j 0) l) * y (ix2 l (j 1)) := by
  pointwise [k0_pay2, k0_pay1]

variable (m : (ℓ : Loc nD τ sig) → Buf (Elt Ideal) ℓ) (c : Dev nD)

abbrev argA : (Slab 4096 1024).Idx → EReal := m ((c : Thread nD τ).loc main_arg0)
abbrev argB : (Slab 1024 2688).Idx → EReal := m ((c : Thread nD τ).loc main_arg1)
abbrev out : (Slab 4096 2688).Idx → EReal := prod 1024 (entry (argA m c)) (entry (argB m c))

theorem offsets : ∀ t : Fin cfg0.N, win0_0.index t = ![t.val / 7, 0] ∧ win0_1.index t = ![0, t.val % 7] ∧ win0_2.index t = ![t.val / 7, t.val % 7] :=
  (by decide +kernel : ∀ t : Fin grid0.N, _)

theorem point (t : Fin cfg0.N) (j : S512x384.Idx) :
    outsAt0 m c t j = part 1024 (entry (argA m c)) (entry (argB m c)) (t.val / 7) (t.val % 7) 0 j := by
  unfold outsAt0
  frame_out
  exact (pay _ _ j).trans (part_nn (fun _ => entry_tile (argA m c) (offsets t).1 rfl rfl) (fun _ => entry_tile (argB m c) (offsets t).2.1 rfl rfl) j)

theorem final : (dats m 0 c).arrAt 2 cfg0.N = out m c := by
  refine (dats m 0 c).arrAt_eq_of_covers 2 _ (by decide +kernel) fun t _ y => ?_
  blk_simp
  rw [after0_2, point]
  exact part_prod _ _ (offsets t).2.2 rfl rfl

theorem frame_kernel : Cert.quiescent_MixIn := fun m g _ => Cert.MixIn.Gen.frame m g

theorem frame_ideal : Cert.quiescent_MixInIdeal := fun m g _ => Cert.MixInIdeal.Gen.frame m g

theorem frame_ref_ideal : Cert.quiescent_MixInRefIdeal := fun m g _ =>
  (θ_run Cert.MixInRefIdeal.defs _ _).mono (fun _ h => ⟨fun c => (h c).2, sem_eq_zero_of_no_sems rfl _⟩) (Cert.MixInRefIdeal.Value.run m g)

theorem preserves : Cert.preserves_MixIn_MixInIdeal := trivial

theorem algebraic : Cert.algebraic_MixInIdeal_MixInRefIdeal := fun m g m' g' _ hA => by
  refine ⟨out m, (θ_run Cert.MixInIdeal.defs _ _).mono (fun _ h c => ⟨(h c).1.trans (final m c), (h c).2⟩) (Cert.MixInIdeal.Value.run_blocks m g),
    (θ_run Cert.MixInRefIdeal.defs _ _).mono (fun _ h c => ⟨(h c).1.trans ?_, (h c).2⟩) (Cert.MixInRefIdeal.Value.run m' g')⟩
  rw [(hA c).1, (hA c).2]
  funext j
  pointwise []
  exact prod_nn (argA m c) (argB m c) j

end Cert.MixInProof

/-! ## The gradient of the output projection's result, taken back through its weights -/

namespace Cert.MixOutBxProof

open Cert.MixOutBxIdeal Cert.MixOutBxIdeal.Gen

theorem pay (x : FVec Ideal S512x1024 .bf16) (y : FVec Ideal S512x1024 .bf16) (j : S512x512.Idx) :
    k0_pay2 (F := Ideal) (k0_pay1 (F := Ideal)) x y j = ∑ l : Fin 1024, x (ix2 (j 0) l) * y (ix2 (j 1) l) := by
  pointwise [k0_pay2, k0_pay1]

variable (m : (ℓ : Loc nD τ sig) → Buf (Elt Ideal) ℓ) (c : Dev nD)

abbrev argA : (Slab 4096 1024).Idx → EReal := m ((c : Thread nD τ).loc main_arg0)
abbrev argB : (Slab 1536 1024).Idx → EReal := m ((c : Thread nD τ).loc main_arg1)
abbrev out : (Slab 4096 1536).Idx → EReal := prod 1024 (entry (argA m c)) (flip (argB m c))

theorem offsets : ∀ t : Fin cfg0.N, win0_0.index t = ![t.val / 3, 0] ∧ win0_1.index t = ![t.val % 3, 0] ∧ win0_2.index t = ![t.val / 3, t.val % 3] :=
  (by decide +kernel : ∀ t : Fin grid0.N, _)

theorem point (t : Fin cfg0.N) (j : S512x512.Idx) :
    outsAt0 m c t j = part 1024 (entry (argA m c)) (flip (argB m c)) (t.val / 3) (t.val % 3) 0 j := by
  unfold outsAt0
  frame_out
  exact (pay _ _ j).trans (part_nt (fun _ => entry_tile (argA m c) (offsets t).1 rfl rfl) (fun _ => entry_tile (argB m c) (offsets t).2.1 rfl rfl) j)

theorem final : (dats m 0 c).arrAt 2 cfg0.N = out m c := by
  refine (dats m 0 c).arrAt_eq_of_covers 2 _ (by decide +kernel) fun t _ y => ?_
  blk_simp
  rw [after0_2, point]
  exact part_prod _ _ (offsets t).2.2 rfl rfl

theorem frame_kernel : Cert.quiescent_MixOutBx := fun m g _ => Cert.MixOutBx.Gen.frame m g

theorem frame_ideal : Cert.quiescent_MixOutBxIdeal := fun m g _ => Cert.MixOutBxIdeal.Gen.frame m g

theorem frame_ref_ideal : Cert.quiescent_MixOutBxRefIdeal := fun m g _ =>
  (θ_run Cert.MixOutBxRefIdeal.defs _ _).mono (fun _ h => ⟨fun c => (h c).2, sem_eq_zero_of_no_sems rfl _⟩) (Cert.MixOutBxRefIdeal.Value.run m g)

theorem preserves : Cert.preserves_MixOutBx_MixOutBxIdeal := trivial

theorem algebraic : Cert.algebraic_MixOutBxIdeal_MixOutBxRefIdeal := fun m g m' g' _ hA => by
  refine ⟨out m, (θ_run Cert.MixOutBxIdeal.defs _ _).mono (fun _ h c => ⟨(h c).1.trans (final m c), (h c).2⟩) (Cert.MixOutBxIdeal.Value.run_blocks m g),
    (θ_run Cert.MixOutBxRefIdeal.defs _ _).mono (fun _ h c => ⟨(h c).1.trans ?_, (h c).2⟩) (Cert.MixOutBxRefIdeal.Value.run m' g')⟩
  rw [(hA c).1, (hA c).2]
  funext j
  pointwise []
  exact prod_nt (argA m c) (argB m c) j

end Cert.MixOutBxProof

/-! ## The queries from their latents -/

namespace Cert.UqProof

open Cert.UqIdeal Cert.UqIdeal.Gen

theorem pay (x : FVec Ideal S512x256 .bf16) (y : FVec Ideal S256x512 .bf16) (j : S512x512.Idx) :
    k0_pay2 (F := Ideal) (k0_pay1 (F := Ideal)) x y j = ∑ l : Fin 256, x (ix2 (j 0) l) * y (ix2 l (j 1)) := by
  pointwise [k0_pay2, k0_pay1]

variable (m : (ℓ : Loc nD τ sig) → Buf (Elt Ideal) ℓ) (c : Dev nD)

abbrev argA : (Slab 4096 256).Idx → EReal := m ((c : Thread nD τ).loc main_arg0)
abbrev argB : (Slab 256 1024).Idx → EReal := m ((c : Thread nD τ).loc main_arg1)
abbrev out : (Slab 4096 1024).Idx → EReal := prod 256 (entry (argA m c)) (entry (argB m c))

theorem offsets : ∀ t : Fin cfg0.N, win0_0.index t = ![t.val / 2, 0] ∧ win0_1.index t = ![0, t.val % 2] ∧ win0_2.index t = ![t.val / 2, t.val % 2] :=
  (by decide +kernel : ∀ t : Fin grid0.N, _)

theorem point (t : Fin cfg0.N) (j : S512x512.Idx) :
    outsAt0 m c t j = part 256 (entry (argA m c)) (entry (argB m c)) (t.val / 2) (t.val % 2) 0 j := by
  unfold outsAt0
  frame_out
  exact (pay _ _ j).trans (part_nn (fun _ => entry_tile (argA m c) (offsets t).1 rfl rfl) (fun _ => entry_tile (argB m c) (offsets t).2.1 rfl rfl) j)

theorem final : (dats m 0 c).arrAt 2 cfg0.N = out m c := by
  refine (dats m 0 c).arrAt_eq_of_covers 2 _ (by decide +kernel) fun t _ y => ?_
  blk_simp
  rw [after0_2, point]
  exact part_prod _ _ (offsets t).2.2 rfl rfl

theorem frame_kernel : Cert.quiescent_Uq := fun m g _ => Cert.Uq.Gen.frame m g

theorem frame_ideal : Cert.quiescent_UqIdeal := fun m g _ => Cert.UqIdeal.Gen.frame m g

theorem frame_ref_ideal : Cert.quiescent_UqRefIdeal := fun m g _ =>
  (θ_run Cert.UqRefIdeal.defs _ _).mono (fun _ h => ⟨fun c => (h c).2, sem_eq_zero_of_no_sems rfl _⟩) (Cert.UqRefIdeal.Value.run m g)

theorem preserves : Cert.preserves_Uq_UqIdeal := trivial

theorem algebraic : Cert.algebraic_UqIdeal_UqRefIdeal := fun m g m' g' _ hA => by
  refine ⟨out m, (θ_run Cert.UqIdeal.defs _ _).mono (fun _ h c => ⟨(h c).1.trans (final m c), (h c).2⟩) (Cert.UqIdeal.Value.run_blocks m g),
    (θ_run Cert.UqRefIdeal.defs _ _).mono (fun _ h c => ⟨(h c).1.trans ?_, (h c).2⟩) (Cert.UqRefIdeal.Value.run m' g')⟩
  rw [(hA c).1, (hA c).2]
  funext j
  pointwise []
  exact prod_nn (argA m c) (argB m c) j

end Cert.UqProof

/-! ## The gradient of the queries, taken back to their latents -/

namespace Cert.UqBxProof

open Cert.UqBxIdeal Cert.UqBxIdeal.Gen

theorem pay (x : FVec Ideal S512x1024 .bf16) (y : FVec Ideal S256x1024 .bf16) (j : S512x256.Idx) :
    k0_pay2 (F := Ideal) (k0_pay1 (F := Ideal)) x y j = ∑ l : Fin 1024, x (ix2 (j 0) l) * y (ix2 (j 1) l) := by
  pointwise [k0_pay2, k0_pay1]

variable (m : (ℓ : Loc nD τ sig) → Buf (Elt Ideal) ℓ) (c : Dev nD)

abbrev argA : (Slab 4096 1024).Idx → EReal := m ((c : Thread nD τ).loc main_arg0)
abbrev argB : (Slab 256 1024).Idx → EReal := m ((c : Thread nD τ).loc main_arg1)
abbrev out : (Slab 4096 256).Idx → EReal := prod 1024 (entry (argA m c)) (flip (argB m c))

theorem offsets : ∀ t : Fin cfg0.N, win0_0.index t = ![t.val, 0] ∧ win0_1.index t = ![0, 0] ∧ win0_2.index t = ![t.val, 0] :=
  (by decide +kernel : ∀ t : Fin grid0.N, _)

theorem point (t : Fin cfg0.N) (j : S512x256.Idx) :
    outsAt0 m c t j = part 1024 (entry (argA m c)) (flip (argB m c)) t.val 0 0 j := by
  unfold outsAt0
  frame_out
  exact (pay _ _ j).trans (part_nt (fun _ => entry_tile (argA m c) (offsets t).1 rfl rfl) (fun _ => entry_tile (argB m c) (offsets t).2.1 rfl rfl) j)

theorem final : (dats m 0 c).arrAt 2 cfg0.N = out m c := by
  refine (dats m 0 c).arrAt_eq_of_covers 2 _ (by decide +kernel) fun t _ y => ?_
  blk_simp
  rw [after0_2, point]
  exact part_prod _ _ (offsets t).2.2 rfl rfl

theorem frame_kernel : Cert.quiescent_UqBx := fun m g _ => Cert.UqBx.Gen.frame m g

theorem frame_ideal : Cert.quiescent_UqBxIdeal := fun m g _ => Cert.UqBxIdeal.Gen.frame m g

theorem frame_ref_ideal : Cert.quiescent_UqBxRefIdeal := fun m g _ =>
  (θ_run Cert.UqBxRefIdeal.defs _ _).mono (fun _ h => ⟨fun c => (h c).2, sem_eq_zero_of_no_sems rfl _⟩) (Cert.UqBxRefIdeal.Value.run m g)

theorem preserves : Cert.preserves_UqBx_UqBxIdeal := trivial

theorem algebraic : Cert.algebraic_UqBxIdeal_UqBxRefIdeal := fun m g m' g' _ hA => by
  refine ⟨out m, (θ_run Cert.UqBxIdeal.defs _ _).mono (fun _ h c => ⟨(h c).1.trans (final m c), (h c).2⟩) (Cert.UqBxIdeal.Value.run_blocks m g),
    (θ_run Cert.UqBxRefIdeal.defs _ _).mono (fun _ h c => ⟨(h c).1.trans ?_, (h c).2⟩) (Cert.UqBxRefIdeal.Value.run m' g')⟩
  rw [(hA c).1, (hA c).2]
  funext j
  pointwise []
  exact prod_nt (argA m c) (argB m c) j

end Cert.UqBxProof

/-! ## The keys and values from their latents -/

namespace Cert.UkvProof

open Cert.UkvIdeal Cert.UkvIdeal.Gen

theorem pay (x : FVec Ideal S512x128 .bf16) (y : FVec Ideal S128x512 .bf16) (j : S512x512.Idx) :
    k0_pay2 (F := Ideal) (k0_pay1 (F := Ideal)) x y j = ∑ l : Fin 128, x (ix2 (j 0) l) * y (ix2 l (j 1)) := by
  pointwise [k0_pay2, k0_pay1]

variable (m : (ℓ : Loc nD τ sig) → Buf (Elt Ideal) ℓ) (c : Dev nD)

abbrev argA : (Slab 4096 128).Idx → EReal := m ((c : Thread nD τ).loc main_arg0)
abbrev argB : (Slab 128 2048).Idx → EReal := m ((c : Thread nD τ).loc main_arg1)
abbrev out : (Slab 4096 2048).Idx → EReal := prod 128 (entry (argA m c)) (entry (argB m c))

theorem offsets : ∀ t : Fin cfg0.N, win0_0.index t = ![t.val / 4, 0] ∧ win0_1.index t = ![0, t.val % 4] ∧ win0_2.index t = ![t.val / 4, t.val % 4] :=
  (by decide +kernel : ∀ t : Fin grid0.N, _)

theorem point (t : Fin cfg0.N) (j : S512x512.Idx) :
    outsAt0 m c t j = part 128 (entry (argA m c)) (entry (argB m c)) (t.val / 4) (t.val % 4) 0 j := by
  unfold outsAt0
  frame_out
  exact (pay _ _ j).trans (part_nn (fun _ => entry_tile (argA m c) (offsets t).1 rfl rfl) (fun _ => entry_tile (argB m c) (offsets t).2.1 rfl rfl) j)

theorem final : (dats m 0 c).arrAt 2 cfg0.N = out m c := by
  refine (dats m 0 c).arrAt_eq_of_covers 2 _ (by decide +kernel) fun t _ y => ?_
  blk_simp
  rw [after0_2, point]
  exact part_prod _ _ (offsets t).2.2 rfl rfl

theorem frame_kernel : Cert.quiescent_Ukv := fun m g _ => Cert.Ukv.Gen.frame m g

theorem frame_ideal : Cert.quiescent_UkvIdeal := fun m g _ => Cert.UkvIdeal.Gen.frame m g

theorem frame_ref_ideal : Cert.quiescent_UkvRefIdeal := fun m g _ =>
  (θ_run Cert.UkvRefIdeal.defs _ _).mono (fun _ h => ⟨fun c => (h c).2, sem_eq_zero_of_no_sems rfl _⟩) (Cert.UkvRefIdeal.Value.run m g)

theorem preserves : Cert.preserves_Ukv_UkvIdeal := trivial

theorem algebraic : Cert.algebraic_UkvIdeal_UkvRefIdeal := fun m g m' g' _ hA => by
  refine ⟨out m, (θ_run Cert.UkvIdeal.defs _ _).mono (fun _ h c => ⟨(h c).1.trans (final m c), (h c).2⟩) (Cert.UkvIdeal.Value.run_blocks m g),
    (θ_run Cert.UkvRefIdeal.defs _ _).mono (fun _ h c => ⟨(h c).1.trans ?_, (h c).2⟩) (Cert.UkvRefIdeal.Value.run m' g')⟩
  rw [(hA c).1, (hA c).2]
  funext j
  pointwise []
  exact prod_nn (argA m c) (argB m c) j

end Cert.UkvProof

end
-- ==== Proof.MixerTiles.lean ====
/-
  The products of a mixer with its weights that take their lanes tile after tile, one namespace each, and their claims.
-/
module

public import proofs.«01_k».proof.Defs
public import proofs.«01_k».proof.Proof.Layouts
public import proofs.«01_k».proof.Proof.Gen.MixOut.Frame
public import proofs.«01_k».proof.Proof.Gen.MixOutIdeal.Value
public import proofs.«01_k».proof.Proof.Gen.MixOutRefIdeal.Run
public import proofs.«01_k».proof.Proof.Gen.MixInBx.Frame
public import proofs.«01_k».proof.Proof.Gen.MixInBxIdeal.Value
public import proofs.«01_k».proof.Proof.Gen.MixInBxRefIdeal.Run
public import proofs.«01_k».proof.Proof.Gen.MixInBw.Frame
public import proofs.«01_k».proof.Proof.Gen.MixInBwIdeal.Value
public import proofs.«01_k».proof.Proof.Gen.MixInBwRefIdeal.Run
public import proofs.«01_k».proof.Proof.Gen.MixOutBw.Frame
public import proofs.«01_k».proof.Proof.Gen.MixOutBwIdeal.Value
public import proofs.«01_k».proof.Proof.Gen.MixOutBwRefIdeal.Run
public import proofs.«01_k».proof.Proof.Gen.UqBw.Frame
public import proofs.«01_k».proof.Proof.Gen.UqBwIdeal.Value
public import proofs.«01_k».proof.Proof.Gen.UqBwRefIdeal.Run
public import proofs.«01_k».proof.Proof.Gen.UkvBx.Frame
public import proofs.«01_k».proof.Proof.Gen.UkvBxIdeal.Value
public import proofs.«01_k».proof.Proof.Gen.UkvBxRefIdeal.Run
public import proofs.«01_k».proof.Proof.Gen.UkvBw.Frame
public import proofs.«01_k».proof.Proof.Gen.UkvBwIdeal.Value
public import proofs.«01_k».proof.Proof.Gen.UkvBwRefIdeal.Run
public import Idealize.ShloMosaic.Lib.Pointwise
public import Idealize.ShloMosaic.Lib.Pipeline.ReadBack
public import Idealize.ShloMosaic.Lib.Pipeline.ValueKit.Geometry
public import Idealize.ShloMosaic.Lib.IdealHost
public import Idealize.ShloMosaic.Lib.Quiescent

@[expose] public section

noncomputable section

open Idealize.ShloMosaic Idealize.ShloMosaic.TcCoe Idealize.SL.Sem
open Cert.Products Cert.Slabs

/-! ## The output projection -/

namespace Cert.MixOutProof

open Cert.MixOutIdeal Cert.MixOutIdeal.Gen

theorem pay (v : FVec Ideal S512x512 .f32) (x : FVec Ideal S512x768 .bf16) (y : FVec Ideal S768x512 .bf16) (j : S512x512.Idx) :
    k0_pay2 (F := Ideal) v x y j = v j + ∑ l : Fin 768, x (ix2 (j 0) l) * y (ix2 l (j 1)) := by
  pointwise [k0_pay2]

theorem pay_zero (j : S512x512.Idx) : k0_pay1 (F := Ideal) j = 0 := by
  pointwise [k0_pay1]

variable (m : (ℓ : Loc nD τ sig) → Buf (Elt Ideal) ℓ) (c : Dev nD)

abbrev argA : (Slab 4096 1536).Idx → EReal := m ((c : Thread nD τ).loc main_arg0)
abbrev argB : (Slab 1536 1024).Idx → EReal := m ((c : Thread nD τ).loc main_arg1)
abbrev out : (Slab 4096 1024).Idx → EReal := prod 1536 (entry (argA m c)) (entry (argB m c))

theorem offsets : ∀ t : Fin cfg0.N, win0_0.index t = ![t.val / 2 / 2, t.val % 2] ∧ win0_1.index t = ![t.val % 2, t.val / 2 % 2]
    ∧ win0_2.index t = ![t.val / 2 / 2, t.val / 2 % 2] :=
  (by decide +kernel : ∀ t : Fin grid0.N, _)

theorem step (t : Fin cfg0.N) (v : FVec Ideal S512x512 .f32) (j : S512x512.Idx) :
    k0_pay2 (F := Ideal) v (iblk m c 0 t) (iblk m c 1 t) j
      = v j + part 768 (entry (argA m c)) (entry (argB m c)) (t.val / 2 / 2) (t.val / 2 % 2) (t.val % 2) j :=
  (pay v _ _ j).trans (congrArg (v j + ·) (part_nn (fun _ => entry_tile (argA m c) (offsets t).1 rfl rfl)
    (fun _ => entry_tile (argB m c) (offsets t).2.1 rfl rfl) j))

theorem final : (dats m 0 c).arrAt 2 cfg0.N = out m c := by
  refine (dats m 0 c).arrAt_eq_of_covers 2 _ (by decide +kernel) fun t hf y => ?_
  have ht := (flush0_2 t).mp hf
  have last : (outsAt0 m c t.val t.isLt).1 = (outsAt0 m c t.val t.isLt).2 := by
    rw [outsAt0_B m c t (by omega) ht]; frame_out
  blk_simp
  rw [after0_2, last]
  exact tile_prod 2 768 2 _ _ (fun n h => (outsAt0 m c n h).2)
    (fun t h j => by rw [outsAt0_A m c t h (by omega)]; frame_out; rw [step, pay_zero])
    (fun t h j => by rw [outsAt0_B m c t h (by omega)]; frame_out; rw [step, read_unread_whole])
    t (by omega) (offsets t).2.2 rfl rfl

theorem frame_kernel : Cert.quiescent_MixOut := fun m g _ => Cert.MixOut.Gen.frame m g

theorem frame_ideal : Cert.quiescent_MixOutIdeal := fun m g _ => Cert.MixOutIdeal.Gen.frame m g

theorem frame_ref_ideal : Cert.quiescent_MixOutRefIdeal := fun m g _ =>
  (θ_run Cert.MixOutRefIdeal.defs _ _).mono (fun _ h => ⟨fun c => (h c).2, sem_eq_zero_of_no_sems rfl _⟩) (Cert.MixOutRefIdeal.Value.run m g)

theorem preserves : Cert.preserves_MixOut_MixOutIdeal := trivial

theorem algebraic : Cert.algebraic_MixOutIdeal_MixOutRefIdeal := fun m g m' g' _ hA => by
  refine ⟨out m, (θ_run Cert.MixOutIdeal.defs _ _).mono (fun _ h c => ⟨(h c).1.trans (final m c), (h c).2⟩) (Cert.MixOutIdeal.Value.run_blocks m g),
    (θ_run Cert.MixOutRefIdeal.defs _ _).mono (fun _ h c => ⟨(h c).1.trans ?_, (h c).2⟩) (Cert.MixOutRefIdeal.Value.run m' g')⟩
  rw [(hA c).1, (hA c).2]
  funext j
  pointwise []
  exact prod_nn (argA m c) (argB m c) j

end Cert.MixOutProof

/-! ## The gradient of the input projection's result, taken back through its weights -/

namespace Cert.MixInBxProof

open Cert.MixInBxIdeal Cert.MixInBxIdeal.Gen

theorem pay (v : FVec Ideal S512x512 .f32) (x : FVec Ideal S512x896 .bf16) (y : FVec Ideal S512x896 .bf16) (j : S512x512.Idx) :
    k0_pay2 (F := Ideal) v x y j = v j + ∑ l : Fin 896, x (ix2 (j 0) l) * y (ix2 (j 1) l) := by
  pointwise [k0_pay2]

theorem pay_zero (j : S512x512.Idx) : k0_pay1 (F := Ideal) j = 0 := by
  pointwise [k0_pay1]

variable (m : (ℓ : Loc nD τ sig) → Buf (Elt Ideal) ℓ) (c : Dev nD)

abbrev argA : (Slab 4096 2688).Idx → EReal := m ((c : Thread nD τ).loc main_arg0)
abbrev argB : (Slab 1024 2688).Idx → EReal := m ((c : Thread nD τ).loc main_arg1)
abbrev out : (Slab 4096 1024).Idx → EReal := prod 2688 (entry (argA m c)) (flip (argB m c))

theorem offsets : ∀ t : Fin cfg0.N, win0_0.index t = ![t.val / 3 / 2, t.val % 3] ∧ win0_1.index t = ![t.val / 3 % 2, t.val % 3]
    ∧ win0_2.index t = ![t.val / 3 / 2, t.val / 3 % 2] :=
  (by decide +kernel : ∀ t : Fin grid0.N, _)

theorem step (t : Fin cfg0.N) (v : FVec Ideal S512x512 .f32) (j : S512x512.Idx) :
    k0_pay2 (F := Ideal) v (iblk m c 0 t) (iblk m c 1 t) j
      = v j + part 896 (entry (argA m c)) (flip (argB m c)) (t.val / 3 / 2) (t.val / 3 % 2) (t.val % 3) j :=
  (pay v _ _ j).trans (congrArg (v j + ·) (part_nt (fun _ => entry_tile (argA m c) (offsets t).1 rfl rfl)
    (fun _ => entry_tile (argB m c) (offsets t).2.1 rfl rfl) j))

theorem final : (dats m 0 c).arrAt 2 cfg0.N = out m c := by
  refine (dats m 0 c).arrAt_eq_of_covers 2 _ (by decide +kernel) fun t hf y => ?_
  have ht := (flush0_2 t).mp hf
  have last : (outsAt0 m c t.val t.isLt).1 = (outsAt0 m c t.val t.isLt).2 := by
    rw [outsAt0_C m c t (by omega) ht]; frame_out
  blk_simp
  rw [after0_2, last]
  exact tile_prod 3 896 2 _ _ (fun n h => (outsAt0 m c n h).2)
    (fun t h j => by rw [outsAt0_A m c t h (by omega)]; frame_out; rw [step, pay_zero])
    (fun t h j => by
      by_cases h1 : t.val % 3 = 2
      · rw [outsAt0_C m c t h h1]; frame_out; rw [step, read_unread_whole]
      · rw [outsAt0_B m c t h h1]; frame_out; rw [step, read_unread_whole])
    t (by omega) (offsets t).2.2 rfl rfl

theorem frame_kernel : Cert.quiescent_MixInBx := fun m g _ => Cert.MixInBx.Gen.frame m g

theorem frame_ideal : Cert.quiescent_MixInBxIdeal := fun m g _ => Cert.MixInBxIdeal.Gen.frame m g

theorem frame_ref_ideal : Cert.quiescent_MixInBxRefIdeal := fun m g _ =>
  (θ_run Cert.MixInBxRefIdeal.defs _ _).mono (fun _ h => ⟨fun c => (h c).2, sem_eq_zero_of_no_sems rfl _⟩) (Cert.MixInBxRefIdeal.Value.run m g)

theorem preserves : Cert.preserves_MixInBx_MixInBxIdeal := trivial

theorem algebraic : Cert.algebraic_MixInBxIdeal_MixInBxRefIdeal := fun m g m' g' _ hA => by
  refine ⟨out m, (θ_run Cert.MixInBxIdeal.defs _ _).mono (fun _ h c => ⟨(h c).1.trans (final m c), (h c).2⟩) (Cert.MixInBxIdeal.Value.run_blocks m g),
    (θ_run Cert.MixInBxRefIdeal.defs _ _).mono (fun _ h c => ⟨(h c).1.trans ?_, (h c).2⟩) (Cert.MixInBxRefIdeal.Value.run m' g')⟩
  rw [(hA c).1, (hA c).2]
  funext j
  pointwise []
  exact prod_nt (argA m c) (argB m c) j

end Cert.MixInBxProof

/-! ## The gradient of the input projection's weights -/

namespace Cert.MixInBwProof

open Cert.MixInBwIdeal Cert.MixInBwIdeal.Gen

theorem pay (v : FVec Ideal S512x384 .f32) (x : FVec Ideal S1024x512 .bf16) (y : FVec Ideal S1024x384 .bf16) (j : S512x384.Idx) :
    k0_pay2 (F := Ideal) v x y j = v j + ∑ l : Fin 1024, x (ix2 l (j 0)) * y (ix2 l (j 1)) := by
  pointwise [k0_pay2]

theorem pay_zero (j : S512x384.Idx) : k0_pay1 (F := Ideal) j = 0 := by
  pointwise [k0_pay1]

variable (m : (ℓ : Loc nD τ sig) → Buf (Elt Ideal) ℓ) (c : Dev nD)

abbrev argA : (Slab 4096 1024).Idx → EReal := m ((c : Thread nD τ).loc main_arg0)
abbrev argB : (Slab 4096 2688).Idx → EReal := m ((c : Thread nD τ).loc main_arg1)
abbrev out : (Slab 1024 2688).Idx → EReal := prod 4096 (flip (argA m c)) (entry (argB m c))

theorem offsets : ∀ t : Fin cfg0.N, win0_0.index t = ![t.val % 4, t.val / 4 / 7] ∧ win0_1.index t = ![t.val % 4, t.val / 4 % 7]
    ∧ win0_2.index t = ![t.val / 4 / 7, t.val / 4 % 7] :=
  (by decide +kernel : ∀ t : Fin grid0.N, _)

theorem step (t : Fin cfg0.N) (v : FVec Ideal S512x384 .f32) (j : S512x384.Idx) :
    k0_pay2 (F := Ideal) v (iblk m c 0 t) (iblk m c 1 t) j
      = v j + part 1024 (flip (argA m c)) (entry (argB m c)) (t.val / 4 / 7) (t.val / 4 % 7) (t.val % 4) j :=
  (pay v _ _ j).trans (congrArg (v j + ·) (part_tn (fun _ => entry_tile (argA m c) (offsets t).1 rfl rfl)
    (fun _ => entry_tile (argB m c) (offsets t).2.1 rfl rfl) j))

theorem final : (dats m 0 c).arrAt 2 cfg0.N = out m c := by
  refine (dats m 0 c).arrAt_eq_of_covers 2 _ (by decide +kernel) fun t hf y => ?_
  have ht := (flush0_2 t).mp hf
  have last : (outsAt0 m c t.val t.isLt).1 = (outsAt0 m c t.val t.isLt).2 := by
    rw [outsAt0_C m c t (by omega) ht]; frame_out
  blk_simp
  rw [after0_2, last]
  exact tile_prod 4 1024 7 _ _ (fun n h => (outsAt0 m c n h).2)
    (fun t h j => by rw [outsAt0_A m c t h (by omega)]; frame_out; rw [step, pay_zero])
    (fun t h j => by
      by_cases h1 : t.val % 4 = 3
      · rw [outsAt0_C m c t h h1]; frame_out; rw [step, read_unread_whole]
      · rw [outsAt0_B m c t h h1]; frame_out; rw [step, read_unread_whole])
    t (by omega) (offsets t).2.2 rfl rfl

theorem frame_kernel : Cert.quiescent_MixInBw := fun m g _ => Cert.MixInBw.Gen.frame m g

theorem frame_ideal : Cert.quiescent_MixInBwIdeal := fun m g _ => Cert.MixInBwIdeal.Gen.frame m g

theorem frame_ref_ideal : Cert.quiescent_MixInBwRefIdeal := fun m g _ =>
  (θ_run Cert.MixInBwRefIdeal.defs _ _).mono (fun _ h => ⟨fun c => (h c).2, sem_eq_zero_of_no_sems rfl _⟩) (Cert.MixInBwRefIdeal.Value.run m g)

theorem preserves : Cert.preserves_MixInBw_MixInBwIdeal := trivial

theorem algebraic : Cert.algebraic_MixInBwIdeal_MixInBwRefIdeal := fun m g m' g' _ hA => by
  refine ⟨out m, (θ_run Cert.MixInBwIdeal.defs _ _).mono (fun _ h c => ⟨(h c).1.trans (final m c), (h c).2⟩) (Cert.MixInBwIdeal.Value.run_blocks m g),
    (θ_run Cert.MixInBwRefIdeal.defs _ _).mono (fun _ h c => ⟨(h c).1.trans ?_, (h c).2⟩) (Cert.MixInBwRefIdeal.Value.run m' g')⟩
  rw [(hA c).1, (hA c).2]
  funext j
  pointwise []
  exact prod_tn (argA m c) (argB m c) j

end Cert.MixInBwProof

/-! ## The gradient of the output projection's weights -/

namespace Cert.MixOutBwProof

open Cert.MixOutBwIdeal Cert.MixOutBwIdeal.Gen

theorem pay (v : FVec Ideal S512x512 .f32) (x : FVec Ideal S1024x512 .bf16) (y : FVec Ideal S1024x512 .bf16) (j : S512x512.Idx) :
    k0_pay2 (F := Ideal) v x y j = v j + ∑ l : Fin 1024, x (ix2 l (j 0)) * y (ix2 l (j 1)) := by
  pointwise [k0_pay2]

theorem pay_zero (j : S512x512.Idx) : k0_pay1 (F := Ideal) j = 0 := by
  pointwise [k0_pay1]

variable (m : (ℓ : Loc nD τ sig) → Buf (Elt Ideal) ℓ) (c : Dev nD)

abbrev argA : (Slab 4096 1536).Idx → EReal := m ((c : Thread nD τ).loc main_arg0)
abbrev argB : (Slab 4096 1024).Idx → EReal := m ((c : Thread nD τ).loc main_arg1)
abbrev out : (Slab 1536 1024).Idx → EReal := prod 4096 (flip (argA m c)) (entry (argB m c))

theorem offsets : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

theorem step (t : Fin cfg0.N) (v : FVec Ideal S512x512 .f32) (j : S512x512.Idx) :
    k0_pay2 (F := Ideal) v (iblk m c 0 t) (iblk m c 1 t) j
      = v j + part 1024 (flip (argA m c)) (entry (argB m c)) (t.val / 4 / 2) (t.val / 4 % 2) (t.val % 4) j :=
  (pay v _ _ j).trans (congrArg (v j + ·) (part_tn (fun _ => entry_tile (argA m c) (offsets t).1 rfl rfl)
    (fun _ => entry_tile (argB m c) (offsets t).2.1 rfl rfl) j))

theorem final : (dats m 0 c).arrAt 2 cfg0.N = out m c := by
  refine (dats m 0 c).arrAt_eq_of_covers 2 _ (by decide +kernel) fun t hf y => ?_
  have ht := (flush0_2 t).mp hf
  have last : (outsAt0 m c t.val t.isLt).1 = (outsAt0 m c t.val t.isLt).2 := by
    rw [outsAt0_C m c t (by omega) ht]; frame_out
  blk_simp
  rw [after0_2, last]
  exact tile_prod 4 1024 2 _ _ (fun n h => (outsAt0 m c n h).2)
    (fun t h j => by rw [outsAt0_A m c t h (by omega)]; frame_out; rw [step, pay_zero])
    (fun t h j => by
      by_cases h1 : t.val % 4 = 3
      · rw [outsAt0_C m c t h h1]; frame_out; rw [step, read_unread_whole]
      · rw [outsAt0_B m c t h h1]; frame_out; rw [step, read_unread_whole])
    t (by omega) (offsets t).2.2 rfl rfl

theorem frame_kernel : Cert.quiescent_MixOutBw := fun m g _ => Cert.MixOutBw.Gen.frame m g

theorem frame_ideal : Cert.quiescent_MixOutBwIdeal := fun m g _ => Cert.MixOutBwIdeal.Gen.frame m g

theorem frame_ref_ideal : Cert.quiescent_MixOutBwRefIdeal := fun m g _ =>
  (θ_run Cert.MixOutBwRefIdeal.defs _ _).mono (fun _ h => ⟨fun c => (h c).2, sem_eq_zero_of_no_sems rfl _⟩) (Cert.MixOutBwRefIdeal.Value.run m g)

theorem preserves : Cert.preserves_MixOutBw_MixOutBwIdeal := trivial

theorem algebraic : Cert.algebraic_MixOutBwIdeal_MixOutBwRefIdeal := fun m g m' g' _ hA => by
  refine ⟨out m, (θ_run Cert.MixOutBwIdeal.defs _ _).mono (fun _ h c => ⟨(h c).1.trans (final m c), (h c).2⟩) (Cert.MixOutBwIdeal.Value.run_blocks m g),
    (θ_run Cert.MixOutBwRefIdeal.defs _ _).mono (fun _ h c => ⟨(h c).1.trans ?_, (h c).2⟩) (Cert.MixOutBwRefIdeal.Value.run m' g')⟩
  rw [(hA c).1, (hA c).2]
  funext j
  pointwise []
  exact prod_tn (argA m c) (argB m c) j

end Cert.MixOutBwProof

/-! ## The gradient of the queries' weights -/

namespace Cert.UqBwProof

open Cert.UqBwIdeal Cert.UqBwIdeal.Gen

theorem pay (v : FVec Ideal S256x512 .f32) (x : FVec Ideal S1024x256 .bf16) (y : FVec Ideal S1024x512 .bf16) (j : S256x512.Idx) :
    k0_pay2 (F := Ideal) v x y j = v j + ∑ l : Fin 1024, x (ix2 l (j 0)) * y (ix2 l (j 1)) := by
  pointwise [k0_pay2]

theorem pay_zero (j : S256x512.Idx) : k0_pay1 (F := Ideal) j = 0 := by
  pointwise [k0_pay1]

variable (m : (ℓ : Loc nD τ sig) → Buf (Elt Ideal) ℓ) (c : Dev nD)

abbrev argA : (Slab 4096 256).Idx → EReal := m ((c : Thread nD τ).loc main_arg0)
abbrev argB : (Slab 4096 1024).Idx → EReal := m ((c : Thread nD τ).loc main_arg1)
abbrev out : (Slab 256 1024).Idx → EReal := prod 4096 (flip (argA m c)) (entry (argB m c))

theorem offsets : ∀ t : Fin cfg0.N, win0_0.index t = ![t.val % 4, t.val / 4 / 2] ∧ win0_1.index t = ![t.val % 4, t.val / 4 % 2]
    ∧ win0_2.index t = ![t.val / 4 / 2, t.val / 4 % 2] :=
  (by decide +kernel : ∀ t : Fin grid0.N, _)

theorem step (t : Fin cfg0.N) (v : FVec Ideal S256x512 .f32) (j : S256x512.Idx) :
    k0_pay2 (F := Ideal) v (iblk m c 0 t) (iblk m c 1 t) j
      = v j + part 1024 (flip (argA m c)) (entry (argB m c)) (t.val / 4 / 2) (t.val / 4 % 2) (t.val % 4) j :=
  (pay v _ _ j).trans (congrArg (v j + ·) (part_tn (fun _ => entry_tile (argA m c) (offsets t).1 rfl rfl)
    (fun _ => entry_tile (argB m c) (offsets t).2.1 rfl rfl) j))

theorem final : (dats m 0 c).arrAt 2 cfg0.N = out m c := by
  refine (dats m 0 c).arrAt_eq_of_covers 2 _ (by decide +kernel) fun t hf y => ?_
  have ht := (flush0_2 t).mp hf
  have last : (outsAt0 m c t.val t.isLt).1 = (outsAt0 m c t.val t.isLt).2 := by
    rw [outsAt0_C m c t (by omega) ht]; frame_out
  blk_simp
  rw [after0_2, last]
  exact tile_prod 4 1024 2 _ _ (fun n h => (outsAt0 m c n h).2)
    (fun t h j => by rw [outsAt0_A m c t h (by omega)]; frame_out; rw [step, pay_zero])
    (fun t h j => by
      by_cases h1 : t.val % 4 = 3
      · rw [outsAt0_C m c t h h1]; frame_out; rw [step, read_unread_whole]
      · rw [outsAt0_B m c t h h1]; frame_out; rw [step, read_unread_whole])
    t (by omega) (offsets t).2.2 rfl rfl

theorem frame_kernel : Cert.quiescent_UqBw := fun m g _ => Cert.UqBw.Gen.frame m g

theorem frame_ideal : Cert.quiescent_UqBwIdeal := fun m g _ => Cert.UqBwIdeal.Gen.frame m g

theorem frame_ref_ideal : Cert.quiescent_UqBwRefIdeal := fun m g _ =>
  (θ_run Cert.UqBwRefIdeal.defs _ _).mono (fun _ h => ⟨fun c => (h c).2, sem_eq_zero_of_no_sems rfl _⟩) (Cert.UqBwRefIdeal.Value.run m g)

theorem preserves : Cert.preserves_UqBw_UqBwIdeal := trivial

theorem algebraic : Cert.algebraic_UqBwIdeal_UqBwRefIdeal := fun m g m' g' _ hA => by
  refine ⟨out m, (θ_run Cert.UqBwIdeal.defs _ _).mono (fun _ h c => ⟨(h c).1.trans (final m c), (h c).2⟩) (Cert.UqBwIdeal.Value.run_blocks m g),
    (θ_run Cert.UqBwRefIdeal.defs _ _).mono (fun _ h c => ⟨(h c).1.trans ?_, (h c).2⟩) (Cert.UqBwRefIdeal.Value.run m' g')⟩
  rw [(hA c).1, (hA c).2]
  funext j
  pointwise []
  exact prod_tn (argA m c) (argB m c) j

end Cert.UqBwProof

/-! ## The gradient of the keys and values, taken back to their latents -/

namespace Cert.UkvBxProof

open Cert.UkvBxIdeal Cert.UkvBxIdeal.Gen

theorem pay (v : FVec Ideal S512x128 .f32) (x : FVec Ideal S512x1024 .bf16) (y : FVec Ideal S128x1024 .bf16) (j : S512x128.Idx) :
    k0_pay2 (F := Ideal) v x y j = v j + ∑ l : Fin 1024, x (ix2 (j 0) l) * y (ix2 (j 1) l) := by
  pointwise [k0_pay2]

theorem pay_zero (j : S512x128.Idx) : k0_pay1 (F := Ideal) j = 0 := by
  pointwise [k0_pay1]

variable (m : (ℓ : Loc nD τ sig) → Buf (Elt Ideal) ℓ) (c : Dev nD)

abbrev argA : (Slab 4096 2048).Idx → EReal := m ((c : Thread nD τ).loc main_arg0)
abbrev argB : (Slab 128 2048).Idx → EReal := m ((c : Thread nD τ).loc main_arg1)
abbrev out : (Slab 4096 128).Idx → EReal := prod 2048 (entry (argA m c)) (flip (argB m c))

theorem offsets : ∀ t : Fin cfg0.N, win0_0.index t = ![t.val / 2 / 1, t.val % 2] ∧ win0_1.index t = ![t.val / 2 % 1, t.val % 2]
    ∧ win0_2.index t = ![t.val / 2 / 1, t.val / 2 % 1] :=
  (by decide +kernel : ∀ t : Fin grid0.N, _)

theorem step (t : Fin cfg0.N) (v : FVec Ideal S512x128 .f32) (j : S512x128.Idx) :
    k0_pay2 (F := Ideal) v (iblk m c 0 t) (iblk m c 1 t) j
      = v j + part 1024 (entry (argA m c)) (flip (argB m c)) (t.val / 2 / 1) (t.val / 2 % 1) (t.val % 2) j :=
  (pay v _ _ j).trans (congrArg (v j + ·) (part_nt (fun _ => entry_tile (argA m c) (offsets t).1 rfl rfl)
    (fun _ => entry_tile (argB m c) (offsets t).2.1 rfl rfl) j))

theorem final : (dats m 0 c).arrAt 2 cfg0.N = out m c := by
  refine (dats m 0 c).arrAt_eq_of_covers 2 _ (by decide +kernel) fun t hf y => ?_
  have ht := (flush0_2 t).mp hf
  have last : (outsAt0 m c t.val t.isLt).1 = (outsAt0 m c t.val t.isLt).2 := by
    rw [outsAt0_B m c t (by omega) ht]; frame_out
  blk_simp
  rw [after0_2, last]
  exact tile_prod 2 1024 1 _ _ (fun n h => (outsAt0 m c n h).2)
    (fun t h j => by rw [outsAt0_A m c t h (by omega)]; frame_out; rw [step, pay_zero])
    (fun t h j => by rw [outsAt0_B m c t h (by omega)]; frame_out; rw [step, read_unread_whole])
    t (by omega) (offsets t).2.2 rfl rfl

theorem frame_kernel : Cert.quiescent_UkvBx := fun m g _ => Cert.UkvBx.Gen.frame m g

theorem frame_ideal : Cert.quiescent_UkvBxIdeal := fun m g _ => Cert.UkvBxIdeal.Gen.frame m g

theorem frame_ref_ideal : Cert.quiescent_UkvBxRefIdeal := fun m g _ =>
  (θ_run Cert.UkvBxRefIdeal.defs _ _).mono (fun _ h => ⟨fun c => (h c).2, sem_eq_zero_of_no_sems rfl _⟩) (Cert.UkvBxRefIdeal.Value.run m g)

theorem preserves : Cert.preserves_UkvBx_UkvBxIdeal := trivial

theorem algebraic : Cert.algebraic_UkvBxIdeal_UkvBxRefIdeal := fun m g m' g' _ hA => by
  refine ⟨out m, (θ_run Cert.UkvBxIdeal.defs _ _).mono (fun _ h c => ⟨(h c).1.trans (final m c), (h c).2⟩) (Cert.UkvBxIdeal.Value.run_blocks m g),
    (θ_run Cert.UkvBxRefIdeal.defs _ _).mono (fun _ h c => ⟨(h c).1.trans ?_, (h c).2⟩) (Cert.UkvBxRefIdeal.Value.run m' g')⟩
  rw [(hA c).1, (hA c).2]
  funext j
  pointwise []
  exact prod_nt (argA m c) (argB m c) j

end Cert.UkvBxProof

/-! ## The gradient of the weights of the keys and values -/

namespace Cert.UkvBwProof

open Cert.UkvBwIdeal Cert.UkvBwIdeal.Gen

theorem pay (v : FVec Ideal S128x512 .f32) (x : FVec Ideal S1024x128 .bf16) (y : FVec Ideal S1024x512 .bf16) (j : S128x512.Idx) :
    k0_pay2 (F := Ideal) v x y j = v j + ∑ l : Fin 1024, x (ix2 l (j 0)) * y (ix2 l (j 1)) := by
  pointwise [k0_pay2]

theorem pay_zero (j : S128x512.Idx) : k0_pay1 (F := Ideal) j = 0 := by
  pointwise [k0_pay1]

variable (m : (ℓ : Loc nD τ sig) → Buf (Elt Ideal) ℓ) (c : Dev nD)

abbrev argA : (Slab 4096 128).Idx → EReal := m ((c : Thread nD τ).loc main_arg0)
abbrev argB : (Slab 4096 2048).Idx → EReal := m ((c : Thread nD τ).loc main_arg1)
abbrev out : (Slab 128 2048).Idx → EReal := prod 4096 (flip (argA m c)) (entry (argB m c))

theorem offsets : ∀ t : Fin cfg0.N, win0_0.index t = ![t.val % 4, t.val / 4 / 4] ∧ win0_1.index t = ![t.val % 4, t.val / 4 % 4]
    ∧ win0_2.index t = ![t.val / 4 / 4, t.val / 4 % 4] :=
  (by decide +kernel : ∀ t : Fin grid0.N, _)

theorem step (t : Fin cfg0.N) (v : FVec Ideal S128x512 .f32) (j : S128x512.Idx) :
    k0_pay2 (F := Ideal) v (iblk m c 0 t) (iblk m c 1 t) j
      = v j + part 1024 (flip (argA m c)) (entry (argB m c)) (t.val / 4 / 4) (t.val / 4 % 4) (t.val % 4) j :=
  (pay v _ _ j).trans (congrArg (v j + ·) (part_tn (fun _ => entry_tile (argA m c) (offsets t).1 rfl rfl)
    (fun _ => entry_tile (argB m c) (offsets t).2.1 rfl rfl) j))

theorem final : (dats m 0 c).arrAt 2 cfg0.N = out m c := by
  refine (dats m 0 c).arrAt_eq_of_covers 2 _ (by decide +kernel) fun t hf y => ?_
  have ht := (flush0_2 t).mp hf
  have last : (outsAt0 m c t.val t.isLt).1 = (outsAt0 m c t.val t.isLt).2 := by
    rw [outsAt0_C m c t (by omega) ht]; frame_out
  blk_simp
  rw [after0_2, last]
  exact tile_prod 4 1024 4 _ _ (fun n h => (outsAt0 m c n h).2)
    (fun t h j => by rw [outsAt0_A m c t h (by omega)]; frame_out; rw [step, pay_zero])
    (fun t h j => by
      by_cases h1 : t.val % 4 = 3
      · rw [outsAt0_C m c t h h1]; frame_out; rw [step, read_unread_whole]
      · rw [outsAt0_B m c t h h1]; frame_out; rw [step, read_unread_whole])
    t (by omega) (offsets t).2.2 rfl rfl

theorem frame_kernel : Cert.quiescent_UkvBw := fun m g _ => Cert.UkvBw.Gen.frame m g

theorem frame_ideal : Cert.quiescent_UkvBwIdeal := fun m g _ => Cert.UkvBwIdeal.Gen.frame m g

theorem frame_ref_ideal : Cert.quiescent_UkvBwRefIdeal := fun m g _ =>
  (θ_run Cert.UkvBwRefIdeal.defs _ _).mono (fun _ h => ⟨fun c => (h c).2, sem_eq_zero_of_no_sems rfl _⟩) (Cert.UkvBwRefIdeal.Value.run m g)

theorem preserves : Cert.preserves_UkvBw_UkvBwIdeal := trivial

theorem algebraic : Cert.algebraic_UkvBwIdeal_UkvBwRefIdeal := fun m g m' g' _ hA => by
  refine ⟨out m, (θ_run Cert.UkvBwIdeal.defs _ _).mono (fun _ h c => ⟨(h c).1.trans (final m c), (h c).2⟩) (Cert.UkvBwIdeal.Value.run_blocks m g),
    (θ_run Cert.UkvBwRefIdeal.defs _ _).mono (fun _ h c => ⟨(h c).1.trans ?_, (h c).2⟩) (Cert.UkvBwRefIdeal.Value.run m' g')⟩
  rw [(hA c).1, (hA c).2]
  funext j
  pointwise []
  exact prod_tn (argA m c) (argB m c) j

end Cert.UkvBwProof

end
-- ==== Proof.lean ====
/-
  The claims put together: those of the five exchanges, of the AdamW step at the shape of each shard and of the packed
  small weights, of the two sums of the gradients, of the exchange unpacked into the gradients of the large weights, of
  the calls that take the loss and the gradient of the input, of the feed-forward layers' matrix products and row by row
  steps, and of the mixer's matrix products.
-/
module

public import proofs.«01_k».proof.Defs
public import proofs.«01_k».proof.Proof.GatherClaims
public import proofs.«01_k».proof.Proof.SwapClaims
public import proofs.«01_k».proof.Proof.ScatterClaims
public import proofs.«01_k».proof.Proof.ShareClaims
public import proofs.«01_k».proof.Proof.SmallClaims
public import proofs.«01_k».proof.Proof.AdamWClaims
public import proofs.«01_k».proof.Proof.AdamSmallClaims
public import proofs.«01_k».proof.Proof.AddPairClaims
public import proofs.«01_k».proof.Proof.AddChipsClaims
public import proofs.«01_k».proof.Proof.GradsClaims
public import proofs.«01_k».proof.Proof.LossClaims
public import proofs.«01_k».proof.Proof.NormBackClaims
public import proofs.«01_k».proof.Proof.GateUpProduct
public import proofs.«01_k».proof.Proof.DownProduct
public import proofs.«01_k».proof.Proof.DownBxProduct
public import proofs.«01_k».proof.Proof.DownBwProduct
public import proofs.«01_k».proof.Proof.GateUpBxProduct
public import proofs.«01_k».proof.Proof.GateUpBwProduct
public import proofs.«01_k».proof.Proof.NormCall
public import proofs.«01_k».proof.Proof.ActCall
public import proofs.«01_k».proof.Proof.PostCall
public import proofs.«01_k».proof.Proof.PostBackCall
public import proofs.«01_k».proof.Proof.ActBackCall
public import proofs.«01_k».proof.Proof.MixerProducts
public import proofs.«01_k».proof.Proof.MixerTiles

@[expose] public section

noncomputable section

namespace Cert.Proof

theorem claim : Cert.Claim := ⟨Cert.Gather.Gen.facts, Cert.GatherIdeal.Gen.facts, Cert.GatherRefIdeal.Gen.facts, Cert.GatherRef.Gen.facts,
  Cert.Swap.Gen.facts, Cert.SwapIdeal.Gen.facts, Cert.SwapRefIdeal.Gen.facts, Cert.SwapRef.Gen.facts,
  Cert.Scatter.Gen.facts, Cert.ScatterIdeal.Gen.facts, Cert.ScatterRefIdeal.Gen.facts, Cert.ScatterRef.Gen.facts,
  Cert.Share.Gen.facts, Cert.ShareIdeal.Gen.facts, Cert.ShareRefIdeal.Gen.facts, Cert.ShareRef.Gen.facts,
  Cert.Small.Gen.facts, Cert.SmallIdeal.Gen.facts, Cert.SmallRefIdeal.Gen.facts, Cert.SmallRef.Gen.facts,
  Cert.AdamGate.Gen.facts, Cert.AdamGateIdeal.Gen.facts, Cert.AdamGateRefIdeal.Gen.facts,
  Cert.AdamDown.Gen.facts, Cert.AdamDownIdeal.Gen.facts, Cert.AdamDownRefIdeal.Gen.facts,
  Cert.AdamIn.Gen.facts, Cert.AdamInIdeal.Gen.facts, Cert.AdamInRefIdeal.Gen.facts,
  Cert.AdamQ.Gen.facts, Cert.AdamQIdeal.Gen.facts, Cert.AdamQRefIdeal.Gen.facts,
  Cert.AdamKv.Gen.facts, Cert.AdamKvIdeal.Gen.facts, Cert.AdamKvRefIdeal.Gen.facts,
  Cert.AdamConv.Gen.facts, Cert.AdamConvIdeal.Gen.facts, Cert.AdamConvRefIdeal.Gen.facts,
  Cert.AdamOut.Gen.facts, Cert.AdamOutIdeal.Gen.facts, Cert.AdamOutRefIdeal.Gen.facts,
  Cert.AdamSmall.Gen.facts, Cert.AdamSmallIdeal.Gen.facts, Cert.AdamSmallRefIdeal.Gen.facts,
  Cert.AddPair.Gen.facts, Cert.AddPairIdeal.Gen.facts, Cert.AddPairRefIdeal.Gen.facts, Cert.AddPairRef.Gen.facts,
  Cert.AddChips.Gen.facts, Cert.AddChipsIdeal.Gen.facts, Cert.AddChipsRefIdeal.Gen.facts,
  Cert.Grads.Gen.facts, Cert.GradsIdeal.Gen.facts, Cert.GradsRefIdeal.Gen.facts, Cert.GradsRef.Gen.facts,
  Cert.Loss.Gen.facts, Cert.LossIdeal.Gen.facts, Cert.LossRefIdeal.Gen.facts,
  Cert.NormBack.Gen.facts, Cert.NormBackIdeal.Gen.facts, Cert.NormBackRefIdeal.Gen.facts,
  Cert.GateUp.Gen.facts, Cert.GateUpIdeal.Gen.facts, Cert.GateUpRefIdeal.Gen.facts,
  Cert.Down.Gen.facts, Cert.DownIdeal.Gen.facts, Cert.DownRefIdeal.Gen.facts,
  Cert.DownBx.Gen.facts, Cert.DownBxIdeal.Gen.facts, Cert.DownBxRefIdeal.Gen.facts,
  Cert.DownBw.Gen.facts, Cert.DownBwIdeal.Gen.facts, Cert.DownBwRefIdeal.Gen.facts,
  Cert.GateUpBx.Gen.facts, Cert.GateUpBxIdeal.Gen.facts, Cert.GateUpBxRefIdeal.Gen.facts,
  Cert.GateUpBw.Gen.facts, Cert.GateUpBwIdeal.Gen.facts, Cert.GateUpBwRefIdeal.Gen.facts,
  Cert.Norm.Gen.facts, Cert.NormIdeal.Gen.facts, Cert.NormRefIdeal.Gen.facts,
  Cert.Act.Gen.facts, Cert.ActIdeal.Gen.facts, Cert.ActRefIdeal.Gen.facts,
  Cert.Post.Gen.facts, Cert.PostIdeal.Gen.facts, Cert.PostRefIdeal.Gen.facts,
  Cert.PostBack.Gen.facts, Cert.PostBackIdeal.Gen.facts, Cert.PostBackRefIdeal.Gen.facts,
  Cert.ActBack.Gen.facts, Cert.ActBackIdeal.Gen.facts, Cert.ActBackRefIdeal.Gen.facts,
  Cert.MixIn.Gen.facts, Cert.MixInIdeal.Gen.facts, Cert.MixInRefIdeal.Gen.facts,
  Cert.MixInBx.Gen.facts, Cert.MixInBxIdeal.Gen.facts, Cert.MixInBxRefIdeal.Gen.facts,
  Cert.MixInBw.Gen.facts, Cert.MixInBwIdeal.Gen.facts, Cert.MixInBwRefIdeal.Gen.facts,
  Cert.MixOut.Gen.facts, Cert.MixOutIdeal.Gen.facts, Cert.MixOutRefIdeal.Gen.facts,
  Cert.MixOutBx.Gen.facts, Cert.MixOutBxIdeal.Gen.facts, Cert.MixOutBxRefIdeal.Gen.facts,
  Cert.MixOutBw.Gen.facts, Cert.MixOutBwIdeal.Gen.facts, Cert.MixOutBwRefIdeal.Gen.facts,
  Cert.Uq.Gen.facts, Cert.UqIdeal.Gen.facts, Cert.UqRefIdeal.Gen.facts,
  Cert.UqBx.Gen.facts, Cert.UqBxIdeal.Gen.facts, Cert.UqBxRefIdeal.Gen.facts,
  Cert.UqBw.Gen.facts, Cert.UqBwIdeal.Gen.facts, Cert.UqBwRefIdeal.Gen.facts,
  Cert.Ukv.Gen.facts, Cert.UkvIdeal.Gen.facts, Cert.UkvRefIdeal.Gen.facts,
  Cert.UkvBx.Gen.facts, Cert.UkvBxIdeal.Gen.facts, Cert.UkvBxRefIdeal.Gen.facts,
  Cert.UkvBw.Gen.facts, Cert.UkvBwIdeal.Gen.facts, Cert.UkvBwRefIdeal.Gen.facts,
  GatherProof.frame_kernel, GatherProof.frame_ideal, GatherProof.frame_ref_ideal, GatherProof.frame_ref,
  SwapProof.frame_kernel, SwapProof.frame_ideal, SwapProof.frame_ref_ideal, SwapProof.frame_ref,
  ScatterProof.frame_kernel, ScatterProof.frame_ideal, ScatterProof.frame_ref_ideal, ScatterProof.frame_ref,
  ShareProof.frame_kernel, ShareProof.frame_ideal, ShareProof.frame_ref_ideal, ShareProof.frame_ref,
  SmallProof.frame_kernel, SmallProof.frame_ideal, SmallProof.frame_ref_ideal, SmallProof.frame_ref,
  AdamGateProof.frame_kernel, AdamGateProof.frame_ideal, AdamGateProof.frame_ref_ideal,
  AdamDownProof.frame_kernel, AdamDownProof.frame_ideal, AdamDownProof.frame_ref_ideal,
  AdamInProof.frame_kernel, AdamInProof.frame_ideal, AdamInProof.frame_ref_ideal,
  AdamQProof.frame_kernel, AdamQProof.frame_ideal, AdamQProof.frame_ref_ideal,
  AdamKvProof.frame_kernel, AdamKvProof.frame_ideal, AdamKvProof.frame_ref_ideal,
  AdamConvProof.frame_kernel, AdamConvProof.frame_ideal, AdamConvProof.frame_ref_ideal,
  AdamOutProof.frame_kernel, AdamOutProof.frame_ideal, AdamOutProof.frame_ref_ideal,
  AdamSmallProof.frame_kernel, AdamSmallProof.frame_ideal, AdamSmallProof.frame_ref_ideal,
  AddPairProof.frame_kernel, AddPairProof.frame_ideal, AddPairProof.frame_ref_ideal, AddPairProof.frame_ref,
  AddChipsProof.frame_kernel, AddChipsProof.frame_ideal, AddChipsProof.frame_ref_ideal,
  GradsProof.frame_kernel, GradsProof.frame_ideal, GradsProof.frame_ref_ideal, GradsProof.frame_ref,
  LossProof.frame_kernel, LossProof.frame_ideal, LossProof.frame_ref_ideal,
  NormBackProof.frame_kernel, NormBackProof.frame_ideal, NormBackProof.frame_ref_ideal,
  GateUpProof.frame_kernel, GateUpProof.frame_ideal, GateUpProof.frame_ref_ideal,
  DownProof.frame_kernel, DownProof.frame_ideal, DownProof.frame_ref_ideal,
  DownBxProof.frame_kernel, DownBxProof.frame_ideal, DownBxProof.frame_ref_ideal,
  DownBwProof.frame_kernel, DownBwProof.frame_ideal, DownBwProof.frame_ref_ideal,
  GateUpBxProof.frame_kernel, GateUpBxProof.frame_ideal, GateUpBxProof.frame_ref_ideal,
  GateUpBwProof.frame_kernel, GateUpBwProof.frame_ideal, GateUpBwProof.frame_ref_ideal,
  NormProof.frame_kernel, NormProof.frame_ideal, NormProof.frame_ref_ideal,
  ActProof.frame_kernel, ActProof.frame_ideal, ActProof.frame_ref_ideal,
  PostProof.frame_kernel, PostProof.frame_ideal, PostProof.frame_ref_ideal,
  PostBackProof.frame_kernel, PostBackProof.frame_ideal, PostBackProof.frame_ref_ideal,
  ActBackProof.frame_kernel, ActBackProof.frame_ideal, ActBackProof.frame_ref_ideal,
  MixInProof.frame_kernel, MixInProof.frame_ideal, MixInProof.frame_ref_ideal,
  MixInBxProof.frame_kernel, MixInBxProof.frame_ideal, MixInBxProof.frame_ref_ideal,
  MixInBwProof.frame_kernel, MixInBwProof.frame_ideal, MixInBwProof.frame_ref_ideal,
  MixOutProof.frame_kernel, MixOutProof.frame_ideal, MixOutProof.frame_ref_ideal,
  MixOutBxProof.frame_kernel, MixOutBxProof.frame_ideal, MixOutBxProof.frame_ref_ideal,
  MixOutBwProof.frame_kernel, MixOutBwProof.frame_ideal, MixOutBwProof.frame_ref_ideal,
  UqProof.frame_kernel, UqProof.frame_ideal, UqProof.frame_ref_ideal,
  UqBxProof.frame_kernel, UqBxProof.frame_ideal, UqBxProof.frame_ref_ideal,
  UqBwProof.frame_kernel, UqBwProof.frame_ideal, UqBwProof.frame_ref_ideal,
  UkvProof.frame_kernel, UkvProof.frame_ideal, UkvProof.frame_ref_ideal,
  UkvBxProof.frame_kernel, UkvBxProof.frame_ideal, UkvBxProof.frame_ref_ideal,
  UkvBwProof.frame_kernel, UkvBwProof.frame_ideal, UkvBwProof.frame_ref_ideal,
  GatherProof.preserves, GatherProof.algebraic, GatherProof.bitexact,
  SwapProof.preserves, SwapProof.algebraic, SwapProof.bitexact,
  ScatterProof.preserves, ScatterProof.algebraic, ScatterProof.bitexact,
  ShareProof.preserves, ShareProof.algebraic, ShareProof.bitexact,
  SmallProof.preserves, SmallProof.algebraic, SmallProof.bitexact,
  AdamGateProof.preserves, AdamGateProof.algebraic,
  AdamDownProof.preserves, AdamDownProof.algebraic,
  AdamInProof.preserves, AdamInProof.algebraic,
  AdamQProof.preserves, AdamQProof.algebraic,
  AdamKvProof.preserves, AdamKvProof.algebraic,
  AdamConvProof.preserves, AdamConvProof.algebraic,
  AdamOutProof.preserves, AdamOutProof.algebraic,
  AdamSmallProof.preserves, AdamSmallProof.algebraic,
  AddPairProof.preserves, AddPairProof.algebraic, AddPairProof.bitexact,
  AddChipsProof.preserves, AddChipsProof.algebraic,
  GradsProof.preserves, GradsProof.algebraic, GradsProof.bitexact,
  LossProof.preserves, LossProof.algebraic,
  NormBackProof.preserves, NormBackProof.algebraic,
  GateUpProof.preserves, GateUpProof.algebraic,
  DownProof.preserves, DownProof.algebraic,
  DownBxProof.preserves, DownBxProof.algebraic,
  DownBwProof.preserves, DownBwProof.algebraic,
  GateUpBxProof.preserves, GateUpBxProof.algebraic,
  GateUpBwProof.preserves, GateUpBwProof.algebraic,
  NormProof.preserves, NormProof.algebraic,
  ActProof.preserves, ActProof.algebraic,
  PostProof.preserves, PostProof.algebraic,
  PostBackProof.preserves, PostBackProof.algebraic,
  ActBackProof.preserves, ActBackProof.algebraic,
  MixInProof.preserves, MixInProof.algebraic,
  MixInBxProof.preserves, MixInBxProof.algebraic,
  MixInBwProof.preserves, MixInBwProof.algebraic,
  MixOutProof.preserves, MixOutProof.algebraic,
  MixOutBxProof.preserves, MixOutBxProof.algebraic,
  MixOutBwProof.preserves, MixOutBwProof.algebraic,
  UqProof.preserves, UqProof.algebraic,
  UqBxProof.preserves, UqBxProof.algebraic,
  UqBwProof.preserves, UqBwProof.algebraic,
  UkvProof.preserves, UkvProof.algebraic,
  UkvBxProof.preserves, UkvBxProof.algebraic,
  UkvBwProof.preserves, UkvBwProof.algebraic⟩

end Cert.Proof

end
